-- ==== Defs.lean ====
def Pre_Kernel [hPre_in_cloud : Cert.Pre_in_cloud.Facts] (m : (ℓ : Loc Cert.Kernel.nD Cert.Kernel.τ Cert.Kernel.sig) → Buf (Elt Bits) ℓ) : Prop :=
  ∀ c : Dev Cert.Kernel.nD,
    (Cert.Pre_in_cloud.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_in_cloud : Cert.Pre_in_cloud.Facts] (m : (ℓ : Loc Cert.KernelIdeal.nD Cert.KernelIdeal.τ Cert.KernelIdeal.sig) → Buf (Elt Ideal) ℓ) : Prop :=
  ∀ c : Dev Cert.KernelIdeal.nD,
    (Cert.Pre_in_cloud.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_in_cloud : Cert.Pre_in_cloud.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cloud.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] [hPre_in_cloud : Cert.Pre_in_cloud.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_in_cloud : Cert.Pre_in_cloud.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] [hPre_in_cloud : Cert.Pre_in_cloud.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_cloud : Cert.Pre_in_cloud.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_in_cloud : Cert.Pre_in_cloud.Facts),
    quiescent_Kernel (hKernel := hKernel) (hPre_in_cloud := hPre_in_cloud)
    ∧ quiescent_KernelIdeal (hKernelIdeal := hKernelIdeal) (hPre_in_cloud := hPre_in_cloud)
    ∧ quiescent_ReferenceIdeal (hReferenceIdeal := hReferenceIdeal) (hPre_in_cloud := hPre_in_cloud)
    ∧ preserves_Kernel_KernelIdeal
    ∧ algebraic_KernelIdeal_ReferenceIdeal (hKernelIdeal := hKernelIdeal) (hReferenceIdeal := hReferenceIdeal) (hPre_in_cloud := hPre_in_cloud)
-- ==== Pre_in_cloud.lean ====
abbrev S64x1024x3 : Shape := ⟨3, ![64, 1024, 3]⟩
abbrev S64x3x1024 : Shape := ⟨3, ![64, 3, 1024]⟩
abbrev S3x16 : Shape := ⟨2, ![3, 16]⟩
abbrev S19x32 : Shape := ⟨2, ![19, 32]⟩
abbrev S35x64 : Shape := ⟨2, ![35, 64]⟩
abbrev S67x128 : Shape := ⟨2, ![67, 128]⟩
abbrev S131x128 : Shape := ⟨2, ![131, 128]⟩
abbrev S32x32 : Shape := ⟨2, ![32, 32]⟩
abbrev S64x64 : Shape := ⟨2, ![64, 64]⟩
abbrev S128x128 : Shape := ⟨2, ![128, 128]⟩
abbrev S128x512 : Shape := ⟨2, ![128, 512]⟩
abbrev S512x256 : Shape := ⟨2, ![512, 256]⟩
abbrev S256x40 : Shape := ⟨2, ![256, 40]⟩
abbrev S64x512x3 : Shape := ⟨3, ![64, 512, 3]⟩
abbrev S64x256x3 : Shape := ⟨3, ![64, 256, 3]⟩
abbrev S64x128x3 : Shape := ⟨3, ![64, 128, 3]⟩
abbrev S64x64x3 : Shape := ⟨3, ![64, 64, 3]⟩
abbrev S64x512x32 : Shape := ⟨3, ![64, 512, 32]⟩
abbrev S64x256x32 : Shape := ⟨3, ![64, 256, 32]⟩
abbrev S64x128x32 : Shape := ⟨3, ![64, 128, 32]⟩
abbrev S64x64x32 : Shape := ⟨3, ![64, 64, 32]⟩
abbrev S_ : Shape := ⟨0, ![]⟩
abbrev S1048576 : Shape := ⟨1, ![1048576]⟩
abbrev S524288 : Shape := ⟨1, ![524288]⟩
abbrev S262144 : Shape := ⟨1, ![262144]⟩
abbrev S131072 : Shape := ⟨1, ![131072]⟩
abbrev S1966080 : Shape := ⟨1, ![1966080]⟩

class Facts : Prop where
  bcast_S_S64x512x32 : S_.BroadcastsInDim S64x512x32 (![] : Fin 0 → Fin S64x512x32.rank)
  shapeCasts_S64x512x32_S1048576 : S64x512x32.ShapeCasts S1048576
  bcast_S_S64x256x32 : S_.BroadcastsInDim S64x256x32 (![] : Fin 0 → Fin S64x256x32.rank)
  shapeCasts_S64x256x32_S524288 : S64x256x32.ShapeCasts S524288
  bcast_S_S64x128x32 : S_.BroadcastsInDim S64x128x32 (![] : Fin 0 → Fin S64x128x32.rank)
  shapeCasts_S64x128x32_S262144 : S64x128x32.ShapeCasts S262144
  bcast_S_S64x64x32 : S_.BroadcastsInDim S64x64x32 (![] : Fin 0 → Fin S64x64x32.rank)
  shapeCasts_S64x64x32_S131072 : S64x64x32.ShapeCasts S131072
  concatenates_S1048576_S524288_S262144_S131072_S1966080_d0 : Shape.Concatenates [S1048576, S524288, S262144, S131072] S1966080 0

variable [Facts]

def fn_part1 {F : FTy → Type} [FloatOps F] (main_arg21 : IVec S64x64x32 32) (main_v5 : IVec S1048576 1) (main_v11 : IVec S524288 1) (main_v17 : IVec S262144 1) : IVec S1966080 1 :=
  let main_c_5 : IVec S_ 32 := constantI S_ 32 0#32
  let main_v18 : IVec S64x64x32 32 := broadcastInDim S64x64x32 ![] bcast_S_S64x64x32 main_c_5
  let main_v19 : IVec S64x64x32 1 := cmpi .sge main_arg21 main_v18
  let main_c_6 : IVec S_ 32 := constantI S_ 32 128#32
  let main_v20 : IVec S64x64x32 32 := broadcastInDim S64x64x32 ![] bcast_S_S64x64x32 main_c_6
  let main_v21 : IVec S64x64x32 1 := cmpi .slt main_arg21 main_v20
  let main_v22 : IVec S64x64x32 1 := andi main_v19 main_v21
  let main_v23 : IVec S131072 1 := shapeCast S131072 main_v22 shapeCasts_S64x64x32_S131072
  let main_v24 : IVec S1966080 1 := concatenate S1966080 0 [⟨S1048576, main_v5⟩, ⟨S524288, main_v11⟩, ⟨S262144, main_v17⟩, ⟨S131072, main_v23⟩] concatenates_S1048576_S524288_S262144_S131072_S1966080_d0
  main_v24

def fn {F : FTy → Type} [FloatOps F] (main_arg0 : FVec F S64x1024x3 .f32) (main_arg1 : FVec F S64x3x1024 .f32) (main_arg2 : FVec F S3x16 .f32) (main_arg3 : FVec F S19x32 .f32) (main_arg4 : FVec F S35x64 .f32) (main_arg5 : FVec F S67x128 .f32) (main_arg6 : FVec F S131x128 .f32) (main_arg7 : FVec F S32x32 .f32) (main_arg8 : FVec F S64x64 .f32) (main_arg9 : FVec F S128x128 .f32) (main_arg10 : FVec F S128x128 .f32) (main_arg11 : FVec F S128x512 .f32) (main_arg12 : FVec F S512x256 .f32) (main_arg13 : FVec F S256x40 .f32) (main_arg14 : FVec F S64x512x3 .f32) (main_arg15 : FVec F S64x256x3 .f32) (main_arg16 : FVec F S64x128x3 .f32) (main_arg17 : FVec F S64x64x3 .f32) (main_arg18 : IVec S64x512x32 32) (main_arg19 : IVec S64x256x32 32) (main_arg20 : IVec S64x128x32 32) (main_arg21 : IVec S64x64x32 32) : IVec S1966080 1 :=
  let main_c : IVec S_ 32 := constantI S_ 32 0#32
  let main_v0 : IVec S64x512x32 32 := broadcastInDim S64x512x32 ![] bcast_S_S64x512x32 main_c
  let main_v1 : IVec S64x512x32 1 := cmpi .sge main_arg18 main_v0
  let main_c_0 : IVec S_ 32 := constantI S_ 32 1024#32
  let main_v2 : IVec S64x512x32 32 := broadcastInDim S64x512x32 ![] bcast_S_S64x512x32 main_c_0
  let main_v3 : IVec S64x512x32 1 := cmpi .slt main_arg18 main_v2
  let main_v4 : IVec S64x512x32 1 := andi main_v1 main_v3
  let main_v5 : IVec S1048576 1 := shapeCast S1048576 main_v4 shapeCasts_S64x512x32_S1048576
  let main_c_1 : IVec S_ 32 := constantI S_ 32 0#32
  let main_v6 : IVec S64x256x32 32 := broadcastInDim S64x256x32 ![] bcast_S_S64x256x32 main_c_1
  let main_v7 : IVec S64x256x32 1 := cmpi .sge main_arg19 main_v6
  let main_c_2 : IVec S_ 32 := constantI S_ 32 512#32
  let main_v8 : IVec S64x256x32 32 := broadcastInDim S64x256x32 ![] bcast_S_S64x256x32 main_c_2
  let main_v9 : IVec S64x256x32 1 := cmpi .slt main_arg19 main_v8
  let main_v10 : IVec S64x256x32 1 := andi main_v7 main_v9
  let main_v11 : IVec S524288 1 := shapeCast S524288 main_v10 shapeCasts_S64x256x32_S524288
  let main_c_3 : IVec S_ 32 := constantI S_ 32 0#32
  let main_v12 : IVec S64x128x32 32 := broadcastInDim S64x128x32 ![] bcast_S_S64x128x32 main_c_3
  let main_v13 : IVec S64x128x32 1 := cmpi .sge main_arg20 main_v12
  let main_c_4 : IVec S_ 32 := constantI S_ 32 256#32
  let main_v14 : IVec S64x128x32 32 := broadcastInDim S64x128x32 ![] bcast_S_S64x128x32 main_c_4
  let main_v15 : IVec S64x128x32 1 := cmpi .slt main_arg20 main_v14
  let main_v16 : IVec S64x128x32 1 := andi main_v13 main_v15
  let main_v17 : IVec S262144 1 := shapeCast S262144 main_v16 shapeCasts_S64x128x32_S262144
  fn_part1 (F := F) main_arg21 main_v5 main_v11 main_v17
-- ==== Kernel.lean ====
abbrev S64x1024x3 : Shape := ⟨3, ![64, 1024, 3]⟩
abbrev S64x3x1024 : Shape := ⟨3, ![64, 3, 1024]⟩
abbrev S3x16 : Shape := ⟨2, ![3, 16]⟩
abbrev S19x32 : Shape := ⟨2, ![19, 32]⟩
abbrev S35x64 : Shape := ⟨2, ![35, 64]⟩
abbrev S67x128 : Shape := ⟨2, ![67, 128]⟩
abbrev S131x128 : Shape := ⟨2, ![131, 128]⟩
abbrev S32x32 : Shape := ⟨2, ![32, 32]⟩
abbrev S64x64 : Shape := ⟨2, ![64, 64]⟩
abbrev S128x128 : Shape := ⟨2, ![128, 128]⟩
abbrev S128x512 : Shape := ⟨2, ![128, 512]⟩
abbrev S512x256 : Shape := ⟨2, ![512, 256]⟩
abbrev S256x40 : Shape := ⟨2, ![256, 40]⟩
abbrev S64x512x3 : Shape := ⟨3, ![64, 512, 3]⟩
abbrev S64x256x3 : Shape := ⟨3, ![64, 256, 3]⟩
abbrev S64x128x3 : Shape := ⟨3, ![64, 128, 3]⟩
abbrev S64x64x3 : Shape := ⟨3, ![64, 64, 3]⟩
abbrev S64x512x32 : Shape := ⟨3, ![64, 512, 32]⟩
abbrev S64x256x32 : Shape := ⟨3, ![64, 256, 32]⟩
abbrev S64x128x32 : Shape := ⟨3, ![64, 128, 32]⟩
abbrev S64x64x32 : Shape := ⟨3, ![64, 64, 32]⟩
abbrev S64x1024x16 : Shape := ⟨3, ![64, 1024, 16]⟩
abbrev S1x1024x3 : Shape := ⟨3, ![1, 1024, 3]⟩
abbrev S1x1024x16 : Shape := ⟨3, ![1, 1024, 16]⟩
abbrev S1024x3 : Shape := ⟨2, ![1024, 3]⟩
abbrev S1024x16 : Shape := ⟨2, ![1024, 16]⟩
abbrev S_ : Shape := ⟨0, ![]⟩
abbrev S64x1024x109 : Shape := ⟨3, ![64, 1024, 109]⟩
abbrev S64x1024x128 : Shape := ⟨3, ![64, 1024, 128]⟩
abbrev S65536x128 : Shape := ⟨2, ![65536, 128]⟩
abbrev S64 : Shape := ⟨1, ![64]⟩
abbrev S64x1x1 : Shape := ⟨3, ![64, 1, 1]⟩
abbrev S1048576 : Shape := ⟨1, ![1048576]⟩
abbrev S1048576x128 : Shape := ⟨2, ![1048576, 128]⟩
abbrev S2x256 : Shape := ⟨2, ![2, 256]⟩
abbrev S2x256x128 : Shape := ⟨3, ![2, 256, 128]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S64x16384x128 : Shape := ⟨3, ![64, 16384, 128]⟩
abbrev S16x32 : Shape := ⟨2, ![16, 32]⟩
abbrev S3x32 : Shape := ⟨2, ![3, 32]⟩
abbrev S1x16384x128 : Shape := ⟨3, ![1, 16384, 128]⟩
abbrev S1x512x3 : Shape := ⟨3, ![1, 512, 3]⟩
abbrev S1x512x32 : Shape := ⟨3, ![1, 512, 32]⟩
abbrev S16384x128 : Shape := ⟨2, ![16384, 128]⟩
abbrev S16384x3 : Shape := ⟨2, ![16384, 3]⟩
abbrev S512x32x3 : Shape := ⟨3, ![512, 32, 3]⟩
abbrev S512x3 : Shape := ⟨2, ![512, 3]⟩
abbrev S512x1x3 : Shape := ⟨3, ![512, 1, 3]⟩
abbrev S512 : Shape := ⟨1, ![512]⟩
abbrev S512x1x1 : Shape := ⟨3, ![512, 1, 1]⟩
abbrev S16384x16 : Shape := ⟨2, ![16384, 16]⟩
abbrev S16384x32 : Shape := ⟨2, ![16384, 32]⟩
abbrev S512x32x32 : Shape := ⟨3, ![512, 32, 32]⟩
abbrev S512x32 : Shape := ⟨2, ![512, 32]⟩
abbrev S64x512x93 : Shape := ⟨3, ![64, 512, 93]⟩
abbrev S64x512x128 : Shape := ⟨3, ![64, 512, 128]⟩
abbrev S32768x128 : Shape := ⟨2, ![32768, 128]⟩
abbrev S524288 : Shape := ⟨1, ![524288]⟩
abbrev S524288x128 : Shape := ⟨2, ![524288, 128]⟩
abbrev S64x8192x128 : Shape := ⟨3, ![64, 8192, 128]⟩
abbrev S32x64 : Shape := ⟨2, ![32, 64]⟩
abbrev S3x64 : Shape := ⟨2, ![3, 64]⟩
abbrev S64x256x64 : Shape := ⟨3, ![64, 256, 64]⟩
abbrev S1x8192x128 : Shape := ⟨3, ![1, 8192, 128]⟩
abbrev S1x256x3 : Shape := ⟨3, ![1, 256, 3]⟩
abbrev S1x256x64 : Shape := ⟨3, ![1, 256, 64]⟩
abbrev S8192x128 : Shape := ⟨2, ![8192, 128]⟩
abbrev S8192x3 : Shape := ⟨2, ![8192, 3]⟩
abbrev S256x32x3 : Shape := ⟨3, ![256, 32, 3]⟩
abbrev S256x3 : Shape := ⟨2, ![256, 3]⟩
abbrev S256x1x3 : Shape := ⟨3, ![256, 1, 3]⟩
abbrev S256x1x1 : Shape := ⟨3, ![256, 1, 1]⟩
abbrev S8192x32 : Shape := ⟨2, ![8192, 32]⟩
abbrev S8192x64 : Shape := ⟨2, ![8192, 64]⟩
abbrev S256x32x64 : Shape := ⟨3, ![256, 32, 64]⟩
abbrev S256x64 : Shape := ⟨2, ![256, 64]⟩
abbrev S64x256x61 : Shape := ⟨3, ![64, 256, 61]⟩
abbrev S64x256x128 : Shape := ⟨3, ![64, 256, 128]⟩
abbrev S262144 : Shape := ⟨1, ![262144]⟩
abbrev S262144x128 : Shape := ⟨2, ![262144, 128]⟩
abbrev S64x4096x128 : Shape := ⟨3, ![64, 4096, 128]⟩
abbrev S64x128 : Shape := ⟨2, ![64, 128]⟩
abbrev S3x128 : Shape := ⟨2, ![3, 128]⟩
abbrev S64x128x128 : Shape := ⟨3, ![64, 128, 128]⟩
abbrev S1x4096x128 : Shape := ⟨3, ![1, 4096, 128]⟩
abbrev S1x128x3 : Shape := ⟨3, ![1, 128, 3]⟩
abbrev S1x128x128 : Shape := ⟨3, ![1, 128, 128]⟩
abbrev S4096x128 : Shape := ⟨2, ![4096, 128]⟩
abbrev S4096x3 : Shape := ⟨2, ![4096, 3]⟩
abbrev S128x32x3 : Shape := ⟨3, ![128, 32, 3]⟩
abbrev S128x3 : Shape := ⟨2, ![128, 3]⟩
abbrev S128x1x3 : Shape := ⟨3, ![128, 1, 3]⟩
abbrev S128 : Shape := ⟨1, ![128]⟩
abbrev S128x1x1 : Shape := ⟨3, ![128, 1, 1]⟩
abbrev S4096x64 : Shape := ⟨2, ![4096, 64]⟩
abbrev S128x32x128 : Shape := ⟨3, ![128, 32, 128]⟩
abbrev S64x128x125 : Shape := ⟨3, ![64, 128, 125]⟩
abbrev S64x128x256 : Shape := ⟨3, ![64, 128, 256]⟩
abbrev S8192x2x128 : Shape := ⟨3, ![8192, 2, 128]⟩
abbrev S131072 : Shape := ⟨1, ![131072]⟩
abbrev S131072x2x128 : Shape := ⟨3, ![131072, 2, 128]⟩
abbrev S2x128 : Shape := ⟨2, ![2, 128]⟩
abbrev S2x128x2x128 : Shape := ⟨4, ![2, 128, 2, 128]⟩
abbrev S1x128 : Shape := ⟨2, ![1, 128]⟩
abbrev S1x128x2x128 : Shape := ⟨4, ![1, 128, 2, 128]⟩
abbrev S128x2x128 : Shape := ⟨3, ![128, 2, 128]⟩
abbrev S64x2048x256 : Shape := ⟨3, ![64, 2048, 256]⟩
abbrev S64x64x128 : Shape := ⟨3, ![64, 64, 128]⟩
abbrev S1x2048x256 : Shape := ⟨3, ![1, 2048, 256]⟩
abbrev S1x64x3 : Shape := ⟨3, ![1, 64, 3]⟩
abbrev S1x64x128 : Shape := ⟨3, ![1, 64, 128]⟩
abbrev S2048x256 : Shape := ⟨2, ![2048, 256]⟩
abbrev S2048x3 : Shape := ⟨2, ![2048, 3]⟩
abbrev S64x32x3 : Shape := ⟨3, ![64, 32, 3]⟩
abbrev S64x3 : Shape := ⟨2, ![64, 3]⟩
abbrev S64x1x3 : Shape := ⟨3, ![64, 1, 3]⟩
abbrev S2048x128 : Shape := ⟨2, ![2048, 128]⟩
abbrev S64x32x128 : Shape := ⟨3, ![64, 32, 128]⟩
abbrev S64x40 : Shape := ⟨2, ![64, 40]⟩
abbrev S64x512 : Shape := ⟨2, ![64, 512]⟩
abbrev S64x256 : Shape := ⟨2, ![64, 256]⟩

abbrev nBuf : Table → Nat
  | .hbm => 93
  | .local .tc .vmem => 46
  | .local .scVector .vmem => 8
  | _ => 0

abbrev bufTy : (tb : Table) → Fin (nBuf tb) → BufTy
  | .hbm, ⟨0, _⟩ => ⟨S64x1024x3, .f32⟩
  | .hbm, ⟨1, _⟩ => ⟨S64x3x1024, .f32⟩
  | .hbm, ⟨2, _⟩ => ⟨S3x16, .f32⟩
  | .hbm, ⟨3, _⟩ => ⟨S19x32, .f32⟩
  | .hbm, ⟨4, _⟩ => ⟨S35x64, .f32⟩
  | .hbm, ⟨5, _⟩ => ⟨S67x128, .f32⟩
  | .hbm, ⟨6, _⟩ => ⟨S131x128, .f32⟩
  | .hbm, ⟨7, _⟩ => ⟨S32x32, .f32⟩
  | .hbm, ⟨8, _⟩ => ⟨S64x64, .f32⟩
  | .hbm, ⟨9, _⟩ => ⟨S128x128, .f32⟩
  | .hbm, ⟨10, _⟩ => ⟨S128x128, .f32⟩
  | .hbm, ⟨11, _⟩ => ⟨S128x512, .f32⟩
  | .hbm, ⟨12, _⟩ => ⟨S512x256, .f32⟩
  | .hbm, ⟨13, _⟩ => ⟨S256x40, .f32⟩
  | .hbm, ⟨14, _⟩ => ⟨S64x512x3, .f32⟩
  | .hbm, ⟨15, _⟩ => ⟨S64x256x3, .f32⟩
  | .hbm, ⟨16, _⟩ => ⟨S64x128x3, .f32⟩
  | .hbm, ⟨17, _⟩ => ⟨S64x64x3, .f32⟩
  | .hbm, ⟨18, _⟩ => ⟨S64x512x32, .i32⟩
  | .hbm, ⟨19, _⟩ => ⟨S64x256x32, .i32⟩
  | .hbm, ⟨20, _⟩ => ⟨S64x128x32, .i32⟩
  | .hbm, ⟨21, _⟩ => ⟨S64x64x32, .i32⟩
  | .hbm, ⟨22, _⟩ => ⟨S64x1024x3, .f32⟩
  | .hbm, ⟨23, _⟩ => ⟨S64x1024x16, .f32⟩
  | .hbm, ⟨24, _⟩ => ⟨S_, .f32⟩
  | .hbm, ⟨25, _⟩ => ⟨S64x1024x109, .f32⟩
  | .hbm, ⟨26, _⟩ => ⟨S64x1024x128, .f32⟩
  | .hbm, ⟨27, _⟩ => ⟨S65536x128, .f32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64x1x1, .i32⟩
  | .hbm, ⟨33, _⟩ => ⟨S64x512x32, .i32⟩
  | .hbm, ⟨34, _⟩ => ⟨S64x512x32, .i32⟩
  | .hbm, ⟨35, _⟩ => ⟨S1048576, .i32⟩
  | .hbm, ⟨36, _⟩ => ⟨S1048576x128, .f32⟩
  | .hbm, ⟨37, _⟩ => ⟨S64x16384x128, .f32⟩
  | .hbm, ⟨38, _⟩ => ⟨S16x32, .f32⟩
  | .hbm, ⟨39, _⟩ => ⟨S3x32, .f32⟩
  | .hbm, ⟨40, _⟩ => ⟨S64x512x32, .f32⟩
  | .hbm, ⟨41, _⟩ => ⟨S_, .f32⟩
  | .hbm, ⟨42, _⟩ => ⟨S64x512x93, .f32⟩
  | .hbm, ⟨43, _⟩ => ⟨S64x512x128, .f32⟩
  | .hbm, ⟨44, _⟩ => ⟨S32768x128, .f32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64x1x1, .i32⟩
  | .hbm, ⟨50, _⟩ => ⟨S64x256x32, .i32⟩
  | .hbm, ⟨51, _⟩ => ⟨S64x256x32, .i32⟩
  | .hbm, ⟨52, _⟩ => ⟨S524288, .i32⟩
  | .hbm, ⟨53, _⟩ => ⟨S524288x128, .f32⟩
  | .hbm, ⟨54, _⟩ => ⟨S64x8192x128, .f32⟩
  | .hbm, ⟨55, _⟩ => ⟨S32x64, .f32⟩
  | .hbm, ⟨56, _⟩ => ⟨S3x64, .f32⟩
  | .hbm, ⟨57, _⟩ => ⟨S64x256x64, .f32⟩
  | .hbm, ⟨58, _⟩ => ⟨S_, .f32⟩
  | .hbm, ⟨59, _⟩ => ⟨S64x256x61, .f32⟩
  | .hbm, ⟨60, _⟩ => ⟨S64x256x128, .f32⟩
  | .hbm, ⟨61, _⟩ => ⟨S16384x128, .f32⟩
  | .hbm, ⟨62, _⟩ => ⟨S64, .i32⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S64x1x1, .i32⟩
  | .hbm, ⟨67, _⟩ => ⟨S64x128x32, .i32⟩
  | .hbm, ⟨68, _⟩ => ⟨S64x128x32, .i32⟩
  | .hbm, ⟨69, _⟩ => ⟨S262144, .i32⟩
  | .hbm, ⟨70, _⟩ => ⟨S262144x128, .f32⟩
  | .hbm, ⟨71, _⟩ => ⟨S64x4096x128, .f32⟩
  | .hbm, ⟨72, _⟩ => ⟨S64x128, .f32⟩
  | .hbm, ⟨73, _⟩ => ⟨S3x128, .f32⟩
  | .hbm, ⟨74, _⟩ => ⟨S64x128x128, .f32⟩
  | .hbm, ⟨75, _⟩ => ⟨S_, .f32⟩
  | .hbm, ⟨76, _⟩ => ⟨S64x128x125, .f32⟩
  | .hbm, ⟨77, _⟩ => ⟨S64x128x256, .f32⟩
  | .hbm, ⟨78, _⟩ => ⟨S8192x2x128, .f32⟩
  | .hbm, ⟨79, _⟩ => ⟨S64, .i32⟩
  | .hbm, ⟨80, _⟩ => ⟨S_, .i32⟩
  | .hbm, ⟨81, _⟩ => ⟨S64, .i32⟩
  | .hbm, ⟨82, _⟩ => ⟨S64, .i32⟩
  | .hbm, ⟨83, _⟩ => ⟨S64x1x1, .i32⟩
  | .hbm, ⟨84, _⟩ => ⟨S64x64x32, .i32⟩
  | .hbm, ⟨85, _⟩ => ⟨S64x64x32, .i32⟩
  | .hbm, ⟨86, _⟩ => ⟨S131072, .i32⟩
  | .hbm, ⟨87, _⟩ => ⟨S131072x2x128, .f32⟩
  | .hbm, ⟨88, _⟩ => ⟨S64x2048x256, .f32⟩
  | .hbm, ⟨89, _⟩ => ⟨S128x128, .f32⟩
  | .hbm, ⟨90, _⟩ => ⟨S3x128, .f32⟩
  | .hbm, ⟨91, _⟩ => ⟨S64x64x128, .f32⟩
  | .hbm, ⟨92, _⟩ => ⟨S64x40, .f32⟩
  | .local .tc .vmem, ⟨0, _⟩ => ⟨S1x1024x3, .f32⟩
  | .local .tc .vmem, ⟨1, _⟩ => ⟨S1x1024x3, .f32⟩
  | .local .tc .vmem, ⟨2, _⟩ => ⟨S3x16, .f32⟩
  | .local .tc .vmem, ⟨3, _⟩ => ⟨S1x1024x16, .f32⟩
  | .local .tc .vmem, ⟨4, _⟩ => ⟨S1x1024x16, .f32⟩
  | .local .tc .vmem, ⟨5, _⟩ => ⟨S1x16384x128, .f32⟩
  | .local .tc .vmem, ⟨6, _⟩ => ⟨S1x16384x128, .f32⟩
  | .local .tc .vmem, ⟨7, _⟩ => ⟨S1x512x3, .f32⟩
  | .local .tc .vmem, ⟨8, _⟩ => ⟨S1x512x3, .f32⟩
  | .local .tc .vmem, ⟨9, _⟩ => ⟨S16x32, .f32⟩
  | .local .tc .vmem, ⟨10, _⟩ => ⟨S3x32, .f32⟩
  | .local .tc .vmem, ⟨11, _⟩ => ⟨S32x32, .f32⟩
  | .local .tc .vmem, ⟨12, _⟩ => ⟨S1x512x32, .f32⟩
  | .local .tc .vmem, ⟨13, _⟩ => ⟨S1x512x32, .f32⟩
  | .local .tc .vmem, ⟨14, _⟩ => ⟨S1x8192x128, .f32⟩
  | .local .tc .vmem, ⟨15, _⟩ => ⟨S1x8192x128, .f32⟩
  | .local .tc .vmem, ⟨16, _⟩ => ⟨S1x256x3, .f32⟩
  | .local .tc .vmem, ⟨17, _⟩ => ⟨S1x256x3, .f32⟩
  | .local .tc .vmem, ⟨18, _⟩ => ⟨S32x64, .f32⟩
  | .local .tc .vmem, ⟨19, _⟩ => ⟨S3x64, .f32⟩
  | .local .tc .vmem, ⟨20, _⟩ => ⟨S64x64, .f32⟩
  | .local .tc .vmem, ⟨21, _⟩ => ⟨S1x256x64, .f32⟩
  | .local .tc .vmem, ⟨22, _⟩ => ⟨S1x256x64, .f32⟩
  | .local .tc .vmem, ⟨23, _⟩ => ⟨S1x4096x128, .f32⟩
  | .local .tc .vmem, ⟨24, _⟩ => ⟨S1x4096x128, .f32⟩
  | .local .tc .vmem, ⟨25, _⟩ => ⟨S1x128x3, .f32⟩
  | .local .tc .vmem, ⟨26, _⟩ => ⟨S1x128x3, .f32⟩
  | .local .tc .vmem, ⟨27, _⟩ => ⟨S64x128, .f32⟩
  | .local .tc .vmem, ⟨28, _⟩ => ⟨S3x128, .f32⟩
  | .local .tc .vmem, ⟨29, _⟩ => ⟨S128x128, .f32⟩
  | .local .tc .vmem, ⟨30, _⟩ => ⟨S1x128x128, .f32⟩
  | .local .tc .vmem, ⟨31, _⟩ => ⟨S1x128x128, .f32⟩
  | .local .tc .vmem, ⟨32, _⟩ => ⟨S1x2048x256, .f32⟩
  | .local .tc .vmem, ⟨33, _⟩ => ⟨S1x2048x256, .f32⟩
  | .local .tc .vmem, ⟨34, _⟩ => ⟨S1x64x3, .f32⟩
  | .local .tc .vmem, ⟨35, _⟩ => ⟨S1x64x3, .f32⟩
  | .local .tc .vmem, ⟨36, _⟩ => ⟨S128x128, .f32⟩
  | .local .tc .vmem, ⟨37, _⟩ => ⟨S3x128, .f32⟩
  | .local .tc .vmem, ⟨38, _⟩ => ⟨S128x128, .f32⟩
  | .local .tc .vmem, ⟨39, _⟩ => ⟨S1x64x128, .f32⟩
  | .local .tc .vmem, ⟨40, _⟩ => ⟨S1x64x128, .f32⟩
  | .local .tc .vmem, ⟨41, _⟩ => ⟨S64x64x128, .f32⟩
  | .local .tc .vmem, ⟨42, _⟩ => ⟨S128x512, .f32⟩
  | .local .tc .vmem, ⟨43, _⟩ => ⟨S512x256, .f32⟩
  | .local .tc .vmem, ⟨44, _⟩ => ⟨S256x40, .f32⟩
  | .local .tc .vmem, ⟨45, _⟩ => ⟨S64x40, .f32⟩
  | .local .scVector .vmem, ⟨0, _⟩ => ⟨S2x256, .i32⟩
  | .local .scVector .vmem, ⟨1, _⟩ => ⟨S2x256x128, .f32⟩
  | .local .scVector .vmem, ⟨2, _⟩ => ⟨S2x256, .i32⟩
  | .local .scVector .vmem, ⟨3, _⟩ => ⟨S2x256x128, .f32⟩
  | .local .scVector .vmem, ⟨4, _⟩ => ⟨S2x256, .i32⟩
  | .local .scVector .vmem, ⟨5, _⟩ => ⟨S2x256x128, .f32⟩
  | .local .scVector .vmem, ⟨6, _⟩ => ⟨S2x128, .i32⟩
  | .local .scVector .vmem, ⟨7, _⟩ => ⟨S2x128x2x128, .f32⟩
  | _, _ => ⟨S64x1024x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => false
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => false
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => false
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTables nBuf rfl bufTy 4 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_3 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_5 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v4_scv : Ref sig .scVector := ⟨.hbm, 27, rfl⟩
abbrev main_v11_scv : Ref sig .scVector := ⟨.hbm, 35, rfl⟩
abbrev main_v12_scv : Ref sig .scVector := ⟨.hbm, 36, rfl⟩
abbrev main_v19_scv : Ref sig .scVector := ⟨.hbm, 44, rfl⟩
abbrev main_v26_scv : Ref sig .scVector := ⟨.hbm, 52, rfl⟩
abbrev main_v27_scv : Ref sig .scVector := ⟨.hbm, 53, rfl⟩
abbrev main_v34_scv : Ref sig .scVector := ⟨.hbm, 61, rfl⟩
abbrev main_v41_scv : Ref sig .scVector := ⟨.hbm, 69, rfl⟩
abbrev main_v42_scv : Ref sig .scVector := ⟨.hbm, 70, rfl⟩
abbrev main_v49_scv : Ref sig .scVector := ⟨.hbm, 78, rfl⟩
abbrev main_v56_scv : Ref sig .scVector := ⟨.hbm, 86, rfl⟩
abbrev main_v57_scv : Ref sig .scVector := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg5_1 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg1_1 : Ref sig .tc := ⟨.vmem, 17, rfl⟩
abbrev cc4_stg2_0 : Ref sig .tc := ⟨.vmem, 18, rfl⟩
abbrev cc4_stg3_0 : Ref sig .tc := ⟨.vmem, 19, rfl⟩
abbrev cc4_stg4_0 : Ref sig .tc := ⟨.vmem, 20, rfl⟩
abbrev cc4_stg5_0 : Ref sig .tc := ⟨.vmem, 21, rfl⟩
abbrev cc4_stg5_1 : Ref sig .tc := ⟨.vmem, 22, rfl⟩
abbrev cc6_stg0_0 : Ref sig .tc := ⟨.vmem, 23, rfl⟩
abbrev cc6_stg0_1 : Ref sig .tc := ⟨.vmem, 24, rfl⟩
abbrev cc6_stg1_0 : Ref sig .tc := ⟨.vmem, 25, rfl⟩
abbrev cc6_stg1_1 : Ref sig .tc := ⟨.vmem, 26, rfl⟩
abbrev cc6_stg2_0 : Ref sig .tc := ⟨.vmem, 27, rfl⟩
abbrev cc6_stg3_0 : Ref sig .tc := ⟨.vmem, 28, rfl⟩
abbrev cc6_stg4_0 : Ref sig .tc := ⟨.vmem, 29, rfl⟩
abbrev cc6_stg5_0 : Ref sig .tc := ⟨.vmem, 30, rfl⟩
abbrev cc6_stg5_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc8_stg2_0 : Ref sig .tc := ⟨.vmem, 36, rfl⟩
abbrev cc8_stg3_0 : Ref sig .tc := ⟨.vmem, 37, rfl⟩
abbrev cc8_stg4_0 : Ref sig .tc := ⟨.vmem, 38, rfl⟩
abbrev cc8_stg5_0 : Ref sig .tc := ⟨.vmem, 39, rfl⟩
abbrev cc8_stg5_1 : Ref sig .tc := ⟨.vmem, 40, rfl⟩
abbrev cc9_stg0_0 : Ref sig .tc := ⟨.vmem, 41, rfl⟩
abbrev cc9_stg1_0 : Ref sig .tc := ⟨.vmem, 42, rfl⟩
abbrev cc9_stg2_0 : Ref sig .tc := ⟨.vmem, 43, rfl⟩
abbrev cc9_stg3_0 : Ref sig .tc := ⟨.vmem, 44, rfl⟩
abbrev cc9_stg4_0 : Ref sig .tc := ⟨.vmem, 45, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc5_scratch0 : Ref sig .scVector := ⟨.vmem, 4, rfl⟩
abbrev cc5_scratch1 : Ref sig .scVector := ⟨.vmem, 5, rfl⟩
abbrev cc7_scratch0 : Ref sig .scVector := ⟨.vmem, 6, rfl⟩
abbrev cc7_scratch1 : Ref sig .scVector := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem5_1 : DmaSem sig := 64
abbrev cc9_sem0_0 : DmaSem sig := 65
abbrev cc9_sem1_0 : DmaSem sig := 66
abbrev cc9_sem2_0 : DmaSem sig := 67
abbrev cc9_sem3_0 : DmaSem sig := 68
abbrev cc9_sem4_0 : DmaSem sig := 69
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
def k1_off2 (i : grid1.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v33 : BitVec 32 := Scalar.addi v2 c0_i32_22
  let c0_i32_26 : BitVec 32 := 0#32
  ![v33.toNat, 0]
abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x16384x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x512x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 16], ![false, false]⟩

def k3_off1 (i : grid3.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v3 : BitVec 32 := Scalar.addi v2 c0_i32
  ![v3.toNat]
def k3_off2 (i : grid3.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v33 : BitVec 32 := Scalar.addi v2 c0_i32_22
  let c0_i32_26 : BitVec 32 := 0#32
  ![v33.toNat, 0]
abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x256x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S3x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨2, ![2, 16], ![false, false]⟩

def k5_off1 (i : grid5.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v3 : BitVec 32 := Scalar.addi v2 c0_i32
  ![v3.toNat]
def k5_off2 (i : grid5.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v33 : BitVec 32 := Scalar.addi v2 c0_i32_22
  let c0_i32_26 : BitVec 32 := 0#32
  ![v33.toNat, 0]
abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x128x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S3x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1x128x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![2, 16], ![false, false]⟩

def k7_off1 (i : grid7.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  ![v3.toNat]
def k7_off2 (i : grid7.Coords) (c0_i32_26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v33 : BitVec 32 := Scalar.addi v2 c0_i32_26
  let c0_i32_31 : BitVec 32 := 0#32
  let c0_i32_32 : BitVec 32 := 0#32
  ![v33.toNat, 0, 0]
abbrev grid8 : Pipeline.Grid := ⟨1, ![64], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x2048x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x64x3 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S3x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1x64x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := .none

abbrev stage9_0 : Fin 1 → Memref sig .tc .vmem S64x64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S128x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S512x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S256x40 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S64x40 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S64x1024x3 : Shape := ⟨3, ![64, 1024, 3]⟩
abbrev S64x3x1024 : Shape := ⟨3, ![64, 3, 1024]⟩
abbrev S3x16 : Shape := ⟨2, ![3, 16]⟩
abbrev S19x32 : Shape := ⟨2, ![19, 32]⟩
abbrev S35x64 : Shape := ⟨2, ![35, 64]⟩
abbrev S67x128 : Shape := ⟨2, ![67, 128]⟩
abbrev S131x128 : Shape := ⟨2, ![131, 128]⟩
abbrev S32x32 : Shape := ⟨2, ![32, 32]⟩
abbrev S64x64 : Shape := ⟨2, ![64, 64]⟩
abbrev S128x128 : Shape := ⟨2, ![128, 128]⟩
abbrev S128x512 : Shape := ⟨2, ![128, 512]⟩
abbrev S512x256 : Shape := ⟨2, ![512, 256]⟩
abbrev S256x40 : Shape := ⟨2, ![256, 40]⟩
abbrev S64x512x3 : Shape := ⟨3, ![64, 512, 3]⟩
abbrev S64x256x3 : Shape := ⟨3, ![64, 256, 3]⟩
abbrev S64x128x3 : Shape := ⟨3, ![64, 128, 3]⟩
abbrev S64x64x3 : Shape := ⟨3, ![64, 64, 3]⟩
abbrev S64x512x32 : Shape := ⟨3, ![64, 512, 32]⟩
abbrev S64x256x32 : Shape := ⟨3, ![64, 256, 32]⟩
abbrev S64x128x32 : Shape := ⟨3, ![64, 128, 32]⟩
abbrev S64x64x32 : Shape := ⟨3, ![64, 64, 32]⟩
abbrev S64x1024x16 : Shape := ⟨3, ![64, 1024, 16]⟩
abbrev S_ : Shape := ⟨0, ![]⟩
abbrev S64x512x32x1 : Shape := ⟨4, ![64, 512, 32, 1]⟩
abbrev S64x512x32x3 : Shape := ⟨4, ![64, 512, 32, 3]⟩
abbrev S64x512x32x16 : Shape := ⟨4, ![64, 512, 32, 16]⟩
abbrev S64x512x1x3 : Shape := ⟨4, ![64, 512, 1, 3]⟩
abbrev S64x512 : Shape := ⟨2, ![64, 512]⟩
abbrev S64x512x1x1 : Shape := ⟨4, ![64, 512, 1, 1]⟩
abbrev S64x512x32x19 : Shape := ⟨4, ![64, 512, 32, 19]⟩
abbrev S64x512x32x32 : Shape := ⟨4, ![64, 512, 32, 32]⟩
abbrev S64x256x32x1 : Shape := ⟨4, ![64, 256, 32, 1]⟩
abbrev S64x256x32x3 : Shape := ⟨4, ![64, 256, 32, 3]⟩
abbrev S64x256x32x32 : Shape := ⟨4, ![64, 256, 32, 32]⟩
abbrev S64x256x1x3 : Shape := ⟨4, ![64, 256, 1, 3]⟩
abbrev S64x256 : Shape := ⟨2, ![64, 256]⟩
abbrev S64x256x1x1 : Shape := ⟨4, ![64, 256, 1, 1]⟩
abbrev S64x256x32x35 : Shape := ⟨4, ![64, 256, 32, 35]⟩
abbrev S64x256x32x64 : Shape := ⟨4, ![64, 256, 32, 64]⟩
abbrev S64x256x64 : Shape := ⟨3, ![64, 256, 64]⟩
abbrev S64x128x32x1 : Shape := ⟨4, ![64, 128, 32, 1]⟩
abbrev S64x128x32x3 : Shape := ⟨4, ![64, 128, 32, 3]⟩
abbrev S64x128x32x64 : Shape := ⟨4, ![64, 128, 32, 64]⟩
abbrev S64x128x1x3 : Shape := ⟨4, ![64, 128, 1, 3]⟩
abbrev S64x128 : Shape := ⟨2, ![64, 128]⟩
abbrev S64x128x1x1 : Shape := ⟨4, ![64, 128, 1, 1]⟩
abbrev S64x128x32x67 : Shape := ⟨4, ![64, 128, 32, 67]⟩
abbrev S64x128x32x128 : Shape := ⟨4, ![64, 128, 32, 128]⟩
abbrev S64x128x128 : Shape := ⟨3, ![64, 128, 128]⟩
abbrev S64x64x32x1 : Shape := ⟨4, ![64, 64, 32, 1]⟩
abbrev S64x64x32x3 : Shape := ⟨4, ![64, 64, 32, 3]⟩
abbrev S64x64x32x128 : Shape := ⟨4, ![64, 64, 32, 128]⟩
abbrev S64x64x1x3 : Shape := ⟨4, ![64, 64, 1, 3]⟩
abbrev S64x64x1x1 : Shape := ⟨4, ![64, 64, 1, 1]⟩
abbrev S64x64x32x131 : Shape := ⟨4, ![64, 64, 32, 131]⟩
abbrev S64x64x128 : Shape := ⟨3, ![64, 64, 128]⟩
abbrev S64x40 : Shape := ⟨2, ![64, 40]⟩

abbrev nBuf : Space → Nat
  | .hbm => 302
  | .vmem => 0
  | .smem => 0
  | _ => 0

abbrev hbmTy0_0 (i : Nat) : BufTy := match i % 128 with
  | 0 => ⟨S64x1024x3, .f32⟩
  | 1 => ⟨S64x3x1024, .f32⟩
  | 2 => ⟨S3x16, .f32⟩
  | 3 => ⟨S19x32, .f32⟩
  | 4 => ⟨S35x64, .f32⟩
  | 5 => ⟨S67x128, .f32⟩
  | 6 => ⟨S131x128, .f32⟩
  | 7 => ⟨S32x32, .f32⟩
  | 8 => ⟨S64x64, .f32⟩
  | 9 => ⟨S128x128, .f32⟩
  | 10 => ⟨S128x128, .f32⟩
  | 11 => ⟨S128x512, .f32⟩
  | 12 => ⟨S512x256, .f32⟩
  | 13 => ⟨S256x40, .f32⟩
  | 14 => ⟨S64x512x3, .f32⟩
  | 15 => ⟨S64x256x3, .f32⟩
  | 16 => ⟨S64x128x3, .f32⟩
  | 17 => ⟨S64x64x3, .f32⟩
  | 18 => ⟨S64x512x32, .i32⟩
  | 19 => ⟨S64x256x32, .i32⟩
  | 20 => ⟨S64x128x32, .i32⟩
  | 21 => ⟨S64x64x32, .i32⟩
  | 22 => ⟨S64x1024x3, .f32⟩
  | 23 => ⟨S64x1024x16, .f32⟩
  | 24 => ⟨S_, .f32⟩
  | 25 => ⟨S64x1024x16, .f32⟩
  | 26 => ⟨S64x1024x16, .f32⟩
  | 27 => ⟨S_, .i32⟩
  | 28 => ⟨S64x512x32, .i32⟩
  | 29 => ⟨S64x512x32, .i1⟩
  | 30 => ⟨S_, .i32⟩
  | 31 => ⟨S64x512x32, .i32⟩
  | 32 => ⟨S64x512x32, .i32⟩
  | 33 => ⟨S64x512x32, .i32⟩
  | 34 => ⟨S64x512x32x1, .i32⟩
  | 35 => ⟨S64x512x32x3, .f32⟩
  | 36 => ⟨S_, .i32⟩
  | 37 => ⟨S64x512x32, .i32⟩
  | 38 => ⟨S64x512x32, .i1⟩
  | 39 => ⟨S_, .i32⟩
  | 40 => ⟨S64x512x32, .i32⟩
  | 41 => ⟨S64x512x32, .i32⟩
  | 42 => ⟨S64x512x32, .i32⟩
  | 43 => ⟨S64x512x32x1, .i32⟩
  | 44 => ⟨S64x512x32x16, .f32⟩
  | 45 => ⟨S64x512x1x3, .f32⟩
  | 46 => ⟨S64x512x32x3, .f32⟩
  | 47 => ⟨S64x512x32x3, .f32⟩
  | 48 => ⟨S_, .i32⟩
  | 49 => ⟨S_, .f32⟩
  | 50 => ⟨S64x512, .f32⟩
  | 51 => ⟨S64x512x1x1, .f32⟩
  | 52 => ⟨S_, .f32⟩
  | 53 => ⟨S64x512x1x1, .f32⟩
  | 54 => ⟨S64x512x1x1, .f32⟩
  | 55 => ⟨S64x512x32x3, .f32⟩
  | 56 => ⟨S64x512x32x3, .f32⟩
  | 57 => ⟨S64x512x32x3, .f32⟩
  | 58 => ⟨S_, .f32⟩
  | 59 => ⟨S_, .f32⟩
  | 60 => ⟨S_, .f32⟩
  | 61 => ⟨S_, .f32⟩
  | 62 => ⟨S64x512, .f32⟩
  | 63 => ⟨S64x512x1x1, .f32⟩
  | 64 => ⟨S64x512x1x1, .f32⟩
  | 65 => ⟨S64x512x1x1, .f32⟩
  | 66 => ⟨S_, .f32⟩
  | 67 => ⟨S_, .i1⟩
  | 68 => ⟨S_, .f32⟩
  | 69 => ⟨S_, .f32⟩
  | 70 => ⟨S64x512x1x1, .f32⟩
  | 71 => ⟨S64x512x1x1, .f32⟩
  | 72 => ⟨S64x512x1x1, .f32⟩
  | 73 => ⟨S_, .f32⟩
  | 74 => ⟨S64x512x1x1, .f32⟩
  | 75 => ⟨S64x512x1x1, .f32⟩
  | 76 => ⟨S64x512x32x3, .f32⟩
  | 77 => ⟨S64x512x32x3, .f32⟩
  | 78 => ⟨S64x512x32x19, .f32⟩
  | 79 => ⟨S64x512x32x32, .f32⟩
  | 80 => ⟨S_, .f32⟩
  | 81 => ⟨S64x512x32x32, .f32⟩
  | 82 => ⟨S64x512x32x32, .f32⟩
  | 83 => ⟨S_, .f32⟩
  | 84 => ⟨S64x512x32, .f32⟩
  | 85 => ⟨S64x512x32, .f32⟩
  | 86 => ⟨S_, .f32⟩
  | 87 => ⟨S64x512x32, .f32⟩
  | 88 => ⟨S64x512x32, .f32⟩
  | 89 => ⟨S64x512x32, .f32⟩
  | 90 => ⟨S_, .f32⟩
  | 91 => ⟨S64x512x32, .f32⟩
  | 92 => ⟨S64x512x32, .f32⟩
  | 93 => ⟨S_, .i32⟩
  | 94 => ⟨S64x256x32, .i32⟩
  | 95 => ⟨S64x256x32, .i1⟩
  | 96 => ⟨S_, .i32⟩
  | 97 => ⟨S64x256x32, .i32⟩
  | 98 => ⟨S64x256x32, .i32⟩
  | 99 => ⟨S64x256x32, .i32⟩
  | 100 => ⟨S64x256x32x1, .i32⟩
  | 101 => ⟨S64x256x32x3, .f32⟩
  | 102 => ⟨S_, .i32⟩
  | 103 => ⟨S64x256x32, .i32⟩
  | 104 => ⟨S64x256x32, .i1⟩
  | 105 => ⟨S_, .i32⟩
  | 106 => ⟨S64x256x32, .i32⟩
  | 107 => ⟨S64x256x32, .i32⟩
  | 108 => ⟨S64x256x32, .i32⟩
  | 109 => ⟨S64x256x32x1, .i32⟩
  | 110 => ⟨S64x256x32x32, .f32⟩
  | 111 => ⟨S64x256x1x3, .f32⟩
  | 112 => ⟨S64x256x32x3, .f32⟩
  | 113 => ⟨S64x256x32x3, .f32⟩
  | 114 => ⟨S_, .i32⟩
  | 115 => ⟨S_, .f32⟩
  | 116 => ⟨S64x256, .f32⟩
  | 117 => ⟨S64x256x1x1, .f32⟩
  | 118 => ⟨S_, .f32⟩
  | 119 => ⟨S64x256x1x1, .f32⟩
  | 120 => ⟨S64x256x1x1, .f32⟩
  | 121 => ⟨S64x256x32x3, .f32⟩
  | 122 => ⟨S64x256x32x3, .f32⟩
  | 123 => ⟨S64x256x32x3, .f32⟩
  | 124 => ⟨S_, .f32⟩
  | 125 => ⟨S_, .f32⟩
  | 126 => ⟨S_, .f32⟩
  | 127 => ⟨S_, .f32⟩
  | _ => ⟨S64x1024x3, .f32⟩

abbrev hbmTy0_1 (i : Nat) : BufTy := match i % 128 with
  | 0 => ⟨S64x256, .f32⟩
  | 1 => ⟨S64x256x1x1, .f32⟩
  | 2 => ⟨S64x256x1x1, .f32⟩
  | 3 => ⟨S64x256x1x1, .f32⟩
  | 4 => ⟨S_, .f32⟩
  | 5 => ⟨S_, .i1⟩
  | 6 => ⟨S_, .f32⟩
  | 7 => ⟨S_, .f32⟩
  | 8 => ⟨S64x256x1x1, .f32⟩
  | 9 => ⟨S64x256x1x1, .f32⟩
  | 10 => ⟨S64x256x1x1, .f32⟩
  | 11 => ⟨S_, .f32⟩
  | 12 => ⟨S64x256x1x1, .f32⟩
  | 13 => ⟨S64x256x1x1, .f32⟩
  | 14 => ⟨S64x256x32x3, .f32⟩
  | 15 => ⟨S64x256x32x3, .f32⟩
  | 16 => ⟨S64x256x32x35, .f32⟩
  | 17 => ⟨S64x256x32x64, .f32⟩
  | 18 => ⟨S_, .f32⟩
  | 19 => ⟨S64x256x32x64, .f32⟩
  | 20 => ⟨S64x256x32x64, .f32⟩
  | 21 => ⟨S_, .f32⟩
  | 22 => ⟨S64x256x64, .f32⟩
  | 23 => ⟨S64x256x64, .f32⟩
  | 24 => ⟨S_, .f32⟩
  | 25 => ⟨S64x256x64, .f32⟩
  | 26 => ⟨S64x256x64, .f32⟩
  | 27 => ⟨S64x256x64, .f32⟩
  | 28 => ⟨S_, .f32⟩
  | 29 => ⟨S64x256x64, .f32⟩
  | 30 => ⟨S64x256x64, .f32⟩
  | 31 => ⟨S_, .i32⟩
  | 32 => ⟨S64x128x32, .i32⟩
  | 33 => ⟨S64x128x32, .i1⟩
  | 34 => ⟨S_, .i32⟩
  | 35 => ⟨S64x128x32, .i32⟩
  | 36 => ⟨S64x128x32, .i32⟩
  | 37 => ⟨S64x128x32, .i32⟩
  | 38 => ⟨S64x128x32x1, .i32⟩
  | 39 => ⟨S64x128x32x3, .f32⟩
  | 40 => ⟨S_, .i32⟩
  | 41 => ⟨S64x128x32, .i32⟩
  | 42 => ⟨S64x128x32, .i1⟩
  | 43 => ⟨S_, .i32⟩
  | 44 => ⟨S64x128x32, .i32⟩
  | 45 => ⟨S64x128x32, .i32⟩
  | 46 => ⟨S64x128x32, .i32⟩
  | 47 => ⟨S64x128x32x1, .i32⟩
  | 48 => ⟨S64x128x32x64, .f32⟩
  | 49 => ⟨S64x128x1x3, .f32⟩
  | 50 => ⟨S64x128x32x3, .f32⟩
  | 51 => ⟨S64x128x32x3, .f32⟩
  | 52 => ⟨S_, .i32⟩
  | 53 => ⟨S_, .f32⟩
  | 54 => ⟨S64x128, .f32⟩
  | 55 => ⟨S64x128x1x1, .f32⟩
  | 56 => ⟨S_, .f32⟩
  | 57 => ⟨S64x128x1x1, .f32⟩
  | 58 => ⟨S64x128x1x1, .f32⟩
  | 59 => ⟨S64x128x32x3, .f32⟩
  | 60 => ⟨S64x128x32x3, .f32⟩
  | 61 => ⟨S64x128x32x3, .f32⟩
  | 62 => ⟨S_, .f32⟩
  | 63 => ⟨S_, .f32⟩
  | 64 => ⟨S_, .f32⟩
  | 65 => ⟨S_, .f32⟩
  | 66 => ⟨S64x128, .f32⟩
  | 67 => ⟨S64x128x1x1, .f32⟩
  | 68 => ⟨S64x128x1x1, .f32⟩
  | 69 => ⟨S64x128x1x1, .f32⟩
  | 70 => ⟨S_, .f32⟩
  | 71 => ⟨S_, .i1⟩
  | 72 => ⟨S_, .f32⟩
  | 73 => ⟨S_, .f32⟩
  | 74 => ⟨S64x128x1x1, .f32⟩
  | 75 => ⟨S64x128x1x1, .f32⟩
  | 76 => ⟨S64x128x1x1, .f32⟩
  | 77 => ⟨S_, .f32⟩
  | 78 => ⟨S64x128x1x1, .f32⟩
  | 79 => ⟨S64x128x1x1, .f32⟩
  | 80 => ⟨S64x128x32x3, .f32⟩
  | 81 => ⟨S64x128x32x3, .f32⟩
  | 82 => ⟨S64x128x32x67, .f32⟩
  | 83 => ⟨S64x128x32x128, .f32⟩
  | 84 => ⟨S_, .f32⟩
  | 85 => ⟨S64x128x32x128, .f32⟩
  | 86 => ⟨S64x128x32x128, .f32⟩
  | 87 => ⟨S_, .f32⟩
  | 88 => ⟨S64x128x128, .f32⟩
  | 89 => ⟨S64x128x128, .f32⟩
  | 90 => ⟨S_, .f32⟩
  | 91 => ⟨S64x128x128, .f32⟩
  | 92 => ⟨S64x128x128, .f32⟩
  | 93 => ⟨S64x128x128, .f32⟩
  | 94 => ⟨S_, .f32⟩
  | 95 => ⟨S64x128x128, .f32⟩
  | 96 => ⟨S64x128x128, .f32⟩
  | 97 => ⟨S_, .i32⟩
  | 98 => ⟨S64x64x32, .i32⟩
  | 99 => ⟨S64x64x32, .i1⟩
  | 100 => ⟨S_, .i32⟩
  | 101 => ⟨S64x64x32, .i32⟩
  | 102 => ⟨S64x64x32, .i32⟩
  | 103 => ⟨S64x64x32, .i32⟩
  | 104 => ⟨S64x64x32x1, .i32⟩
  | 105 => ⟨S64x64x32x3, .f32⟩
  | 106 => ⟨S_, .i32⟩
  | 107 => ⟨S64x64x32, .i32⟩
  | 108 => ⟨S64x64x32, .i1⟩
  | 109 => ⟨S_, .i32⟩
  | 110 => ⟨S64x64x32, .i32⟩
  | 111 => ⟨S64x64x32, .i32⟩
  | 112 => ⟨S64x64x32, .i32⟩
  | 113 => ⟨S64x64x32x1, .i32⟩
  | 114 => ⟨S64x64x32x128, .f32⟩
  | 115 => ⟨S64x64x1x3, .f32⟩
  | 116 => ⟨S64x64x32x3, .f32⟩
  | 117 => ⟨S64x64x32x3, .f32⟩
  | 118 => ⟨S_, .i32⟩
  | 119 => ⟨S_, .f32⟩
  | 120 => ⟨S64x64, .f32⟩
  | 121 => ⟨S64x64x1x1, .f32⟩
  | 122 => ⟨S_, .f32⟩
  | 123 => ⟨S64x64x1x1, .f32⟩
  | 124 => ⟨S64x64x1x1, .f32⟩
  | 125 => ⟨S64x64x32x3, .f32⟩
  | 126 => ⟨S64x64x32x3, .f32⟩
  | 127 => ⟨S64x64x32x3, .f32⟩
  | _ => ⟨S64x1024x3, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S64x64, .f32⟩
  | 5 => ⟨S64x64x1x1, .f32⟩
  | 6 => ⟨S64x64x1x1, .f32⟩
  | 7 => ⟨S64x64x1x1, .f32⟩
  | 8 => ⟨S_, .f32⟩
  | 9 => ⟨S_, .i1⟩
  | 10 => ⟨S_, .f32⟩
  | 11 => ⟨S_, .f32⟩
  | 12 => ⟨S64x64x1x1, .f32⟩
  | 13 => ⟨S64x64x1x1, .f32⟩
  | 14 => ⟨S64x64x1x1, .f32⟩
  | 15 => ⟨S_, .f32⟩
  | 16 => ⟨S64x64x1x1, .f32⟩
  | 17 => ⟨S64x64x1x1, .f32⟩
  | 18 => ⟨S64x64x32x3, .f32⟩
  | 19 => ⟨S64x64x32x3, .f32⟩
  | 20 => ⟨S64x64x32x131, .f32⟩
  | 21 => ⟨S64x64x32x128, .f32⟩
  | 22 => ⟨S_, .f32⟩
  | 23 => ⟨S64x64x32x128, .f32⟩
  | 24 => ⟨S64x64x32x128, .f32⟩
  | 25 => ⟨S_, .f32⟩
  | 26 => ⟨S64x64x128, .f32⟩
  | 27 => ⟨S64x64x128, .f32⟩
  | 28 => ⟨S_, .f32⟩
  | 29 => ⟨S64x64x128, .f32⟩
  | 30 => ⟨S64x64x128, .f32⟩
  | 31 => ⟨S64x64x128, .f32⟩
  | 32 => ⟨S_, .f32⟩
  | 33 => ⟨S64x64x128, .f32⟩
  | 34 => ⟨S64x64x128, .f32⟩
  | 35 => ⟨S_, .f32⟩
  | 36 => ⟨S64x128, .f32⟩
  | 37 => ⟨S64x512, .f32⟩
  | 38 => ⟨S_, .f32⟩
  | 39 => ⟨S64x512, .f32⟩
  | 40 => ⟨S64x512, .f32⟩
  | 41 => ⟨S64x256, .f32⟩
  | 42 => ⟨S_, .f32⟩
  | 43 => ⟨S64x256, .f32⟩
  | 44 => ⟨S64x256, .f32⟩
  | 45 => ⟨S64x40, .f32⟩
  | _ => ⟨S64x1024x3, .f32⟩

abbrev hbmTy (i : Nat) : BufTy := match i / 128 with
  | 0 => hbmTy0_0 i
  | 1 => hbmTy0_1 i
  | 2 => hbmTy0_2 i
  | _ => ⟨S64x1024x3, .f32⟩

abbrev bufTy : (tb : Table) → Fin (tcTables nBuf tb) → BufTy
  | .hbm, ⟨i, _⟩ => hbmTy i
  | _, _ => ⟨S64x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_call0_cst : Ref sig .tc := ⟨.hbm, 24, rfl⟩
abbrev main_call0_v0 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_cst_0 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_cst_1 : Ref sig .tc := ⟨.hbm, 59, rfl⟩
abbrev main_call1_call0_v8 : Ref sig .tc := ⟨.hbm, 60, rfl⟩
abbrev main_call1_call0_cst_2 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_call0_v12 : Ref sig .tc := ⟨.hbm, 65, rfl⟩
abbrev main_call1_call0_cst_3 : Ref sig .tc := ⟨.hbm, 66, rfl⟩
abbrev main_call1_call0_v13 : Ref sig .tc := ⟨.hbm, 67, rfl⟩
abbrev main_call1_call0_cst_4 : Ref sig .tc := ⟨.hbm, 68, rfl⟩
abbrev main_call1_call0_call0_v0 : Ref sig .tc := ⟨.hbm, 69, rfl⟩
abbrev main_call1_call0_call0_v1 : Ref sig .tc := ⟨.hbm, 70, rfl⟩
abbrev main_call1_v0 : Ref sig .tc := ⟨.hbm, 71, rfl⟩
abbrev main_v20 : Ref sig .tc := ⟨.hbm, 72, rfl⟩
abbrev main_cst : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_call2_cst : Ref sig .tc := ⟨.hbm, 80, rfl⟩
abbrev main_call2_v0 : Ref sig .tc := ⟨.hbm, 81, rfl⟩
abbrev main_v27 : Ref sig .tc := ⟨.hbm, 82, rfl⟩
abbrev main_cst_4 : Ref sig .tc := ⟨.hbm, 83, rfl⟩
abbrev main_v28 : Ref sig .tc := ⟨.hbm, 84, rfl⟩
abbrev main_v29 : Ref sig .tc := ⟨.hbm, 85, rfl⟩
abbrev main_call3_cst : Ref sig .tc := ⟨.hbm, 86, rfl⟩
abbrev main_call3_v0 : Ref sig .tc := ⟨.hbm, 87, rfl⟩
abbrev main_v30 : Ref sig .tc := ⟨.hbm, 88, rfl⟩
abbrev main_v31 : Ref sig .tc := ⟨.hbm, 89, rfl⟩
abbrev main_call4_cst : Ref sig .tc := ⟨.hbm, 90, rfl⟩
abbrev main_call4_v0 : Ref sig .tc := ⟨.hbm, 91, rfl⟩
abbrev main_v32 : Ref sig .tc := ⟨.hbm, 92, rfl⟩
abbrev main_c_5 : Ref sig .tc := ⟨.hbm, 93, rfl⟩
abbrev main_v33 : Ref sig .tc := ⟨.hbm, 94, rfl⟩
abbrev main_v34 : Ref sig .tc := ⟨.hbm, 95, rfl⟩
abbrev main_c_6 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_c_7 : Ref sig .tc := ⟨.hbm, 102, rfl⟩
abbrev main_v40 : Ref sig .tc := ⟨.hbm, 103, rfl⟩
abbrev main_v41 : Ref sig .tc := ⟨.hbm, 104, rfl⟩
abbrev main_c_8 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_c_9 : Ref sig .tc := ⟨.hbm, 114, rfl⟩
abbrev main_call5_call0_cst : Ref sig .tc := ⟨.hbm, 115, rfl⟩
abbrev main_call5_call0_v0 : Ref sig .tc := ⟨.hbm, 116, rfl⟩
abbrev main_call5_call0_v1 : Ref sig .tc := ⟨.hbm, 117, rfl⟩
abbrev main_call5_call0_cst_0 : Ref sig .tc := ⟨.hbm, 118, rfl⟩
abbrev main_call5_call0_v2 : Ref sig .tc := ⟨.hbm, 119, rfl⟩
abbrev main_call5_call0_v3 : Ref sig .tc := ⟨.hbm, 120, rfl⟩
abbrev main_call5_call0_v4 : Ref sig .tc := ⟨.hbm, 121, rfl⟩
abbrev main_call5_call0_v5 : Ref sig .tc := ⟨.hbm, 122, rfl⟩
abbrev main_call5_call0_v6 : Ref sig .tc := ⟨.hbm, 123, rfl⟩
abbrev main_call5_call0_v7 : Ref sig .tc := ⟨.hbm, 124, rfl⟩
abbrev main_call5_call0_cst_1 : Ref sig .tc := ⟨.hbm, 125, rfl⟩
abbrev main_call5_call0_v8 : Ref sig .tc := ⟨.hbm, 126, rfl⟩
abbrev main_call5_call0_cst_2 : Ref sig .tc := ⟨.hbm, 127, rfl⟩
abbrev main_call5_call0_v9 : Ref sig .tc := ⟨.hbm, 128, rfl⟩
abbrev main_call5_call0_v10 : Ref sig .tc := ⟨.hbm, 129, rfl⟩
abbrev main_call5_call0_v11 : Ref sig .tc := ⟨.hbm, 130, rfl⟩
abbrev main_call5_call0_v12 : Ref sig .tc := ⟨.hbm, 131, rfl⟩
abbrev main_call5_call0_cst_3 : Ref sig .tc := ⟨.hbm, 132, rfl⟩
abbrev main_call5_call0_v13 : Ref sig .tc := ⟨.hbm, 133, rfl⟩
abbrev main_call5_call0_cst_4 : Ref sig .tc := ⟨.hbm, 134, rfl⟩
abbrev main_call5_call0_call0_v0 : Ref sig .tc := ⟨.hbm, 135, rfl⟩
abbrev main_call5_call0_call0_v1 : Ref sig .tc := ⟨.hbm, 136, rfl⟩
abbrev main_call5_v0 : Ref sig .tc := ⟨.hbm, 137, rfl⟩
abbrev main_v50 : Ref sig .tc := ⟨.hbm, 138, rfl⟩
abbrev main_cst_10 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_call6_cst : Ref sig .tc := ⟨.hbm, 146, rfl⟩
abbrev main_call6_v0 : Ref sig .tc := ⟨.hbm, 147, rfl⟩
abbrev main_v57 : Ref sig .tc := ⟨.hbm, 148, rfl⟩
abbrev main_cst_11 : Ref sig .tc := ⟨.hbm, 149, rfl⟩
abbrev main_v58 : Ref sig .tc := ⟨.hbm, 150, rfl⟩
abbrev main_v59 : Ref sig .tc := ⟨.hbm, 151, rfl⟩
abbrev main_call7_cst : Ref sig .tc := ⟨.hbm, 152, rfl⟩
abbrev main_call7_v0 : Ref sig .tc := ⟨.hbm, 153, rfl⟩
abbrev main_v60 : Ref sig .tc := ⟨.hbm, 154, rfl⟩
abbrev main_v61 : Ref sig .tc := ⟨.hbm, 155, rfl⟩
abbrev main_call8_cst : Ref sig .tc := ⟨.hbm, 156, rfl⟩
abbrev main_call8_v0 : Ref sig .tc := ⟨.hbm, 157, rfl⟩
abbrev main_v62 : Ref sig .tc := ⟨.hbm, 158, rfl⟩
abbrev main_c_12 : Ref sig .tc := ⟨.hbm, 159, rfl⟩
abbrev main_v63 : Ref sig .tc := ⟨.hbm, 160, rfl⟩
abbrev main_v64 : Ref sig .tc := ⟨.hbm, 161, rfl⟩
abbrev main_c_13 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_c_14 : Ref sig .tc := ⟨.hbm, 168, rfl⟩
abbrev main_v70 : Ref sig .tc := ⟨.hbm, 169, rfl⟩
abbrev main_v71 : Ref sig .tc := ⟨.hbm, 170, rfl⟩
abbrev main_c_15 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_c_16 : Ref sig .tc := ⟨.hbm, 180, rfl⟩
abbrev main_call9_call0_cst : Ref sig .tc := ⟨.hbm, 181, rfl⟩
abbrev main_call9_call0_v0 : Ref sig .tc := ⟨.hbm, 182, rfl⟩
abbrev main_call9_call0_v1 : Ref sig .tc := ⟨.hbm, 183, rfl⟩
abbrev main_call9_call0_cst_0 : Ref sig .tc := ⟨.hbm, 184, rfl⟩
abbrev main_call9_call0_v2 : Ref sig .tc := ⟨.hbm, 185, rfl⟩
abbrev main_call9_call0_v3 : Ref sig .tc := ⟨.hbm, 186, rfl⟩
abbrev main_call9_call0_v4 : Ref sig .tc := ⟨.hbm, 187, rfl⟩
abbrev main_call9_call0_v5 : Ref sig .tc := ⟨.hbm, 188, rfl⟩
abbrev main_call9_call0_v6 : Ref sig .tc := ⟨.hbm, 189, rfl⟩
abbrev main_call9_call0_v7 : Ref sig .tc := ⟨.hbm, 190, rfl⟩
abbrev main_call9_call0_cst_1 : Ref sig .tc := ⟨.hbm, 191, rfl⟩
abbrev main_call9_call0_v8 : Ref sig .tc := ⟨.hbm, 192, rfl⟩
abbrev main_call9_call0_cst_2 : Ref sig .tc := ⟨.hbm, 193, rfl⟩
abbrev main_call9_call0_v9 : Ref sig .tc := ⟨.hbm, 194, rfl⟩
abbrev main_call9_call0_v10 : Ref sig .tc := ⟨.hbm, 195, rfl⟩
abbrev main_call9_call0_v11 : Ref sig .tc := ⟨.hbm, 196, rfl⟩
abbrev main_call9_call0_v12 : Ref sig .tc := ⟨.hbm, 197, rfl⟩
abbrev main_call9_call0_cst_3 : Ref sig .tc := ⟨.hbm, 198, rfl⟩
abbrev main_call9_call0_v13 : Ref sig .tc := ⟨.hbm, 199, rfl⟩
abbrev main_call9_call0_cst_4 : Ref sig .tc := ⟨.hbm, 200, rfl⟩
abbrev main_call9_call0_call0_v0 : Ref sig .tc := ⟨.hbm, 201, rfl⟩
abbrev main_call9_call0_call0_v1 : Ref sig .tc := ⟨.hbm, 202, rfl⟩
abbrev main_call9_v0 : Ref sig .tc := ⟨.hbm, 203, rfl⟩
abbrev main_v80 : Ref sig .tc := ⟨.hbm, 204, rfl⟩
abbrev main_cst_17 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_call10_cst : Ref sig .tc := ⟨.hbm, 212, rfl⟩
abbrev main_call10_v0 : Ref sig .tc := ⟨.hbm, 213, rfl⟩
abbrev main_v87 : Ref sig .tc := ⟨.hbm, 214, rfl⟩
abbrev main_cst_18 : Ref sig .tc := ⟨.hbm, 215, rfl⟩
abbrev main_v88 : Ref sig .tc := ⟨.hbm, 216, rfl⟩
abbrev main_v89 : Ref sig .tc := ⟨.hbm, 217, rfl⟩
abbrev main_call11_cst : Ref sig .tc := ⟨.hbm, 218, rfl⟩
abbrev main_call11_v0 : Ref sig .tc := ⟨.hbm, 219, rfl⟩
abbrev main_v90 : Ref sig .tc := ⟨.hbm, 220, rfl⟩
abbrev main_v91 : Ref sig .tc := ⟨.hbm, 221, rfl⟩
abbrev main_call12_cst : Ref sig .tc := ⟨.hbm, 222, rfl⟩
abbrev main_call12_v0 : Ref sig .tc := ⟨.hbm, 223, rfl⟩
abbrev main_v92 : Ref sig .tc := ⟨.hbm, 224, rfl⟩
abbrev main_c_19 : Ref sig .tc := ⟨.hbm, 225, rfl⟩
abbrev main_v93 : Ref sig .tc := ⟨.hbm, 226, rfl⟩
abbrev main_v94 : Ref sig .tc := ⟨.hbm, 227, rfl⟩
abbrev main_c_20 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_c_21 : Ref sig .tc := ⟨.hbm, 234, rfl⟩
abbrev main_v100 : Ref sig .tc := ⟨.hbm, 235, rfl⟩
abbrev main_v101 : Ref sig .tc := ⟨.hbm, 236, rfl⟩
abbrev main_c_22 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_v108 : Ref sig .tc := ⟨.hbm, 244, rfl⟩
abbrev main_v109 : Ref sig .tc := ⟨.hbm, 245, rfl⟩
abbrev main_c_23 : Ref sig .tc := ⟨.hbm, 246, rfl⟩
abbrev main_call13_call0_cst : Ref sig .tc := ⟨.hbm, 247, rfl⟩
abbrev main_call13_call0_v0 : Ref sig .tc := ⟨.hbm, 248, rfl⟩
abbrev main_call13_call0_v1 : Ref sig .tc := ⟨.hbm, 249, rfl⟩
abbrev main_call13_call0_cst_0 : Ref sig .tc := ⟨.hbm, 250, rfl⟩
abbrev main_call13_call0_v2 : Ref sig .tc := ⟨.hbm, 251, rfl⟩
abbrev main_call13_call0_v3 : Ref sig .tc := ⟨.hbm, 252, rfl⟩
abbrev main_call13_call0_v4 : Ref sig .tc := ⟨.hbm, 253, rfl⟩
abbrev main_call13_call0_v5 : Ref sig .tc := ⟨.hbm, 254, rfl⟩
abbrev main_call13_call0_v6 : Ref sig .tc := ⟨.hbm, 255, rfl⟩
abbrev main_call13_call0_v7 : Ref sig .tc := ⟨.hbm, 256, rfl⟩
abbrev main_call13_call0_cst_1 : Ref sig .tc := ⟨.hbm, 257, rfl⟩
abbrev main_call13_call0_v8 : Ref sig .tc := ⟨.hbm, 258, rfl⟩
abbrev main_call13_call0_cst_2 : Ref sig .tc := ⟨.hbm, 259, rfl⟩
abbrev main_call13_call0_v9 : Ref sig .tc := ⟨.hbm, 260, rfl⟩
abbrev main_call13_call0_v10 : Ref sig .tc := ⟨.hbm, 261, rfl⟩
abbrev main_call13_call0_v11 : Ref sig .tc := ⟨.hbm, 262, rfl⟩
abbrev main_call13_call0_v12 : Ref sig .tc := ⟨.hbm, 263, rfl⟩
abbrev main_call13_call0_cst_3 : Ref sig .tc := ⟨.hbm, 264, rfl⟩
abbrev main_call13_call0_v13 : Ref sig .tc := ⟨.hbm, 265, rfl⟩
abbrev main_call13_call0_cst_4 : Ref sig .tc := ⟨.hbm, 266, rfl⟩
abbrev main_call13_call0_call0_v0 : Ref sig .tc := ⟨.hbm, 267, rfl⟩
abbrev main_call13_call0_call0_v1 : Ref sig .tc := ⟨.hbm, 268, rfl⟩
abbrev main_call13_v0 : Ref sig .tc := ⟨.hbm, 269, rfl⟩
abbrev main_v110 : Ref sig .tc := ⟨.hbm, 270, rfl⟩
abbrev main_cst_24 : Ref sig .tc := ⟨.hbm, 271, rfl⟩
abbrev main_v111 : Ref sig .tc := ⟨.hbm, 272, rfl⟩
abbrev main_v112 : Ref sig .tc := ⟨.hbm, 273, rfl⟩
abbrev main_v113 : Ref sig .tc := ⟨.hbm, 274, rfl⟩
abbrev main_v114 : Ref sig .tc := ⟨.hbm, 275, rfl⟩
abbrev main_v115 : Ref sig .tc := ⟨.hbm, 276, rfl⟩
abbrev main_v116 : Ref sig .tc := ⟨.hbm, 277, rfl⟩
abbrev main_call14_cst : Ref sig .tc := ⟨.hbm, 278, rfl⟩
abbrev main_call14_v0 : Ref sig .tc := ⟨.hbm, 279, rfl⟩
abbrev main_v117 : Ref sig .tc := ⟨.hbm, 280, rfl⟩
abbrev main_cst_25 : Ref sig .tc := ⟨.hbm, 281, rfl⟩
abbrev main_v118 : Ref sig .tc := ⟨.hbm, 282, rfl⟩
abbrev main_v119 : Ref sig .tc := ⟨.hbm, 283, rfl⟩
abbrev main_call15_cst : Ref sig .tc := ⟨.hbm, 284, rfl⟩
abbrev main_call15_v0 : Ref sig .tc := ⟨.hbm, 285, rfl⟩
abbrev main_v120 : Ref sig .tc := ⟨.hbm, 286, rfl⟩
abbrev main_v121 : Ref sig .tc := ⟨.hbm, 287, rfl⟩
abbrev main_call16_cst : Ref sig .tc := ⟨.hbm, 288, rfl⟩
abbrev main_call16_v0 : Ref sig .tc := ⟨.hbm, 289, rfl⟩
abbrev main_v122 : Ref sig .tc := ⟨.hbm, 290, rfl⟩
abbrev main_cst_26 : Ref sig .tc := ⟨.hbm, 291, rfl⟩
abbrev main_v123 : Ref sig .tc := ⟨.hbm, 292, rfl⟩
abbrev main_v124 : Ref sig .tc := ⟨.hbm, 293, rfl⟩
abbrev main_call17_cst : Ref sig .tc := ⟨.hbm, 294, rfl⟩
abbrev main_call17_v0 : Ref sig .tc := ⟨.hbm, 295, rfl⟩
abbrev main_v125 : Ref sig .tc := ⟨.hbm, 296, rfl⟩
abbrev main_v126 : Ref sig .tc := ⟨.hbm, 297, rfl⟩
abbrev main_call18_cst : Ref sig .tc := ⟨.hbm, 298, rfl⟩
abbrev main_call18_v0 : Ref sig .tc := ⟨.hbm, 299, rfl⟩
abbrev main_v127 : Ref sig .tc := ⟨.hbm, 300, rfl⟩
abbrev main_v128 : Ref sig .tc := ⟨.hbm, 301, rfl⟩

abbrev nD : Nat := 1
abbrev τ : Topo := Topo.v7x

variable {F : FTy → Type} [FloatOps F]
-- ==== Proof.Pipe.lean ====
/-
  The double-buffered gather that one tile of the SparseCore runs, written once for any number of chunks.

  A tile owns `n` chunks of a list of row numbers. For each chunk it fetches the chunk's numbers, gathers the
  rows they name, and writes the rows out; two slots (a buffer for the numbers, a buffer for the rows and three
  semaphores each) take turns, so that the fetch of the next chunk and the write of the last one are under way while
  a chunk's rows come in. `pipe` is that program as a loop over the chunks, `wp_pipe` what it does: every chunk's
  rows are written at the chunk's own place, row `j` being the row of the table that the list names there.
-/
module

public import Idealize.ShloMosaic.Lib.SparseCore.Stream
public import Idealize.ShloMosaic.Lib.SparseCore.Threads
public import Idealize.ShloMosaic.Lib.Tactic

@[expose] public section

noncomputable section

namespace Cert.Proof.Pipe

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The program -/

/-- One of the two slots: where a chunk's numbers and rows stand in the tile's memory, and the semaphores of the
    chunk's three transfers. -/
structure Slot (sig : RefSig) (κ : Kind) (si s : Shape) (e : EltTy) where
  idx : Memref sig κ .vmem si .i32
  rows : Memref sig κ .vmem s e
  semI : DmaSem sig
  semG : DmaSem sig
  semO : DmaSem sig

/-- What the tile works on: the table, the chunks of the list and the chunks of the output. -/
structure Job (sig : RefSig) (κ : Kind) (s₀ si s : Shape) (e : EltTy) (a : ℕ) where
  tab : Memref sig κ .hbm s₀ e
  lst : ℕ → Memref sig κ .hbm si .i32
  out : ℕ → Memref sig κ .hbm s e
  hg : s₀.Gathers a s
  hn : si.numel = s.size hg.axis'
  he : e.bits = 32
  hr : s₀.StreamRows a

section Program

variable {nD : ℕ} {τ : Topo} {sig : RefSig} {F : FTy → Type} {Λ : Labels} {p : Proc τ} (hp : p.kind = .scVector)
variable {s₀ si s : Shape} {e : EltTy} {a : ℕ} (J : Job sig p.kind s₀ si s e a) (S S' : Slot sig p.kind si s e)

/-- Start the fetch of chunk `i`'s numbers. -/
abbrev fetch (i : ℕ) : Prog (TpuEff nD τ sig (Elt F) Λ p) PUnit :=
  Prog.lift (.enqueueDma (J.lst i) (.here S.idx) (.dma S.semI) (View.wordExact_bits rfl) (View.wordExact_bits rfl) ⟨Or.inl rfl, trivial⟩)

/-- Wait for that fetch. -/
abbrev fetched (i : ℕ) : Prog (TpuEff nD τ sig (Elt F) Λ p) PUnit :=
  Prog.lift (.waitDma2 S.semI (J.lst i) S.idx (View.wordExact_bits rfl) (View.wordExact_bits rfl))

/-- Start the gather of the rows that the slot's numbers name. -/
abbrev gath : Prog (TpuEff nD τ sig (Elt F) Λ p) PUnit :=
  SparseCore.enqueueIndirectGather hp J.tab S.rows J.hg S.idx J.hn S.semG (View.wordExact_bits J.he) J.he (Or.inl rfl) J.hr

/-- Wait for that gather. -/
abbrev gathed : Prog (TpuEff nD τ sig (Elt F) Λ p) PUnit :=
  SparseCore.waitIndirectGather S.semG J.tab S.rows (View.wordExact_bits J.he) (View.wordExact_bits J.he)

/-- Start the write of the slot's rows to chunk `i` of the output. -/
abbrev put (i : ℕ) : Prog (TpuEff nD τ sig (Elt F) Λ p) PUnit :=
  Prog.lift (.enqueueDma S.rows (.here (J.out i)) (.dma S.semO) (View.wordExact_bits J.he) (View.wordExact_bits J.he) ⟨Or.inl rfl, trivial⟩)

/-- Wait for that write. -/
abbrev putted (i : ℕ) : Prog (TpuEff nD τ sig (Elt F) Λ p) PUnit :=
  Prog.lift (.waitDma2 S.semO S.rows (J.out i) (View.wordExact_bits J.he) (View.wordExact_bits J.he))

/-- The turn of chunk `i + 2`, in slot `S`; the chunk before it is in slot `S'`. -/
def trip (i : ℕ) : Prog (TpuEff nD τ sig (Elt F) Λ p) PUnit := do
  gathed J S'
  put J S' (i + 1)
  fetch J S' (i + 3)
  putted J S i
  fetched J S (i + 2)
  gath hp J S

/-- The last chunk's turn, and the waits for what is still under way. -/
def final (i : ℕ) : Prog (TpuEff nD τ sig (Elt F) Λ p) PUnit := do
  gathed J S'
  put J S' (i + 1)
  putted J S i
  fetched J S (i + 2)
  gath hp J S
  gathed J S
  put J S (i + 2)
  putted J S' (i + 1)
  putted J S (i + 2)
  pure ⟨⟩

/-- The turns of chunks `i + 2, …, i + 2 + k`, the last of them the list's last. -/
def turns : ℕ → ℕ → Slot sig p.kind si s e → Slot sig p.kind si s e → Prog (TpuEff nD τ sig (Elt F) Λ p) PUnit
  | 0, i, S, S' => final hp J S S' i
  | k + 1, i, S, S' => trip hp J S S' i >>= fun _ => turns k (i + 1) S' S

/-- The whole program on `k + 3` chunks. -/
def pipe (k : ℕ) : Prog (TpuEff nD τ sig (Elt F) Λ p) PUnit := do
  fetch J S 0
  fetch J S' 1
  fetched J S 0
  gath hp J S
  gathed J S
  put J S 0
  fetch J S 2
  fetched J S' 1
  gath hp J S'
  turns hp J k 0 S S'

end Program

/-! ## What it does -/

section Run

variable {nD : ℕ} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

/-- A family's sum over `i, …, n - 1` is its first term and the rest. -/
theorem bigSep_Ico {M : Type} [URA M] (Φ : ℕ → sProp M) {i n : ℕ} (h : i < n) :
    bigSep (Finset.Ico i n) Φ = iprop(Φ i ∗ bigSep (Finset.Ico (i + 1) n) Φ) := by
  rw [show Finset.Ico i n = insert i (Finset.Ico (i + 1) n) by ext x; simp only [Finset.mem_Ico, Finset.mem_insert]; omega]
  exact BI.bigSep_insert (by simp)

/-- A family's sum over `0, …, i` is its last term and the rest. -/
theorem bigSep_range {M : Type} [URA M] (Φ : ℕ → sProp M) (i : ℕ) :
    bigSep (Finset.range (i + 1)) Φ = iprop(Φ i ∗ bigSep (Finset.range i) Φ) := by
  rw [Finset.range_add_one]
  exact BI.bigSep_insert Finset.notMem_range_self

variable {defs : Defs nD τ sig (Elt F) Λ} (EC : UEmb Counters (MT nD τ sig Ix (Elt F) Name U Lvl)) (𝒱 : Variants) (c : Thread nD τ) (bd : Option 𝒱.V)
variable (hp : c.2.kind = .scVector) (ι : Ix)
variable {s₀ si s : Shape} {e : EltTy} {a : ℕ} (J : Job sig c.2.kind s₀ si s e a)
variable (ft : Buf (Elt F) (J.tab.view.loc c)) (fl : (i : ℕ) → Buf (Elt F) ((J.lst i).view.loc c)) (fo : (i : ℕ) → Buf (Elt F) ((J.out i).view.loc c))
variable (q ql : PosShare TreeShare)

/-- Chunk `i`'s numbers. -/
abbrev words (i : ℕ) : si.Idx → Elt F .i32 := (J.lst i).view.read (Elt F) (fl i)

variable (hin : ∀ i x, (words c J fl i x).toNat < s₀.size J.hg.axis)

/-- Chunk `i`'s rows: at each place the table's row that the chunk's number there names. -/
abbrev pay (i : ℕ) : s.Idx → Elt F e :=
  SparseCore.gatherPayload J.hg (J.tab.view.read (Elt F) ft) (SparseCore.rows (words c J fl i) J.hn (hin i))

/-- A share of the table. -/
abbrev Tab : sProp 𝕄 := J.tab.view.loc c ↦[J.tab.view.set]{q} ft
/-- Chunk `i` of the list. -/
abbrev Lst (i : ℕ) : sProp 𝕄 := (J.lst i).view.loc c ↦[(J.lst i).view.set]{ql} fl i
/-- Chunk `i` of the output as it was. -/
abbrev Old (i : ℕ) : sProp 𝕄 := (J.out i).view.loc c ↦[(J.out i).view.set]{fullShare} fo i
/-- Chunk `i` of the output with its rows. -/
abbrev New (i : ℕ) : sProp 𝕄 :=
  (J.out i).view.loc c ↦[(J.out i).view.set]{fullShare} (J.out i).view.write (Elt F) (fo i) (pay c J ft fl hin i) Finset.univ
/-- The slot's buffer for numbers, holding whatever it holds. -/
abbrev Ibuf (S : Slot sig c.2.kind si s e) : sProp 𝕄 := iprop(∃ g, S.idx.view.loc c ↦[S.idx.view.set]{fullShare} g)
/-- The slot's buffer for numbers, holding chunk `i`'s. -/
abbrev Iat (S : Slot sig c.2.kind si s e) (i : ℕ) : sProp 𝕄 :=
  iprop(∃ g, ⌜S.idx.view.read (Elt F) g = words c J fl i⌝ ∗ S.idx.view.loc c ↦[S.idx.view.set]{fullShare} g)
/-- The slot's buffer for rows, holding whatever it holds. -/
abbrev Rbuf (S : Slot sig c.2.kind si s e) : sProp 𝕄 := iprop(∃ g, S.rows.view.loc c ↦[S.rows.view.set]{fullShare} g)
/-- The slot's buffer for rows, holding chunk `i`'s. -/
abbrev Rat (S : Slot sig c.2.kind si s e) (i : ℕ) : sProp 𝕄 :=
  iprop(∃ g, ⌜S.rows.view.read (Elt F) g = pay c J ft fl hin i⌝ ∗ S.rows.view.loc c ↦[S.rows.view.set]{fullShare} g)

/-- Chunk `i`'s numbers on their way into the slot. -/
abbrev FlyI (S : Slot sig c.2.kind si s e) (i : ℕ) : sProp 𝕄 :=
  Transfers.Flight EC c (SemLoc.dma S.semI) ι S.idx.view.dmaCredit iprop(Iat c J fl S i ∗ Lst c J fl ql i)
/-- Chunk `i`'s rows on their way into the slot. -/
abbrev FlyG (S : Slot sig c.2.kind si s e) (i : ℕ) : sProp 𝕄 :=
  Transfers.Flight EC c (SemLoc.dma S.semG) ι S.rows.view.dmaCredit iprop(Rat c J ft fl hin S i ∗ Tab c J ft q ∗ Ibuf c S)
/-- Chunk `i`'s rows on their way out of the slot. -/
abbrev FlyO (S : Slot sig c.2.kind si s e) (i : ℕ) : sProp 𝕄 :=
  Transfers.Flight EC c (SemLoc.dma S.semO) ι (J.out i).view.dmaCredit iprop(New c J ft fl fo hin i ∗ Rbuf c S)

/-- What the tile owes stays what it is; it has waited at the index `ι` only, beyond what it had before. -/
def Owes (O : CellTallies nD τ sig Ix) (W : Waits sig Ix) : sProp 𝕄 :=
  iprop(∃ W', ⌜∀ x ∈ W', x ∈ W ∨ x.2 = ι⌝ ∗ owes c O W')

variable {O : CellTallies nD τ sig Ix} {W : Waits sig Ix} {α : Type} {Q : α → sProp (MT nD τ sig Ix (Elt F) Name U Lvl)} {k : PUnit → Prog (TpuEff nD τ sig (Elt F) Λ c.2) α}
variable (S S' : Slot sig c.2.kind si s e)

/-- What a fetch delivers is the chunk's numbers in the slot. -/
theorem fetch_delivers (i : ℕ) (g : Buf (Elt F) (S.idx.view.loc c)) :
    iprop((S.idx.view.loc c ↦[S.idx.view.set]{fullShare} S.idx.view.write (Elt F) g
        ((ReadAs.same : ReadAs (Elt F) si .i32 si .i32).apply (words c J fl i)) Finset.univ) ∗ Lst c J fl ql i)
      ⊢ (iprop(Iat c J fl S i ∗ Lst c J fl ql i) : sProp 𝕄) := by
  iintro ⟨Hi, Hl⟩
  isplitl [Hi]
  · iexists _; isplitr
    swap; · iexact Hi
    ipureintro; exact View.read_write_univ _ _
  iexact Hl

theorem wp_fetch [Infinite Name] [EC.LandsIn (upEmb : UEmb _ 𝕄)] (hsi : 0 < si.numel) (i : ℕ) :
    iprop(Lst c J fl ql i ∗ Ibuf c S ∗ semVal (c, SemLoc.dma S.semI) 0)
      ⊢ iprop((FlyI EC c ι J fl ql S i -∗ wp frame (wpE defs 𝒱 c bd) Set.univ (k ⟨⟩) Q)
          -∗ wp frame (wpE defs 𝒱 c bd) Set.univ (fetch J S i >>= k) Q) := by
  iintro ⟨Hl, ⟨%g, Hi⟩, Hs⟩ Hk
  iapply (Transfers.wp_dmaLocal EC 𝒱 c bd ι S.idx.view.dmaCredit rfl (View.dmaCredit_pos _ hsi) (Finset.Subset.refl _)) $$ [Hl Hi Hs]
  · isplitl [Hl]; · iexact Hl
    isplitl [Hi]; · iexact Hi
    iexact Hs
  iintro Hf
  iapply Hk
  iapply (Transfers.Flight_mono EC c (fetch_delivers c J fl ql S i g)) $$ Hf

/-- The tile may wait at the index `ι` of any of its cells under what it owes, and it keeps count of its waits. -/
abbrev Waiter (O : CellTallies nD τ sig Ix) (W : Waits sig Ix) : sProp 𝕄 := iprop(Transfers.MayWaits c ι O ∗ Owes c ι O W)

theorem owes_insert (sm : SemLoc sig) {W' : Waits sig Ix} (h : ∀ x ∈ W', x ∈ W ∨ x.2 = ι) :
    ∀ x ∈ insert (sm, ι) W', x ∈ W ∨ x.2 = ι := fun x hx =>
  (Finset.mem_insert.mp hx).elim (fun e => .inr (e ▸ rfl)) (h x)

/-- A wait for a transfer of the tile's own hands over what the transfer delivers, and the semaphore back at zero. -/
theorem wp_wait [EC.LandsIn (upEmb : UEmb _ 𝕄)] {sp sp' : Space} {s₁ s₂ : Shape} {e₁ e₂ : EltTy} {sem : DmaSem sig}
    {src : Memref sig c.2.kind sp' s₂ e₂} {dst : Memref sig c.2.kind sp s₁ e₁} {hsrc : src.view.WordExact} {hdst : dst.view.WordExact}
    {D : sProp 𝕄} :
    iprop(Transfers.Flight EC c (SemLoc.dma sem) ι dst.view.dmaCredit D ∗ Waiter c ι O W)
      ⊢ iprop((iprop(D ∗ semVal (c, SemLoc.dma sem) 0 ∗ Waiter c ι O W) -∗ wp frame (wpE defs 𝒱 c bd) Set.univ (k ⟨⟩) Q)
          -∗ wp frame (wpE defs 𝒱 c bd) Set.univ (.op (.waitDma2 sem src dst hsrc hdst) k) Q) := by
  unfold Waiter Owes
  iintro ⟨Hf, #Hmw, %W', %hW, HO⟩ Hk
  iapply (Transfers.wp_waitLocalO EC 𝒱 c bd ι rfl) $$ [Hf HO]
  · isplitl [Hf]; · iexact Hf
    isplitl [HO]; · iexact HO
    iapply (Transfers.MayWaits.elim (SemLoc.dma sem)) $$ Hmw
  iintro ⟨HD, Hs, HO⟩
  iapply Hk
  isplitl [HD]; · iexact HD
  isplitl [Hs]; · iexact Hs
  isplitr; · iexact Hmw
  iexists _; isplitr
  swap; · iexact HO
  ipureintro; exact owes_insert ι _ hW

theorem wp_fetched [EC.LandsIn (upEmb : UEmb _ 𝕄)] (i : ℕ) :
    iprop(FlyI EC c ι J fl ql S i ∗ Waiter c ι O W)
      ⊢ iprop((iprop((Iat c J fl S i ∗ Lst c J fl ql i) ∗ semVal (c, SemLoc.dma S.semI) 0 ∗ Waiter c ι O W)
            -∗ wp frame (wpE defs 𝒱 c bd) Set.univ (k ⟨⟩) Q)
          -∗ wp frame (wpE defs 𝒱 c bd) Set.univ (fetched J S i >>= k) Q) :=
  wp_wait EC 𝒱 c bd ι

theorem wp_gathed [EC.LandsIn (upEmb : UEmb _ 𝕄)] (i : ℕ) :
    iprop(FlyG EC c ι J ft fl q hin S i ∗ Waiter c ι O W)
      ⊢ iprop((iprop((Rat c J ft fl hin S i ∗ Tab c J ft q ∗ Ibuf c S) ∗ semVal (c, SemLoc.dma S.semG) 0 ∗ Waiter c ι O W)
            -∗ wp frame (wpE defs 𝒱 c bd) Set.univ (k ⟨⟩) Q)
          -∗ wp frame (wpE defs 𝒱 c bd) Set.univ (gathed J S >>= k) Q) :=
  wp_wait EC 𝒱 c bd ι

theorem wp_putted [EC.LandsIn (upEmb : UEmb _ 𝕄)] (i : ℕ) :
    iprop(FlyO EC c ι J ft fl fo hin S i ∗ Waiter c ι O W)
      ⊢ iprop((iprop((New c J ft fl fo hin i ∗ Rbuf c S) ∗ semVal (c, SemLoc.dma S.semO) 0 ∗ Waiter c ι O W)
            -∗ wp frame (wpE defs 𝒱 c bd) Set.univ (k ⟨⟩) Q)
          -∗ wp frame (wpE defs 𝒱 c bd) Set.univ (putted J S i >>= k) Q) :=
  wp_wait EC 𝒱 c bd ι

theorem rows_congr {o z : ℕ} {w w' : si.Idx → Elt F .i32} (hn : si.numel = o) (hw : w = w') (h : ∀ x, (w x).toNat < z) (h' : ∀ x, (w' x).toNat < z) :
    SparseCore.rows w hn h = SparseCore.rows w' hn h' := by
  subst hw; rfl

/-- What a gather delivers is the chunk's rows in the slot. -/
theorem gath_delivers (i : ℕ) (g : Buf (Elt F) (S.rows.view.loc c)) (f : Buf (Elt F) (S.idx.view.loc c))
    (hf : S.idx.view.read (Elt F) f = words c J fl i) (h : ∀ x, (S.idx.view.read (Elt F) f x).toNat < s₀.size J.hg.axis) :
    iprop((S.rows.view.loc c ↦[S.rows.view.set]{fullShare} S.rows.view.write (Elt F) g
        (SparseCore.gatherPayload J.hg (J.tab.view.read (Elt F) ft) (SparseCore.rows (S.idx.view.read (Elt F) f) J.hn h)) Finset.univ)
        ∗ Tab c J ft q ∗ S.idx.view.loc c ↦[S.idx.view.set]{fullShare} f)
      ⊢ (iprop(Rat c J ft fl hin S i ∗ Tab c J ft q ∗ Ibuf c S) : sProp 𝕄) := by
  iintro ⟨Hr, Ht, Hi⟩
  isplitl [Hr]
  · iexists _; isplitr
    swap; · iexact Hr
    ipureintro
    rw [View.read_write_univ]
    rw [rows_congr J.hn hf h (hin i)]
  isplitl [Ht]; · iexact Ht
  iexists f; iexact Hi

theorem wp_gath [Infinite Name] [EC.LandsIn (upEmb : UEmb _ 𝕄)] (hs : 0 < s.numel)
    (hcr : ∀ s' : Shape, sig.dmaCredit c.2.kind (c.2.kind.table .vmem) S.rows.view.buf s' e = s'.numel * e.bits) (i : ℕ) :
    iprop(Iat c J fl S i ∗ Tab c J ft q ∗ Rbuf c S ∗ semVal (c, SemLoc.dma S.semG) 0)
      ⊢ iprop((FlyG EC c ι J ft fl q hin S i -∗ wp frame (wpE defs 𝒱 c bd) Set.univ (k ⟨⟩) Q)
          -∗ wp frame (wpE defs 𝒱 c bd) Set.univ (gath hp J S >>= k) Q) := by
  iintro ⟨⟨%f, %hf, Hi⟩, Ht, ⟨%g, Hr⟩, Hs⟩ Hk
  have hin' : ∀ x, (S.idx.view.read (Elt F) f x).toNat < s₀.size J.hg.axis := fun x => by rw [hf]; exact hin i x
  iapply (SparseCore.wp_indirectGatherLocal EC 𝒱 c bd ι S.rows.view.dmaCredit (SparseCore.sum_rowCredit_eq_dmaCredit _ _ hcr) hs hin') $$ [Ht Hr Hi Hs]
  · isplitl [Ht]; · iexact Ht
    isplitl [Hr]; · iexact Hr
    isplitl [Hi]; · iexact Hi
    iexact Hs
  iintro Hf
  iapply Hk
  iapply (Transfers.Flight_mono EC c (gath_delivers c J ft fl q hin S i g f hf hin')) $$ Hf

/-- What a write delivers is the output's chunk with the chunk's rows. -/
theorem put_delivers (i : ℕ) (g : Buf (Elt F) (S.rows.view.loc c)) (hg : S.rows.view.read (Elt F) g = pay c J ft fl hin i) :
    iprop(((J.out i).view.loc c ↦[(J.out i).view.set]{fullShare} (J.out i).view.write (Elt F) (fo i)
        ((ReadAs.same : ReadAs (Elt F) s e s e).apply (S.rows.view.read (Elt F) g)) Finset.univ)
        ∗ S.rows.view.loc c ↦[S.rows.view.set]{fullShare} g)
      ⊢ (iprop(New c J ft fl fo hin i ∗ Rbuf c S) : sProp 𝕄) := by
  iintro ⟨Ho, Hr⟩
  isplitl [Ho]
  · iapply (Entails.of_eq (show _ = New c J ft fl fo hin i by rw [hg])) $$ Ho
  iexists g; iexact Hr

theorem wp_put [Infinite Name] [EC.LandsIn (upEmb : UEmb _ 𝕄)] (hs : 0 < s.numel) (i : ℕ) :
    iprop(Rat c J ft fl hin S i ∗ Old c J fo i ∗ semVal (c, SemLoc.dma S.semO) 0)
      ⊢ iprop((FlyO EC c ι J ft fl fo hin S i -∗ wp frame (wpE defs 𝒱 c bd) Set.univ (k ⟨⟩) Q)
          -∗ wp frame (wpE defs 𝒱 c bd) Set.univ (put J S i >>= k) Q) := by
  iintro ⟨⟨%g, %hg, Hr⟩, Ho, Hs⟩ Hk
  iapply (Transfers.wp_dmaLocal EC 𝒱 c bd ι (J.out i).view.dmaCredit rfl (View.dmaCredit_pos _ hs) (Finset.Subset.refl _)) $$ [Hr Ho Hs]
  · isplitl [Hr]; · iexact Hr
    isplitl [Ho]; · iexact Ho
    iexact Hs
  iintro Hf
  iapply Hk
  iapply (Transfers.Flight_mono EC c (put_delivers c J ft fl fo hin S i g hg)) $$ Hf

/-! ## The loop -/

variable (n : ℕ)

/-- The state before the turn of chunk `i + 2` of `n`: the chunk's numbers are on their way into slot `S`, chunk `i`'s
    rows on their way out of it, chunk `i + 1`'s rows on their way into slot `S'`. -/
def At (O : CellTallies nD τ sig Ix) (W : Waits sig Ix) (i : ℕ) (S S' : Slot sig c.2.kind si s e) : sProp 𝕄 :=
  iprop(Waiter c ι O W ∗ FlyG EC c ι J ft fl q hin S' (i + 1) ∗ FlyO EC c ι J ft fl fo hin S i ∗ FlyI EC c ι J fl ql S (i + 2)
    ∗ semVal (c, SemLoc.dma S.semG) 0 ∗ semVal (c, SemLoc.dma S'.semO) 0 ∗ semVal (c, SemLoc.dma S'.semI) 0
    ∗ bigSep (Finset.Ico (i + 3) n) (Lst c J fl ql) ∗ bigSep (Finset.Ico (i + 1) n) (Old c J fo)
    ∗ bigSep (Finset.range (i + 2)) (Lst c J fl ql) ∗ bigSep (Finset.range i) (New c J ft fl fo hin))

/-- What a slot is when nothing is under way in it. -/
def Idle (S : Slot sig c.2.kind si s e) : sProp 𝕄 :=
  iprop(Ibuf c S ∗ Rbuf c S ∗ semVal (c, SemLoc.dma S.semI) 0 ∗ semVal (c, SemLoc.dma S.semG) 0 ∗ semVal (c, SemLoc.dma S.semO) 0)

/-- What the tile ends with: both slots idle, its share of the table, its list, and every chunk of the output with the
    chunk's rows. -/
def Done (O : CellTallies nD τ sig Ix) (W : Waits sig Ix) (S S' : Slot sig c.2.kind si s e) : sProp 𝕄 :=
  iprop(Waiter c ι O W ∗ Idle c S ∗ Idle c S' ∗ Tab c J ft q
    ∗ bigSep (Finset.range n) (Lst c J fl ql) ∗ bigSep (Finset.range n) (New c J ft fl fo hin))

theorem Done_swap : (Done c ι J ft fl fo q ql hin n O W S S' : sProp 𝕄) ⊢ Done c ι J ft fl fo q ql hin n O W S' S := by
  unfold Done
  iintro ⟨Hw, HS, HS', Hr⟩
  isplitl [Hw]; · iexact Hw
  isplitl [HS']; · iexact HS'
  isplitl [HS]; · iexact HS
  iexact Hr

section Steps

variable [Infinite Name] [EC.LandsIn (upEmb : UEmb _ (MT nD τ sig Ix (Elt F) Name U Lvl))] (hsi : 0 < si.numel) (hs : 0 < s.numel)
variable (hcr : ∀ S : Slot sig c.2.kind si s e, ∀ s' : Shape,
  sig.dmaCredit c.2.kind (c.2.kind.table .vmem) S.rows.view.buf s' e = s'.numel * e.bits)

include hsi hs in
/-- One turn takes the state before chunk `i + 2` to the state before chunk `i + 3`, the slots changing places. -/
theorem wp_trip {i : ℕ} (hi : i + 3 < n)
    (hcr : ∀ s' : Shape, sig.dmaCredit c.2.kind (c.2.kind.table .vmem) S.rows.view.buf s' e = s'.numel * e.bits) :
    At EC c ι J ft fl fo q ql hin n O W i S S'
      ⊢ iprop((At EC c ι J ft fl fo q ql hin n O W (i + 1) S' S -∗ wp frame (wpE defs 𝒱 c bd) Set.univ (k ⟨⟩) Q)
          -∗ wp frame (wpE defs 𝒱 c bd) Set.univ (trip hp J S S' i >>= k) Q) := by
  have hL := bigSep_Ico (M := MT nD τ sig Ix (Elt F) Name U Lvl) (Lst c J fl ql) (i := i + 3) (n := n) hi
  have hO := bigSep_Ico (M := MT nD τ sig Ix (Elt F) Name U Lvl) (Old c J fo) (i := i + 1) (n := n) (by omega)
  have hL' := bigSep_range (M := MT nD τ sig Ix (Elt F) Name U Lvl) (Lst c J fl ql) (i + 2)
  have hN' := bigSep_range (M := MT nD τ sig Ix (Elt F) Name U Lvl) (New c J ft fl fo hin) i
  unfold At trip
  simp only [bind_assoc]
  rw [hL, hO]
  iintro ⟨Hw, HG, HO, HI, HsG, HsO', HsI', ⟨Hl, Hls⟩, ⟨Ho, Hos⟩, Hld, Hnd⟩ Hk
  iapply (wp_gathed EC 𝒱 c bd ι J ft fl q hin S' (i + 1) (O := O) (W := W)) $$ [HG Hw]
  · isplitl [HG]; · iexact HG
    iexact Hw
  iintro ⟨⟨HR', Ht, HIb'⟩, HsG', Hw⟩
  iapply (wp_put EC 𝒱 c bd ι J ft fl fo hin S' hs (i + 1)) $$ [HR' Ho HsO']
  · isplitl [HR']; · iexact HR'
    isplitl [Ho]; · iexact Ho
    iexact HsO'
  iintro HO'
  iapply (wp_fetch EC 𝒱 c bd ι J fl ql S' hsi (i + 3)) $$ [Hl HIb' HsI']
  · isplitl [Hl]; · iexact Hl
    isplitl [HIb']; · iexact HIb'
    iexact HsI'
  iintro HI'
  iapply (wp_putted EC 𝒱 c bd ι J ft fl fo hin S i (O := O) (W := W)) $$ [HO Hw]
  · isplitl [HO]; · iexact HO
    iexact Hw
  iintro ⟨⟨Hn, HRb⟩, HsO, Hw⟩
  iapply (wp_fetched EC 𝒱 c bd ι J fl ql S (i + 2) (O := O) (W := W)) $$ [HI Hw]
  · isplitl [HI]; · iexact HI
    iexact Hw
  iintro ⟨⟨HIa, Hl⟩, HsI, Hw⟩
  iapply (wp_gath EC 𝒱 c bd hp ι J ft fl q hin S hs hcr (i + 2)) $$ [HIa Ht HRb HsG]
  · isplitl [HIa]; · iexact HIa
    isplitl [Ht]; · iexact Ht
    isplitl [HRb]; · iexact HRb
    iexact HsG
  iintro HG
  iapply Hk
  isplitl [Hw]; · iexact Hw
  isplitl [HG]; · iexact HG
  isplitl [HO']; · iexact HO'
  isplitl [HI']; · iexact HI'
  isplitl [HsG']; · iexact HsG'
  isplitl [HsO]; · iexact HsO
  isplitl [HsI]; · iexact HsI
  isplitl [Hls]; · iexact Hls
  isplitl [Hos]; · iexact Hos
  isplitl [Hl Hld]
  · iapply (Entails.of_eq hL'.symm)
    isplitl [Hl]; · iexact Hl
    iexact Hld
  iapply (Entails.of_eq hN'.symm)
  isplitl [Hn]; · iexact Hn
  iexact Hnd

include hsi hs in
/-- The last turn ends with everything done. -/
theorem wp_final {i : ℕ} (hi : i + 3 = n)
    (hcr : ∀ s' : Shape, sig.dmaCredit c.2.kind (c.2.kind.table .vmem) S.rows.view.buf s' e = s'.numel * e.bits) :
    At EC c ι J ft fl fo q ql hin n O W i S S'
      ⊢ wp frame (wpE defs 𝒱 c bd) Set.univ (final hp J S S' i) fun _ => Done c ι J ft fl fo q ql hin n O W S S' := by
  have hO := bigSep_Ico (M := MT nD τ sig Ix (Elt F) Name U Lvl) (Old c J fo) (i := i + 1) (n := n) (by omega)
  have hO2 := bigSep_Ico (M := MT nD τ sig Ix (Elt F) Name U Lvl) (Old c J fo) (i := i + 1 + 1) (n := n) (by omega)
  have hL' := bigSep_range (M := MT nD τ sig Ix (Elt F) Name U Lvl) (Lst c J fl ql) (i + 2)
  have hN0 := bigSep_range (M := MT nD τ sig Ix (Elt F) Name U Lvl) (New c J ft fl fo hin) i
  have hN1 := bigSep_range (M := MT nD τ sig Ix (Elt F) Name U Lvl) (New c J ft fl fo hin) (i + 1)
  have hN2 := bigSep_range (M := MT nD τ sig Ix (Elt F) Name U Lvl) (New c J ft fl fo hin) (i + 2)
  unfold At final Done Idle
  rw [hO, hO2]
  subst hi
  iintro ⟨Hw, HG, HO, HI, HsG, HsO', HsI', -, ⟨Ho, Ho2, -⟩, Hld, Hnd⟩
  iapply (wp_gathed EC 𝒱 c bd ι J ft fl q hin S' (i + 1) (O := O) (W := W)) $$ [HG Hw]
  · isplitl [HG]; · iexact HG
    iexact Hw
  iintro ⟨⟨HR', Ht, HIb'⟩, HsG', Hw⟩
  iapply (wp_put EC 𝒱 c bd ι J ft fl fo hin S' hs (i + 1)) $$ [HR' Ho HsO']
  · isplitl [HR']; · iexact HR'
    isplitl [Ho]; · iexact Ho
    iexact HsO'
  iintro HO'
  iapply (wp_putted EC 𝒱 c bd ι J ft fl fo hin S i (O := O) (W := W)) $$ [HO Hw]
  · isplitl [HO]; · iexact HO
    iexact Hw
  iintro ⟨⟨Hn, HRb⟩, HsO, Hw⟩
  iapply (wp_fetched EC 𝒱 c bd ι J fl ql S (i + 2) (O := O) (W := W)) $$ [HI Hw]
  · isplitl [HI]; · iexact HI
    iexact Hw
  iintro ⟨⟨HIa, Hl⟩, HsI, Hw⟩
  iapply (wp_gath EC 𝒱 c bd hp ι J ft fl q hin S hs hcr (i + 2)) $$ [HIa Ht HRb HsG]
  · isplitl [HIa]; · iexact HIa
    isplitl [Ht]; · iexact Ht
    isplitl [HRb]; · iexact HRb
    iexact HsG
  iintro HG
  iapply (wp_gathed EC 𝒱 c bd ι J ft fl q hin S (i + 2) (O := O) (W := W)) $$ [HG Hw]
  · isplitl [HG]; · iexact HG
    iexact Hw
  iintro ⟨⟨HR, Ht, HIb⟩, HsG, Hw⟩
  iapply (wp_put EC 𝒱 c bd ι J ft fl fo hin S hs (i + 2)) $$ [HR Ho2 HsO]
  · isplitl [HR]; · iexact HR
    isplitl [Ho2]; · iexact Ho2
    iexact HsO
  iintro HO
  iapply (wp_putted EC 𝒱 c bd ι J ft fl fo hin S' (i + 1) (O := O) (W := W)) $$ [HO' Hw]
  · isplitl [HO']; · iexact HO'
    iexact Hw
  iintro ⟨⟨Hn1, HRb'⟩, HsO', Hw⟩
  iapply (wp_putted EC 𝒱 c bd ι J ft fl fo hin S (i + 2) (O := O) (W := W)) $$ [HO Hw]
  · isplitl [HO]; · iexact HO
    iexact Hw
  iintro ⟨⟨Hn2, HRb⟩, HsO, Hw⟩
  sl_step
  isplitl [Hw]; · iexact Hw
  isplitl [HIb HRb HsI HsG HsO]
  · isplitl [HIb]; · iexact HIb
    isplitl [HRb]; · iexact HRb
    isplitl [HsI]; · iexact HsI
    isplitl [HsG] <;> iassumption
  isplitl [HIb' HRb' HsI' HsG' HsO']
  · isplitl [HIb']; · iexact HIb'
    isplitl [HRb']; · iexact HRb'
    isplitl [HsI']; · iexact HsI'
    isplitl [HsG'] <;> iassumption
  isplitl [Ht]; · iexact Ht
  isplitl [Hl Hld]
  · iapply (Entails.of_eq hL'.symm)
    isplitl [Hl]; · iexact Hl
    iexact Hld
  iapply (Entails.of_eq hN2.symm)
  isplitl [Hn2]; · iexact Hn2
  iapply (Entails.of_eq hN1.symm)
  isplitl [Hn1]; · iexact Hn1
  iapply (Entails.of_eq hN0.symm)
  isplitl [Hn]; · iexact Hn
  iexact Hnd

include hsi hs in
/-- All the turns that are left, by induction on their number. -/
theorem wp_turns : ∀ (r i : ℕ) (S S' : Slot sig c.2.kind si s e), i + 3 + r = n →
    (∀ s' : Shape, sig.dmaCredit c.2.kind (c.2.kind.table .vmem) S.rows.view.buf s' e = s'.numel * e.bits) →
    (∀ s' : Shape, sig.dmaCredit c.2.kind (c.2.kind.table .vmem) S'.rows.view.buf s' e = s'.numel * e.bits) →
    At EC c ι J ft fl fo q ql hin n O W i S S'
      ⊢ wp frame (wpE defs 𝒱 c bd) Set.univ (turns hp J r i S S') fun _ => Done c ι J ft fl fo q ql hin n O W S S' := by
  intro r
  induction r with
  | zero =>
    intro i S S' hi h _
    exact wp_final EC 𝒱 c bd hp ι J ft fl fo q ql hin S S' n hsi hs (by omega) h
  | succ r ih =>
    intro i S S' hi h h'
    unfold turns
    iintro H
    iapply (wp_trip EC 𝒱 c bd hp ι J ft fl fo q ql hin S S' n hsi hs (by omega) h) $$ H
    iintro H
    iapply (wp_mono _ _ _ fun _ => Done_swap c ι J ft fl fo q ql hin S' S n)
    iapply (ih (i + 1) S' S (by omega) h' h) $$ H

include EC hsi hs in
/-- THE TILE'S PROGRAM: from the two slots idle, a share of the table, the list's chunks and the output's, every chunk of
    the output ends with the rows of the table that the list's chunk names, and the rest is as it was. -/
theorem wp_pipe (r : ℕ)
    (h : ∀ s' : Shape, sig.dmaCredit c.2.kind (c.2.kind.table .vmem) S.rows.view.buf s' e = s'.numel * e.bits)
    (h' : ∀ s' : Shape, sig.dmaCredit c.2.kind (c.2.kind.table .vmem) S'.rows.view.buf s' e = s'.numel * e.bits) :
    (iprop(Waiter c ι O W ∗ Idle c S ∗ Idle c S' ∗ Tab c J ft q
        ∗ bigSep (Finset.range (r + 3)) (Lst c J fl ql) ∗ bigSep (Finset.range (r + 3)) (Old c J fo)) : sProp 𝕄)
      ⊢ wp frame (wpE defs 𝒱 c bd) Set.univ (pipe hp J S S' r) fun _ => Done c ι J ft fl fo q ql hin (r + 3) O W S S' := by
  rw [Finset.range_eq_Ico]
  have hL0 := bigSep_Ico (M := MT nD τ sig Ix (Elt F) Name U Lvl) (Lst c J fl ql) (i := 0) (n := r + 3) (by omega)
  have hL1 := bigSep_Ico (M := MT nD τ sig Ix (Elt F) Name U Lvl) (Lst c J fl ql) (i := 0 + 1) (n := r + 3) (by omega)
  have hL2 := bigSep_Ico (M := MT nD τ sig Ix (Elt F) Name U Lvl) (Lst c J fl ql) (i := 0 + 1 + 1) (n := r + 3) (by omega)
  have hO0 := bigSep_Ico (M := MT nD τ sig Ix (Elt F) Name U Lvl) (Old c J fo) (i := 0) (n := r + 3) (by omega)
  have hl1 := bigSep_range (M := MT nD τ sig Ix (Elt F) Name U Lvl) (Lst c J fl ql) 1
  have hl0 := bigSep_range (M := MT nD τ sig Ix (Elt F) Name U Lvl) (Lst c J fl ql) 0
  rw [hL0, hL1, hL2, hO0]
  unfold Idle pipe
  iintro ⟨Hw, ⟨HIb, HRb, HsI, HsG, HsO⟩, ⟨HIb', HRb', HsI', HsG', HsO'⟩, Ht, ⟨Hl0, Hl1, Hl2, Hls⟩, ⟨Ho, Hos⟩⟩
  iapply (wp_fetch EC 𝒱 c bd ι J fl ql S hsi 0) $$ [Hl0 HIb HsI]
  · isplitl [Hl0]; · iexact Hl0
    isplitl [HIb]; · iexact HIb
    iexact HsI
  iintro HI
  iapply (wp_fetch EC 𝒱 c bd ι J fl ql S' hsi 1) $$ [Hl1 HIb' HsI']
  · isplitl [Hl1]; · iexact Hl1
    isplitl [HIb']; · iexact HIb'
    iexact HsI'
  iintro HI'
  iapply (wp_fetched EC 𝒱 c bd ι J fl ql S 0 (O := O) (W := W)) $$ [HI Hw]
  · isplitl [HI]; · iexact HI
    iexact Hw
  iintro ⟨⟨HIa, Hl0⟩, HsI, Hw⟩
  iapply (wp_gath EC 𝒱 c bd hp ι J ft fl q hin S hs h 0) $$ [HIa Ht HRb HsG]
  · isplitl [HIa]; · iexact HIa
    isplitl [Ht]; · iexact Ht
    isplitl [HRb]; · iexact HRb
    iexact HsG
  iintro HG
  iapply (wp_gathed EC 𝒱 c bd ι J ft fl q hin S 0 (O := O) (W := W)) $$ [HG Hw]
  · isplitl [HG]; · iexact HG
    iexact Hw
  iintro ⟨⟨HR, Ht, HIb⟩, HsG, Hw⟩
  iapply (wp_put EC 𝒱 c bd ι J ft fl fo hin S hs 0) $$ [HR Ho HsO]
  · isplitl [HR]; · iexact HR
    isplitl [Ho]; · iexact Ho
    iexact HsO
  iintro HO
  iapply (wp_fetch EC 𝒱 c bd ι J fl ql S hsi 2) $$ [Hl2 HIb HsI]
  · isplitl [Hl2]; · iexact Hl2
    isplitl [HIb]; · iexact HIb
    iexact HsI
  iintro HI
  iapply (wp_fetched EC 𝒱 c bd ι J fl ql S' 1 (O := O) (W := W)) $$ [HI' Hw]
  · isplitl [HI']; · iexact HI'
    iexact Hw
  iintro ⟨⟨HIa', Hl1⟩, HsI', Hw⟩
  iapply (wp_gath EC 𝒱 c bd hp ι J ft fl q hin S' hs h' 1) $$ [HIa' Ht HRb' HsG']
  · isplitl [HIa']; · iexact HIa'
    isplitl [Ht]; · iexact Ht
    isplitl [HRb']; · iexact HRb'
    iexact HsG'
  iintro HG'
  iapply (wp_turns EC 𝒱 c bd hp ι J ft fl fo q ql hin (r + 3) hsi hs r 0 S S' (by omega) h h' (O := O) (W := W))
  unfold At
  isplitl [Hw]; · iexact Hw
  isplitl [HG']; · iexact HG'
  isplitl [HO]; · iexact HO
  isplitl [HI]; · iexact HI
  isplitl [HsG]; · iexact HsG
  isplitl [HsO']; · iexact HsO'
  isplitl [HsI']; · iexact HsI'
  isplitl [Hls]; · iexact Hls
  isplitl [Hos]; · iexact Hos
  isplitl [Hl0 Hl1]
  · iapply (Entails.of_eq hl1.symm)
    isplitl [Hl1]; · iexact Hl1
    iapply (Entails.of_eq hl0.symm)
    isplitl [Hl0]; · iexact Hl0
    rw [Finset.range_zero, BI.bigSep_empty]
    iempintro
  rw [Finset.range_zero, BI.bigSep_empty]
  iempintro

end Steps

end Run

end Cert.Proof.Pipe

end
-- ==== Proof.Call.lean ====
/-
  One tile's part of a gather call, for any of the calls: the table is read whole, the tile's chunks of the list and of
  the output lie one after the other, and what the tile leaves in its part of the output is the part of ONE array, the
  gather of the whole list's rows out of the table.
-/
module

public import proofs.«01_k».proof.Proof.Pipe

@[expose] public section

noncomputable section

namespace Cert.Proof.Call

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Pipe

/-- What a call's tile works on: the three arrays in HBM, and where its chunks begin in the list and in the output. -/
structure Plan (sig : RefSig) (κ : Kind) (s₀ so : Shape) (osz : Fin so.rank → ℕ) (Q ch : ℕ) (e : EltTy) where
  tab : Memref sig κ .hbm s₀ e
  lst : Memref sig κ .hbm ⟨1, ![Q]⟩ .i32
  out : Memref sig κ .hbm so e
  toff : Fin s₀.rank → ℕ
  tin : ∀ b, toff b + s₀.size b ≤ s₀.size b
  loff : ℕ → Fin 1 → ℕ
  lin : ∀ j (b : Fin 1), loff j b + (![ch] : Fin 1 → ℕ) b ≤ (![Q] : Fin 1 → ℕ) b
  ooff : ℕ → Fin so.rank → ℕ
  oin : ∀ j b, ooff j b + osz b ≤ so.size b
  hg : s₀.Gathers 0 ⟨so.rank, osz⟩
  hw : s₀.Gathers 0 so
  hn : (⟨1, ![ch]⟩ : Shape).numel = osz hg.axis'
  hnw : (⟨1, ![Q]⟩ : Shape).numel = so.size hw.axis'
  he : e.bits = 32
  hr : s₀.StreamRows 0

section

variable {sig : RefSig} {κ : Kind} {s₀ so : Shape} {osz : Fin so.rank → ℕ} {Q ch : ℕ} {e : EltTy}

/-- The plan as the work of the double-buffered gather. -/
abbrev Plan.job (P : Plan sig κ s₀ so osz Q ch e) : Job sig κ s₀ ⟨1, ![ch]⟩ ⟨so.rank, osz⟩ e 0 where
  tab := P.tab.slice (Rect.unit (s := s₀) P.toff s₀.size P.tin) (fun _ => rfl)
  lst j := P.lst.slice (Rect.unit (s := ⟨1, ![Q]⟩) (P.loff j) ![ch] (P.lin j)) (fun _ => rfl)
  out j := P.out.slice (Rect.unit (s := so) (P.ooff j) osz (P.oin j)) (fun _ => rfl)
  hg := P.hg
  hn := P.hn
  he := P.he
  hr := P.hr

/-- The chunk that begins at `l₀` and the chunks after it, in the list and in the output alike. -/
structure Plan.Laid (P : Plan sig κ s₀ so osz Q ch e) (l₀ n : ℕ) : Prop where
  htoff : ∀ b, P.toff b = 0
  hloff : ∀ j, j < n → P.loff j 0 = l₀ + ch * j
  hoff : ∀ j, j < n → P.ooff j P.hw.axis' = l₀ + ch * j
  hoff' : ∀ j b, b.val ≠ 0 → P.ooff j b = 0
  hosz : osz P.hw.axis' = ch
  hosz' : ∀ b, b.val ≠ 0 → osz b = so.size b

end

section Value

variable {nD : ℕ} {τ : Topo} {sig : RefSig} {F : FTy → Type}
variable (c : Thread nD τ)
variable {s₀ so : Shape} {osz : Fin so.rank → ℕ} {Q ch : ℕ} {e : EltTy} (P : Plan sig c.2.kind s₀ so osz Q ch e)
variable (ft : Buf (Elt F) (P.tab.view.loc c)) (fl : Buf (Elt F) (P.lst.view.loc c))
variable (hin : ∀ x, (P.lst.view.read (Elt F) fl x).toNat < s₀.size P.hw.axis)

/-- The whole list's rows of the table. -/
abbrev all : so.Idx → Elt F e :=
  SparseCore.gatherPayload P.hw (P.tab.view.read (Elt F) ft) (SparseCore.rows (P.lst.view.read (Elt F) fl) P.hnw hin)

theorem one_idx {d : Fin 1 → ℕ} (i j : (⟨1, d⟩ : Shape).Idx) (h : (i 0).val = (j 0).val) : i = j :=
  funext fun b => by obtain rfl : b = 0 := Subsingleton.elim _ _; exact Fin.ext h

theorem symm_one {d : Fin 1 → ℕ} (k : Fin (⟨1, d⟩ : Shape).numel) : (((⟨1, d⟩ : Shape).rowMajor.symm k) 0).val = k.val := by
  rw [← Shape.rowMajor_val_one, Equiv.apply_symm_apply]

include hin in
/-- A chunk's numbers are in the table, since the list's all are. -/
theorem chunk_in (j : ℕ) (x) : (words (F := F) c P.job (fun _ => fl) j x).toNat < s₀.size P.job.hg.axis := hin _

/-- A chunk's rows are the whole gather's, at the chunk's place. -/
theorem pay_eq {l₀ n : ℕ} (hl : P.Laid l₀ n) {j : ℕ} (hj : j < n) (x : (⟨so.rank, osz⟩ : Shape).Idx) :
    Pipe.pay (F := F) c P.job ft (fun _ => fl) (chunk_in c P fl hin) j x
      = all c P ft fl hin ((Rect.unit (s := so) (P.ooff j) osz (P.oin j)).emb x) := by
  have key : (Rect.unit (s := s₀) P.toff s₀.size P.tin).emb (P.hg.idx (SparseCore.rows (words (F := F) c P.job (fun _ => fl) j) P.hn (chunk_in c P fl hin j)) x)
      = P.hw.idx (SparseCore.rows (P.lst.view.read (Elt F) fl) P.hnw hin) ((Rect.unit (s := so) (P.ooff j) osz (P.oin j)).emb x) := by
    funext b
    apply Fin.ext
    rw [Rect.emb_apply]
    show P.toff b + 1 * _ = _
    rw [hl.htoff, Nat.zero_add, Nat.one_mul]
    by_cases hb : b.val = 0
    · obtain rfl : b = P.hg.axis := Fin.ext hb
      rw [Shape.Gathers.idx_axis]
      erw [Shape.Gathers.idx_axis]
      show (P.lst.view.read (Elt F) fl _).toNat = (P.lst.view.read (Elt F) fl _).toNat
      congr 2
      apply one_idx
      rw [symm_one, Rect.emb_apply]
      show P.loff j 0 + 1 * _ = P.ooff j P.hw.axis' + 1 * _
      rw [hl.hloff j hj, hl.hoff j hj, symm_one]
      rfl
    · rw [Shape.Gathers.idx_of_ne _ _ _ _ hb, Shape.Gathers.idx_of_ne _ _ _ _ hb, Rect.emb_apply]
      show _ = P.ooff j _ + 1 * _
      rw [hl.hoff' j _ (by simpa using hb), Nat.zero_add, Nat.one_mul]
  show P.tab.view.read (Elt F) ft ((Rect.unit (s := s₀) P.toff s₀.size P.tin).emb _) = P.tab.view.read (Elt F) ft _
  rw [key]

end Value

section Run

variable {nD : ℕ} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

variable {defs : Defs nD τ sig (Elt F) Λ} (EC : UEmb Counters (MT nD τ sig Ix (Elt F) Name U Lvl)) (𝒱 : Variants) (c : Thread nD τ) (bd : Option 𝒱.V)
variable (hp : c.2.kind = .scVector) (ι : Ix)
variable {s₀ so : Shape} {osz : Fin so.rank → ℕ} {Q ch : ℕ} {e : EltTy} (P : Plan sig c.2.kind s₀ so osz Q ch e)
variable (ft : Buf (Elt F) (P.tab.view.loc c)) (fl : Buf (Elt F) (P.lst.view.loc c)) (fo : Buf (Elt F) (P.out.view.loc c))
variable (q ql : PosShare TreeShare)
variable (hin : ∀ x, (P.lst.view.read (Elt F) fl x).toNat < s₀.size P.hw.axis)
variable {O : CellTallies nD τ sig Ix} {W : Waits sig Ix}
variable (S S' : Slot sig c.2.kind ⟨1, ![ch]⟩ ⟨so.rank, osz⟩ e)

/-- The output with the whole gather in it. -/
abbrev result : Buf (Elt F) (P.out.view.loc c) := P.out.view.write (Elt F) fo (all c P ft fl hin) Finset.univ

/-- The tile's part of the output: its chunks together. -/
def part (P : Plan sig c.2.kind s₀ so osz Q ch e) (n : ℕ) : Finset (Idx (P.out.view.loc c)) := (Finset.range n).biUnion fun j => (P.job.out j).view.set

theorem lst_disjoint {l₀ n : ℕ} (hl : P.Laid l₀ n) :
    ∀ j ∈ Finset.range n, ∀ j' ∈ Finset.range n, j ≠ j' → Disjoint (P.job.lst j).view.set (P.job.lst j').view.set := by
  intro j hj j' hj' h
  rw [Finset.mem_range] at hj hj'
  show Disjoint (P.lst.view.slice (Rect.unit (s := ⟨1, ![Q]⟩) (P.loff j) ![ch] (P.lin j))).set (P.lst.view.slice (Rect.unit (s := ⟨1, ![Q]⟩) (P.loff j') ![ch] (P.lin j'))).set
  rw [View.set_slice, View.set_slice]
  refine (Finset.disjoint_map _).mpr (Finset.disjoint_left.mpr fun x hx hx' => h ?_)
  have h0 := Rect.mem_set_unit.mp hx 0
  have h1 := Rect.mem_set_unit.mp hx' 0
  rw [hl.hloff j hj] at h0
  rw [hl.hloff j' hj'] at h1
  have a0 : (x 0).val < l₀ + ch * j + ch := h0.2
  have a1 : (x 0).val < l₀ + ch * j' + ch := h1.2
  have b0 := h0.1
  have b1 := h1.1
  rcases Nat.lt_trichotomy j j' with h | h | h
  · have := Nat.mul_le_mul_left ch (Nat.succ_le_of_lt h); rw [Nat.mul_succ] at this; omega
  · exact h
  · have := Nat.mul_le_mul_left ch (Nat.succ_le_of_lt h); rw [Nat.mul_succ] at this; omega

theorem out_disjoint {l₀ n : ℕ} (hl : P.Laid l₀ n) :
    ∀ j ∈ Finset.range n, ∀ j' ∈ Finset.range n, j ≠ j' → Disjoint (P.job.out j).view.set (P.job.out j').view.set := by
  intro j hj j' hj' h
  rw [Finset.mem_range] at hj hj'
  show Disjoint (P.out.view.slice (Rect.unit (s := so) (P.ooff j) osz (P.oin j))).set (P.out.view.slice (Rect.unit (s := so) (P.ooff j') osz (P.oin j'))).set
  rw [View.set_slice, View.set_slice]
  refine (Finset.disjoint_map _).mpr (Finset.disjoint_left.mpr fun x hx hx' => h ?_)
  have h0 := Rect.mem_set_unit.mp hx P.hw.axis'
  have h1 := Rect.mem_set_unit.mp hx' P.hw.axis'
  rw [hl.hoff j hj, hl.hosz] at h0
  rw [hl.hoff j' hj', hl.hosz] at h1
  rcases Nat.lt_trichotomy j j' with h | h | h
  · have := Nat.mul_le_mul_left ch (Nat.succ_le_of_lt h); rw [Nat.mul_succ] at this; omega
  · exact h
  · have := Nat.mul_le_mul_left ch (Nat.succ_le_of_lt h); rw [Nat.mul_succ] at this; omega

/-- The rows a chunk's write leaves are the result's there. -/
theorem new_eq {l₀ n : ℕ} (hl : P.Laid l₀ n) {j : ℕ} (hj : j < n) :
    (New c P.job ft (fun _ => fl) (fun _ => fo) (chunk_in c P fl hin) j : sProp 𝕄)
      = P.out.view.loc c ↦[(P.job.out j).view.set]{fullShare} result c P ft fl fo hin := by
  refine pointsTo_congr fun i hi => ?_
  obtain ⟨x, -, rfl⟩ := Finset.mem_map.mp hi
  have h1 := View.write_emb_of_mem (v := (P.job.out j).view) (Val := Elt F) fo (Pipe.pay (F := F) c P.job ft (fun _ => fl) (chunk_in c P fl hin) j) (Finset.mem_univ x)
  have h2 := View.write_emb_of_mem (v := P.out.view) (Val := Elt F) fo (all c P ft fl hin) (Finset.mem_univ ((Rect.unit (s := so) (P.ooff j) osz (P.oin j)).emb x))
  rw [← pay_eq c P ft fl hin hl hj] at h2
  exact h1.trans h2.symm

include EC in
/-- ONE TILE OF A CALL: from a share of the table and of the list and the tile's part of the output, the part ends as the
    result's, and the shares are back. -/
theorem wp_plan [Infinite Name] [EC.LandsIn (upEmb : UEmb _ (MT nD τ sig Ix (Elt F) Name U Lvl))] (r : ℕ) {l₀ : ℕ} (hl : P.Laid l₀ (r + 3))
    (hsi : 0 < (⟨1, ![ch]⟩ : Shape).numel) (hs : 0 < (⟨so.rank, osz⟩ : Shape).numel)
    (h : ∀ s' : Shape, sig.dmaCredit c.2.kind (c.2.kind.table .vmem) S.rows.view.buf s' e = s'.numel * e.bits)
    (h' : ∀ s' : Shape, sig.dmaCredit c.2.kind (c.2.kind.table .vmem) S'.rows.view.buf s' e = s'.numel * e.bits) :
    (iprop(Waiter c ι O W ∗ Idle c S ∗ Idle c S' ∗ (P.tab.view.loc c ↦{q} ft) ∗ (P.lst.view.loc c ↦{ql} fl)
        ∗ P.out.view.loc c ↦[part c P (r + 3)]{fullShare} fo) : sProp 𝕄)
      ⊢ wp frame (wpE defs 𝒱 c bd) Set.univ (pipe hp P.job S S' r) fun _ =>
          iprop(Waiter c ι O W ∗ Idle c S ∗ Idle c S' ∗ (P.tab.view.loc c ↦{q} ft) ∗ (P.lst.view.loc c ↦{ql} fl)
            ∗ P.out.view.loc c ↦[part c P (r + 3)]{fullShare} result c P ft fl fo hin) := by
  have hT := pointsTo_split_subset (U := U) (Lvl := Lvl) (Name := Name) (Ix := Ix) (q := q) (f := ft) (Finset.subset_univ P.job.tab.view.set)
  have hL := pointsTo_split_subset (U := U) (Lvl := Lvl) (Name := Name) (Ix := Ix) (q := ql) (f := fl)
    (Finset.subset_univ ((Finset.range (r + 3)).biUnion fun j => ((P.job.lst j).view.set : Finset (Idx (P.lst.view.loc c)))))
  have hLs := pointsTo_biUnion (U := U) (Lvl := Lvl) (Name := Name) (Ix := Ix) (q := ql) (f := fl) (Finset.range (r + 3))
    (fun j => ((P.job.lst j).view.set : Finset (Idx (P.lst.view.loc c)))) (lst_disjoint c P hl)
  have hO := fun (f : Buf (Elt F) (P.out.view.loc c)) => pointsTo_biUnion (U := U) (Lvl := Lvl) (Name := Name) (Ix := Ix) (Val := Elt F) (q := fullShare) (f := f) (Finset.range (r + 3))
    (fun j => ((P.job.out j).view.set : Finset (Idx (P.out.view.loc c)))) (out_disjoint c P hl)
  have hN : (bigSep (Finset.range (r + 3)) (New c P.job ft (fun _ => fl) (fun _ => fo) (chunk_in c P fl hin)) : sProp 𝕄)
      = bigSep (Finset.range (r + 3)) fun j => P.out.view.loc c ↦[(P.job.out j).view.set]{fullShare} result c P ft fl fo hin :=
    bigSep_congr fun j hj => new_eq c P ft fl fo hin hl (Finset.mem_range.mp hj)
  unfold part
  iintro ⟨HW, HS, HS', Ht, Hl, Ho⟩
  ihave Ht := hT.1 $$ Ht
  ihave Hl := hL.1 $$ Hl
  icases Ht with ⟨Ht, Htr⟩
  icases Hl with ⟨Hl, Hlr⟩
  ihave Hl := (Entails.of_eq hLs) $$ Hl
  ihave Ho := (Entails.of_eq (hO fo)) $$ Ho
  iapply wp_wand_r
  isplitl [HW HS HS' Ht Hl Ho]
  · iapply (wp_pipe EC 𝒱 c bd hp ι P.job ft (fun _ => fl) (fun _ => fo) q ql (chunk_in c P fl hin) S S' hsi hs r h h')
    isplitl [HW]; · iexact HW
    isplitl [HS]; · iexact HS
    isplitl [HS']; · iexact HS'
    isplitl [Ht]; · iexact Ht
    isplitl [Hl]; · iexact Hl
    iexact Ho
  iintro %_ H
  unfold Done
  icases H with ⟨HW, HS, HS', Ht, Hl, Ho⟩
  ihave Ht := hT.2 $$ [Ht Htr]
  · isplitl [Ht] <;> iassumption
  ihave Hl := (Entails.of_eq hLs.symm) $$ Hl
  ihave Hl := hL.2 $$ [Hl Hlr]
  · isplitl [Hl] <;> iassumption
  ihave Ho := (Entails.of_eq (hN.trans (hO (result c P ft fl fo hin)).symm)) $$ Ho
  isplitl [HW]; · iexact HW
  isplitl [HS]; · iexact HS
  isplitl [HS']; · iexact HS'
  isplitl [Ht]; · iexact Ht
  isplitl [Hl]; · iexact Hl
  iexact Ho

end Run

end Cert.Proof.Call

end
-- ==== Proof.Split.lean ====
/-
  How a call's three arrays are divided over the two SparseCores and their sixteen tiles each: the table and the list go
  out as read shares, the output in parts, and the parts of all tiles together are the output.
-/
module

public import Idealize.ShloMosaic.Lib.ShareLeaves
public import Idealize.ShloMosaic.Lib.SparseCore.Threads

@[expose] public section

noncomputable section

namespace Cert.Proof.Split

open Idealize.ShloMosaic Idealize.ShloMosaic.ShareLeaves
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {ℓt ℓl ℓo : Loc nD τ sig} (ft : Buf Val ℓt) (fl : Buf Val ℓl) (fo : Buf Val ℓo) (key : Idx ℓo → ℕ)

/-- The share of an array that SparseCore `c` reads with. -/
abbrev coreShare (c : Fin 2) : PosShare TreeShare := leaf 1 fullShare c
/-- The share of an array that tile `s` of SparseCore `c` reads with. -/
abbrev tileShare (c : Fin 2) (s : Fin 16) : PosShare TreeShare := leaf 4 (coreShare c) s
/-- The output's elements that SparseCore `c` writes; `key` is the number of an element's tile. -/
abbrev corePart (c : Fin 2) : Finset (Idx ℓo) := Finset.univ.filter fun x => key x % 2 = c.val
/-- The output's elements that tile `s` of SparseCore `c` writes. -/
abbrev tilePart (c : Fin 2) (s : Fin 16) : Finset (Idx ℓo) := Finset.univ.filter fun x => key x = s.val * 2 + c.val

/-- What SparseCore `c` is handed. -/
def coreRes (c : Fin 2) : sProp 𝕄 :=
  iprop((ℓt ↦{coreShare c} ft) ∗ (ℓl ↦{coreShare c} fl) ∗ ℓo ↦[corePart key c]{fullShare} fo)

/-- What tile `s` of SparseCore `c` is handed. -/
def tileRes (c : Fin 2) (s : Fin 16) : sProp 𝕄 :=
  iprop((ℓt ↦{tileShare c s} ft) ∗ (ℓl ↦{tileShare c s} fl) ∗ ℓo ↦[tilePart key c s]{fullShare} fo)

instance coreRes_storable (c : Fin 2) : BI.Storable (upEmb : UEmb _ (MT nD τ sig Ix Val Name U Lvl)) (coreRes ft fl fo key c) := by
  unfold coreRes; infer_instance
instance tileRes_storable (c : Fin 2) (s : Fin 16) : BI.Storable (upEmb : UEmb _ (MT nD τ sig Ix Val Name U Lvl)) (tileRes ft fl fo key c s) := by
  unfold tileRes; infer_instance

/-- The three arrays whole are the two SparseCores' resources. -/
theorem whole_eq : (iprop((ℓt ↦{fullShare} ft) ∗ (ℓl ↦{fullShare} fl) ∗ ℓo ↦{fullShare} fo) : sProp 𝕄)
    = bigSep Finset.univ fun c : Fin 2 => coreRes ft fl fo key c := by
  have hd : ∀ c ∈ (Finset.univ : Finset (Fin 2)), ∀ c' ∈ (Finset.univ : Finset (Fin 2)), c ≠ c' → Disjoint (corePart (ℓo := ℓo) key c) (corePart key c') :=
    fun c _ c' _ h => Finset.disjoint_left.mpr fun x hx hx' =>
      h (Fin.ext ((Finset.mem_filter.mp hx).2.symm.trans (Finset.mem_filter.mp hx').2))
  have hc : (Finset.univ : Finset (Fin 2)).biUnion (corePart (ℓo := ℓo) key) = Finset.univ :=
    Finset.eq_univ_iff_forall.mpr fun x => Finset.mem_biUnion.mpr
      ⟨⟨key x % 2, Nat.mod_lt _ (by decide)⟩, Finset.mem_univ _, Finset.mem_filter.mpr ⟨Finset.mem_univ _, rfl⟩⟩
  unfold coreRes
  rw [bigSep_sep', bigSep_sep', pointsTo_leaves Finset.univ ft 1 fullShare, pointsTo_leaves Finset.univ fl 1 fullShare,
    ← pointsTo_biUnion Finset.univ (corePart key) hd, hc]
  rfl

/-- What a SparseCore is handed is what its tiles are. -/
theorem core_eq (hk : ∀ x, key x < 32) (c : Fin 2) : (coreRes ft fl fo key c : sProp 𝕄) = bigSep Finset.univ fun s : Fin 16 => tileRes ft fl fo key c s := by
  have hd : ∀ s ∈ (Finset.univ : Finset (Fin 16)), ∀ s' ∈ (Finset.univ : Finset (Fin 16)), s ≠ s' → Disjoint (tilePart (ℓo := ℓo) key c s) (tilePart key c s') :=
    fun s _ s' _ h => Finset.disjoint_left.mpr fun x hx hx' =>
      h (Fin.ext (by have h1 := (Finset.mem_filter.mp hx).2; have h2 := (Finset.mem_filter.mp hx').2; omega))
  have hc : (Finset.univ : Finset (Fin 16)).biUnion (tilePart (ℓo := ℓo) key c) = corePart key c := by
    ext x
    simp only [Finset.mem_biUnion, Finset.mem_filter, Finset.mem_univ, true_and]
    constructor
    · rintro ⟨s, hs⟩; have := c.isLt; omega
    · intro h; refine ⟨⟨key x / 2, by have := hk x; omega⟩, ?_⟩
      show key x = key x / 2 * 2 + c.val
      omega
  unfold coreRes tileRes
  rw [bigSep_sep', bigSep_sep', pointsTo_leaves Finset.univ ft 4 (coreShare c), pointsTo_leaves Finset.univ fl 4 (coreShare c),
    ← pointsTo_biUnion Finset.univ (tilePart key c) hd, hc]
  rfl

/-- A buffer of contents unknown is two disjoint parts of it and the rest, each of contents unknown. -/
theorem two_parts {ℓ : Loc nD τ sig} (A B : Finset (Idx ℓ)) (h : Disjoint A B) :
    (iprop(∃ f, ℓ ↦{fullShare} f) : sProp 𝕄)
      ⊣⊢ iprop((∃ f, ℓ ↦[A]{fullShare} f) ∗ (∃ f, ℓ ↦[B]{fullShare} f) ∗ ∃ f, ℓ ↦[(Finset.univ \ A) \ B]{fullShare} f) := by
  have hB : B ⊆ Finset.univ \ A := fun x hx => Finset.mem_sdiff.mpr ⟨Finset.mem_univ _, fun ha => (Finset.disjoint_left.mp h ha hx)⟩
  constructor
  · iintro ⟨%f, H⟩
    ihave H := (pointsTo_split_subset (Finset.subset_univ A)).1 $$ H
    icases H with ⟨HA, H⟩
    ihave H := (pointsTo_split_subset hB).1 $$ H
    icases H with ⟨HB, H⟩
    isplitl [HA]; · iexists f; iexact HA
    isplitl [HB]; · iexists f; iexact HB
    iexists f; iexact H
  · classical
    iintro ⟨⟨%f, HA⟩, ⟨%g, HB⟩, ⟨%k, HC⟩⟩
    have eA : (ℓ ↦[A]{fullShare} f : sProp 𝕄) = ℓ ↦[A]{fullShare} (fun i => if i ∈ A then f i else if i ∈ B then g i else k i) :=
      pointsTo_congr fun i hi => (if_pos hi).symm
    have eB : (ℓ ↦[B]{fullShare} g : sProp 𝕄) = ℓ ↦[B]{fullShare} (fun i => if i ∈ A then f i else if i ∈ B then g i else k i) :=
      pointsTo_congr fun i hi => by rw [if_neg fun ha => Finset.disjoint_left.mp h ha hi, if_pos hi]
    have eC : (ℓ ↦[(Finset.univ \ A) \ B]{fullShare} k : sProp 𝕄) = ℓ ↦[(Finset.univ \ A) \ B]{fullShare} (fun i => if i ∈ A then f i else if i ∈ B then g i else k i) :=
      pointsTo_congr fun i hi => by
        rw [if_neg fun ha => (Finset.mem_sdiff.mp (Finset.mem_sdiff.mp hi).1).2 ha, if_neg (Finset.mem_sdiff.mp hi).2]
    ihave HA := (Entails.of_eq eA) $$ HA
    ihave HB := (Entails.of_eq eB) $$ HB
    ihave HC := (Entails.of_eq eC) $$ HC
    ihave H := (pointsTo_split_subset hB).2 $$ [HB HC]
    · isplitl [HB] <;> iassumption
    ihave H := (pointsTo_split_subset (Finset.subset_univ A)).2 $$ [HA H]
    · isplitl [HA] <;> iassumption
    iexists _; iexact H

/-- Two buffers of contents unknown, each as two disjoint parts of it and the rest. -/
theorem two_bufs {ℓ ℓ' : Loc nD τ sig} (A B : Finset (Idx ℓ)) (h : Disjoint A B) (A' B' : Finset (Idx ℓ')) (h' : Disjoint A' B') (R : sProp 𝕄) :
    iprop((∃ f : Buf Val ℓ, ℓ ↦{fullShare} f) ∗ (∃ f : Buf Val ℓ', ℓ' ↦{fullShare} f) ∗ R)
      ⊣⊢ iprop(((∃ f : Buf Val ℓ, ℓ ↦[A]{fullShare} f) ∗ ∃ f : Buf Val ℓ, ℓ ↦[B]{fullShare} f) ∗ ((∃ f : Buf Val ℓ', ℓ' ↦[A']{fullShare} f) ∗ ∃ f : Buf Val ℓ', ℓ' ↦[B']{fullShare} f)
          ∗ ((∃ f : Buf Val ℓ, ℓ ↦[(Finset.univ \ A) \ B]{fullShare} f) ∗ (∃ f : Buf Val ℓ', ℓ' ↦[(Finset.univ \ A') \ B']{fullShare} f) ∗ R)) := by
  have e := two_parts (Ix := Ix) (Val := Val) (Name := Name) (U := U) (Lvl := Lvl) A B h
  have e' := two_parts (Ix := Ix) (Val := Val) (Name := Name) (U := U) (Lvl := Lvl) A' B' h'
  constructor
  · iintro ⟨H, H', HR⟩
    ihave H := e.1 $$ H
    ihave H' := e'.1 $$ H'
    icases H with ⟨HA, HB, HC⟩
    icases H' with ⟨HA', HB', HC'⟩
    isplitl [HA HB]; · isplitl [HA] <;> iassumption
    isplitl [HA' HB']; · isplitl [HA'] <;> iassumption
    isplitl [HC]; · iexact HC
    isplitl [HC']; · iexact HC'
    iexact HR
  · iintro ⟨⟨HA, HB⟩, ⟨HA', HB'⟩, HC, HC', HR⟩
    isplitl [HA HB HC]
    · iapply e.2
      isplitl [HA]; · iexact HA
      isplitl [HB]; · iexact HB
      iexact HC
    isplitl [HA' HB' HC']
    · iapply e'.2
      isplitl [HA']; · iexact HA'
      isplitl [HB']; · iexact HB'
      iexact HC'
    iexact HR

/-- Two rectangles of one buffer, squeezed, share no element where the rectangles share none. -/
theorem squeezed_disjoint {κ : Kind} {sp : Space} {s s₁ s₂ : Shape} {e : EltTy} (v : View sig κ sp s e) (r r' : Rect s) (h : s₁.numel = r.shape.numel)
    (h' : s₂.numel = r'.shape.numel) (hd : Disjoint r.set r'.set) : Disjoint ((v.slice r).reshape s₁ h).set ((v.slice r').reshape s₂ h').set := by
  rw [View.set_reshape, View.set_reshape, View.set_slice, View.set_slice]
  exact (Finset.disjoint_map _).mpr hd

end Cert.Proof.Split

end
-- ==== Proof.Tile.lean ====
/-
  One tile's part of a gather call as the launch asks for it: from what the tile is handed, its own buffers and
  semaphores and what it owes, to the same with its part of the output filled.
-/
module

public import proofs.«01_k».proof.Proof.Call
public import proofs.«01_k».proof.Proof.Split

@[expose] public section

noncomputable section

namespace Cert.Proof.Tile

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Pipe Cert.Proof.Call Cert.Proof.Split

variable {nD : ℕ} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

/-- `r` is the gather out of the table `f` of the rows that the list `l` names, and the list names rows of the table. -/
def Gathered {s₀ so : Shape} {Q : ℕ} {e : EltTy} (hw : s₀.Gathers 0 so) (hn : (⟨1, ![Q]⟩ : Shape).numel = so.size hw.axis')
    (f : s₀.Idx → Elt F e) (l : (⟨1, ![Q]⟩ : Shape).Idx → Elt F .i32) (r : so.Idx → Elt F e) : Prop :=
  ∃ hin : ∀ x, (l x).toNat < s₀.size hw.axis, r = SparseCore.gatherPayload hw f (SparseCore.rows l hn hin)

section Place

variable {c : Thread nD τ} {s₀ so : Shape} {osz : Fin so.rank → ℕ} {Q ch : ℕ} {e : EltTy} (P : Plan sig c.2.kind s₀ so osz Q ch e)

/-- The tile's chunks together are the block of rows that is the tile's: those whose number over the block's length is
    the tile's number. -/
theorem part_eq {w n : ℕ} (hl : P.Laid (w * (ch * n)) n) (hch : 0 < ch) (hn : 0 < n) :
    part c P n = (Finset.univ.filter fun y : so.Idx => (y P.hw.axis').val / (ch * n) = w).map P.out.view.emb := by
  have hs : ∀ j, (P.job.out j).view.set = (Rect.unit (s := so) (P.ooff j) osz (P.oin j)).set.map P.out.view.emb := fun j => View.set_slice _ _
  have hpos : 0 < ch * n := Nat.mul_pos hch hn
  ext x
  simp only [part, Finset.mem_biUnion, Finset.mem_range, hs, Finset.mem_map, Finset.mem_filter, Finset.mem_univ, true_and]
  constructor
  · rintro ⟨j, hj, y, hy, rfl⟩
    refine ⟨y, ?_, rfl⟩
    have h0 := Rect.mem_set_unit.mp hy P.hw.axis'
    rw [hl.hoff j hj, hl.hosz] at h0
    have h1 := Nat.mul_le_mul_left ch (Nat.succ_le_of_lt hj)
    rw [Nat.mul_succ] at h1
    refine Nat.div_eq_of_lt_le (by omega) ?_
    rw [Nat.succ_mul]; omega
  · rintro ⟨y, hy, rfl⟩
    have h1 : w * (ch * n) ≤ (y P.hw.axis').val := hy ▸ Nat.div_mul_le_self _ _
    have h2 : (y P.hw.axis').val < (w + 1) * (ch * n) := (Nat.div_lt_iff_lt_mul hpos).mp (by omega)
    have hj : ((y P.hw.axis').val - w * (ch * n)) / ch < n := by
      refine Nat.div_lt_of_lt_mul ?_
      rw [Nat.succ_mul] at h2; omega
    refine ⟨_, hj, y, Rect.mem_set_unit.mpr fun b => ?_, rfl⟩
    by_cases hb : b.val = 0
    · obtain rfl : b = P.hw.axis' := Fin.ext hb
      rw [hl.hoff _ hj, hl.hosz]
      have h3 := Nat.div_add_mod ((y P.hw.axis').val - w * (ch * n)) ch
      have h4 := Nat.mod_lt ((y P.hw.axis').val - w * (ch * n)) hch
      constructor <;> omega
    · rw [hl.hoff' _ b hb, hl.hosz' b hb]
      exact ⟨Nat.zero_le _, by have := (y b).isLt; omega⟩

end Place

variable {defs : Defs nD τ sig (Elt F) Λ} (EC : UEmb Counters (MT nD τ sig Ix (Elt F) Name U Lvl)) (𝒱 : Variants) (c : Thread nD τ) (bd : Option 𝒱.V)
variable (hp : c.2.kind = .scVector) (ι : Ix)
variable {s₀ so : Shape} {osz : Fin so.rank → ℕ} {Q ch : ℕ} {e : EltTy} (P : Plan sig c.2.kind s₀ so osz Q ch e)
variable (ft : Buf (Elt F) (P.tab.view.loc c)) (fl : Buf (Elt F) (P.lst.view.loc c)) (fo : Buf (Elt F) (P.out.view.loc c))
variable (hin : ∀ x, (P.lst.view.read (Elt F) fl x).toNat < s₀.size P.hw.axis)
variable {O : CellTallies nD τ sig Ix} {W : Waits sig Ix}
variable (S S' : Slot sig c.2.kind ⟨1, ![ch]⟩ ⟨so.rank, osz⟩ e) (key : Idx (P.out.view.loc c) → ℕ) (cc : Fin 2) (ss : Fin 16)

include EC in
theorem wp_tile [Infinite Name] [EC.LandsIn (upEmb : UEmb _ (MT nD τ sig Ix (Elt F) Name U Lvl))] (r : ℕ) {l₀ : ℕ} (hl : P.Laid l₀ (r + 3))
    (hsi : 0 < (⟨1, ![ch]⟩ : Shape).numel) (hs : 0 < (⟨so.rank, osz⟩ : Shape).numel)
    (h : ∀ s' : Shape, sig.dmaCredit c.2.kind (c.2.kind.table .vmem) S.rows.view.buf s' e = s'.numel * e.bits)
    (h' : ∀ s' : Shape, sig.dmaCredit c.2.kind (c.2.kind.table .vmem) S'.rows.view.buf s' e = s'.numel * e.bits)
    (hpart : part c P (r + 3) = tilePart key cc ss)
    {LV BB RB SS RS : sProp (MT nD τ sig Ix (Elt F) Name U Lvl)} (hLV : LV ⊢ Transfers.MayWaits c ι O)
    (hB : BB ⊣⊢ iprop((Ibuf c S ∗ Ibuf c S') ∗ (Rbuf c S ∗ Rbuf c S') ∗ RB))
    (hS : SS ⊣⊢ iprop(semVal (c, SemLoc.dma S.semI) 0 ∗ semVal (c, SemLoc.dma S'.semI) 0 ∗ semVal (c, SemLoc.dma S.semG) 0
      ∗ semVal (c, SemLoc.dma S'.semG) 0 ∗ semVal (c, SemLoc.dma S.semO) 0 ∗ semVal (c, SemLoc.dma S'.semO) 0 ∗ RS)) :
    (iprop(LV ∗ emp ∗ tileRes ft fl fo key cc ss ∗ BB ∗ SS ∗ owes c O W) : sProp 𝕄)
      ⊢ wp frame (wpE defs 𝒱 c bd) Set.univ (pipe hp P.job S S' r) fun _ =>
          iprop(tileRes ft fl (result c P ft fl fo hin) key cc ss ∗ BB ∗ SS ∗ ∃ W', ⌜∀ p ∈ W', p ∈ W ∨ p.2 = ι⌝ ∗ owes c O W') := by
  unfold tileRes
  rw [← hpart]
  iintro ⟨Hlv, -, ⟨Ht, Hl, Ho⟩, HB, HS, HO⟩
  ihave Hmw := hLV $$ Hlv
  ihave HB := hB.1 $$ HB
  ihave HS := hS.1 $$ HS
  icases HB with ⟨⟨Hi, Hi'⟩, ⟨Hr, Hr'⟩, HRB⟩
  icases HS with ⟨H1, H1', H2, H2', H3, H3', HRS⟩
  iapply wp_wand_r
  isplitl [Hmw Ht Hl Ho Hi Hi' Hr Hr' H1 H1' H2 H2' H3 H3' HO]
  · iapply (wp_plan EC 𝒱 c bd hp ι P ft fl fo (tileShare cc ss) (tileShare cc ss) hin (O := O) (W := W) S S' r hl hsi hs h h')
    unfold Waiter Pipe.Owes Idle
    isplitl [Hmw HO]
    · isplitl [Hmw]; · iexact Hmw
      iexists W; isplitr
      swap; · iexact HO
      ipureintro; exact fun x hx => .inl hx
    isplitl [Hi Hr H1 H2 H3]
    · isplitl [Hi]; · iexact Hi
      isplitl [Hr]; · iexact Hr
      isplitl [H1]; · iexact H1
      isplitl [H2]; · iexact H2
      iexact H3
    isplitl [Hi' Hr' H1' H2' H3']
    · isplitl [Hi']; · iexact Hi'
      isplitl [Hr']; · iexact Hr'
      isplitl [H1']; · iexact H1'
      isplitl [H2']; · iexact H2'
      iexact H3'
    isplitl [Ht]; · iexact Ht
    isplitl [Hl]; · iexact Hl
    iexact Ho
  iintro %_ H
  unfold Waiter Pipe.Owes Idle
  icases H with ⟨⟨-, HO⟩, ⟨Hi, Hr, H1, H2, H3⟩, ⟨Hi', Hr', H1', H2', H3'⟩, Ht, Hl, Ho⟩
  isplitl [Ht Hl Ho]
  · isplitl [Ht]; · iexact Ht
    isplitl [Hl]; · iexact Hl
    iexact Ho
  isplitl [Hi Hr Hi' Hr' HRB]
  · iapply hB.2
    isplitl [Hi Hi']; · isplitl [Hi] <;> iassumption
    isplitl [Hr Hr']; · isplitl [Hr] <;> iassumption
    iexact HRB
  isplitl [H1 H1' H2 H2' H3 H3' HRS]
  · iapply hS.2
    isplitl [H1]; · iexact H1
    isplitl [H1']; · iexact H1'
    isplitl [H2]; · iexact H2
    isplitl [H2']; · iexact H2'
    isplitl [H3]; · iexact H3
    isplitl [H3']; · iexact H3'
    iexact HRS
  iexact HO

end Cert.Proof.Tile

end
-- ==== Proof.Scratch.lean ====
/-
  A call's scratch buffers and semaphores among all that a tile owns.
-/
module

public import proofs.«01_k».proof.Proof.Tile

@[expose] public section

noncomputable section

namespace Cert.Proof.Scratch

open Idealize.ShloMosaic
open Idealize.ShloMosaic.SparseCore (S V T)
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Pipe Cert.Proof.Call Cert.Proof.Split Cert.Proof.Tile

variable {nD : ℕ} {τ : Topo} {sig : RefSig} {Ix : Type} [DecidableEq Ix] {F : FTy → Type} {Name : Type} [DecidableEq Name]
variable {U : Type} [URA U] {Lvl : Type} [Preorder Lvl]

local notation "𝕄" => MT nD τ sig Ix (Elt F) Name U Lvl

variable (d : Dev nD) (c : Fin τ.nSC) (j : Fin τ.nSub)

/-- Two buffers of a tile's own, at contents unknown, and the rest. -/
theorem ownBufs_two (b₀ b₁ : Ref sig .scVector) (h₀ : ((Proc.scVector c j : Proc τ).devRef b₀).owner = .proc (Proc.scVector c j))
    (h₁ : ((Proc.scVector c j : Proc τ).devRef b₁).owner = .proc (Proc.scVector c j)) (hne : b₁ ≠ b₀) :
    ∃ R : sProp 𝕄, (ownBufs (V d c j) : sProp 𝕄)
      = iprop((∃ f, (V d c j).loc b₀ ↦{fullShare} f) ∗ (∃ f, (V d c j).loc b₁ ↦{fullShare} f) ∗ R) := by
  refine ⟨bigSep (((ownRefs (τ := τ) (.scVector c j)).erase ((Proc.scVector c j).devRef b₀)).erase ((Proc.scVector c j).devRef b₁))
              fun b => iprop(∃ f, ((d, b) : Loc nD τ sig) ↦{fullShare} f), ?_⟩
  unfold SparseCore.Cfg.ownBufs
  refine (SparseCore.bigSep_erase' (SparseCore.Cfg.mem_ownRefs_of_owner (p := Proc.scVector c j) (b := (Proc.scVector c j).devRef b₀) h₀)).trans ?_
  rw [SparseCore.bigSep_erase' (Finset.mem_erase.mpr ⟨fun e => absurd (Proc.devRef_injective _ e) hne,
    SparseCore.Cfg.mem_ownRefs_of_owner (p := Proc.scVector c j) (b := (Proc.scVector c j).devRef b₁) h₁⟩)]

/-- A cell of a tile's own, and the rest of a sum that has it. -/
theorem cell_out (s : DmaSem sig) (E : Finset (GSem nD τ sig)) (h : (V d c j, SemLoc.dma s) ∈ E) :
    (bigSep E fun g => (semVal g 0 : sProp 𝕄)) = iprop(semVal (V d c j, SemLoc.dma s) 0 ∗ bigSep (E.erase (V d c j, SemLoc.dma s)) fun g => semVal g 0) :=
  SparseCore.bigSep_erase' h

/-- Six DMA semaphores of a tile's own, at zero, and the rest. -/
theorem ownSems0_six (s₁ s₂ s₃ s₄ s₅ s₆ : DmaSem sig) (hd : [s₁, s₂, s₃, s₄, s₅, s₆].Nodup)
    (hs : ∀ s ∈ [s₁, s₂, s₃, s₄, s₅, s₆], (SemLoc.dma s : SemLoc sig).isScoped .scVector = true) :
    ∃ R : sProp 𝕄, (ownSems0 (V d c j) : sProp 𝕄)
      = iprop(semVal (V d c j, SemLoc.dma s₁) 0 ∗ semVal (V d c j, SemLoc.dma s₂) 0 ∗ semVal (V d c j, SemLoc.dma s₃) 0
          ∗ semVal (V d c j, SemLoc.dma s₄) 0 ∗ semVal (V d c j, SemLoc.dma s₅) 0 ∗ semVal (V d c j, SemLoc.dma s₆) 0 ∗ R) := by
  have hne : ∀ {a b : DmaSem sig}, a ≠ b → ((V d c j, SemLoc.dma a) : GSem nD τ sig) ≠ (V d c j, SemLoc.dma b) :=
    fun h e => h (SemLoc.dma.inj (congrArg Prod.snd e))
  have hm : ∀ s ∈ [s₁, s₂, s₃, s₄, s₅, s₆], ((V d c j, SemLoc.dma s) : GSem nD τ sig) ∈ ownCells (V d c j) :=
    fun s h => mem_ownCells.mpr ⟨rfl, hs s h⟩
  simp only [List.mem_cons, List.not_mem_nil, or_false, forall_eq_or_imp, forall_eq] at hm
  simp only [List.nodup_cons, List.mem_cons, List.not_mem_nil, or_false, not_or, not_false_eq_true, List.nodup_nil, and_true] at hd
  obtain ⟨m1, m2, m3, m4, m5, m6⟩ := hm
  obtain ⟨⟨d12, d13, d14, d15, d16⟩, ⟨d23, d24, d25, d26⟩, ⟨d34, d35, d36⟩, ⟨d45, d46⟩, d56⟩ := hd
  refine ⟨bigSep (((((((ownCells (V d c j)).erase (V d c j, SemLoc.dma s₁)).erase (V d c j, SemLoc.dma s₂)).erase (V d c j, SemLoc.dma s₃)).erase (V d c j, SemLoc.dma s₄)).erase (V d c j, SemLoc.dma s₅)).erase (V d c j, SemLoc.dma s₆)) fun g => (semVal g 0 : sProp 𝕄), ?_⟩
  unfold SparseCore.Cfg.ownSems0
  rw [cell_out d c j s₁ _ m1,
    cell_out d c j s₂ _ (Finset.mem_erase.mpr ⟨hne (Ne.symm d12), m2⟩),
    cell_out d c j s₃ _ (Finset.mem_erase.mpr ⟨hne (Ne.symm d23), Finset.mem_erase.mpr ⟨hne (Ne.symm d13), m3⟩⟩),
    cell_out d c j s₄ _ (Finset.mem_erase.mpr ⟨hne (Ne.symm d34), Finset.mem_erase.mpr ⟨hne (Ne.symm d24), Finset.mem_erase.mpr ⟨hne (Ne.symm d14), m4⟩⟩⟩),
    cell_out d c j s₅ _ (Finset.mem_erase.mpr ⟨hne (Ne.symm d45), Finset.mem_erase.mpr ⟨hne (Ne.symm d35), Finset.mem_erase.mpr ⟨hne (Ne.symm d25),
      Finset.mem_erase.mpr ⟨hne (Ne.symm d15), m5⟩⟩⟩⟩),
    cell_out d c j s₆ _ (Finset.mem_erase.mpr ⟨hne (Ne.symm d56), Finset.mem_erase.mpr ⟨hne (Ne.symm d46), Finset.mem_erase.mpr ⟨hne (Ne.symm d36),
      Finset.mem_erase.mpr ⟨hne (Ne.symm d26), Finset.mem_erase.mpr ⟨hne (Ne.symm d16), m6⟩⟩⟩⟩⟩)]

end Cert.Proof.Scratch

end
-- ==== Proof.Bodies.lean ====
/-
  The four gather calls of the program: each tile's printed body is the double-buffered gather over the tile's chunks, and
  so does what that does.
-/
module

public import proofs.«01_k».proof.KernelIdeal
public import proofs.«01_k».proof.Proof.Gen.KernelIdeal
public import proofs.«01_k».proof.Proof.Scratch
public import Idealize.ShloMosaic.Lib.SparseCore.Quiescent
public import Idealize.ShloMosaic.Lib.Pipeline.Kit

@[expose] public section

noncomputable section

namespace Cert.Proof.Bodies

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pipe Cert.Proof.Call Cert.Proof.Split Cert.Proof.Tile Cert.Proof.Scratch

variable {F : FTy → Type} [FloatOps F]

/-! ## The program as the launch theorem sees it -/

abbrev ΛP : Labels := Pipeline.Sig Λ₀ (Fin 6) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev EH : Emb UH (MT nD τ sig (HIx 4) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where a tile's chunk begins, as the body computes it. -/
theorem off_val (a b p x : ℕ) (ha : a < 16) (hb : b < 2) (hx : x < p) (hp : p ≤ 32768) :
    (Scalar.addi (Scalar.muli (Scalar.addi (Scalar.muli (BitVec.ofNat 32 a) 2#32) (BitVec.ofNat 32 b)) (BitVec.ofNat 32 p)) (BitVec.ofNat 32 x)).toNat
      = (a * 2 + b) * p + x := by
  have h : (a * 2 + b) * p ≤ 31 * p := Nat.mul_le_mul_right _ (by omega)
  simp only [Scalar.addi, Scalar.muli, IntOp.addi, IntOp.muli, BitVec.toNat_add, BitVec.toNat_mul, BitVec.toNat_ofNat]
  rw [Nat.mod_eq_of_lt (show a < 2 ^ 32 by omega), Nat.mod_eq_of_lt (show 2 < 2 ^ 32 by omega), Nat.mod_eq_of_lt (show a * 2 < 2 ^ 32 by omega),
    Nat.mod_eq_of_lt (show b < 2 ^ 32 by omega), Nat.mod_eq_of_lt (show a * 2 + b < 2 ^ 32 by omega), Nat.mod_eq_of_lt (show p < 2 ^ 32 by omega),
    Nat.mod_eq_of_lt (show (a * 2 + b) * p < 2 ^ 32 by omega), Nat.mod_eq_of_lt (show x < 2 ^ 32 by omega),
    Nat.mod_eq_of_lt (show (a * 2 + b) * p + x < 2 ^ 32 by omega)]

/-! ## The slots -/

abbrev slot256a (A : Memref sig .scVector .vmem S2x256 .i32) (B : Memref sig .scVector .vmem S2x256x128 .f32) (I G O : DmaSem sig) :
    Slot sig .scVector ⟨1, ![256]⟩ ⟨2, ![256, 128]⟩ .f32 where
  idx := (A.slice (Rect.unit (s := S2x256) ![0, 0] S1x256.size inb_S2x256_S1x256_0_0) (fun _ => rfl)).squeeze S256 squeezes_S1x256_S256
  rows := (B.slice (Rect.unit (s := S2x256x128) ![0, 0, 0] S1x256x128.size inb_S2x256x128_S1x256x128_0_0_0) (fun _ => rfl)).squeeze S256x128 squeezes_S1x256x128_S256x128
  semI := I
  semG := G
  semO := O

abbrev slot256b (A : Memref sig .scVector .vmem S2x256 .i32) (B : Memref sig .scVector .vmem S2x256x128 .f32) (I G O : DmaSem sig) :
    Slot sig .scVector ⟨1, ![256]⟩ ⟨2, ![256, 128]⟩ .f32 where
  idx := (A.slice (Rect.unit (s := S2x256) ![1, 0] S1x256.size inb_S2x256_S1x256_1_0) (fun _ => rfl)).squeeze S256 squeezes_S1x256_S256
  rows := (B.slice (Rect.unit (s := S2x256x128) ![1, 0, 0] S1x256x128.size inb_S2x256x128_S1x256x128_1_0_0) (fun _ => rfl)).squeeze S256x128 squeezes_S1x256x128_S256x128
  semI := I
  semG := G
  semO := O

abbrev slot128a (A : Memref sig .scVector .vmem S2x128 .i32) (B : Memref sig .scVector .vmem S2x128x2x128 .f32) (I G O : DmaSem sig) :
    Slot sig .scVector ⟨1, ![128]⟩ ⟨3, ![128, 2, 128]⟩ .f32 where
  idx := (A.slice (Rect.unit (s := S2x128) ![0, 0] S1x128.size inb_S2x128_S1x128_0_0) (fun _ => rfl)).squeeze S128 squeezes_S1x128_S128
  rows := (B.slice (Rect.unit (s := S2x128x2x128) ![0, 0, 0, 0] S1x128x2x128.size inb_S2x128x2x128_S1x128x2x128_0_0_0_0) (fun _ => rfl)).squeeze S128x2x128 squeezes_S1x128x2x128_S128x2x128
  semI := I
  semG := G
  semO := O

abbrev slot128b (A : Memref sig .scVector .vmem S2x128 .i32) (B : Memref sig .scVector .vmem S2x128x2x128 .f32) (I G O : DmaSem sig) :
    Slot sig .scVector ⟨1, ![128]⟩ ⟨3, ![128, 2, 128]⟩ .f32 where
  idx := (A.slice (Rect.unit (s := S2x128) ![1, 0] S1x128.size inb_S2x128_S1x128_1_0) (fun _ => rfl)).squeeze S128 squeezes_S1x128_S128
  rows := (B.slice (Rect.unit (s := S2x128x2x128) ![1, 0, 0, 0] S1x128x2x128.size inb_S2x128x2x128_S1x128x2x128_1_0_0_0) (fun _ => rfl)).squeeze S128x2x128 squeezes_S1x128x2x128_S128x2x128
  semI := I
  semG := G
  semO := O

/-! ## Call 0 -/

theorem hw0 : S65536x128.Gathers 0 S1048576x128 := by decide

/-- What a tile of call 0 works on. -/
abbrev plan0 (i : grid1.Coords) : Plan sig .scVector S65536x128 S1048576x128 ![256, 128] 1048576 256 .f32 where
  tab := Memref.whole main_v4_scv
  lst := Memref.whole main_v11_scv
  out := Memref.whole main_v12_scv
  toff := ![0, 0]
  tin := inb_S65536x128_S65536x128_0_0
  loff j := k1_off1 i (BitVec.ofNat 32 (256 * (j % 128)))
  lin j := k1_off1_inb i ⟨j % 128, Nat.mod_lt _ (by decide)⟩
  ooff j := k1_off2 i (BitVec.ofNat 32 (256 * (j % 128)))
  oin j := k1_off2_inb i ⟨j % 128, Nat.mod_lt _ (by decide)⟩
  hg := gathers_S65536x128_S256x128
  hw := hw0
  hn := rfl
  hnw := rfl
  he := rfl
  hr := by decide

theorem laid0 (i : grid1.Coords) : (plan0 i).Laid (((i 1).val * 2 + (i 0).val) * (256 * 128)) 128 where
  htoff b := by fin_cases b <;> rfl
  hloff j hj := (off_val (i 1).val (i 0).val 32768 (256 * (j % 128)) (i 1).isLt (i 0).isLt (by omega) (by decide)).trans (by rw [Nat.mod_eq_of_lt hj])
  hoff j hj := (off_val (i 1).val (i 0).val 32768 (256 * (j % 128)) (i 1).isLt (i 0).isLt (by omega) (by decide)).trans (by rw [Nat.mod_eq_of_lt hj])
  hoff' j b hb := by fin_cases b <;> first | exact absurd rfl hb | rfl
  hosz := rfl
  hosz' b hb := by fin_cases b <;> first | exact absurd rfl hb | rfl

set_option maxRecDepth 100000 in
set_option maxHeartbeats 4000000 in
/-- The printed body of call 0 is the double-buffered gather on 128 chunks. -/
theorem cc1_eq (i : grid1.Coords) : cc1_gk (F := F) i (Memref.whole main_v4_scv) (Memref.isWhole_whole _) (Memref.whole main_v11_scv) (Memref.isWhole_whole _)
    (Memref.whole main_v12_scv) (Memref.isWhole_whole _) (Memref.whole cc1_scratch0) (Memref.isWhole_whole _) (Memref.whole cc1_scratch1) (Memref.isWhole_whole _)
    cc1_scratch2 cc1_scratch3 cc1_scratch4 cc1_scratch5 cc1_scratch6 cc1_scratch7
      = pipe rfl (plan0 i).job (slot256a (Memref.whole cc1_scratch0) (Memref.whole cc1_scratch1) cc1_scratch2.sem cc1_scratch4.sem cc1_scratch6.sem)
          (slot256b (Memref.whole cc1_scratch0) (Memref.whole cc1_scratch1) cc1_scratch3.sem cc1_scratch5.sem cc1_scratch7.sem) 125 := by
  with_unfolding_all rfl

/-! ## Call 1 -/

theorem hw1 : S32768x128.Gathers 0 S524288x128 := by decide

/-- What a tile of call 1 works on. -/
abbrev plan1 (i : grid3.Coords) : Plan sig .scVector S32768x128 S524288x128 ![256, 128] 524288 256 .f32 where
  tab := Memref.whole main_v19_scv
  lst := Memref.whole main_v26_scv
  out := Memref.whole main_v27_scv
  toff := ![0, 0]
  tin := inb_S32768x128_S32768x128_0_0
  loff j := k3_off1 i (BitVec.ofNat 32 (256 * (j % 64)))
  lin j := k3_off1_inb i ⟨j % 64, Nat.mod_lt _ (by decide)⟩
  ooff j := k3_off2 i (BitVec.ofNat 32 (256 * (j % 64)))
  oin j := k3_off2_inb i ⟨j % 64, Nat.mod_lt _ (by decide)⟩
  hg := gathers_S32768x128_S256x128
  hw := hw1
  hn := rfl
  hnw := rfl
  he := rfl
  hr := by decide

theorem laid1 (i : grid3.Coords) : (plan1 i).Laid (((i 1).val * 2 + (i 0).val) * (256 * 64)) 64 where
  htoff b := by fin_cases b <;> rfl
  hloff j hj := (off_val (i 1).val (i 0).val 16384 (256 * (j % 64)) (i 1).isLt (i 0).isLt (by omega) (by decide)).trans (by rw [Nat.mod_eq_of_lt hj])
  hoff j hj := (off_val (i 1).val (i 0).val 16384 (256 * (j % 64)) (i 1).isLt (i 0).isLt (by omega) (by decide)).trans (by rw [Nat.mod_eq_of_lt hj])
  hoff' j b hb := by fin_cases b <;> first | exact absurd rfl hb | rfl
  hosz := rfl
  hosz' b hb := by fin_cases b <;> first | exact absurd rfl hb | rfl

set_option maxRecDepth 100000 in
set_option maxHeartbeats 4000000 in
/-- The printed body of call 1 is the double-buffered gather on 64 chunks. -/
theorem cc3_eq (i : grid3.Coords) : cc3_gk (F := F) i (Memref.whole main_v19_scv) (Memref.isWhole_whole _) (Memref.whole main_v26_scv) (Memref.isWhole_whole _)
    (Memref.whole main_v27_scv) (Memref.isWhole_whole _) (Memref.whole cc3_scratch0) (Memref.isWhole_whole _) (Memref.whole cc3_scratch1) (Memref.isWhole_whole _)
    cc3_scratch2 cc3_scratch3 cc3_scratch4 cc3_scratch5 cc3_scratch6 cc3_scratch7
      = pipe rfl (plan1 i).job (slot256a (Memref.whole cc3_scratch0) (Memref.whole cc3_scratch1) cc3_scratch2.sem cc3_scratch4.sem cc3_scratch6.sem)
          (slot256b (Memref.whole cc3_scratch0) (Memref.whole cc3_scratch1) cc3_scratch3.sem cc3_scratch5.sem cc3_scratch7.sem) 61 := by
  with_unfolding_all rfl

/-! ## Call 2 -/

theorem hw2 : S16384x128.Gathers 0 S262144x128 := by decide

/-- What a tile of call 2 works on. -/
abbrev plan2 (i : grid5.Coords) : Plan sig .scVector S16384x128 S262144x128 ![256, 128] 262144 256 .f32 where
  tab := Memref.whole main_v34_scv
  lst := Memref.whole main_v41_scv
  out := Memref.whole main_v42_scv
  toff := ![0, 0]
  tin := inb_S16384x128_S16384x128_0_0
  loff j := k5_off1 i (BitVec.ofNat 32 (256 * (j % 32)))
  lin j := k5_off1_inb i ⟨j % 32, Nat.mod_lt _ (by decide)⟩
  ooff j := k5_off2 i (BitVec.ofNat 32 (256 * (j % 32)))
  oin j := k5_off2_inb i ⟨j % 32, Nat.mod_lt _ (by decide)⟩
  hg := gathers_S16384x128_S256x128
  hw := hw2
  hn := rfl
  hnw := rfl
  he := rfl
  hr := by decide

theorem laid2 (i : grid5.Coords) : (plan2 i).Laid (((i 1).val * 2 + (i 0).val) * (256 * 32)) 32 where
  htoff b := by fin_cases b <;> rfl
  hloff j hj := (off_val (i 1).val (i 0).val 8192 (256 * (j % 32)) (i 1).isLt (i 0).isLt (by omega) (by decide)).trans (by rw [Nat.mod_eq_of_lt hj])
  hoff j hj := (off_val (i 1).val (i 0).val 8192 (256 * (j % 32)) (i 1).isLt (i 0).isLt (by omega) (by decide)).trans (by rw [Nat.mod_eq_of_lt hj])
  hoff' j b hb := by fin_cases b <;> first | exact absurd rfl hb | rfl
  hosz := rfl
  hosz' b hb := by fin_cases b <;> first | exact absurd rfl hb | rfl

set_option maxRecDepth 100000 in
set_option maxHeartbeats 4000000 in
/-- The printed body of call 2 is the double-buffered gather on 32 chunks. -/
theorem cc5_eq (i : grid5.Coords) : cc5_gk (F := F) i (Memref.whole main_v34_scv) (Memref.isWhole_whole _) (Memref.whole main_v41_scv) (Memref.isWhole_whole _)
    (Memref.whole main_v42_scv) (Memref.isWhole_whole _) (Memref.whole cc5_scratch0) (Memref.isWhole_whole _) (Memref.whole cc5_scratch1) (Memref.isWhole_whole _)
    cc5_scratch2 cc5_scratch3 cc5_scratch4 cc5_scratch5 cc5_scratch6 cc5_scratch7
      = pipe rfl (plan2 i).job (slot256a (Memref.whole cc5_scratch0) (Memref.whole cc5_scratch1) cc5_scratch2.sem cc5_scratch4.sem cc5_scratch6.sem)
          (slot256b (Memref.whole cc5_scratch0) (Memref.whole cc5_scratch1) cc5_scratch3.sem cc5_scratch5.sem cc5_scratch7.sem) 29 := by
  with_unfolding_all rfl

/-! ## Call 3 -/

theorem hw3 : S8192x2x128.Gathers 0 S131072x2x128 := by decide

/-- What a tile of call 3 works on. -/
abbrev plan3 (i : grid7.Coords) : Plan sig .scVector S8192x2x128 S131072x2x128 ![128, 2, 128] 131072 128 .f32 where
  tab := Memref.whole main_v49_scv
  lst := Memref.whole main_v56_scv
  out := Memref.whole main_v57_scv
  toff := ![0, 0, 0]
  tin := inb_S8192x2x128_S8192x2x128_0_0_0
  loff j := k7_off1 i (BitVec.ofNat 32 (128 * (j % 32)))
  lin j := k7_off1_inb i ⟨j % 32, Nat.mod_lt _ (by decide)⟩
  ooff j := k7_off2 i (BitVec.ofNat 32 (128 * (j % 32)))
  oin j := k7_off2_inb i ⟨j % 32, Nat.mod_lt _ (by decide)⟩
  hg := gathers_S8192x2x128_S128x2x128
  hw := hw3
  hn := rfl
  hnw := rfl
  he := rfl
  hr := by decide

theorem laid3 (i : grid7.Coords) : (plan3 i).Laid (((i 1).val * 2 + (i 0).val) * (128 * 32)) 32 where
  htoff b := by fin_cases b <;> rfl
  hloff j hj := (off_val (i 1).val (i 0).val 4096 (128 * (j % 32)) (i 1).isLt (i 0).isLt (by omega) (by decide)).trans (by rw [Nat.mod_eq_of_lt hj])
  hoff j hj := (off_val (i 1).val (i 0).val 4096 (128 * (j % 32)) (i 1).isLt (i 0).isLt (by omega) (by decide)).trans (by rw [Nat.mod_eq_of_lt hj])
  hoff' j b hb := by fin_cases b <;> first | exact absurd rfl hb | rfl
  hosz := rfl
  hosz' b hb := by fin_cases b <;> first | exact absurd rfl hb | rfl

set_option maxRecDepth 100000 in
set_option maxHeartbeats 4000000 in
/-- The printed body of call 3 is the double-buffered gather on 32 chunks. -/
theorem cc7_eq (i : grid7.Coords) : cc7_gk (F := F) i (Memref.whole main_v49_scv) (Memref.isWhole_whole _) (Memref.whole main_v56_scv) (Memref.isWhole_whole _)
    (Memref.whole main_v57_scv) (Memref.isWhole_whole _) (Memref.whole cc7_scratch0) (Memref.isWhole_whole _) (Memref.whole cc7_scratch1) (Memref.isWhole_whole _)
    cc7_scratch2 cc7_scratch3 cc7_scratch4 cc7_scratch5 cc7_scratch6 cc7_scratch7
      = pipe rfl (plan3 i).job (slot128a (Memref.whole cc7_scratch0) (Memref.whole cc7_scratch1) cc7_scratch2.sem cc7_scratch4.sem cc7_scratch6.sem)
          (slot128b (Memref.whole cc7_scratch0) (Memref.whole cc7_scratch1) cc7_scratch3.sem cc7_scratch5.sem cc7_scratch7.sem) 29 := by
  with_unfolding_all rfl

end Cert.Proof.Bodies

end
-- ==== Proof.Launch.lean ====
/-
  The launch of the gather calls: what the two SparseCores and their tiles are handed and hand back, and that every tile
  does its part. The contents of the calls' arrays are a parameter (`Data`), whatever the host code before them computes.
-/
module

public import proofs.«01_k».proof.Proof.Bodies

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pipe Cert.Proof.Call Cert.Proof.Split Cert.Proof.Tile Cert.Proof.Scratch Cert.Proof.Bodies

variable {F : FTy → Type} [FloatOps F]

attribute [local irreducible] pipe turns

local notation "𝕄" => MT nD τ sig (HIx 4) (Elt F) ℕ UU ℕ

/-! ## The calls' arrays -/

/-- Call `q`'s table, list and output. -/
abbrev tabRef : Fin 4 → Ref sig .tc | 0 => main_v4 | 1 => main_v19 | 2 => main_v34 | 3 => main_v49
abbrev lstRef : Fin 4 → Ref sig .tc | 0 => main_v11 | 1 => main_v26 | 2 => main_v41 | 3 => main_v56
abbrev outRef : Fin 4 → Ref sig .tc | 0 => main_v12 | 1 => main_v27 | 2 => main_v42 | 3 => main_v57

abbrev tLoc (q : Fin 4) (d : Dev nD) : Loc nD τ sig := (SparseCore.T d).loc (tabRef q)
abbrev lLoc (q : Fin 4) (d : Dev nD) : Loc nD τ sig := (SparseCore.T d).loc (lstRef q)
abbrev oLoc (q : Fin 4) (d : Dev nD) : Loc nD τ sig := (SparseCore.T d).loc (outRef q)

/-- The tile that writes an element of call `q`'s output. -/
def key (d : Dev nD) : (q : Fin 4) → Idx (oLoc q d) → ℕ
  | 0 => fun (x : S1048576x128.Idx) => (x 0).val / (256 * 128)
  | 1 => fun (x : S524288x128.Idx) => (x 0).val / (256 * 64)
  | 2 => fun (x : S262144x128.Idx) => (x 0).val / (256 * 32)
  | 3 => fun (x : S131072x2x128.Idx) => (x 0).val / (128 * 32)

theorem key_lt (d : Dev nD) : (q : Fin 4) → (x : Idx (oLoc q d)) → key d q x < 32
  | 0, x => Nat.div_lt_of_lt_mul (show ((x : S1048576x128.Idx) 0).val < 256 * 128 * 32 from ((x : S1048576x128.Idx) 0).isLt)
  | 1, x => Nat.div_lt_of_lt_mul (show ((x : S524288x128.Idx) 0).val < 256 * 64 * 32 from ((x : S524288x128.Idx) 0).isLt)
  | 2, x => Nat.div_lt_of_lt_mul (show ((x : S262144x128.Idx) 0).val < 256 * 32 * 32 from ((x : S262144x128.Idx) 0).isLt)
  | 3, x => Nat.div_lt_of_lt_mul (show ((x : S131072x2x128.Idx) 0).val < 128 * 32 * 32 from ((x : S131072x2x128.Idx) 0).isLt)

/-- The contents of the calls' arrays: the tables, the lists, the outputs before and after. -/
structure Data (F : FTy → Type) where
  ft : (q : Fin 4) → (d : Dev nD) → Buf (Elt F) (tLoc q d)
  fl : (q : Fin 4) → (d : Dev nD) → Buf (Elt F) (lLoc q d)
  fo : (q : Fin 4) → (d : Dev nD) → Buf (Elt F) (oLoc q d)
  fr : (q : Fin 4) → (d : Dev nD) → Buf (Elt F) (oLoc q d)

/-- Call 0's output after is the gather of the table's rows that its list names, and they are rows of the table. -/
def Good0 (A : Data F) : Prop :=
  ∀ d, Gathered (F := F) (e := .f32) hw0 (Q := 1048576) rfl (A.ft 0 d) (A.fl 0 d) (A.fr 0 d)

/-- Call 1's output after is the gather of the table's rows that its list names, and they are rows of the table. -/
def Good1 (A : Data F) : Prop :=
  ∀ d, Gathered (F := F) (e := .f32) hw1 (Q := 524288) rfl (A.ft 1 d) (A.fl 1 d) (A.fr 1 d)

/-- Call 2's output after is the gather of the table's rows that its list names, and they are rows of the table. -/
def Good2 (A : Data F) : Prop :=
  ∀ d, Gathered (F := F) (e := .f32) hw2 (Q := 262144) rfl (A.ft 2 d) (A.fl 2 d) (A.fr 2 d)

/-- Call 3's output after is the gather of the table's rows that its list names, and they are rows of the table. -/
def Good3 (A : Data F) : Prop :=
  ∀ d, Gathered (F := F) (e := .f32) hw3 (Q := 131072) rfl (A.ft 3 d) (A.fl 3 d) (A.fr 3 d)

/-! ## What the handshakes carry -/

theorem nCore_eq : (q : Fin 4) → (K (F := F)).nCore q = 2 | 0 => rfl | 1 => rfl | 2 => rfl | 3 => rfl
theorem nSub_eq : (q : Fin 4) → (K (F := F)).nSub q = 16 | 0 => rfl | 1 => rfl | 2 => rfl | 3 => rfl

variable (A : Data F)

/-- Each SparseCore is handed its shares of the table and the list and its part of the output, each tile its own of them,
    and they come back with the output's parts filled. -/
def P : (K (F := F)).Pay (nD := nD) (Val := Elt F) (Name := ℕ) (U := UU) where
  st := fun q d c => coreRes (A.ft q d) (A.fl q d) (A.fo q d) (key d q) (Fin.cast (nCore_eq q) c)
  dn := fun q d c => coreRes (A.ft q d) (A.fl q d) (A.fr q d) (key d q) (Fin.cast (nCore_eq q) c)
  go := fun q d c i => tileRes (A.ft q d) (A.fl q d) (A.fo q d) (key d q) (Fin.cast (nCore_eq q) c) (Fin.cast (nSub_eq q) i)
  td := fun q d c i => tileRes (A.ft q d) (A.fl q d) (A.fr q d) (key d q) (Fin.cast (nCore_eq q) c) (Fin.cast (nSub_eq q) i)
  x := fun _ _ => iprop(emp)

instance P_storable : (P A).IsStorable where
  st q d c := coreRes_storable (A.ft q d) (A.fl q d) (A.fo q d) (key d q) (Fin.cast (nCore_eq q) c)
  dn q d c := coreRes_storable (A.ft q d) (A.fl q d) (A.fr q d) (key d q) (Fin.cast (nCore_eq q) c)
  go q d c i := tileRes_storable (A.ft q d) (A.fl q d) (A.fo q d) (key d q) (Fin.cast (nCore_eq q) c) (Fin.cast (nSub_eq q) i)
  td q d c i := tileRes_storable (A.ft q d) (A.fl q d) (A.fr q d) (key d q) (Fin.cast (nCore_eq q) c) (Fin.cast (nSub_eq q) i)

theorem bigSep_cast {m n : ℕ} (h : m = n) (Φ : Fin n → sProp 𝕄) :
    (bigSep Finset.univ fun i : Fin m => Φ (Fin.cast h i)) = bigSep Finset.univ Φ := by
  subst h; rfl

theorem vecSplit (q : Fin 4) : (K (F := F)).VecSplit' (P A) q := by
  intro d c
  show coreRes (A.ft q d) (A.fl q d) (A.fo q d) (key d q) (Fin.cast (nCore_eq q) c) ⊢ |={Set.univ}=> iprop(
      (bigSep Finset.univ fun i : Fin ((K (F := F)).nSub q) =>
        tileRes (A.ft q d) (A.fl q d) (A.fo q d) (key d q) (Fin.cast (nCore_eq q) c) (Fin.cast (nSub_eq q) i))
      ∗ ((bigSep Finset.univ fun i : Fin ((K (F := F)).nSub q) =>
          tileRes (A.ft q d) (A.fl q d) (A.fr q d) (key d q) (Fin.cast (nCore_eq q) c) (Fin.cast (nSub_eq q) i))
          -∗ coreRes (A.ft q d) (A.fl q d) (A.fr q d) (key d q) (Fin.cast (nCore_eq q) c)))
  rw [bigSep_cast (F := F) (nSub_eq q) (fun i => tileRes (A.ft q d) (A.fl q d) (A.fo q d) (key d q) (Fin.cast (nCore_eq q) c) i),
    bigSep_cast (F := F) (nSub_eq q) (fun i => tileRes (A.ft q d) (A.fl q d) (A.fr q d) (key d q) (Fin.cast (nCore_eq q) c) i),
    core_eq _ _ _ _ (key_lt d q), core_eq _ _ _ _ (key_lt d q)]
  iintro H; imodintro
  isplitl [H]; · iexact H
  iintro H; iexact H

/-- The three arrays whole are what call `q` hands the SparseCores. -/
theorem st_eq (q : Fin 4) (d : Dev nD) : (bigSep Finset.univ fun c : Fin ((K (F := F)).nCore q) => (P A).st q d c)
    = iprop((tLoc q d ↦{fullShare} A.ft q d) ∗ (lLoc q d ↦{fullShare} A.fl q d) ∗ oLoc q d ↦{fullShare} A.fo q d) := by
  rw [whole_eq _ _ _ (key d q)]
  exact bigSep_cast (F := F) (nCore_eq q) (fun c => coreRes (A.ft q d) (A.fl q d) (A.fo q d) (key d q) c)
theorem dn_eq (q : Fin 4) (d : Dev nD) : (bigSep Finset.univ fun c : Fin ((K (F := F)).nCore q) => (P A).dn q d c)
    = iprop((tLoc q d ↦{fullShare} A.ft q d) ∗ (lLoc q d ↦{fullShare} A.fl q d) ∗ oLoc q d ↦{fullShare} A.fr q d) := by
  rw [whole_eq _ _ _ (key d q)]
  exact bigSep_cast (F := F) (nCore_eq q) (fun c => coreRes (A.ft q d) (A.fl q d) (A.fr q d) (key d q) c)

/-! ## The tiles -/

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile of call 0. -/
theorem tile0 (hA : Good0 A) (d : Dev nD) (L : grid1.Coords) (O : CellTallies nD τ sig (HIx 4)) (W : Waits sig (HIx 4)) (hO : ∀ g, O g none = 0) :
    (iprop(levAts (K (F := F)).L (K (F := F)).lev ∗ emp
        ∗ tileRes (A.ft 0 d) (A.fl 0 d) (A.fo 0 d) (key d 0) (L 0) (L 1)
        ∗ scopedBufs (V d ((L 0).castLE hcore1) ((L 1).castLE hsub1)) ∗ scopedSems0 (V d ((L 0).castLE hcore1) ((L 1).castLE hsub1))
        ∗ owes (V d ((L 0).castLE hcore1) ((L 1).castLE hsub1)) O W) : sProp 𝕄)
      ⊢ wp frame (wpE (defs₀ (F := F)) 𝒱₀ (V d ((L 0).castLE hcore1) ((L 1).castLE hsub1)) none) Set.univ
          (cc1_gk L (Memref.whole main_v4_scv) (Memref.isWhole_whole _) (Memref.whole main_v11_scv) (Memref.isWhole_whole _)
            (Memref.whole main_v12_scv) (Memref.isWhole_whole _) (Memref.whole cc1_scratch0) (Memref.isWhole_whole _) (Memref.whole cc1_scratch1) (Memref.isWhole_whole _)
            cc1_scratch2 cc1_scratch3 cc1_scratch4 cc1_scratch5 cc1_scratch6 cc1_scratch7)
          fun _ => iprop(tileRes (A.ft 0 d) (A.fl 0 d) (A.fr 0 d) (key d 0) (L 0) (L 1)
            ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none⌝ ∗ owes (V d ((L 0).castLE hcore1) ((L 1).castLE hsub1)) O W') := by
  obtain ⟨hin, hfr⟩ := hA d
  have hres : A.fr 0 d = result (V d ((L 0).castLE hcore1) ((L 1).castLE hsub1)) (plan0 L) (A.ft 0 d) (A.fl 0 d) (A.fo 0 d) hin :=
    hfr.trans (View.write_whole_univ _ _ _).symm
  obtain ⟨RB, hB⟩ := ownBufs_two (Ix := HIx 4) (F := F) (Name := ℕ) (U := UU) (Lvl := ℕ) d ((L 0).castLE hcore1) ((L 1).castLE hsub1) cc1_scratch0 cc1_scratch1 rfl rfl (by decide)
  obtain ⟨RS, hS⟩ := ownSems0_six (Ix := HIx 4) (F := F) (Name := ℕ) (U := UU) (Lvl := ℕ) d ((L 0).castLE hcore1) ((L 1).castLE hsub1)
    cc1_scratch2.sem cc1_scratch3.sem cc1_scratch4.sem cc1_scratch5.sem cc1_scratch6.sem cc1_scratch7.sem (by decide) (by decide)
  rw [cc1_eq, (K (F := F)).scopedBufs_V facts d _ _, SparseCore.Cfg.scopedSems0_V (Val := Elt F) d _ _, hB, hres]
  refine wp_tile countersEmb 𝒱₀ (V d ((L 0).castLE hcore1) ((L 1).castLE hsub1)) none rfl (default : HIx 4) (plan0 L) (A.ft 0 d) (A.fl 0 d) (A.fo 0 d) hin
    _ _ (key d 0) (L 0) (L 1) 125 (laid0 L) (by decide) (by decide) (fun _ => rfl) (fun _ => rfl) ?_ ((K (F := F)).mayWaits_none hO)
    (two_bufs _ _ (squeezed_disjoint _ _ _ _ _ (Rect.unit_disjoint 0 (by decide))) _ _ (squeezed_disjoint _ _ _ _ _ (Rect.unit_disjoint 0 (by decide))) RB) ⟨Entails.of_eq hS, Entails.of_eq hS.symm⟩
  exact (part_eq (c := V d ((L 0).castLE hcore1) ((L 1).castLE hsub1)) (plan0 L) (w := (L 1).val * 2 + (L 0).val) (n := 128) (laid0 L) (by decide) (by decide)).trans Finset.map_refl

set_option maxRecDepth 16384 in
/-- A tile of call 1. -/
theorem tile1 (hA : Good1 A) (d : Dev nD) (L : grid3.Coords) (O : CellTallies nD τ sig (HIx 4)) (W : Waits sig (HIx 4)) (hO : ∀ g, O g none = 0) :
    (iprop(levAts (K (F := F)).L (K (F := F)).lev ∗ emp
        ∗ tileRes (A.ft 1 d) (A.fl 1 d) (A.fo 1 d) (key d 1) (L 0) (L 1)
        ∗ scopedBufs (V d ((L 0).castLE hcore3) ((L 1).castLE hsub3)) ∗ scopedSems0 (V d ((L 0).castLE hcore3) ((L 1).castLE hsub3))
        ∗ owes (V d ((L 0).castLE hcore3) ((L 1).castLE hsub3)) O W) : sProp 𝕄)
      ⊢ wp frame (wpE (defs₀ (F := F)) 𝒱₀ (V d ((L 0).castLE hcore3) ((L 1).castLE hsub3)) none) Set.univ
          (cc3_gk L (Memref.whole main_v19_scv) (Memref.isWhole_whole _) (Memref.whole main_v26_scv) (Memref.isWhole_whole _)
            (Memref.whole main_v27_scv) (Memref.isWhole_whole _) (Memref.whole cc3_scratch0) (Memref.isWhole_whole _) (Memref.whole cc3_scratch1) (Memref.isWhole_whole _)
            cc3_scratch2 cc3_scratch3 cc3_scratch4 cc3_scratch5 cc3_scratch6 cc3_scratch7)
          fun _ => iprop(tileRes (A.ft 1 d) (A.fl 1 d) (A.fr 1 d) (key d 1) (L 0) (L 1)
            ∗ scopedBufs (V d ((L 0).castLE hcore3) ((L 1).castLE hsub3)) ∗ scopedSems0 (V d ((L 0).castLE hcore3) ((L 1).castLE hsub3))
            ∗ ∃ W', ⌜∀ p ∈ W', p ∈ W ∨ p.2 = none⌝ ∗ owes (V d ((L 0).castLE hcore3) ((L 1).castLE hsub3)) O W') := by
  obtain ⟨hin, hfr⟩ := hA d
  have hres : A.fr 1 d = result (V d ((L 0).castLE hcore3) ((L 1).castLE hsub3)) (plan1 L) (A.ft 1 d) (A.fl 1 d) (A.fo 1 d) hin :=
    hfr.trans (View.write_whole_univ _ _ _).symm
  obtain ⟨RB, hB⟩ := ownBufs_two (Ix := HIx 4) (F := F) (Name := ℕ) (U := UU) (Lvl := ℕ) d ((L 0).castLE hcore3) ((L 1).castLE hsub3) cc3_scratch0 cc3_scratch1 rfl rfl (by decide)
  obtain ⟨RS, hS⟩ := ownSems0_six (Ix := HIx 4) (F := F) (Name := ℕ) (U := UU) (Lvl := ℕ) d ((L 0).castLE hcore3) ((L 1).castLE hsub3)
    cc3_scratch2.sem cc3_scratch3.sem cc3_scratch4.sem cc3_scratch5.sem cc3_scratch6.sem cc3_scratch7.sem (by decide) (by decide)
  rw [cc3_eq, (K (F := F)).scopedBufs_V facts d _ _, SparseCore.Cfg.scopedSems0_V (Val := Elt F) d _ _, hB, hres]
  refine wp_tile countersEmb 𝒱₀ (V d ((L 0).castLE hcore3) ((L 1).castLE hsub3)) none rfl (default : HIx 4) (plan1 L) (A.ft 1 d) (A.fl 1 d) (A.fo 1 d) hin
    _ _ (key d 1) (L 0) (L 1) 61 (laid1 L) (by decide) (by decide) (fun _ => rfl) (fun _ => rfl) ?_ ((K (F := F)).mayWaits_none hO)
    (two_bufs _ _ (squeezed_disjoint _ _ _ _ _ (Rect.unit_disjoint 0 (by decide))) _ _ (squeezed_disjoint _ _ _ _ _ (Rect.unit_disjoint 0 (by decide))) RB) ⟨Entails.of_eq hS, Entails.of_eq hS.symm⟩
  exact (part_eq (c := V d ((L 0).castLE hcore3) ((L 1).castLE hsub3)) (plan1 L) (w := (L 1).val * 2 + (L 0).val) (n := 64) (laid1 L) (by decide) (by decide)).trans Finset.map_refl

set_option maxRecDepth 16384 in
/-- A tile of call 2. -/
theorem tile2 (hA : Good2 A) (d : Dev nD) (L : grid5.Coords) (O : CellTallies nD τ sig (HIx 4)) (W : Waits sig (HIx 4)) (hO : ∀ g, O g none = 0) :
    (iprop(levAts (K (F := F)).L (K (F := F)).lev ∗ emp
        ∗ tileRes (A.ft 2 d) (A.fl 2 d) (A.fo 2 d) (key d 2) (L 0) (L 1)
        ∗ scopedBufs (V d ((L 0).castLE hcore5) ((L 1).castLE hsub5)) ∗ scopedSems0 (V d ((L 0).castLE hcore5) ((L 1).castLE hsub5))
        ∗ owes (V d ((L 0).castLE hcore5) ((L 1).castLE hsub5)) O W) : sProp 𝕄)
      ⊢ wp frame (wpE (defs₀ (F := F)) 𝒱₀ (V d ((L 0).castLE hcore5) ((L 1).castLE hsub5)) none) Set.univ
          (cc5_gk L (Memref.whole main_v34_scv) (Memref.isWhole_whole _) (Memref.whole main_v41_scv) (Memref.isWhole_whole _)
            (Memref.whole main_v42_scv) (Memref.isWhole_whole _) (Memref.whole cc5_scratch0) (Memref.isWhole_whole _) (Memref.whole cc5_scratch1) (Memref.isWhole_whole _)
            cc5_scratch2 cc5_scratch3 cc5_scratch4 cc5_scratch5 cc5_scratch6 cc5_scratch7)
          fun _ => iprop(tileRes (A.ft 2 d) (A.fl 2 d) (A.fr 2 d) (key d 2) (L 0) (L 1)
            ∗ scopedBufs (V d ((L 0).castLE hcore5) ((L 1).castLE hsub5)) ∗ scopedSems0 (V d ((L 0).castLE hcore5) ((L 1).castLE hsub5))
            ∗ ∃ W', ⌜∀ p ∈ W', p ∈ W ∨ p.2 = none⌝ ∗ owes (V d ((L 0).castLE hcore5) ((L 1).castLE hsub5)) O W') := by
  obtain ⟨hin, hfr⟩ := hA d
  have hres : A.fr 2 d = result (V d ((L 0).castLE hcore5) ((L 1).castLE hsub5)) (plan2 L) (A.ft 2 d) (A.fl 2 d) (A.fo 2 d) hin :=
    hfr.trans (View.write_whole_univ _ _ _).symm
  obtain ⟨RB, hB⟩ := ownBufs_two (Ix := HIx 4) (F := F) (Name := ℕ) (U := UU) (Lvl := ℕ) d ((L 0).castLE hcore5) ((L 1).castLE hsub5) cc5_scratch0 cc5_scratch1 rfl rfl (by decide)
  obtain ⟨RS, hS⟩ := ownSems0_six (Ix := HIx 4) (F := F) (Name := ℕ) (U := UU) (Lvl := ℕ) d ((L 0).castLE hcore5) ((L 1).castLE hsub5)
    cc5_scratch2.sem cc5_scratch3.sem cc5_scratch4.sem cc5_scratch5.sem cc5_scratch6.sem cc5_scratch7.sem (by decide) (by decide)
  rw [cc5_eq, (K (F := F)).scopedBufs_V facts d _ _, SparseCore.Cfg.scopedSems0_V (Val := Elt F) d _ _, hB, hres]
  refine wp_tile countersEmb 𝒱₀ (V d ((L 0).castLE hcore5) ((L 1).castLE hsub5)) none rfl (default : HIx 4) (plan2 L) (A.ft 2 d) (A.fl 2 d) (A.fo 2 d) hin
    _ _ (key d 2) (L 0) (L 1) 29 (laid2 L) (by decide) (by decide) (fun _ => rfl) (fun _ => rfl) ?_ ((K (F := F)).mayWaits_none hO)
    (two_bufs _ _ (squeezed_disjoint _ _ _ _ _ (Rect.unit_disjoint 0 (by decide))) _ _ (squeezed_disjoint _ _ _ _ _ (Rect.unit_disjoint 0 (by decide))) RB) ⟨Entails.of_eq hS, Entails.of_eq hS.symm⟩
  exact (part_eq (c := V d ((L 0).castLE hcore5) ((L 1).castLE hsub5)) (plan2 L) (w := (L 1).val * 2 + (L 0).val) (n := 32) (laid2 L) (by decide) (by decide)).trans Finset.map_refl

set_option maxRecDepth 16384 in
/-- A tile of call 3. -/
theorem tile3 (hA : Good3 A) (d : Dev nD) (L : grid7.Coords) (O : CellTallies nD τ sig (HIx 4)) (W : Waits sig (HIx 4)) (hO : ∀ g, O g none = 0) :
    (iprop(levAts (K (F := F)).L (K (F := F)).lev ∗ emp
        ∗ tileRes (A.ft 3 d) (A.fl 3 d) (A.fo 3 d) (key d 3) (L 0) (L 1)
        ∗ scopedBufs (V d ((L 0).castLE hcore7) ((L 1).castLE hsub7)) ∗ scopedSems0 (V d ((L 0).castLE hcore7) ((L 1).castLE hsub7))
        ∗ owes (V d ((L 0).castLE hcore7) ((L 1).castLE hsub7)) O W) : sProp 𝕄)
      ⊢ wp frame (wpE (defs₀ (F := F)) 𝒱₀ (V d ((L 0).castLE hcore7) ((L 1).castLE hsub7)) none) Set.univ
          (cc7_gk L (Memref.whole main_v49_scv) (Memref.isWhole_whole _) (Memref.whole main_v56_scv) (Memref.isWhole_whole _)
            (Memref.whole main_v57_scv) (Memref.isWhole_whole _) (Memref.whole cc7_scratch0) (Memref.isWhole_whole _) (Memref.whole cc7_scratch1) (Memref.isWhole_whole _)
            cc7_scratch2 cc7_scratch3 cc7_scratch4 cc7_scratch5 cc7_scratch6 cc7_scratch7)
          fun _ => iprop(tileRes (A.ft 3 d) (A.fl 3 d) (A.fr 3 d) (key d 3) (L 0) (L 1)
            ∗ scopedBufs (V d ((L 0).castLE hcore7) ((L 1).castLE hsub7)) ∗ scopedSems0 (V d ((L 0).castLE hcore7) ((L 1).castLE hsub7))
            ∗ ∃ W', ⌜∀ p ∈ W', p ∈ W ∨ p.2 = none⌝ ∗ owes (V d ((L 0).castLE hcore7) ((L 1).castLE hsub7)) O W') := by
  obtain ⟨hin, hfr⟩ := hA d
  have hres : A.fr 3 d = result (V d ((L 0).castLE hcore7) ((L 1).castLE hsub7)) (plan3 L) (A.ft 3 d) (A.fl 3 d) (A.fo 3 d) hin :=
    hfr.trans (View.write_whole_univ _ _ _).symm
  obtain ⟨RB, hB⟩ := ownBufs_two (Ix := HIx 4) (F := F) (Name := ℕ) (U := UU) (Lvl := ℕ) d ((L 0).castLE hcore7) ((L 1).castLE hsub7) cc7_scratch0 cc7_scratch1 rfl rfl (by decide)
  obtain ⟨RS, hS⟩ := ownSems0_six (Ix := HIx 4) (F := F) (Name := ℕ) (U := UU) (Lvl := ℕ) d ((L 0).castLE hcore7) ((L 1).castLE hsub7)
    cc7_scratch2.sem cc7_scratch3.sem cc7_scratch4.sem cc7_scratch5.sem cc7_scratch6.sem cc7_scratch7.sem (by decide) (by decide)
  rw [cc7_eq, (K (F := F)).scopedBufs_V facts d _ _, SparseCore.Cfg.scopedSems0_V (Val := Elt F) d _ _, hB, hres]
  refine wp_tile countersEmb 𝒱₀ (V d ((L 0).castLE hcore7) ((L 1).castLE hsub7)) none rfl (default : HIx 4) (plan3 L) (A.ft 3 d) (A.fl 3 d) (A.fo 3 d) hin
    _ _ (key d 3) (L 0) (L 1) 29 (laid3 L) (by decide) (by decide) (fun _ => rfl) (fun _ => rfl) ?_ ((K (F := F)).mayWaits_none hO)
    (two_bufs _ _ (squeezed_disjoint _ _ _ _ _ (Rect.unit_disjoint 0 (by decide))) _ _ (squeezed_disjoint _ _ _ _ _ (Rect.unit_disjoint 0 (by decide))) RB) ⟨Entails.of_eq hS, Entails.of_eq hS.symm⟩
  exact (part_eq (c := V d ((L 0).castLE hcore7) ((L 1).castLE hsub7)) (plan3 L) (w := (L 1).val * 2 + (L 0).val) (n := 32) (laid3 L) (by decide) (by decide)).trans Finset.map_refl

end Cert.Proof.Launch

end
-- ==== Proof.Ops.lean ====
/-
  The host operations of the program between its gather calls, each call as one more operation, and what they leave.
-/
module

public import proofs.«01_k».proof.Proof.Launch
public import Idealize.ShloMosaic.Lib.StableHlo.Run

@[expose] public section

noncomputable section

namespace Cert.Proof.Ops

open Cert.KernelIdeal Cert.KernelIdeal.Gen
open Idealize.ShloMosaic
open Idealize.ShloMosaic.StableHlo (seq after)
open Idealize.SL.Sem
open Cert.Proof.Tile Cert.Proof.Bodies

variable {F : FTy → Type} [FloatOps F]

/-! ## A call as an operation -/

open Classical in
/-- The gather of a table's rows that a list names; nothing in particular where the list names a row that is not there. -/
def gath {s₀ so : Shape} {Q : ℕ} (hw : s₀.Gathers 0 so) (hn : (⟨1, ![Q]⟩ : Shape).numel = so.size hw.axis')
    (f : s₀.Idx → Elt F .f32) (l : (⟨1, ![Q]⟩ : Shape).Idx → Elt F .i32) : so.Idx → Elt F .f32 :=
  if hin : ∀ x, (l x).toNat < s₀.size hw.axis then SparseCore.gatherPayload hw f (SparseCore.rows l hn hin) else fun _ => (constant S_ .f32 0x00000000#32 : S_.Idx → Elt F .f32) (fun a => a.elim0)

/-- Where the list names rows of the table, that is the gather. -/
theorem gathered_gath {s₀ so : Shape} {Q : ℕ} (hw : s₀.Gathers 0 so) (hn : (⟨1, ![Q]⟩ : Shape).numel = so.size hw.axis')
    (f : s₀.Idx → Elt F .f32) (l : (⟨1, ![Q]⟩ : Shape).Idx → Elt F .i32) (hin : ∀ x, (l x).toNat < s₀.size hw.axis) :
    Gathered (F := F) (e := .f32) hw hn f l (gath hw hn f l) := ⟨hin, dif_pos hin⟩

/-- Call 0: its output is the gather of its table's rows that its list names. -/
abbrev call0 : HloOp τ sig (Elt F) :=
  StableHlo.binary main_v4 main_v11 main_v12 (gath (F := F) (Q := 1048576) hw0 rfl :
    (⟨S65536x128, .f32⟩ : BufTy).Contents (Elt F) → (⟨S1048576, .i32⟩ : BufTy).Contents (Elt F) → (⟨S1048576x128, .f32⟩ : BufTy).Contents (Elt F))

/-- Call 1: its output is the gather of its table's rows that its list names. -/
abbrev call1 : HloOp τ sig (Elt F) :=
  StableHlo.binary main_v19 main_v26 main_v27 (gath (F := F) (Q := 524288) hw1 rfl :
    (⟨S32768x128, .f32⟩ : BufTy).Contents (Elt F) → (⟨S524288, .i32⟩ : BufTy).Contents (Elt F) → (⟨S524288x128, .f32⟩ : BufTy).Contents (Elt F))

/-- Call 2: its output is the gather of its table's rows that its list names. -/
abbrev call2 : HloOp τ sig (Elt F) :=
  StableHlo.binary main_v34 main_v41 main_v42 (gath (F := F) (Q := 262144) hw2 rfl :
    (⟨S16384x128, .f32⟩ : BufTy).Contents (Elt F) → (⟨S262144, .i32⟩ : BufTy).Contents (Elt F) → (⟨S262144x128, .f32⟩ : BufTy).Contents (Elt F))

/-- Call 3: its output is the gather of its table's rows that its list names. -/
abbrev call3 : HloOp τ sig (Elt F) :=
  StableHlo.binary main_v49 main_v56 main_v57 (gath (F := F) (Q := 131072) hw3 rfl :
    (⟨S8192x2x128, .f32⟩ : BufTy).Contents (Elt F) → (⟨S131072, .i32⟩ : BufTy).Contents (Elt F) → (⟨S131072x2x128, .f32⟩ : BufTy).Contents (Elt F))

/-! ## The host operations -/

/-- The host operations before TensorCore call 0. -/
def ops0 : List (HloOp τ sig (Elt F)) :=
  [StableHlo.unary main_arg1 main_v0 ((transpose S64x1024x3 [0, 2, 1] · transposes_S64x3x1024_S64x1024x3_0_2_1) : (⟨S64x3x1024, .f32⟩ : BufTy).Contents (Elt F) → (⟨S64x1024x3, .f32⟩ : BufTy).Contents (Elt F))]

/-- The host operations before SparseCore call 0. -/
def ops1 : List (HloOp τ sig (Elt F)) :=
  [StableHlo.nullary main_cst (constant S_ .f32 0x00000000#32),
   StableHlo.unary main_cst main_v2 (broadcastInDim S64x1024x109 ![] bcast_S_S64x1024x109 : (⟨S_, .f32⟩ : BufTy).Contents (Elt F) → (⟨S64x1024x109, .f32⟩ : BufTy).Contents (Elt F)),
   StableHlo.nary ![main_v1, main_arg0, main_v2] main_v3 (fun u => (concatenate S64x1024x128 2 [⟨S64x1024x16, (u 0 : (⟨S64x1024x16, .f32⟩ : BufTy).Contents (Elt F))⟩, ⟨S64x1024x3, (u 1 : (⟨S64x1024x3, .f32⟩ : BufTy).Contents (Elt F))⟩, ⟨S64x1024x109, (u 2 : (⟨S64x1024x109, .f32⟩ : BufTy).Contents (Elt F))⟩] concatenates_S64x1024x16_S64x1024x3_S64x1024x109_S64x1024x128_d2 : (⟨S64x1024x128, .f32⟩ : BufTy).Contents (Elt F))),
   StableHlo.reshape main_v3 main_v4 (rfl : (.f32 : EltTy) = .f32) shapeCasts_S64x1024x128_S65536x128,
   StableHlo.nullary main_v5 (iotaInDim S64 32 0),
   StableHlo.nullary main_c (constantI S_ 32 1024#32),
   StableHlo.unary main_c main_v6 (broadcastInDim S64 ![] bcast_S_S64 : (⟨S_, .i32⟩ : BufTy).Contents (Elt F) → (⟨S64, .i32⟩ : BufTy).Contents (Elt F)),
   StableHlo.binary main_v5 main_v6 main_v7 (muli : (⟨S64, .i32⟩ : BufTy).Contents (Elt F) → (⟨S64, .i32⟩ : BufTy).Contents (Elt F) → (⟨S64, .i32⟩ : BufTy).Contents (Elt F)),
   StableHlo.unary main_v7 main_v8 (broadcastInDim S64x1x1 ![0] bcast_S64_S64x1x1_0 : (⟨S64, .i32⟩ : BufTy).Contents (Elt F) → (⟨S64x1x1, .i32⟩ : BufTy).Contents (Elt F)),
   StableHlo.unary main_v8 main_v9 (broadcastInDim S64x512x32 ![0, 1, 2] bcast_S64x1x1_S64x512x32_0_1_2 : (⟨S64x1x1, .i32⟩ : BufTy).Contents (Elt F) → (⟨S64x512x32, .i32⟩ : BufTy).Contents (Elt F)),
   StableHlo.binary main_arg18 main_v9 main_v10 (addi : (⟨S64x512x32, .i32⟩ : BufTy).Contents (Elt F) → (⟨S64x512x32, .i32⟩ : BufTy).Contents (Elt F) → (⟨S64x512x32, .i32⟩ : BufTy).Contents (Elt F)),
   StableHlo.reshape main_v10 main_v11 (rfl : (.i32 : EltTy) = .i32) shapeCasts_S64x512x32_S1048576]

/-- The host operations before TensorCore call 1. -/
def ops2 : List (HloOp τ sig (Elt F)) :=
  [StableHlo.reshape main_v12 main_v13 (rfl : (.f32 : EltTy) = .f32) shapeCasts_S1048576x128_S64x16384x128,
   StableHlo.unary main_arg3 main_v14 ((extractStridedSlice S16x32 ![0, 0] · slices_S19x32_S16x32_0_0) : (⟨S19x32, .f32⟩ : BufTy).Contents (Elt F) → (⟨S16x32, .f32⟩ : BufTy).Contents (Elt F)),
   StableHlo.unary main_arg3 main_v15 ((extractStridedSlice S3x32 ![16, 0] · slices_S19x32_S3x32_16_0) : (⟨S19x32, .f32⟩ : BufTy).Contents (Elt F) → (⟨S3x32, .f32⟩ : BufTy).Contents (Elt F))]

/-- The host operations before SparseCore call 1. -/
def ops3 : List (HloOp τ sig (Elt F)) :=
  [StableHlo.nullary main_cst_0 (constant S_ .f32 0x00000000#32),
   StableHlo.unary main_cst_0 main_v17 (broadcastInDim S64x512x93 ![] bcast_S_S64x512x93 : (⟨S_, .f32⟩ : BufTy).Contents (Elt F) → (⟨S64x512x93, .f32⟩ : BufTy).Contents (Elt F)),
   StableHlo.nary ![main_v16, main_arg14, main_v17] main_v18 (fun u => (concatenate S64x512x128 2 [⟨S64x512x32, (u 0 : (⟨S64x512x32, .f32⟩ : BufTy).Contents (Elt F))⟩, ⟨S64x512x3, (u 1 : (⟨S64x512x3, .f32⟩ : BufTy).Contents (Elt F))⟩, ⟨S64x512x93, (u 2 : (⟨S64x512x93, .f32⟩ : BufTy).Contents (Elt F))⟩] concatenates_S64x512x32_S64x512x3_S64x512x93_S64x512x128_d2 : (⟨S64x512x128, .f32⟩ : BufTy).Contents (Elt F))),
   StableHlo.reshape main_v18 main_v19 (rfl : (.f32 : EltTy) = .f32) shapeCasts_S64x512x128_S32768x128,
   StableHlo.nullary main_v20 (iotaInDim S64 32 0),
   StableHlo.nullary main_c_1 (constantI S_ 32 512#32),
   StableHlo.unary main_c_1 main_v21 (broadcastInDim S64 ![] bcast_S_S64 : (⟨S_, .i32⟩ : BufTy).Contents (Elt F) → (⟨S64, .i32⟩ : BufTy).Contents (Elt F)),
   StableHlo.binary main_v20 main_v21 main_v22 (muli : (⟨S64, .i32⟩ : BufTy).Contents (Elt F) → (⟨S64, .i32⟩ : BufTy).Contents (Elt F) → (⟨S64, .i32⟩ : BufTy).Contents (Elt F)),
   StableHlo.unary main_v22 main_v23 (broadcastInDim S64x1x1 ![0] bcast_S64_S64x1x1_0 : (⟨S64, .i32⟩ : BufTy).Contents (Elt F) → (⟨S64x1x1, .i32⟩ : BufTy).Contents (Elt F)),
   StableHlo.unary main_v23 main_v24 (broadcastInDim S64x256x32 ![0, 1, 2] bcast_S64x1x1_S64x256x32_0_1_2 : (⟨S64x1x1, .i32⟩ : BufTy).Contents (Elt F) → (⟨S64x256x32, .i32⟩ : BufTy).Contents (Elt F)),
   StableHlo.binary main_arg19 main_v24 main_v25 (addi : (⟨S64x256x32, .i32⟩ : BufTy).Contents (Elt F) → (⟨S64x256x32, .i32⟩ : BufTy).Contents (Elt F) → (⟨S64x256x32, .i32⟩ : BufTy).Contents (Elt F)),
   StableHlo.reshape main_v25 main_v26 (rfl : (.i32 : EltTy) = .i32) shapeCasts_S64x256x32_S524288]

/-- The host operations before TensorCore call 2. -/
def ops4 : List (HloOp τ sig (Elt F)) :=
  [StableHlo.reshape main_v27 main_v28 (rfl : (.f32 : EltTy) = .f32) shapeCasts_S524288x128_S64x8192x128,
   StableHlo.unary main_arg4 main_v29 ((extractStridedSlice S32x64 ![0, 0] · slices_S35x64_S32x64_0_0) : (⟨S35x64, .f32⟩ : BufTy).Contents (Elt F) → (⟨S32x64, .f32⟩ : BufTy).Contents (Elt F)),
   StableHlo.unary main_arg4 main_v30 ((extractStridedSlice S3x64 ![32, 0] · slices_S35x64_S3x64_32_0) : (⟨S35x64, .f32⟩ : BufTy).Contents (Elt F) → (⟨S3x64, .f32⟩ : BufTy).Contents (Elt F))]

/-- The host operations before SparseCore call 2. -/
def ops5 : List (HloOp τ sig (Elt F)) :=
  [StableHlo.nullary main_cst_2 (constant S_ .f32 0x00000000#32),
   StableHlo.unary main_cst_2 main_v32 (broadcastInDim S64x256x61 ![] bcast_S_S64x256x61 : (⟨S_, .f32⟩ : BufTy).Contents (Elt F) → (⟨S64x256x61, .f32⟩ : BufTy).Contents (Elt F)),
   StableHlo.nary ![main_v31, main_arg15, main_v32] main_v33 (fun u => (concatenate S64x256x128 2 [⟨S64x256x64, (u 0 : (⟨S64x256x64, .f32⟩ : BufTy).Contents (Elt F))⟩, ⟨S64x256x3, (u 1 : (⟨S64x256x3, .f32⟩ : BufTy).Contents (Elt F))⟩, ⟨S64x256x61, (u 2 : (⟨S64x256x61, .f32⟩ : BufTy).Contents (Elt F))⟩] concatenates_S64x256x64_S64x256x3_S64x256x61_S64x256x128_d2 : (⟨S64x256x128, .f32⟩ : BufTy).Contents (Elt F))),
   StableHlo.reshape main_v33 main_v34 (rfl : (.f32 : EltTy) = .f32) shapeCasts_S64x256x128_S16384x128,
   StableHlo.nullary main_v35 (iotaInDim S64 32 0),
   StableHlo.nullary main_c_3 (constantI S_ 32 256#32),
   StableHlo.unary main_c_3 main_v36 (broadcastInDim S64 ![] bcast_S_S64 : (⟨S_, .i32⟩ : BufTy).Contents (Elt F) → (⟨S64, .i32⟩ : BufTy).Contents (Elt F)),
   StableHlo.binary main_v35 main_v36 main_v37 (muli : (⟨S64, .i32⟩ : BufTy).Contents (Elt F) → (⟨S64, .i32⟩ : BufTy).Contents (Elt F) → (⟨S64, .i32⟩ : BufTy).Contents (Elt F)),
   StableHlo.unary main_v37 main_v38 (broadcastInDim S64x1x1 ![0] bcast_S64_S64x1x1_0 : (⟨S64, .i32⟩ : BufTy).Contents (Elt F) → (⟨S64x1x1, .i32⟩ : BufTy).Contents (Elt F)),
   StableHlo.unary main_v38 main_v39 (broadcastInDim S64x128x32 ![0, 1, 2] bcast_S64x1x1_S64x128x32_0_1_2 : (⟨S64x1x1, .i32⟩ : BufTy).Contents (Elt F) → (⟨S64x128x32, .i32⟩ : BufTy).Contents (Elt F)),
   StableHlo.binary main_arg20 main_v39 main_v40 (addi : (⟨S64x128x32, .i32⟩ : BufTy).Contents (Elt F) → (⟨S64x128x32, .i32⟩ : BufTy).Contents (Elt F) → (⟨S64x128x32, .i32⟩ : BufTy).Contents (Elt F)),
   StableHlo.reshape main_v40 main_v41 (rfl : (.i32 : EltTy) = .i32) shapeCasts_S64x128x32_S262144]

/-- The host operations before TensorCore call 3. -/
def ops6 : List (HloOp τ sig (Elt F)) :=
  [StableHlo.reshape main_v42 main_v43 (rfl : (.f32 : EltTy) = .f32) shapeCasts_S262144x128_S64x4096x128,
   StableHlo.unary main_arg5 main_v44 ((extractStridedSlice S64x128 ![0, 0] · slices_S67x128_S64x128_0_0) : (⟨S67x128, .f32⟩ : BufTy).Contents (Elt F) → (⟨S64x128, .f32⟩ : BufTy).Contents (Elt F)),
   StableHlo.unary main_arg5 main_v45 ((extractStridedSlice S3x128 ![64, 0] · slices_S67x128_S3x128_64_0) : (⟨S67x128, .f32⟩ : BufTy).Contents (Elt F) → (⟨S3x128, .f32⟩ : BufTy).Contents (Elt F))]

/-- The host operations before SparseCore call 3. -/
def ops7 : List (HloOp τ sig (Elt F)) :=
  [StableHlo.nullary main_cst_4 (constant S_ .f32 0x00000000#32),
   StableHlo.unary main_cst_4 main_v47 (broadcastInDim S64x128x125 ![] bcast_S_S64x128x125 : (⟨S_, .f32⟩ : BufTy).Contents (Elt F) → (⟨S64x128x125, .f32⟩ : BufTy).Contents (Elt F)),
   StableHlo.nary ![main_v46, main_arg16, main_v47] main_v48 (fun u => (concatenate S64x128x256 2 [⟨S64x128x128, (u 0 : (⟨S64x128x128, .f32⟩ : BufTy).Contents (Elt F))⟩, ⟨S64x128x3, (u 1 : (⟨S64x128x3, .f32⟩ : BufTy).Contents (Elt F))⟩, ⟨S64x128x125, (u 2 : (⟨S64x128x125, .f32⟩ : BufTy).Contents (Elt F))⟩] concatenates_S64x128x128_S64x128x3_S64x128x125_S64x128x256_d2 : (⟨S64x128x256, .f32⟩ : BufTy).Contents (Elt F))),
   StableHlo.reshape main_v48 main_v49 (rfl : (.f32 : EltTy) = .f32) shapeCasts_S64x128x256_S8192x2x128,
   StableHlo.nullary main_v50 (iotaInDim S64 32 0),
   StableHlo.nullary main_c_5 (constantI S_ 32 128#32),
   StableHlo.unary main_c_5 main_v51 (broadcastInDim S64 ![] bcast_S_S64 : (⟨S_, .i32⟩ : BufTy).Contents (Elt F) → (⟨S64, .i32⟩ : BufTy).Contents (Elt F)),
   StableHlo.binary main_v50 main_v51 main_v52 (muli : (⟨S64, .i32⟩ : BufTy).Contents (Elt F) → (⟨S64, .i32⟩ : BufTy).Contents (Elt F) → (⟨S64, .i32⟩ : BufTy).Contents (Elt F)),
   StableHlo.unary main_v52 main_v53 (broadcastInDim S64x1x1 ![0] bcast_S64_S64x1x1_0 : (⟨S64, .i32⟩ : BufTy).Contents (Elt F) → (⟨S64x1x1, .i32⟩ : BufTy).Contents (Elt F)),
   StableHlo.unary main_v53 main_v54 (broadcastInDim S64x64x32 ![0, 1, 2] bcast_S64x1x1_S64x64x32_0_1_2 : (⟨S64x1x1, .i32⟩ : BufTy).Contents (Elt F) → (⟨S64x64x32, .i32⟩ : BufTy).Contents (Elt F)),
   StableHlo.binary main_arg21 main_v54 main_v55 (addi : (⟨S64x64x32, .i32⟩ : BufTy).Contents (Elt F) → (⟨S64x64x32, .i32⟩ : BufTy).Contents (Elt F) → (⟨S64x64x32, .i32⟩ : BufTy).Contents (Elt F)),
   StableHlo.reshape main_v55 main_v56 (rfl : (.i32 : EltTy) = .i32) shapeCasts_S64x64x32_S131072]

/-- The host operations before TensorCore call 4. -/
def ops8 : List (HloOp τ sig (Elt F)) :=
  [StableHlo.reshape main_v57 main_v58 (rfl : (.f32 : EltTy) = .f32) shapeCasts_S131072x2x128_S64x2048x256,
   StableHlo.unary main_arg6 main_v59 ((extractStridedSlice S128x128 ![0, 0] · slices_S131x128_S128x128_0_0) : (⟨S131x128, .f32⟩ : BufTy).Contents (Elt F) → (⟨S128x128, .f32⟩ : BufTy).Contents (Elt F)),
   StableHlo.unary main_arg6 main_v60 ((extractStridedSlice S3x128 ![128, 0] · slices_S131x128_S3x128_128_0) : (⟨S131x128, .f32⟩ : BufTy).Contents (Elt F) → (⟨S3x128, .f32⟩ : BufTy).Contents (Elt F))]

/-- The host operations, in the order they run: before TensorCore call `k` those at `2 k`, before SparseCore call `k` those at `2 k + 1`. -/
def ops : Fin 9 → List (HloOp τ sig (Elt F))
  | 0 => ops0 | 1 => ops1 | 2 => ops2 | 3 => ops3 | 4 => ops4 | 5 => ops5 | 6 => ops6 | 7 => ops7 | 8 => ops8

/-- TensorCore call `p`. -/
abbrev tc (p : Fin 6) : Prog (TpuEff nD τ sig (Elt F) (SparseCore.Sig (Pipeline.Sig Λ₀ (Fin 6) fun p => (pcfgs (F := F) p).Adm) 4) .tc) PUnit :=
  Prog.lift (.customCall (SparseCore.inner (Pipeline.entry p)) ())

set_option maxRecDepth 16384 in
set_option maxHeartbeats 4000000 in
/-- The program is these operations with the calls between. -/
theorem main_eq (d : Dev nD) : main (F := F) d = (seq (ops 0) >>= fun _ => tc 0 >>= fun _ => seq (ops 1) >>= fun _ => sc.run d 0
    >>= fun _ => seq (ops 2) >>= fun _ => tc 1 >>= fun _ => seq (ops 3) >>= fun _ => sc.run d 1
    >>= fun _ => seq (ops 4) >>= fun _ => tc 2 >>= fun _ => seq (ops 5) >>= fun _ => sc.run d 2
    >>= fun _ => seq (ops 6) >>= fun _ => tc 3 >>= fun _ => seq (ops 7) >>= fun _ => sc.run d 3
    >>= fun _ => seq (ops 8) >>= fun _ => tc 4 >>= fun _ => tc 5 >>= fun _ => pure ⟨⟩) := by
  simp only [main, main_part0, main_part1, ops, ops0, ops1, ops2, ops3, ops4, ops5, ops6, ops7, ops8, StableHlo.seq, bind_assoc, pure_bind]
  try rfl

theorem sub (k : Fin 9) : (ops k : List (HloOp τ sig (Elt F))).Forall fun op => op.bufs ⊆ StableHlo.tcRefs τ sig := by
  fin_cases k <;>
  simp only [ops, ops0, ops1, ops2, ops3, ops4, ops5, ops6, ops7, ops8, List.Forall, StableHlo.nullary_bufs_sub, StableHlo.unary_bufs_sub,
    StableHlo.binary_bufs_sub, StableHlo.reshape_bufs_sub, StableHlo.nary_bufs_sub, and_self]

theorem fresh (k : Fin 9) : ∀ op ∈ (ops k : List (HloOp τ sig (Elt F))), op.fresh = ∅ := by
  rw [← List.forall_iff_forall_mem]
  fin_cases k <;> simp only [ops, ops0, ops1, ops2, ops3, ops4, ops5, ops6, ops7, ops8, List.Forall] <;> repeat' constructor

end Cert.Proof.Ops

end
-- ==== Proof.Region.lean ====
/-
  A call of a TensorCore kernel inside the program of the SparseCore calls: what it needs of the state the handshakes keep,
  and that it gives that state back.
-/
module

public import proofs.«01_k».proof.Proof.Launch
public import proofs.«01_k».proof.Proof.Gen.KernelIdeal.Launch
public import Idealize.ShloMosaic.Lib.Pipeline.RegionArrays
public import Idealize.ShloMosaic.Lib.Pipeline.Kit

@[expose] public section

noncomputable section

namespace Cert.Proof.Region

open Cert.KernelIdeal Cert.KernelIdeal.Gen
open Idealize.ShloMosaic
open Idealize.ShloMosaic.StableHlo (held)
open Idealize.ShloMosaic.SparseCore (S V T)
open Idealize.ShloMosaic.SparseCore.Cfg (HIx Pay)
open Idealize.ShloMosaic.Pipeline (ucRefs Dat arrRefs arrRef RegionSeg PLaunchFacts BodyObligationLoose cellsGhost toksInit pin scopedRest)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Bodies Cert.Proof.Launch

variable {F : FTy → Type} [FloatOps F]

local notation "𝕄" => MT nD τ sig (HIx 4) (Elt F) ℕ UU ℕ

/-- No pipeline here prefetches a table. -/
abbrev adm : (p : Fin 6) → (pcfgs (F := F) p).Adm := fun p => (cfgs p).toPCfg_adm

/-- Where the pipelines' own ghost state lives. -/
def EP : Emb UP (MT nD τ sig (HIx 4) (Elt F) ℕ UU ℕ) := (Emb.inl : Emb UP (UP × Counters)).trans embR

instance EP_landsIn : (EP (F := F)).LandsIn (upEmb : UEmb _ (MT nD τ sig (HIx 4) (Elt F) ℕ UU ℕ)) := by
  unfold EP; infer_instance

/-- The waits the TensorCore may have recorded before call `n`. -/
def bnd (c : Dev nD) (n : ℕ) : Set (SemLoc sig × HIx 4) :=
  {q | (K (F := F)).lev (T c, q.1) q.2 ≤ 8 * SparseCore.Cfg.Blocks.fst (Q := 4) (N := 4) n}

variable (dats : (p : Fin 6) → (c : Dev nD) → Dat τ (Elt F) (HIx 4) ℕ UU ℕ (pin (pcfgs (F := F)) adm p) c)

/-- The region of pipeline `p` between the SparseCore calls `n - 1` and `n`, entered with its arrays at `W` and left with
    them at `W'`. -/
def region (p : Fin 6) (n : ℕ) (kit : PLaunchFacts (nD := nD) (τ := τ) (pcfgs (F := F)) p) (hK : (pcfgs (F := F) p).pre.K = 0)
    (hbody : ∀ c, BodyObligationLoose (dats p c) (defs₀ (F := F)) 𝒱₀ none Set.univ)
    (howed : ∀ c t, (dats p c).owed t = (K (F := F)).Otc c n)
    (hrec : ∀ c t, (dats p c).recorded t = bnd (F := F) c n)
    (hshare : ∀ c w, (dats p c).share w = fullShare)
    (hΦ : ∀ c t, (dats p c).Φ t = scopedRest (pin (pcfgs (F := F)) adm p).spec c)
    (W W' : Dev nD → Valuation τ sig (Elt F))
    (hW : ∀ c w, (dats p c).arrAt w 0 = W c (Proc.devRef .tc (arrRef (pin (pcfgs (F := F)) adm p).spec w)))
    (hW' : ∀ c w, (dats p c).arrAt w (pin (pcfgs (F := F)) adm p).N = W' c (Proc.devRef .tc (arrRef (pin (pcfgs (F := F)) adm p).spec w))) :
    RegionSeg (pcfgs (F := F)) adm dats none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (pin (pcfgs (F := F)) adm) dats none p c 0 ((K (F := F)).Otc c n) (howed c)
    (fun _ _ => Finset.mem_univ _) (fun _ _ => le_rfl)
    (fun g i h => ⟨Finset.mem_univ _, lt_of_lt_of_le (Nat.succ_pos _) (SparseCore.Cfg.lev_of_Otc_pos h)⟩)
  pre c := iprop(held (c.tc : Thread nD τ) (arrRefs (pcfgs (F := F) p).spec) (W c)
    ∗ ∃ Wd, ⌜(K (F := F)).WBelow (T c) Wd (8 * SparseCore.Cfg.Blocks.fst (Q := 4) (N := 4) n)⌝ ∗ owes (T c) ((K (F := F)).Otc c n) Wd)
  post c := iprop(held (c.tc : Thread nD τ) (arrRefs (pcfgs (F := F) p).spec) (W' c)
    ∗ ∃ Wd, ⌜(K (F := F)).WBelow (T c) Wd (8 * SparseCore.Cfg.Blocks.fst (Q := 4) (N := 4) n)⌝ ∗ owes (T c) ((K (F := F)).Otc c n) Wd)
  X _ := iprop(emp)
  Y _ := iprop(emp)
  Z _ := iprop(emp)
  hentry c := by
    rw [Pipeline.ownSems0_none, Pipeline.prefHeld_of_none _ hK,
      ← Pipeline.arrays_held (pcfgs (F := F)) adm dats p kit c (hshare c) ((dats p c).arrAt · 0) (W c) (hW c)]
    iintro ⟨⟨Ha, ⟨%Wd, %hWd, HO⟩⟩, -, -⟩
    imodintro
    isplitl [Ha]; · iexact Ha
    isplitr; · iempintro
    isplitl [HO]
    · unfold Dat.owesAt Pipeline.owesWithin Dat.bound
      rw [howed c 0, hrec c 0]
      iexists Wd; isplitr; · ipureintro; exact fun q hq => Or.inl (hWd q hq)
      iexact HO
    isplitr <;> iempintro
  hin c := by
    rw [hΦ]
    iintro ⟨-, -, Hr⟩
    iexact Hr
  hout c := by
    rw [hΦ, Pipeline.ownSems0_none]
    iintro Hr
    isplitr; · iempintro
    isplitr; · iempintro
    iexact Hr
  hexit c := by
    rw [← Pipeline.arrays_held (pcfgs (F := F)) adm dats p kit c (hshare c) ((dats p c).arrAt · (pin (pcfgs (F := F)) adm p).N) (W' c) (hW' c)]
    iintro ⟨Ha, HO, -, -⟩
    imodintro
    isplitl [Ha]; · iexact Ha
    unfold Dat.owesAt Pipeline.owesWithin Dat.bound
    rw [howed c (Fin.last _), hrec c (Fin.last _)]
    icases HO with ⟨%Wd, %hWd, HO⟩
    iexists Wd
    isplitr
    · ipureintro
      intro q hq
      rcases hWd hq with h | ⟨w, s, rfl⟩
      · exact h
      · exact Nat.zero_le _
    iexact HO

variable (A : Data F)

/-- Under the table of the pipelines alone: a call of a TensorCore kernel runs from the arrays at `W` to the arrays at `W'`, which agree off the windows' arrays, and
    keeps what the handshakes hold. -/
theorem wp_inner (κ : GSem nD τ sig → ℕ) (d : Dev nD) (p : Fin 6) (n : ℕ) (kit : PLaunchFacts (nD := nD) (τ := τ) (pcfgs (F := F)) p)
    (hK : (pcfgs (F := F) p).pre.K = 0)
    (hbody : ∀ c, BodyObligationLoose (dats p c) (defs₀ (F := F)) 𝒱₀ none Set.univ)
    (howed : ∀ c t, (dats p c).owed t = (K (F := F)).Otc c n)
    (hrec : ∀ c t, (dats p c).recorded t = bnd (F := F) c n)
    (hshare : ∀ c w, (dats p c).share w = fullShare)
    (hΦ : ∀ c t, (dats p c).Φ t = scopedRest (pin (pcfgs (F := F)) adm p).spec c)
    (W W' : Dev nD → Valuation τ sig (Elt F))
    (hW : ∀ c w, (dats p c).arrAt w 0 = W c (Proc.devRef .tc (arrRef (pin (pcfgs (F := F)) adm p).spec w)))
    (hW' : ∀ c w, (dats p c).arrAt w (pin (pcfgs (F := F)) adm p).N = W' c (Proc.devRef .tc (arrRef (pin (pcfgs (F := F)) adm p).spec w)))
    (hoff : ∀ c, ∀ b ∉ arrRefs (τ := τ) (pcfgs (F := F) p).spec, W' c b = W c b) {Φ : PUnit → sProp 𝕄} :
    iprop((K (F := F)).ctx EH (P A) κ ∗ (K (F := F)).tcSt EH d n ∗ boundary (T d) ∗ held (T d) (ucRefs τ sig) (W d)
        ∗ cellsGhost (pin (pcfgs (F := F)) adm) EP p d ∗ toksInit (pin (pcfgs (F := F)) adm) EP p d
        ∗ ((boundary (T d) ∗ (K (F := F)).tcSt EH d n ∗ held (T d) (ucRefs τ sig) (W' d)) -∗ Φ ⟨⟩))
      ⊢ wp frame (wpE (D (F := F)) 𝒱 (T d) none) Set.univ (.op (.customCall (Pipeline.entry p) ()) .ret) Φ := by
  have hsub : arrRefs (τ := τ) (pcfgs (F := F) p).spec ⊆ ucRefs τ sig := Pipeline.arrRefs_sub_ucRefs _ kit.win.arr_unscoped
  have hrest : (held (T d) (ucRefs τ sig \ arrRefs (pcfgs (F := F) p).spec) (W' d) : sProp 𝕄)
      = held (T d) (ucRefs τ sig \ arrRefs (pcfgs (F := F) p).spec) (W d) :=
    StableHlo.held_congr _ fun b hb => hoff d b (Finset.mem_sdiff.mp hb).2
  rw [StableHlo.held_sub_split (T d) hsub (W d), StableHlo.held_sub_split (T d) hsub (W' d), hrest]
  unfold SparseCore.Cfg.tcSt
  iintro ⟨#Hctx, ⟨Ho, Hst⟩, Hb, ⟨Ha, Hr⟩, Hg, Ht, Hk⟩
  ihave Hlev := (SparseCore.Cfg.ctx_levAts κ) $$ Hctx
  iapply (RegionSeg.wp (pcfgs (F := F)) adm dats none (kit.cellOf_inj adm) (EP (F := F)) (defs₀ (F := F)) 𝒱₀ (K (F := F)).L (K (F := F)).lev
    (region dats p n kit hK hbody howed hrec hshare hΦ W W' hW hW') d none (fun _ h => absurd h (Option.not_mem_none _)) .ret Φ)
  isplitl [Hk Hst Hr]
  · rw [show (region dats p n kit hK hbody howed hrec hshare hΦ W W' hW hW').post d = iprop(held (T d) (arrRefs (pcfgs (F := F) p).spec) (W' d)
        ∗ ∃ Wd, ⌜(K (F := F)).WBelow (T d) Wd (8 * SparseCore.Cfg.Blocks.fst (Q := 4) (N := 4) n)⌝ ∗ owes (T d) ((K (F := F)).Otc d n) Wd) from rfl]
    iintro ⟨Hb, Ha, Ho⟩
    rw [wp_ret]
    imodintro
    iapply Hk
    isplitl [Hb]; · iexact Hb
    isplitl [Ho Hst]
    · isplitl [Ho]; · iexact Ho
      iexact Hst
    isplitl [Ha]; · iexact Ha
    iexact Hr
  isplitl [Hb]; · iexact Hb
  isplitl [Ha Ho]
  · rw [show (region dats p n kit hK hbody howed hrec hshare hΦ W W' hW hW').pre d = iprop(held (T d) (arrRefs (pcfgs (F := F) p).spec) (W d)
        ∗ ∃ Wd, ⌜(K (F := F)).WBelow (T d) Wd (8 * SparseCore.Cfg.Blocks.fst (Q := 4) (N := 4) n)⌝ ∗ owes (T d) ((K (F := F)).Otc d n) Wd) from rfl]
    isplitl [Ha]; · iexact Ha
    iexact Ho
  isplitl [Hlev]; · iexact Hlev
  isplitl [Hg]; · iexact Hg
  iexact Ht

/-- A call of a TensorCore kernel runs from the arrays at `W` to the arrays at `W'`, which agree off the windows' arrays, and
    keeps what the handshakes hold. -/
theorem wp_region (κ : GSem nD τ sig → ℕ) (d : Dev nD) (p : Fin 6) (n : ℕ) (kit : PLaunchFacts (nD := nD) (τ := τ) (pcfgs (F := F)) p)
    (hK : (pcfgs (F := F) p).pre.K = 0)
    (hbody : ∀ c, BodyObligationLoose (dats p c) (defs₀ (F := F)) 𝒱₀ none Set.univ)
    (howed : ∀ c t, (dats p c).owed t = (K (F := F)).Otc c n)
    (hrec : ∀ c t, (dats p c).recorded t = bnd (F := F) c n)
    (hshare : ∀ c w, (dats p c).share w = fullShare)
    (hΦ : ∀ c t, (dats p c).Φ t = scopedRest (pin (pcfgs (F := F)) adm p).spec c)
    (W W' : Dev nD → Valuation τ sig (Elt F))
    (hW : ∀ c w, (dats p c).arrAt w 0 = W c (Proc.devRef .tc (arrRef (pin (pcfgs (F := F)) adm p).spec w)))
    (hW' : ∀ c w, (dats p c).arrAt w (pin (pcfgs (F := F)) adm p).N = W' c (Proc.devRef .tc (arrRef (pin (pcfgs (F := F)) adm p).spec w)))
    (hoff : ∀ c, ∀ b ∉ arrRefs (τ := τ) (pcfgs (F := F) p).spec, W' c b = W c b) {Φ : PUnit → sProp 𝕄} :
    iprop((K (F := F)).ctx EH (P A) κ ∗ (K (F := F)).tcSt EH d n ∗ boundary (T d) ∗ held (T d) (ucRefs τ sig) (W d)
        ∗ cellsGhost (pin (pcfgs (F := F)) adm) EP p d ∗ toksInit (pin (pcfgs (F := F)) adm) EP p d
        ∗ ((boundary (T d) ∗ (K (F := F)).tcSt EH d n ∗ held (T d) (ucRefs τ sig) (W' d)) -∗ Φ ⟨⟩))
      ⊢ wp frame (wpE ((K (F := F)).defs (D (F := F))) 𝒱 (T d) none) Set.univ (Prog.lift (.customCall (SparseCore.inner (Pipeline.entry p)) ())) Φ :=
  BI.Entails.trans (wp_inner dats A κ d p n kit hK hbody howed hrec hshare hΦ W W' hW hW' hoff)
    ((K (F := F)).wp_liftProg (D (F := F)) 𝒱 (T d) Set.univ none (.op (.customCall (Pipeline.entry p) ()) .ret) Φ)

end Cert.Proof.Region

end
-- ==== Proof.Blocks.lean ====
/-
  A TensorCore kernel that computes one block of its result from the blocks of its arguments: its pipeline's data, and the
  obligation of its body from what the body does at one grid point.
-/
module

public import proofs.«01_k».proof.Proof.Region
public import Idealize.ShloMosaic.Lib.Pipeline.FrameBody
public import Idealize.ShloMosaic.Lib.Pipeline.Frame
public import Idealize.ShloMosaic.Lib.Tactic

@[expose] public section

noncomputable section

namespace Cert.Proof.Blocks

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Proof.Bodies Cert.Proof.Region

variable {F : FTy → Type} [FloatOps F]

local notation "𝕄" => MT nD τ sig (HIx 4) (Elt F) ℕ UU ℕ

variable (cfg : Cfg sig Λ₀) (V : Valuation τ sig (Elt F)) (c : Dev nD) (n : ℕ)
  (aft : (w : Fin cfg.W) → Fin cfg.N → (cfg.win w).block.Idx → Elt F (cfg.win w).elt)

/-- Window `w`'s block at point `t`, of the arrays `V`. -/
def blk (w : Fin cfg.W) (t : Fin cfg.N) : ((cfg.win w).xblock (cfg.grid.coords t)).Idx → Elt F (cfg.win w).elt :=
  ((cfg.win w).blk t).view.read (Elt F) (V (Proc.devRef .tc (Pipeline.arrRef cfg.spec w)))

/-- The data of a pipeline entered before SparseCore call `n` with its arrays at `V`, whose body leaves `aft`. -/
def dat : Dat τ (Elt F) (HIx 4) ℕ UU ℕ cfg c where
  A w := V (Proc.devRef .tc (Pipeline.arrRef cfg.spec w))
  after := aft
  Φ _ := Pipeline.scopedRest cfg.spec c
  q _ := fullShare
  owed _ := (Bodies.K (F := F)).Otc c n
  recorded _ := bnd (F := F) c n

variable {cfg V c n aft}

/-- A window the body only reads holds at every point what `aft` says. -/
theorem before_in (w : Fin cfg.W) (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (aft w t) = blk cfg V w t)
    (hfet : ∀ t d, (dat cfg V c n aft).fetched w t d = aft w t)
    (t : Fin cfg.N) (d) : (dat cfg V c n aft).before w t d = aft w t :=
  ((dat cfg V c n aft).before_in_eq_fetched w hw hlive hclip hkeep t d).trans (hfet t d)

/-- The obligation of a body that reads every window but `o` and writes `o` whole. -/
theorem obligation (o : Fin cfg.W) (hidle : ∀ w i, cfg.idle w i = false)
    (hb : ∀ w, w ≠ o → ∀ t d, (dat cfg V c n aft).before w t d = aft w t)
    (H : ∀ t : Fin cfg.N, (bigSep Finset.univ fun w : Fin cfg.W =>
        if w = o then iprop(∃ X, owns (c : Thread nD τ) ((cfg.win w).stage (cfg.slots t w)) fullShare X)
        else owns (c : Thread nD τ) ((cfg.win w).stage (cfg.slots t w)) fullShare (aft w t))
      ⊢ (wp frame (wpE (defs₀ (F := F)) Variants.none (c : Thread nD τ) none) Set.univ
          (defs₀ (F := F) .tc cfg.body (cfg.bodyArgs t (cfg.slots t))) fun _ =>
            bigSep Finset.univ fun w : Fin cfg.W =>
              owns (c : Thread nD τ) ((cfg.win w).stage (cfg.slots t w)) fullShare (aft w t) : sProp 𝕄)) :
    BodyObligation (dat cfg V c n aft) (defs₀ (F := F)) Variants.none none Set.univ := fun t => by
  have e : ∀ w : Fin cfg.W, iprop(∃ d, owns (c : Thread nD τ) ((cfg.win w).stage (cfg.slots t w)) fullShare
      ((dat cfg V c n aft).before w t d)) ⊢
      (if w = o then iprop(∃ X, owns (c : Thread nD τ) ((cfg.win w).stage (cfg.slots t w)) fullShare X)
        else owns (c : Thread nD τ) ((cfg.win w).stage (cfg.slots t w)) fullShare (aft w t) : sProp 𝕄) := fun w => by
    by_cases h : w = o
    · rw [if_pos h]; iintro ⟨%d, H⟩; iexists _; iexact H
    · rw [if_neg h]; iintro ⟨%d, H⟩; rw [hb w h t d]; iexact H
  simp only [hidle]
  refine BI.Entails.trans (Q := iprop(((dat cfg V c n aft).Φ t.castSucc ∗ (dat cfg V c n aft).owesAt none t.castSucc)
    ∗ bigSep Finset.univ fun w : Fin cfg.W => iprop(∃ d, owns (c : Thread nD τ) ((cfg.win w).stage (cfg.slots t w)) fullShare
      ((dat cfg V c n aft).before w t d)))) BI.sep_assoc' ?_
  refine BI.Entails.trans (BI.sep_mono (BI.Entails.refl _) ((bigSep_mono fun w _ => e w).trans (H t))) ?_
  refine BI.Entails.trans (wp_frame_l frame _ _) (wp_mono frame _ _ fun _ => BI.sep_assoc)

end Cert.Proof.Blocks

end
-- ==== Proof.Skel.lean ====
/-
  The TensorCore kernels as sequences of loads and stores over named values.
-/
module

public import proofs.«01_k».proof.Proof.Gen.KernelIdeal

@[expose] public section

set_option synthInstance.maxSize 4096

noncomputable section

namespace Cert.Proof.Skel

open Cert.KernelIdeal Cert.KernelIdeal.Gen
open Idealize.ShloMosaic Idealize.SL.Sem

variable {F : FTy → Type} [FloatOps F]

/-! ## `cc0__embed_kernel` -/

/-- A value the kernel computes from those it has read. -/
noncomputable def k0_pay1 (v0 : Vec F S1x1024x3 .f32) (v2 : Vec F S3x16 .f32) : FVec F S1x1024x16 .f32 :=
  have v1 : FVec F S1024x3 .f32 := shapeCast S1024x3 v0 shapeCasts_S1x1024x3_S1024x3
  have cst : FVec F S1024x16 .f32 := constant S1024x16 .f32 0x00000000#32
  have v3 : FVec F S1024x16 .f32 := matmul dot_S1024x3_S3x16_S1024x16_1_0_0_1_n_n none v1 v2 cst
  have cst_4 : F .f32 := Scalar.ofBits .f32 0x00000000#32
  have v4 : FVec F S1024x16 .f32 := broadcast S1024x16 cst_4
  have v5 : FVec F S1024x16 .f32 := maximumf v3 v4
  have v8 : FVec F S1x1024x16 .f32 := shapeCast S1x1024x16 v5 shapeCasts_S1024x16_S1x1024x16
  v8

/-- `cc0__embed_kernel` as a skeleton of memory operations over payloads. -/
noncomputable def cc0__embed_kernel_skel (i : grid0.Coords) (arg1 : Memref sig .tc .vmem S1x1024x3 .f32) (harg1 : arg1.IsWhole) (arg2 : Memref sig .tc .vmem S3x16 .f32) (harg2 : arg2.IsWhole) (arg3 : Memref sig .tc .vmem S1x1024x16 .f32) (harg3 : arg3.IsWhole) :
    Prog (TpuEff nD τ sig (Elt F) Λ₀ .tc) PUnit := do

  let v0 : Vec F S1x1024x3 .f32 ← Prog.lift (.load arg1 (Rect.unit (s := S1x1024x3) ![0, 0, 0] S1x1024x3.size inb_S1x1024x3_S1x1024x3_0_0_0).toLoadRect (View.loadsAt_vmem h_S1x1024x3))
  let v2 : Vec F S3x16 .f32 ← Prog.lift (.load arg2 (Rect.unit (s := S3x16) ![0, 0] S3x16.size inb_S3x16_S3x16_0_0).toLoadRect (View.loadsAt_vmem h_S3x16))
  let v6 : Vec F S1x1024x16 .f32 ← Prog.lift (.load arg3 (Rect.unit (s := S1x1024x16) ![0, 0, 0] S1x1024x16.size inb_S1x1024x16_S1x1024x16_0_0_0).toLoadRect (View.loadsAt_vmem h_S1x1024x16))

  Prog.lift (.store arg3 (Rect.unit (s := S1x1024x16) ![0, 0, 0] S1x1024x16.size inb_S1x1024x16_S1x1024x16_0_0_0) (k0_pay1 v0 v2) Finset.univ (View.stores_vmem_bits_univ h_S1x1024x16 rfl) (.inl rfl))
  pure ⟨⟩

set_option maxRecDepth 65536 in
/-- The printed `cc0__embed_kernel` is its skeleton: by definitional unfolding. -/
theorem cc0__embed_kernel_eq_skeleton : cc0__embed_kernel (F := F) = cc0__embed_kernel_skel (F := F) := rfl

/-! ## `cc2__stage_kernel` -/

/-- A value the kernel computes from those it has read. -/
noncomputable def k2_pay1 (v37 : FVec F S512x32 .f32) (v38 : Vec F S32x32 .f32) : FVec F S1x512x32 .f32 :=
  have cst_19 : FVec F S512x32 .f32 := constant S512x32 .f32 0x00000000#32
  have v39 : FVec F S512x32 .f32 := matmul dot_S512x32_S32x32_S512x32_1_0_0_1_n_n none v37 v38 cst_19
  have cst_20 : F .f32 := Scalar.ofBits .f32 0x00000000#32
  have v40 : FVec F S512x32 .f32 := broadcast S512x32 cst_20
  have v41 : FVec F S512x32 .f32 := maximumf v39 v40
  have v42 : FVec F S512x32 .f32 := addf v37 v41
  have cst_21 : F .f32 := Scalar.ofBits .f32 0x00000000#32
  have v43 : FVec F S512x32 .f32 := broadcast S512x32 cst_21
  have v44 : FVec F S512x32 .f32 := maximumf v42 v43
  have v47 : FVec F S1x512x32 .f32 := shapeCast S1x512x32 v44 shapeCasts_S512x32_S1x512x32
  v47

/-- A value the kernel computes from those it has read. -/
noncomputable def k2_pay2 (v0 : Vec F S1x16384x128 .f32) (v4 : Vec F S1x512x3 .f32) (v27 : Vec F S16x32 .f32) (v30 : Vec F S3x32 .f32) : FVec F S512x32 .f32 :=
  have v1 : FVec F S16384x128 .f32 := shapeCast S16384x128 v0 shapeCasts_S1x16384x128_S16384x128
  have v2 : FVec F S16384x3 .f32 := extractStridedSlice S16384x3 ![0, 16] v1 slices_S16384x128_o0_16_S16384x3
  have v3 : FVec F S512x32x3 .f32 := shapeCast S512x32x3 v2 shapeCasts_S16384x3_S512x32x3
  have v5 : FVec F S512x3 .f32 := shapeCast S512x3 v4 shapeCasts_S1x512x3_S512x3
  have v6 : FVec F S512x1x3 .f32 := shapeCast S512x1x3 v5 shapeCasts_S512x3_S512x1x3
  have v7 : FVec F S512x32x3 .f32 := broadcastTo S512x32x3 v6 broadcasts_S512x1x3_S512x32x3
  have v8 : FVec F S512x32x3 .f32 := subf v3 v7
  have v9 : FVec F S512 .f32 := multiReduction .add [1, 2] S512 v8 0x00000000#32 reduces_S512x32x3_S512 (.inl rfl) rfl
  have v10 : FVec F S512x1x1 .f32 := shapeCast S512x1x1 v9 shapeCasts_S512_S512x1x1
  have cst_5 : F .f32 := Scalar.ofBits .f32 0x42C00000#32
  have v11 : FVec F S512x1x1 .f32 := broadcast S512x1x1 cst_5
  have v12 : FVec F S512x1x1 .f32 := divf v10 v11
  have v13 : FVec F S512x32x3 .f32 := broadcastTo S512x32x3 v12 broadcasts_S512x1x1_S512x32x3
  have v14 : FVec F S512x32x3 .f32 := subf v8 v13
  have v15 : FVec F S512x32x3 .f32 := mulf v14 v14
  have v16 : FVec F S512 .f32 := multiReduction .add [1, 2] S512 v15 0x00000000#32 reduces_S512x32x3_S512 (.inl rfl) rfl
  have v17 : FVec F S512x1x1 .f32 := shapeCast S512x1x1 v16 shapeCasts_S512_S512x1x1
  have cst_7 : F .f32 := Scalar.ofBits .f32 0x42C00000#32
  have v18 : FVec F S512x1x1 .f32 := broadcast S512x1x1 cst_7
  have v19 : FVec F S512x1x1 .f32 := divf v17 v18
  have v20 : FVec F S512x1x1 .f32 := sqrt v19
  have cst_8 : F .f32 := Scalar.ofBits .f32 0x3727C5AC#32
  have v21 : FVec F S512x1x1 .f32 := broadcast S512x1x1 cst_8
  have v22 : FVec F S512x1x1 .f32 := addf v20 v21
  have v23 : FVec F S512x32x3 .f32 := broadcastTo S512x32x3 v22 broadcasts_S512x1x1_S512x32x3
  have v24 : FVec F S512x32x3 .f32 := divf v8 v23
  have v25 : FVec F S16384x3 .f32 := shapeCast S16384x3 v24 shapeCasts_S512x32x3_S16384x3
  have v26 : FVec F S16384x16 .f32 := extractStridedSlice S16384x16 ![0, 0] v1 slices_S16384x128_o0_0_S16384x16
  have v28 : FVec F S16x32 .f32 := shapeCast S16x32 v27 shapeCasts_S16x32_S16x32
  have cst_11 : FVec F S16384x32 .f32 := constant S16384x32 .f32 0x00000000#32
  have v29 : FVec F S16384x32 .f32 := matmul dot_S16384x16_S16x32_S16384x32_1_0_0_1_n_n none v26 v28 cst_11
  have v31 : FVec F S3x32 .f32 := shapeCast S3x32 v30 shapeCasts_S3x32_S3x32
  have cst_14 : FVec F S16384x32 .f32 := constant S16384x32 .f32 0x00000000#32
  have v32 : FVec F S16384x32 .f32 := matmul dot_S16384x3_S3x32_S16384x32_1_0_0_1_n_n none v25 v31 cst_14
  have v33 : FVec F S16384x32 .f32 := addf v29 v32
  have cst_15 : F .f32 := Scalar.ofBits .f32 0x00000000#32
  have v34 : FVec F S16384x32 .f32 := broadcast S16384x32 cst_15
  have v35 : FVec F S16384x32 .f32 := maximumf v33 v34
  have v36 : FVec F S512x32x32 .f32 := shapeCast S512x32x32 v35 shapeCasts_S16384x32_S512x32x32
  have v37 : FVec F S512x32 .f32 := multiReduction .maximumf [1] S512x32 v36 0xFF800000#32 reduces_S512x32x32_S512x32 (.inl rfl) rfl
  v37

/-- `cc2__stage_kernel` as a skeleton of memory operations over payloads. -/
noncomputable def cc2__stage_kernel_skel (i : grid2.Coords) (arg1 : Memref sig .tc .vmem S1x16384x128 .f32) (harg1 : arg1.IsWhole) (arg2 : Memref sig .tc .vmem S1x512x3 .f32) (harg2 : arg2.IsWhole) (arg3 : Memref sig .tc .vmem S16x32 .f32) (harg3 : arg3.IsWhole) (arg4 : Memref sig .tc .vmem S3x32 .f32) (harg4 : arg4.IsWhole) (arg5 : Memref sig .tc .vmem S32x32 .f32) (harg5 : arg5.IsWhole) (arg6 : Memref sig .tc .vmem S1x512x32 .f32) (harg6 : arg6.IsWhole) :
    Prog (TpuEff nD τ sig (Elt F) Λ₀ .tc) PUnit := do
  let v37 : FVec F S512x32 .f32 ← k2_part1 i arg1 harg1 arg2 harg2 arg3 harg3 arg4 harg4 arg5 harg5 arg6 harg6
  let v38 : Vec F S32x32 .f32 ← Prog.lift (.load arg5 (Rect.unit (s := S32x32) ![0, 0] S32x32.size inb_S32x32_S32x32_0_0).toLoadRect (View.loadsAt_vmem h_S32x32))
  let v45 : Vec F S1x512x32 .f32 ← Prog.lift (.load arg6 (Rect.unit (s := S1x512x32) ![0, 0, 0] S1x512x32.size inb_S1x512x32_S1x512x32_0_0_0).toLoadRect (View.loadsAt_vmem h_S1x512x32))

  Prog.lift (.store arg6 (Rect.unit (s := S1x512x32) ![0, 0, 0] S1x512x32.size inb_S1x512x32_S1x512x32_0_0_0) (k2_pay1 v37 v38) Finset.univ (View.stores_vmem_bits_univ h_S1x512x32 rfl) (.inl rfl))
  pure ⟨⟩

set_option maxRecDepth 65536 in
/-- The printed `cc2__stage_kernel` is its skeleton: by definitional unfolding. -/
theorem cc2__stage_kernel_eq_skeleton : cc2__stage_kernel (F := F) = cc2__stage_kernel_skel (F := F) := rfl

/-- `k2_part1` as a skeleton of memory operations over payloads. -/
noncomputable def k2_part1_skel (i : grid2.Coords) (arg1 : Memref sig .tc .vmem S1x16384x128 .f32) (harg1 : arg1.IsWhole) (arg2 : Memref sig .tc .vmem S1x512x3 .f32) (harg2 : arg2.IsWhole) (arg3 : Memref sig .tc .vmem S16x32 .f32) (harg3 : arg3.IsWhole) (arg4 : Memref sig .tc .vmem S3x32 .f32) (harg4 : arg4.IsWhole) (arg5 : Memref sig .tc .vmem S32x32 .f32) (harg5 : arg5.IsWhole) (arg6 : Memref sig .tc .vmem S1x512x32 .f32) (harg6 : arg6.IsWhole) :
    Prog (TpuEff nD τ sig (Elt F) Λ₀ .tc) (FVec F S512x32 .f32) := do

  let v0 : Vec F S1x16384x128 .f32 ← Prog.lift (.load arg1 (Rect.unit (s := S1x16384x128) ![0, 0, 0] S1x16384x128.size inb_S1x16384x128_S1x16384x128_0_0_0).toLoadRect (View.loadsAt_vmem h_S1x16384x128))
  let v4 : Vec F S1x512x3 .f32 ← Prog.lift (.load arg2 (Rect.unit (s := S1x512x3) ![0, 0, 0] S1x512x3.size inb_S1x512x3_S1x512x3_0_0_0).toLoadRect (View.loadsAt_vmem h_S1x512x3))

  let v27 : Vec F S16x32 .f32 ← Prog.lift (.load arg3 (Rect.unit (s := S16x32) ![0, 0] S16x32.size inb_S16x32_S16x32_0_0).toLoadRect (View.loadsAt_vmem h_S16x32))
  let v30 : Vec F S3x32 .f32 ← Prog.lift (.load arg4 (Rect.unit (s := S3x32) ![0, 0] S3x32.size inb_S3x32_S3x32_0_0).toLoadRect (View.loadsAt_vmem h_S3x32))

  pure (k2_pay2 v0 v4 v27 v30)

set_option maxRecDepth 65536 in
/-- The printed `k2_part1` is its skeleton: by definitional unfolding. -/
theorem k2_part1_eq_skeleton : k2_part1 (F := F) = k2_part1_skel (F := F) := rfl

/-! ## `cc4__stage_kernel` -/

/-- A value the kernel computes from those it has read. -/
noncomputable def k4_pay1 (v37 : FVec F S256x64 .f32) (v38 : Vec F S64x64 .f32) : FVec F S1x256x64 .f32 :=
  have cst_19 : FVec F S256x64 .f32 := constant S256x64 .f32 0x00000000#32
  have v39 : FVec F S256x64 .f32 := matmul dot_S256x64_S64x64_S256x64_1_0_0_1_n_n none v37 v38 cst_19
  have cst_20 : F .f32 := Scalar.ofBits .f32 0x00000000#32
  have v40 : FVec F S256x64 .f32 := broadcast S256x64 cst_20
  have v41 : FVec F S256x64 .f32 := maximumf v39 v40
  have v42 : FVec F S256x64 .f32 := addf v37 v41
  have cst_21 : F .f32 := Scalar.ofBits .f32 0x00000000#32
  have v43 : FVec F S256x64 .f32 := broadcast S256x64 cst_21
  have v44 : FVec F S256x64 .f32 := maximumf v42 v43
  have v47 : FVec F S1x256x64 .f32 := shapeCast S1x256x64 v44 shapeCasts_S256x64_S1x256x64
  v47

/-- A value the kernel computes from those it has read. -/
noncomputable def k4_pay2 (v0 : Vec F S1x8192x128 .f32) (v4 : Vec F S1x256x3 .f32) (v27 : Vec F S32x64 .f32) (v30 : Vec F S3x64 .f32) : FVec F S256x64 .f32 :=
  have v1 : FVec F S8192x128 .f32 := shapeCast S8192x128 v0 shapeCasts_S1x8192x128_S8192x128
  have v2 : FVec F S8192x3 .f32 := extractStridedSlice S8192x3 ![0, 32] v1 slices_S8192x128_o0_32_S8192x3
  have v3 : FVec F S256x32x3 .f32 := shapeCast S256x32x3 v2 shapeCasts_S8192x3_S256x32x3
  have v5 : FVec F S256x3 .f32 := shapeCast S256x3 v4 shapeCasts_S1x256x3_S256x3
  have v6 : FVec F S256x1x3 .f32 := shapeCast S256x1x3 v5 shapeCasts_S256x3_S256x1x3
  have v7 : FVec F S256x32x3 .f32 := broadcastTo S256x32x3 v6 broadcasts_S256x1x3_S256x32x3
  have v8 : FVec F S256x32x3 .f32 := subf v3 v7
  have v9 : FVec F S256 .f32 := multiReduction .add [1, 2] S256 v8 0x00000000#32 reduces_S256x32x3_S256 (.inl rfl) rfl
  have v10 : FVec F S256x1x1 .f32 := shapeCast S256x1x1 v9 shapeCasts_S256_S256x1x1
  have cst_5 : F .f32 := Scalar.ofBits .f32 0x42C00000#32
  have v11 : FVec F S256x1x1 .f32 := broadcast S256x1x1 cst_5
  have v12 : FVec F S256x1x1 .f32 := divf v10 v11
  have v13 : FVec F S256x32x3 .f32 := broadcastTo S256x32x3 v12 broadcasts_S256x1x1_S256x32x3
  have v14 : FVec F S256x32x3 .f32 := subf v8 v13
  have v15 : FVec F S256x32x3 .f32 := mulf v14 v14
  have v16 : FVec F S256 .f32 := multiReduction .add [1, 2] S256 v15 0x00000000#32 reduces_S256x32x3_S256 (.inl rfl) rfl
  have v17 : FVec F S256x1x1 .f32 := shapeCast S256x1x1 v16 shapeCasts_S256_S256x1x1
  have cst_7 : F .f32 := Scalar.ofBits .f32 0x42C00000#32
  have v18 : FVec F S256x1x1 .f32 := broadcast S256x1x1 cst_7
  have v19 : FVec F S256x1x1 .f32 := divf v17 v18
  have v20 : FVec F S256x1x1 .f32 := sqrt v19
  have cst_8 : F .f32 := Scalar.ofBits .f32 0x3727C5AC#32
  have v21 : FVec F S256x1x1 .f32 := broadcast S256x1x1 cst_8
  have v22 : FVec F S256x1x1 .f32 := addf v20 v21
  have v23 : FVec F S256x32x3 .f32 := broadcastTo S256x32x3 v22 broadcasts_S256x1x1_S256x32x3
  have v24 : FVec F S256x32x3 .f32 := divf v8 v23
  have v25 : FVec F S8192x3 .f32 := shapeCast S8192x3 v24 shapeCasts_S256x32x3_S8192x3
  have v26 : FVec F S8192x32 .f32 := extractStridedSlice S8192x32 ![0, 0] v1 slices_S8192x128_o0_0_S8192x32
  have v28 : FVec F S32x64 .f32 := shapeCast S32x64 v27 shapeCasts_S32x64_S32x64
  have cst_11 : FVec F S8192x64 .f32 := constant S8192x64 .f32 0x00000000#32
  have v29 : FVec F S8192x64 .f32 := matmul dot_S8192x32_S32x64_S8192x64_1_0_0_1_n_n none v26 v28 cst_11
  have v31 : FVec F S3x64 .f32 := shapeCast S3x64 v30 shapeCasts_S3x64_S3x64
  have cst_14 : FVec F S8192x64 .f32 := constant S8192x64 .f32 0x00000000#32
  have v32 : FVec F S8192x64 .f32 := matmul dot_S8192x3_S3x64_S8192x64_1_0_0_1_n_n none v25 v31 cst_14
  have v33 : FVec F S8192x64 .f32 := addf v29 v32
  have cst_15 : F .f32 := Scalar.ofBits .f32 0x00000000#32
  have v34 : FVec F S8192x64 .f32 := broadcast S8192x64 cst_15
  have v35 : FVec F S8192x64 .f32 := maximumf v33 v34
  have v36 : FVec F S256x32x64 .f32 := shapeCast S256x32x64 v35 shapeCasts_S8192x64_S256x32x64
  have v37 : FVec F S256x64 .f32 := multiReduction .maximumf [1] S256x64 v36 0xFF800000#32 reduces_S256x32x64_S256x64 (.inl rfl) rfl
  v37

/-- `cc4__stage_kernel` as a skeleton of memory operations over payloads. -/
noncomputable def cc4__stage_kernel_skel (i : grid4.Coords) (arg1 : Memref sig .tc .vmem S1x8192x128 .f32) (harg1 : arg1.IsWhole) (arg2 : Memref sig .tc .vmem S1x256x3 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S64x64 .f32) (harg5 : arg5.IsWhole) (arg6 : Memref sig .tc .vmem S1x256x64 .f32) (harg6 : arg6.IsWhole) :
    Prog (TpuEff nD τ sig (Elt F) Λ₀ .tc) PUnit := do
  let v37 : FVec F S256x64 .f32 ← k4_part1 i arg1 harg1 arg2 harg2 arg3 harg3 arg4 harg4 arg5 harg5 arg6 harg6
  let v38 : Vec F S64x64 .f32 ← Prog.lift (.load arg5 (Rect.unit (s := S64x64) ![0, 0] S64x64.size inb_S64x64_S64x64_0_0).toLoadRect (View.loadsAt_vmem h_S64x64))
  let v45 : Vec F S1x256x64 .f32 ← Prog.lift (.load arg6 (Rect.unit (s := S1x256x64) ![0, 0, 0] S1x256x64.size inb_S1x256x64_S1x256x64_0_0_0).toLoadRect (View.loadsAt_vmem h_S1x256x64))

  Prog.lift (.store arg6 (Rect.unit (s := S1x256x64) ![0, 0, 0] S1x256x64.size inb_S1x256x64_S1x256x64_0_0_0) (k4_pay1 v37 v38) Finset.univ (View.stores_vmem_bits_univ h_S1x256x64 rfl) (.inl rfl))
  pure ⟨⟩

set_option maxRecDepth 65536 in
/-- The printed `cc4__stage_kernel` is its skeleton: by definitional unfolding. -/
theorem cc4__stage_kernel_eq_skeleton : cc4__stage_kernel (F := F) = cc4__stage_kernel_skel (F := F) := rfl

/-- `k4_part1` as a skeleton of memory operations over payloads. -/
noncomputable def k4_part1_skel (i : grid4.Coords) (arg1 : Memref sig .tc .vmem S1x8192x128 .f32) (harg1 : arg1.IsWhole) (arg2 : Memref sig .tc .vmem S1x256x3 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S64x64 .f32) (harg5 : arg5.IsWhole) (arg6 : Memref sig .tc .vmem S1x256x64 .f32) (harg6 : arg6.IsWhole) :
    Prog (TpuEff nD τ sig (Elt F) Λ₀ .tc) (FVec F S256x64 .f32) := do

  let v0 : Vec F S1x8192x128 .f32 ← Prog.lift (.load arg1 (Rect.unit (s := S1x8192x128) ![0, 0, 0] S1x8192x128.size inb_S1x8192x128_S1x8192x128_0_0_0).toLoadRect (View.loadsAt_vmem h_S1x8192x128))
  let v4 : Vec F S1x256x3 .f32 ← Prog.lift (.load arg2 (Rect.unit (s := S1x256x3) ![0, 0, 0] S1x256x3.size inb_S1x256x3_S1x256x3_0_0_0).toLoadRect (View.loadsAt_vmem h_S1x256x3))

  let v27 : Vec F S32x64 .f32 ← Prog.lift (.load arg3 (Rect.unit (s := S32x64) ![0, 0] S32x64.size inb_S32x64_S32x64_0_0).toLoadRect (View.loadsAt_vmem h_S32x64))
  let v30 : Vec F S3x64 .f32 ← Prog.lift (.load arg4 (Rect.unit (s := S3x64) ![0, 0] S3x64.size inb_S3x64_S3x64_0_0).toLoadRect (View.loadsAt_vmem h_S3x64))

  pure (k4_pay2 v0 v4 v27 v30)

set_option maxRecDepth 65536 in
/-- The printed `k4_part1` is its skeleton: by definitional unfolding. -/
theorem k4_part1_eq_skeleton : k4_part1 (F := F) = k4_part1_skel (F := F) := rfl

/-! ## `cc6__stage_kernel` -/

/-- A value the kernel computes from those it has read. -/
noncomputable def k6_pay1 (v37 : FVec F S128x128 .f32) (v38 : Vec F S128x128 .f32) : FVec F S1x128x128 .f32 :=
  have cst_19 : FVec F S128x128 .f32 := constant S128x128 .f32 0x00000000#32
  have v39 : FVec F S128x128 .f32 := matmul dot_S128x128_S128x128_S128x128_1_0_0_1_n_n none v37 v38 cst_19
  have cst_20 : F .f32 := Scalar.ofBits .f32 0x00000000#32
  have v40 : FVec F S128x128 .f32 := broadcast S128x128 cst_20
  have v41 : FVec F S128x128 .f32 := maximumf v39 v40
  have v42 : FVec F S128x128 .f32 := addf v37 v41
  have cst_21 : F .f32 := Scalar.ofBits .f32 0x00000000#32
  have v43 : FVec F S128x128 .f32 := broadcast S128x128 cst_21
  have v44 : FVec F S128x128 .f32 := maximumf v42 v43
  have v47 : FVec F S1x128x128 .f32 := shapeCast S1x128x128 v44 shapeCasts_S128x128_S1x128x128
  v47

/-- A value the kernel computes from those it has read. -/
noncomputable def k6_pay2 (v0 : Vec F S1x4096x128 .f32) (v4 : Vec F S1x128x3 .f32) (v27 : Vec F S64x128 .f32) (v30 : Vec F S3x128 .f32) : FVec F S128x128 .f32 :=
  have v1 : FVec F S4096x128 .f32 := shapeCast S4096x128 v0 shapeCasts_S1x4096x128_S4096x128
  have v2 : FVec F S4096x3 .f32 := extractStridedSlice S4096x3 ![0, 64] v1 slices_S4096x128_o0_64_S4096x3
  have v3 : FVec F S128x32x3 .f32 := shapeCast S128x32x3 v2 shapeCasts_S4096x3_S128x32x3
  have v5 : FVec F S128x3 .f32 := shapeCast S128x3 v4 shapeCasts_S1x128x3_S128x3
  have v6 : FVec F S128x1x3 .f32 := shapeCast S128x1x3 v5 shapeCasts_S128x3_S128x1x3
  have v7 : FVec F S128x32x3 .f32 := broadcastTo S128x32x3 v6 broadcasts_S128x1x3_S128x32x3
  have v8 : FVec F S128x32x3 .f32 := subf v3 v7
  have v9 : FVec F S128 .f32 := multiReduction .add [1, 2] S128 v8 0x00000000#32 reduces_S128x32x3_S128 (.inl rfl) rfl
  have v10 : FVec F S128x1x1 .f32 := shapeCast S128x1x1 v9 shapeCasts_S128_S128x1x1
  have cst_5 : F .f32 := Scalar.ofBits .f32 0x42C00000#32
  have v11 : FVec F S128x1x1 .f32 := broadcast S128x1x1 cst_5
  have v12 : FVec F S128x1x1 .f32 := divf v10 v11
  have v13 : FVec F S128x32x3 .f32 := broadcastTo S128x32x3 v12 broadcasts_S128x1x1_S128x32x3
  have v14 : FVec F S128x32x3 .f32 := subf v8 v13
  have v15 : FVec F S128x32x3 .f32 := mulf v14 v14
  have v16 : FVec F S128 .f32 := multiReduction .add [1, 2] S128 v15 0x00000000#32 reduces_S128x32x3_S128 (.inl rfl) rfl
  have v17 : FVec F S128x1x1 .f32 := shapeCast S128x1x1 v16 shapeCasts_S128_S128x1x1
  have cst_7 : F .f32 := Scalar.ofBits .f32 0x42C00000#32
  have v18 : FVec F S128x1x1 .f32 := broadcast S128x1x1 cst_7
  have v19 : FVec F S128x1x1 .f32 := divf v17 v18
  have v20 : FVec F S128x1x1 .f32 := sqrt v19
  have cst_8 : F .f32 := Scalar.ofBits .f32 0x3727C5AC#32
  have v21 : FVec F S128x1x1 .f32 := broadcast S128x1x1 cst_8
  have v22 : FVec F S128x1x1 .f32 := addf v20 v21
  have v23 : FVec F S128x32x3 .f32 := broadcastTo S128x32x3 v22 broadcasts_S128x1x1_S128x32x3
  have v24 : FVec F S128x32x3 .f32 := divf v8 v23
  have v25 : FVec F S4096x3 .f32 := shapeCast S4096x3 v24 shapeCasts_S128x32x3_S4096x3
  have v26 : FVec F S4096x64 .f32 := extractStridedSlice S4096x64 ![0, 0] v1 slices_S4096x128_o0_0_S4096x64
  have v28 : FVec F S64x128 .f32 := shapeCast S64x128 v27 shapeCasts_S64x128_S64x128
  have cst_11 : FVec F S4096x128 .f32 := constant S4096x128 .f32 0x00000000#32
  have v29 : FVec F S4096x128 .f32 := matmul dot_S4096x64_S64x128_S4096x128_1_0_0_1_n_n none v26 v28 cst_11
  have v31 : FVec F S3x128 .f32 := shapeCast S3x128 v30 shapeCasts_S3x128_S3x128
  have cst_14 : FVec F S4096x128 .f32 := constant S4096x128 .f32 0x00000000#32
  have v32 : FVec F S4096x128 .f32 := matmul dot_S4096x3_S3x128_S4096x128_1_0_0_1_n_n none v25 v31 cst_14
  have v33 : FVec F S4096x128 .f32 := addf v29 v32
  have cst_15 : F .f32 := Scalar.ofBits .f32 0x00000000#32
  have v34 : FVec F S4096x128 .f32 := broadcast S4096x128 cst_15
  have v35 : FVec F S4096x128 .f32 := maximumf v33 v34
  have v36 : FVec F S128x32x128 .f32 := shapeCast S128x32x128 v35 shapeCasts_S4096x128_S128x32x128
  have v37 : FVec F S128x128 .f32 := multiReduction .maximumf [1] S128x128 v36 0xFF800000#32 reduces_S128x32x128_S128x128 (.inl rfl) rfl
  v37

/-- `cc6__stage_kernel` as a skeleton of memory operations over payloads. -/
noncomputable def cc6__stage_kernel_skel (i : grid6.Coords) (arg1 : Memref sig .tc .vmem S1x4096x128 .f32) (harg1 : arg1.IsWhole) (arg2 : Memref sig .tc .vmem S1x128x3 .f32) (harg2 : arg2.IsWhole) (arg3 : Memref sig .tc .vmem S64x128 .f32) (harg3 : arg3.IsWhole) (arg4 : Memref sig .tc .vmem S3x128 .f32) (harg4 : arg4.IsWhole) (arg5 : Memref sig .tc .vmem S128x128 .f32) (harg5 : arg5.IsWhole) (arg6 : Memref sig .tc .vmem S1x128x128 .f32) (harg6 : arg6.IsWhole) :
    Prog (TpuEff nD τ sig (Elt F) Λ₀ .tc) PUnit := do
  let v37 : FVec F S128x128 .f32 ← k6_part1 i arg1 harg1 arg2 harg2 arg3 harg3 arg4 harg4 arg5 harg5 arg6 harg6
  let v38 : Vec F S128x128 .f32 ← Prog.lift (.load arg5 (Rect.unit (s := S128x128) ![0, 0] S128x128.size inb_S128x128_S128x128_0_0).toLoadRect (View.loadsAt_vmem h_S128x128))
  let v45 : Vec F S1x128x128 .f32 ← Prog.lift (.load arg6 (Rect.unit (s := S1x128x128) ![0, 0, 0] S1x128x128.size inb_S1x128x128_S1x128x128_0_0_0).toLoadRect (View.loadsAt_vmem h_S1x128x128))

  Prog.lift (.store arg6 (Rect.unit (s := S1x128x128) ![0, 0, 0] S1x128x128.size inb_S1x128x128_S1x128x128_0_0_0) (k6_pay1 v37 v38) Finset.univ (View.stores_vmem_bits_univ h_S1x128x128 rfl) (.inl rfl))
  pure ⟨⟩

set_option maxRecDepth 65536 in
/-- The printed `cc6__stage_kernel` is its skeleton: by definitional unfolding. -/
theorem cc6__stage_kernel_eq_skeleton : cc6__stage_kernel (F := F) = cc6__stage_kernel_skel (F := F) := rfl

/-- `k6_part1` as a skeleton of memory operations over payloads. -/
noncomputable def k6_part1_skel (i : grid6.Coords) (arg1 : Memref sig .tc .vmem S1x4096x128 .f32) (harg1 : arg1.IsWhole) (arg2 : Memref sig .tc .vmem S1x128x3 .f32) (harg2 : arg2.IsWhole) (arg3 : Memref sig .tc .vmem S64x128 .f32) (harg3 : arg3.IsWhole) (arg4 : Memref sig .tc .vmem S3x128 .f32) (harg4 : arg4.IsWhole) (arg5 : Memref sig .tc .vmem S128x128 .f32) (harg5 : arg5.IsWhole) (arg6 : Memref sig .tc .vmem S1x128x128 .f32) (harg6 : arg6.IsWhole) :
    Prog (TpuEff nD τ sig (Elt F) Λ₀ .tc) (FVec F S128x128 .f32) := do

  let v0 : Vec F S1x4096x128 .f32 ← Prog.lift (.load arg1 (Rect.unit (s := S1x4096x128) ![0, 0, 0] S1x4096x128.size inb_S1x4096x128_S1x4096x128_0_0_0).toLoadRect (View.loadsAt_vmem h_S1x4096x128))
  let v4 : Vec F S1x128x3 .f32 ← Prog.lift (.load arg2 (Rect.unit (s := S1x128x3) ![0, 0, 0] S1x128x3.size inb_S1x128x3_S1x128x3_0_0_0).toLoadRect (View.loadsAt_vmem h_S1x128x3))

  let v27 : Vec F S64x128 .f32 ← Prog.lift (.load arg3 (Rect.unit (s := S64x128) ![0, 0] S64x128.size inb_S64x128_S64x128_0_0).toLoadRect (View.loadsAt_vmem h_S64x128))
  let v30 : Vec F S3x128 .f32 ← Prog.lift (.load arg4 (Rect.unit (s := S3x128) ![0, 0] S3x128.size inb_S3x128_S3x128_0_0).toLoadRect (View.loadsAt_vmem h_S3x128))

  pure (k6_pay2 v0 v4 v27 v30)

set_option maxRecDepth 65536 in
/-- The printed `k6_part1` is its skeleton: by definitional unfolding. -/
theorem k6_part1_eq_skeleton : k6_part1 (F := F) = k6_part1_skel (F := F) := rfl

/-! ## `cc8__stage_kernel` -/

/-- A value the kernel computes from those it has read. -/
noncomputable def k8_pay1 (v37 : FVec F S64x128 .f32) (v38 : Vec F S128x128 .f32) : FVec F S1x64x128 .f32 :=
  have cst_19 : FVec F S64x128 .f32 := constant S64x128 .f32 0x00000000#32
  have v39 : FVec F S64x128 .f32 := matmul dot_S64x128_S128x128_S64x128_1_0_0_1_n_n none v37 v38 cst_19
  have cst_20 : F .f32 := Scalar.ofBits .f32 0x00000000#32
  have v40 : FVec F S64x128 .f32 := broadcast S64x128 cst_20
  have v41 : FVec F S64x128 .f32 := maximumf v39 v40
  have v42 : FVec F S64x128 .f32 := addf v37 v41
  have cst_21 : F .f32 := Scalar.ofBits .f32 0x00000000#32
  have v43 : FVec F S64x128 .f32 := broadcast S64x128 cst_21
  have v44 : FVec F S64x128 .f32 := maximumf v42 v43
  have v47 : FVec F S1x64x128 .f32 := shapeCast S1x64x128 v44 shapeCasts_S64x128_S1x64x128
  v47

/-- A value the kernel computes from those it has read. -/
noncomputable def k8_pay2 (v0 : Vec F S1x2048x256 .f32) (v4 : Vec F S1x64x3 .f32) (v27 : Vec F S128x128 .f32) (v30 : Vec F S3x128 .f32) : FVec F S64x128 .f32 :=
  have v1 : FVec F S2048x256 .f32 := shapeCast S2048x256 v0 shapeCasts_S1x2048x256_S2048x256
  have v2 : FVec F S2048x3 .f32 := extractStridedSlice S2048x3 ![0, 128] v1 slices_S2048x256_o0_128_S2048x3
  have v3 : FVec F S64x32x3 .f32 := shapeCast S64x32x3 v2 shapeCasts_S2048x3_S64x32x3
  have v5 : FVec F S64x3 .f32 := shapeCast S64x3 v4 shapeCasts_S1x64x3_S64x3
  have v6 : FVec F S64x1x3 .f32 := shapeCast S64x1x3 v5 shapeCasts_S64x3_S64x1x3
  have v7 : FVec F S64x32x3 .f32 := broadcastTo S64x32x3 v6 broadcasts_S64x1x3_S64x32x3
  have v8 : FVec F S64x32x3 .f32 := subf v3 v7
  have v9 : FVec F S64 .f32 := multiReduction .add [1, 2] S64 v8 0x00000000#32 reduces_S64x32x3_S64 (.inl rfl) rfl
  have v10 : FVec F S64x1x1 .f32 := shapeCast S64x1x1 v9 shapeCasts_S64_S64x1x1
  have cst_5 : F .f32 := Scalar.ofBits .f32 0x42C00000#32
  have v11 : FVec F S64x1x1 .f32 := broadcast S64x1x1 cst_5
  have v12 : FVec F S64x1x1 .f32 := divf v10 v11
  have v13 : FVec F S64x32x3 .f32 := broadcastTo S64x32x3 v12 broadcasts_S64x1x1_S64x32x3
  have v14 : FVec F S64x32x3 .f32 := subf v8 v13
  have v15 : FVec F S64x32x3 .f32 := mulf v14 v14
  have v16 : FVec F S64 .f32 := multiReduction .add [1, 2] S64 v15 0x00000000#32 reduces_S64x32x3_S64 (.inl rfl) rfl
  have v17 : FVec F S64x1x1 .f32 := shapeCast S64x1x1 v16 shapeCasts_S64_S64x1x1
  have cst_7 : F .f32 := Scalar.ofBits .f32 0x42C00000#32
  have v18 : FVec F S64x1x1 .f32 := broadcast S64x1x1 cst_7
  have v19 : FVec F S64x1x1 .f32 := divf v17 v18
  have v20 : FVec F S64x1x1 .f32 := sqrt v19
  have cst_8 : F .f32 := Scalar.ofBits .f32 0x3727C5AC#32
  have v21 : FVec F S64x1x1 .f32 := broadcast S64x1x1 cst_8
  have v22 : FVec F S64x1x1 .f32 := addf v20 v21
  have v23 : FVec F S64x32x3 .f32 := broadcastTo S64x32x3 v22 broadcasts_S64x1x1_S64x32x3
  have v24 : FVec F S64x32x3 .f32 := divf v8 v23
  have v25 : FVec F S2048x3 .f32 := shapeCast S2048x3 v24 shapeCasts_S64x32x3_S2048x3
  have v26 : FVec F S2048x128 .f32 := extractStridedSlice S2048x128 ![0, 0] v1 slices_S2048x256_o0_0_S2048x128
  have v28 : FVec F S128x128 .f32 := shapeCast S128x128 v27 shapeCasts_S128x128_S128x128
  have cst_11 : FVec F S2048x128 .f32 := constant S2048x128 .f32 0x00000000#32
  have v29 : FVec F S2048x128 .f32 := matmul dot_S2048x128_S128x128_S2048x128_1_0_0_1_n_n none v26 v28 cst_11
  have v31 : FVec F S3x128 .f32 := shapeCast S3x128 v30 shapeCasts_S3x128_S3x128
  have cst_14 : FVec F S2048x128 .f32 := constant S2048x128 .f32 0x00000000#32
  have v32 : FVec F S2048x128 .f32 := matmul dot_S2048x3_S3x128_S2048x128_1_0_0_1_n_n none v25 v31 cst_14
  have v33 : FVec F S2048x128 .f32 := addf v29 v32
  have cst_15 : F .f32 := Scalar.ofBits .f32 0x00000000#32
  have v34 : FVec F S2048x128 .f32 := broadcast S2048x128 cst_15
  have v35 : FVec F S2048x128 .f32 := maximumf v33 v34
  have v36 : FVec F S64x32x128 .f32 := shapeCast S64x32x128 v35 shapeCasts_S2048x128_S64x32x128
  have v37 : FVec F S64x128 .f32 := multiReduction .maximumf [1] S64x128 v36 0xFF800000#32 reduces_S64x32x128_S64x128 (.inl rfl) rfl
  v37

/-- `cc8__stage_kernel` as a skeleton of memory operations over payloads. -/
noncomputable def cc8__stage_kernel_skel (i : grid8.Coords) (arg1 : Memref sig .tc .vmem S1x2048x256 .f32) (harg1 : arg1.IsWhole) (arg2 : Memref sig .tc .vmem S1x64x3 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S128x128 .f32) (harg5 : arg5.IsWhole) (arg6 : Memref sig .tc .vmem S1x64x128 .f32) (harg6 : arg6.IsWhole) :
    Prog (TpuEff nD τ sig (Elt F) Λ₀ .tc) PUnit := do
  let v37 : FVec F S64x128 .f32 ← k8_part1 i arg1 harg1 arg2 harg2 arg3 harg3 arg4 harg4 arg5 harg5 arg6 harg6
  let v38 : Vec F S128x128 .f32 ← Prog.lift (.load arg5 (Rect.unit (s := S128x128) ![0, 0] S128x128.size inb_S128x128_S128x128_0_0).toLoadRect (View.loadsAt_vmem h_S128x128))
  let v45 : Vec F S1x64x128 .f32 ← Prog.lift (.load arg6 (Rect.unit (s := S1x64x128) ![0, 0, 0] S1x64x128.size inb_S1x64x128_S1x64x128_0_0_0).toLoadRect (View.loadsAt_vmem h_S1x64x128))

  Prog.lift (.store arg6 (Rect.unit (s := S1x64x128) ![0, 0, 0] S1x64x128.size inb_S1x64x128_S1x64x128_0_0_0) (k8_pay1 v37 v38) Finset.univ (View.stores_vmem_bits_univ h_S1x64x128 rfl) (.inl rfl))
  pure ⟨⟩

set_option maxRecDepth 65536 in
/-- The printed `cc8__stage_kernel` is its skeleton: by definitional unfolding. -/
theorem cc8__stage_kernel_eq_skeleton : cc8__stage_kernel (F := F) = cc8__stage_kernel_skel (F := F) := rfl

/-- `k8_part1` as a skeleton of memory operations over payloads. -/
noncomputable def k8_part1_skel (i : grid8.Coords) (arg1 : Memref sig .tc .vmem S1x2048x256 .f32) (harg1 : arg1.IsWhole) (arg2 : Memref sig .tc .vmem S1x64x3 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S128x128 .f32) (harg5 : arg5.IsWhole) (arg6 : Memref sig .tc .vmem S1x64x128 .f32) (harg6 : arg6.IsWhole) :
    Prog (TpuEff nD τ sig (Elt F) Λ₀ .tc) (FVec F S64x128 .f32) := do

  let v0 : Vec F S1x2048x256 .f32 ← Prog.lift (.load arg1 (Rect.unit (s := S1x2048x256) ![0, 0, 0] S1x2048x256.size inb_S1x2048x256_S1x2048x256_0_0_0).toLoadRect (View.loadsAt_vmem h_S1x2048x256))
  let v4 : Vec F S1x64x3 .f32 ← Prog.lift (.load arg2 (Rect.unit (s := S1x64x3) ![0, 0, 0] S1x64x3.size inb_S1x64x3_S1x64x3_0_0_0).toLoadRect (View.loadsAt_vmem h_S1x64x3))

  let v27 : Vec F S128x128 .f32 ← Prog.lift (.load arg3 (Rect.unit (s := S128x128) ![0, 0] S128x128.size inb_S128x128_S128x128_0_0).toLoadRect (View.loadsAt_vmem h_S128x128))
  let v30 : Vec F S3x128 .f32 ← Prog.lift (.load arg4 (Rect.unit (s := S3x128) ![0, 0] S3x128.size inb_S3x128_S3x128_0_0).toLoadRect (View.loadsAt_vmem h_S3x128))

  pure (k8_pay2 v0 v4 v27 v30)

set_option maxRecDepth 65536 in
/-- The printed `k8_part1` is its skeleton: by definitional unfolding. -/
theorem k8_part1_eq_skeleton : k8_part1 (F := F) = k8_part1_skel (F := F) := rfl

/-! ## `cc9__head_kernel` -/

/-- A value the kernel computes from those it has read. -/
noncomputable def k9_pay1 (v0 : Vec F S64x64x128 .f32) (v3 : Vec F S128x512 .f32) (v7 : Vec F S512x256 .f32) (v11 : Vec F S256x40 .f32) : FVec F S64x40 .f32 :=
  have v1 : FVec F S64x64x128 .f32 := shapeCast S64x64x128 v0 shapeCasts_S64x64x128_S64x64x128
  have v2 : FVec F S64x128 .f32 := multiReduction .maximumf [1] S64x128 v1 0xFF800000#32 reduces_S64x64x128_S64x128 (.inl rfl) rfl
  have cst_4 : FVec F S64x512 .f32 := constant S64x512 .f32 0x00000000#32
  have v4 : FVec F S64x512 .f32 := matmul dot_S64x128_S128x512_S64x512_1_0_0_1_n_n none v2 v3 cst_4
  have cst_5 : F .f32 := Scalar.ofBits .f32 0x00000000#32
  have v5 : FVec F S64x512 .f32 := broadcast S64x512 cst_5
  have v6 : FVec F S64x512 .f32 := maximumf v4 v5
  have cst_8 : FVec F S64x256 .f32 := constant S64x256 .f32 0x00000000#32
  have v8 : FVec F S64x256 .f32 := matmul dot_S64x512_S512x256_S64x256_1_0_0_1_n_n none v6 v7 cst_8
  have cst_9 : F .f32 := Scalar.ofBits .f32 0x00000000#32
  have v9 : FVec F S64x256 .f32 := broadcast S64x256 cst_9
  have v10 : FVec F S64x256 .f32 := maximumf v8 v9
  have cst_12 : FVec F S64x40 .f32 := constant S64x40 .f32 0x00000000#32
  have v12 : FVec F S64x40 .f32 := matmul dot_S64x256_S256x40_S64x40_1_0_0_1_n_n none v10 v11 cst_12
  v12

/-- `cc9__head_kernel` as a skeleton of memory operations over payloads. -/
noncomputable def cc9__head_kernel_skel (arg0 : Memref sig .tc .vmem S64x64x128 .f32) (harg0 : arg0.IsWhole) (arg1 : Memref sig .tc .vmem S128x512 .f32) (harg1 : arg1.IsWhole) (arg2 : Memref sig .tc .vmem S512x256 .f32) (harg2 : arg2.IsWhole) (arg3 : Memref sig .tc .vmem S256x40 .f32) (harg3 : arg3.IsWhole) (arg4 : Memref sig .tc .vmem S64x40 .f32) (harg4 : arg4.IsWhole) :
    Prog (TpuEff nD τ sig (Elt F) Λ₀ .tc) PUnit := do
  let v0 : Vec F S64x64x128 .f32 ← Prog.lift (.load arg0 (Rect.unit (s := S64x64x128) ![0, 0, 0] S64x64x128.size inb_S64x64x128_S64x64x128_0_0_0).toLoadRect (View.loadsAt_vmem h_S64x64x128))

  let v3 : Vec F S128x512 .f32 ← Prog.lift (.load arg1 (Rect.unit (s := S128x512) ![0, 0] S128x512.size inb_S128x512_S128x512_0_0).toLoadRect (View.loadsAt_vmem h_S128x512))
  let v7 : Vec F S512x256 .f32 ← Prog.lift (.load arg2 (Rect.unit (s := S512x256) ![0, 0] S512x256.size inb_S512x256_S512x256_0_0).toLoadRect (View.loadsAt_vmem h_S512x256))
  let v11 : Vec F S256x40 .f32 ← Prog.lift (.load arg3 (Rect.unit (s := S256x40) ![0, 0] S256x40.size inb_S256x40_S256x40_0_0).toLoadRect (View.loadsAt_vmem h_S256x40))
  let v13 : Vec F S64x40 .f32 ← Prog.lift (.load arg4 (Rect.unit (s := S64x40) ![0, 0] S64x40.size inb_S64x40_S64x40_0_0).toLoadRect (View.loadsAt_vmem h_S64x40))
  Prog.lift (.store arg4 (Rect.unit (s := S64x40) ![0, 0] S64x40.size inb_S64x40_S64x40_0_0) (k9_pay1 v0 v3 v7 v11) Finset.univ (View.stores_vmem_bits_univ h_S64x40 rfl) (.inl rfl))
  pure ⟨⟩

set_option maxRecDepth 65536 in
/-- The printed `cc9__head_kernel` is its skeleton: by definitional unfolding. -/
theorem cc9__head_kernel_eq_skeleton : cc9__head_kernel (F := F) = cc9__head_kernel_skel (F := F) := rfl

end Cert.Proof.Skel

end
-- ==== Proof.Reg0.lean ====
/-
  The kernel of custom call 0: its body at a grid point, and the data of its pipeline.
-/
module

public import proofs.«01_k».proof.Proof.Blocks
public import proofs.«01_k».proof.Proof.Skel
public import proofs.«01_k».proof.Proof.Gen.KernelIdeal.Points
public import Idealize.ShloMosaic.Lib.Tactic

@[expose] public section

set_option maxRecDepth 16384

noncomputable section

namespace Cert.Proof.Reg0

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Bodies Cert.Proof.Skel Cert.Proof.Blocks

variable {F : FTy → Type} [FloatOps F]

local notation "𝕄" => MT nD τ sig (HIx 4) (Elt F) ℕ UU ℕ

abbrev r0_0 : Rect S1x1024x3 := Rect.unit (s := S1x1024x3) ![0, 0, 0] S1x1024x3.size inb_S1x1024x3_S1x1024x3_0_0_0
abbrev r0_1 : Rect S3x16 := Rect.unit (s := S3x16) ![0, 0] S3x16.size inb_S3x16_S3x16_0_0
abbrev r0_2 : Rect S1x1024x16 := Rect.unit (s := S1x1024x16) ![0, 0, 0] S1x1024x16.size inb_S1x1024x16_S1x1024x16_0_0_0

/-- What the body leaves of its result's block, from the blocks of its arguments. -/
def out (x0 : Vec F S1x1024x3 .f32) (x1 : Vec F S3x16 .f32) : Vec F S1x1024x16 .f32 :=
  View.canon [⟨r0_2, k0_pay1 (View.ld x0 r0_0) (View.ld x1 r0_1)⟩]

theorem cover (p0 : Vec F S1x1024x16 .f32) (y : S1x1024x16.Idx) :
    ∃ pc ∈ ([⟨r0_2, p0⟩] : List (View.Piece (Elt F) S1x1024x16 .f32)), y ∈ pc.1.set :=
  View.cover_of_tiled [⟨r0_2, p0⟩] S1x1024x16.size (by rfl) y

set_option maxHeartbeats 1000000 in
/-- The body reads its arguments' blocks whole and writes its result's. -/
theorem sound_kernel (c : Dev nD) (i : grid0.Coords) (arg1 : Memref sig .tc .vmem S1x1024x3 .f32) (harg1 : arg1.IsWhole) (arg2 : Memref sig .tc .vmem S3x16 .f32) (harg2 : arg2.IsWhole) (arg3 : Memref sig .tc .vmem S1x1024x16 .f32) (harg3 : arg3.IsWhole)
    (x0 : Vec F S1x1024x3 .f32) (x1 : Vec F S3x16 .f32) :
    (iprop(owns (c : Thread nD τ) arg1 fullShare x0 ∗ owns (c : Thread nD τ) arg2 fullShare x1 ∗ ∃ d, owns (c : Thread nD τ) arg3 fullShare d) : sProp 𝕄)
      ⊢ wp frame (wpE (defs₀ (F := F)) Variants.none c none) Set.univ (cc0__embed_kernel i arg1 harg1 arg2 harg2 arg3 harg3)
        fun _ => iprop(owns (c : Thread nD τ) arg1 fullShare x0 ∗ owns (c : Thread nD τ) arg2 fullShare x1 ∗ owns (c : Thread nD τ) arg3 fullShare (out x0 x1)) := by
  simp only [cc0__embed_kernel_eq_skeleton]; unfold cc0__embed_kernel_skel
  unfold owns
  iintro ⟨⟨%f0, %hf0, H0⟩, ⟨%f1, %hf1, H1⟩, ⟨%dO, %fO, -, HO⟩⟩
  subst hf0 hf1
  sl_exec
  sl_step
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover _)

/-! ## The pipeline's data -/

variable (V : Valuation τ sig (Elt F)) (c : Dev nD) (n : ℕ)

/-- After the body at a point: the arguments' blocks as they were, and the result's computed. -/
def aft (w : Fin cfg0.W) (t : Fin cfg0.N) : (cfg0.win w).block.Idx → Elt F (cfg0.win w).elt :=
  match w with
  | ⟨0, _⟩ => blk cfg0 V 0 t
  | ⟨1, _⟩ => blk cfg0 V 1 t
  | ⟨2, _⟩ => out (blk cfg0 V 0 t) (blk cfg0 V 1 t)

/-- The body does at every point what the pipeline's data say. -/
theorem body_obligation : BodyObligation (dat cfg0 V c n (aft V)) (defs₀ (F := F)) Variants.none none Set.univ :=
  obligation 2 (fun _ _ => rfl)
    (fun w hw => match w, hw with
      | ⟨0, _⟩, _ => before_in 0 rfl (fun _ => rfl) (fun _ _ _ => rfl) (fun _ => rfl) (fun _ _ => rfl)
      | ⟨1, _⟩, _ => before_in 1 rfl (fun _ => rfl) (fun _ _ _ => rfl) (fun _ => rfl) (fun _ _ => rfl)
      | ⟨2, _⟩, h => absurd rfl h)
    fun t => by
      rw [bigSep_W0, bigSep_W0]
      exact triple_restated (sound_kernel c (grid0.coords t) _ (hstage0_0 ((cfg0.slots t 0).cast nbuf0_0)) _ (hstage0_1 ((cfg0.slots t 1).cast nbuf0_1)) _ (hstage0_2 ((cfg0.slots t 2).cast nbuf0_2)) (blk cfg0 V 0 t) (blk cfg0 V 1 t)) rfl (BI.Entails.refl _) fun _ => BI.Entails.refl _

end Cert.Proof.Reg0

end
-- ==== Proof.Reg2.lean ====
/-
  The kernel of custom call 2: its body at a grid point, and the data of its pipeline.
-/
module

public import proofs.«01_k».proof.Proof.Blocks
public import proofs.«01_k».proof.Proof.Skel
public import proofs.«01_k».proof.Proof.Gen.KernelIdeal.Points
public import Idealize.ShloMosaic.Lib.Tactic

@[expose] public section

set_option maxRecDepth 16384

noncomputable section

namespace Cert.Proof.Reg2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Bodies Cert.Proof.Skel Cert.Proof.Blocks

variable {F : FTy → Type} [FloatOps F]

local notation "𝕄" => MT nD τ sig (HIx 4) (Elt F) ℕ UU ℕ

abbrev r2_0 : Rect S1x16384x128 := Rect.unit (s := S1x16384x128) ![0, 0, 0] S1x16384x128.size inb_S1x16384x128_S1x16384x128_0_0_0
abbrev r2_1 : Rect S1x512x3 := Rect.unit (s := S1x512x3) ![0, 0, 0] S1x512x3.size inb_S1x512x3_S1x512x3_0_0_0
abbrev r2_2 : Rect S16x32 := Rect.unit (s := S16x32) ![0, 0] S16x32.size inb_S16x32_S16x32_0_0
abbrev r2_3 : Rect S3x32 := Rect.unit (s := S3x32) ![0, 0] S3x32.size inb_S3x32_S3x32_0_0
abbrev r2_4 : Rect S32x32 := Rect.unit (s := S32x32) ![0, 0] S32x32.size inb_S32x32_S32x32_0_0
abbrev r2_5 : Rect S1x512x32 := Rect.unit (s := S1x512x32) ![0, 0, 0] S1x512x32.size inb_S1x512x32_S1x512x32_0_0_0

/-- What the body leaves of its result's block, from the blocks of its arguments. -/
def out (x0 : Vec F S1x16384x128 .f32) (x1 : Vec F S1x512x3 .f32) (x2 : Vec F S16x32 .f32) (x3 : Vec F S3x32 .f32) (x4 : Vec F S32x32 .f32) : Vec F S1x512x32 .f32 :=
  View.canon [⟨r2_5, k2_pay1 (k2_pay2 (View.ld x0 r2_0) (View.ld x1 r2_1) (View.ld x2 r2_2) (View.ld x3 r2_3)) (View.ld x4 r2_4)⟩]

theorem cover (p0 : Vec F S1x512x32 .f32) (y : S1x512x32.Idx) :
    ∃ pc ∈ ([⟨r2_5, p0⟩] : List (View.Piece (Elt F) S1x512x32 .f32)), y ∈ pc.1.set :=
  View.cover_of_tiled [⟨r2_5, p0⟩] S1x512x32.size (by rfl) y

set_option maxHeartbeats 1000000 in
/-- The body reads its arguments' blocks whole and writes its result's. -/
theorem sound_kernel (c : Dev nD) (i : grid2.Coords) (arg1 : Memref sig .tc .vmem S1x16384x128 .f32) (harg1 : arg1.IsWhole) (arg2 : Memref sig .tc .vmem S1x512x3 .f32) (harg2 : arg2.IsWhole) (arg3 : Memref sig .tc .vmem S16x32 .f32) (harg3 : arg3.IsWhole) (arg4 : Memref sig .tc .vmem S3x32 .f32) (harg4 : arg4.IsWhole) (arg5 : Memref sig .tc .vmem S32x32 .f32) (harg5 : arg5.IsWhole) (arg6 : Memref sig .tc .vmem S1x512x32 .f32) (harg6 : arg6.IsWhole)
    (x0 : Vec F S1x16384x128 .f32) (x1 : Vec F S1x512x3 .f32) (x2 : Vec F S16x32 .f32) (x3 : Vec F S3x32 .f32) (x4 : Vec F S32x32 .f32) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ ∃ d, owns (c : Thread nD τ) arg6 fullShare d) : sProp 𝕄)
      ⊢ wp frame (wpE (defs₀ (F := F)) Variants.none c none) Set.univ (cc2__stage_kernel i arg1 harg1 arg2 harg2 arg3 harg3 arg4 harg4 arg5 harg5 arg6 harg6)
        fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) := by
  simp only [cc2__stage_kernel_eq_skeleton]; unfold cc2__stage_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩⟩
  subst hf0 hf1 hf2 hf3 hf4
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

/-! ## The pipeline's data -/

variable (V : Valuation τ sig (Elt F)) (c : Dev nD) (n : ℕ)

/-- After the body at a point: the arguments' blocks as they were, and the result's computed. -/
def aft (w : Fin cfg2.W) (t : Fin cfg2.N) : (cfg2.win w).block.Idx → Elt F (cfg2.win w).elt :=
  match w with
  | ⟨0, _⟩ => blk cfg2 V 0 t
  | ⟨1, _⟩ => blk cfg2 V 1 t
  | ⟨2, _⟩ => blk cfg2 V 2 t
  | ⟨3, _⟩ => blk cfg2 V 3 t
  | ⟨4, _⟩ => blk cfg2 V 4 t
  | ⟨5, _⟩ => out (blk cfg2 V 0 t) (blk cfg2 V 1 t) (blk cfg2 V 2 t) (blk cfg2 V 3 t) (blk cfg2 V 4 t)

/-- The body does at every point what the pipeline's data say. -/
theorem body_obligation : BodyObligation (dat cfg2 V c n (aft V)) (defs₀ (F := F)) Variants.none none Set.univ :=
  obligation 5 (fun _ _ => rfl)
    (fun w hw => match w, hw with
      | ⟨0, _⟩, _ => before_in 0 rfl (fun _ => rfl) (fun _ _ _ => rfl) (fun _ => rfl) (fun _ _ => rfl)
      | ⟨1, _⟩, _ => before_in 1 rfl (fun _ => rfl) (fun _ _ _ => rfl) (fun _ => rfl) (fun _ _ => rfl)
      | ⟨2, _⟩, _ => before_in 2 rfl (fun _ => rfl) (fun _ _ _ => rfl) (fun _ => rfl) (fun _ _ => rfl)
      | ⟨3, _⟩, _ => before_in 3 rfl (fun _ => rfl) (fun _ _ _ => rfl) (fun _ => rfl) (fun _ _ => rfl)
      | ⟨4, _⟩, _ => before_in 4 rfl (fun _ => rfl) (fun _ _ _ => rfl) (fun _ => rfl) (fun _ _ => rfl)
      | ⟨5, _⟩, h => absurd rfl h)
    fun t => by
      rw [bigSep_W2, bigSep_W2]
      exact triple_restated (sound_kernel c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) (blk cfg2 V 0 t) (blk cfg2 V 1 t) (blk cfg2 V 2 t) (blk cfg2 V 3 t) (blk cfg2 V 4 t)) rfl (BI.Entails.refl _) fun _ => BI.Entails.refl _

end Cert.Proof.Reg2

end
-- ==== Proof.Reg4.lean ====
/-
  The kernel of custom call 4: its body at a grid point, and the data of its pipeline.
-/
module

public import proofs.«01_k».proof.Proof.Blocks
public import proofs.«01_k».proof.Proof.Skel
public import proofs.«01_k».proof.Proof.Gen.KernelIdeal.Points
public import Idealize.ShloMosaic.Lib.Tactic

@[expose] public section

set_option maxRecDepth 16384

noncomputable section

namespace Cert.Proof.Reg4

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Bodies Cert.Proof.Skel Cert.Proof.Blocks

variable {F : FTy → Type} [FloatOps F]

local notation "𝕄" => MT nD τ sig (HIx 4) (Elt F) ℕ UU ℕ

abbrev r4_0 : Rect S1x8192x128 := Rect.unit (s := S1x8192x128) ![0, 0, 0] S1x8192x128.size inb_S1x8192x128_S1x8192x128_0_0_0
abbrev r4_1 : Rect S1x256x3 := Rect.unit (s := S1x256x3) ![0, 0, 0] S1x256x3.size inb_S1x256x3_S1x256x3_0_0_0
abbrev r4_2 : Rect S32x64 := Rect.unit (s := S32x64) ![0, 0] S32x64.size inb_S32x64_S32x64_0_0
abbrev r4_3 : Rect S3x64 := Rect.unit (s := S3x64) ![0, 0] S3x64.size inb_S3x64_S3x64_0_0
abbrev r4_4 : Rect S64x64 := Rect.unit (s := S64x64) ![0, 0] S64x64.size inb_S64x64_S64x64_0_0
abbrev r4_5 : Rect S1x256x64 := Rect.unit (s := S1x256x64) ![0, 0, 0] S1x256x64.size inb_S1x256x64_S1x256x64_0_0_0

/-- What the body leaves of its result's block, from the blocks of its arguments. -/
def out (x0 : Vec F S1x8192x128 .f32) (x1 : Vec F S1x256x3 .f32) (x2 : Vec F S32x64 .f32) (x3 : Vec F S3x64 .f32) (x4 : Vec F S64x64 .f32) : Vec F S1x256x64 .f32 :=
  View.canon [⟨r4_5, k4_pay1 (k4_pay2 (View.ld x0 r4_0) (View.ld x1 r4_1) (View.ld x2 r4_2) (View.ld x3 r4_3)) (View.ld x4 r4_4)⟩]

theorem cover (p0 : Vec F S1x256x64 .f32) (y : S1x256x64.Idx) :
    ∃ pc ∈ ([⟨r4_5, p0⟩] : List (View.Piece (Elt F) S1x256x64 .f32)), y ∈ pc.1.set :=
  View.cover_of_tiled [⟨r4_5, p0⟩] S1x256x64.size (by rfl) y

set_option maxHeartbeats 1000000 in
/-- The body reads its arguments' blocks whole and writes its result's. -/
theorem sound_kernel (c : Dev nD) (i : grid4.Coords) (arg1 : Memref sig .tc .vmem S1x8192x128 .f32) (harg1 : arg1.IsWhole) (arg2 : Memref sig .tc .vmem S1x256x3 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S64x64 .f32) (harg5 : arg5.IsWhole) (arg6 : Memref sig .tc .vmem S1x256x64 .f32) (harg6 : arg6.IsWhole)
    (x0 : Vec F S1x8192x128 .f32) (x1 : Vec F S1x256x3 .f32) (x2 : Vec F S32x64 .f32) (x3 : Vec F S3x64 .f32) (x4 : Vec F S64x64 .f32) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ ∃ d, owns (c : Thread nD τ) arg6 fullShare d) : sProp 𝕄)
      ⊢ wp frame (wpE (defs₀ (F := F)) Variants.none c none) Set.univ (cc4__stage_kernel i arg1 harg1 arg2 harg2 arg3 harg3 arg4 harg4 arg5 harg5 arg6 harg6)
        fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) := by
  simp only [cc4__stage_kernel_eq_skeleton]; unfold cc4__stage_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩⟩
  subst hf0 hf1 hf2 hf3 hf4
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

/-! ## The pipeline's data -/

variable (V : Valuation τ sig (Elt F)) (c : Dev nD) (n : ℕ)

/-- After the body at a point: the arguments' blocks as they were, and the result's computed. -/
def aft (w : Fin cfg4.W) (t : Fin cfg4.N) : (cfg4.win w).block.Idx → Elt F (cfg4.win w).elt :=
  match w with
  | ⟨0, _⟩ => blk cfg4 V 0 t
  | ⟨1, _⟩ => blk cfg4 V 1 t
  | ⟨2, _⟩ => blk cfg4 V 2 t
  | ⟨3, _⟩ => blk cfg4 V 3 t
  | ⟨4, _⟩ => blk cfg4 V 4 t
  | ⟨5, _⟩ => out (blk cfg4 V 0 t) (blk cfg4 V 1 t) (blk cfg4 V 2 t) (blk cfg4 V 3 t) (blk cfg4 V 4 t)

/-- The body does at every point what the pipeline's data say. -/
theorem body_obligation : BodyObligation (dat cfg4 V c n (aft V)) (defs₀ (F := F)) Variants.none none Set.univ :=
  obligation 5 (fun _ _ => rfl)
    (fun w hw => match w, hw with
      | ⟨0, _⟩, _ => before_in 0 rfl (fun _ => rfl) (fun _ _ _ => rfl) (fun _ => rfl) (fun _ _ => rfl)
      | ⟨1, _⟩, _ => before_in 1 rfl (fun _ => rfl) (fun _ _ _ => rfl) (fun _ => rfl) (fun _ _ => rfl)
      | ⟨2, _⟩, _ => before_in 2 rfl (fun _ => rfl) (fun _ _ _ => rfl) (fun _ => rfl) (fun _ _ => rfl)
      | ⟨3, _⟩, _ => before_in 3 rfl (fun _ => rfl) (fun _ _ _ => rfl) (fun _ => rfl) (fun _ _ => rfl)
      | ⟨4, _⟩, _ => before_in 4 rfl (fun _ => rfl) (fun _ _ _ => rfl) (fun _ => rfl) (fun _ _ => rfl)
      | ⟨5, _⟩, h => absurd rfl h)
    fun t => by
      rw [bigSep_W4, bigSep_W4]
      exact triple_restated (sound_kernel c (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ (hstage4_4 ((cfg4.slots t 4).cast nbuf4_4)) _ (hstage4_5 ((cfg4.slots t 5).cast nbuf4_5)) (blk cfg4 V 0 t) (blk cfg4 V 1 t) (blk cfg4 V 2 t) (blk cfg4 V 3 t) (blk cfg4 V 4 t)) rfl (BI.Entails.refl _) fun _ => BI.Entails.refl _

end Cert.Proof.Reg4

end
-- ==== Proof.Reg6.lean ====
/-
  The kernel of custom call 6: its body at a grid point, and the data of its pipeline.
-/
module

public import proofs.«01_k».proof.Proof.Blocks
public import proofs.«01_k».proof.Proof.Skel
public import proofs.«01_k».proof.Proof.Gen.KernelIdeal.Points
public import Idealize.ShloMosaic.Lib.Tactic

@[expose] public section

set_option maxRecDepth 16384

noncomputable section

namespace Cert.Proof.Reg6

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Bodies Cert.Proof.Skel Cert.Proof.Blocks

variable {F : FTy → Type} [FloatOps F]

local notation "𝕄" => MT nD τ sig (HIx 4) (Elt F) ℕ UU ℕ

abbrev r6_0 : Rect S1x4096x128 := Rect.unit (s := S1x4096x128) ![0, 0, 0] S1x4096x128.size inb_S1x4096x128_S1x4096x128_0_0_0
abbrev r6_1 : Rect S1x128x3 := Rect.unit (s := S1x128x3) ![0, 0, 0] S1x128x3.size inb_S1x128x3_S1x128x3_0_0_0
abbrev r6_2 : Rect S64x128 := Rect.unit (s := S64x128) ![0, 0] S64x128.size inb_S64x128_S64x128_0_0
abbrev r6_3 : Rect S3x128 := Rect.unit (s := S3x128) ![0, 0] S3x128.size inb_S3x128_S3x128_0_0
abbrev r6_4 : Rect S128x128 := Rect.unit (s := S128x128) ![0, 0] S128x128.size inb_S128x128_S128x128_0_0
abbrev r6_5 : Rect S1x128x128 := Rect.unit (s := S1x128x128) ![0, 0, 0] S1x128x128.size inb_S1x128x128_S1x128x128_0_0_0

/-- What the body leaves of its result's block, from the blocks of its arguments. -/
def out (x0 : Vec F S1x4096x128 .f32) (x1 : Vec F S1x128x3 .f32) (x2 : Vec F S64x128 .f32) (x3 : Vec F S3x128 .f32) (x4 : Vec F S128x128 .f32) : Vec F S1x128x128 .f32 :=
  View.canon [⟨r6_5, k6_pay1 (k6_pay2 (View.ld x0 r6_0) (View.ld x1 r6_1) (View.ld x2 r6_2) (View.ld x3 r6_3)) (View.ld x4 r6_4)⟩]

theorem cover (p0 : Vec F S1x128x128 .f32) (y : S1x128x128.Idx) :
    ∃ pc ∈ ([⟨r6_5, p0⟩] : List (View.Piece (Elt F) S1x128x128 .f32)), y ∈ pc.1.set :=
  View.cover_of_tiled [⟨r6_5, p0⟩] S1x128x128.size (by rfl) y

set_option maxHeartbeats 1000000 in
/-- The body reads its arguments' blocks whole and writes its result's. -/
theorem sound_kernel (c : Dev nD) (i : grid6.Coords) (arg1 : Memref sig .tc .vmem S1x4096x128 .f32) (harg1 : arg1.IsWhole) (arg2 : Memref sig .tc .vmem S1x128x3 .f32) (harg2 : arg2.IsWhole) (arg3 : Memref sig .tc .vmem S64x128 .f32) (harg3 : arg3.IsWhole) (arg4 : Memref sig .tc .vmem S3x128 .f32) (harg4 : arg4.IsWhole) (arg5 : Memref sig .tc .vmem S128x128 .f32) (harg5 : arg5.IsWhole) (arg6 : Memref sig .tc .vmem S1x128x128 .f32) (harg6 : arg6.IsWhole)
    (x0 : Vec F S1x4096x128 .f32) (x1 : Vec F S1x128x3 .f32) (x2 : Vec F S64x128 .f32) (x3 : Vec F S3x128 .f32) (x4 : Vec F S128x128 .f32) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ ∃ d, owns (c : Thread nD τ) arg6 fullShare d) : sProp 𝕄)
      ⊢ wp frame (wpE (defs₀ (F := F)) Variants.none c none) Set.univ (cc6__stage_kernel i arg1 harg1 arg2 harg2 arg3 harg3 arg4 harg4 arg5 harg5 arg6 harg6)
        fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) := by
  simp only [cc6__stage_kernel_eq_skeleton]; unfold cc6__stage_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩⟩
  subst hf0 hf1 hf2 hf3 hf4
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

/-! ## The pipeline's data -/

variable (V : Valuation τ sig (Elt F)) (c : Dev nD) (n : ℕ)

/-- After the body at a point: the arguments' blocks as they were, and the result's computed. -/
def aft (w : Fin cfg6.W) (t : Fin cfg6.N) : (cfg6.win w).block.Idx → Elt F (cfg6.win w).elt :=
  match w with
  | ⟨0, _⟩ => blk cfg6 V 0 t
  | ⟨1, _⟩ => blk cfg6 V 1 t
  | ⟨2, _⟩ => blk cfg6 V 2 t
  | ⟨3, _⟩ => blk cfg6 V 3 t
  | ⟨4, _⟩ => blk cfg6 V 4 t
  | ⟨5, _⟩ => out (blk cfg6 V 0 t) (blk cfg6 V 1 t) (blk cfg6 V 2 t) (blk cfg6 V 3 t) (blk cfg6 V 4 t)

/-- The body does at every point what the pipeline's data say. -/
theorem body_obligation : BodyObligation (dat cfg6 V c n (aft V)) (defs₀ (F := F)) Variants.none none Set.univ :=
  obligation 5 (fun _ _ => rfl)
    (fun w hw => match w, hw with
      | ⟨0, _⟩, _ => before_in 0 rfl (fun _ => rfl) (fun _ _ _ => rfl) (fun _ => rfl) (fun _ _ => rfl)
      | ⟨1, _⟩, _ => before_in 1 rfl (fun _ => rfl) (fun _ _ _ => rfl) (fun _ => rfl) (fun _ _ => rfl)
      | ⟨2, _⟩, _ => before_in 2 rfl (fun _ => rfl) (fun _ _ _ => rfl) (fun _ => rfl) (fun _ _ => rfl)
      | ⟨3, _⟩, _ => before_in 3 rfl (fun _ => rfl) (fun _ _ _ => rfl) (fun _ => rfl) (fun _ _ => rfl)
      | ⟨4, _⟩, _ => before_in 4 rfl (fun _ => rfl) (fun _ _ _ => rfl) (fun _ => rfl) (fun _ _ => rfl)
      | ⟨5, _⟩, h => absurd rfl h)
    fun t => by
      rw [bigSep_W6, bigSep_W6]
      exact triple_restated (sound_kernel c (grid6.coords t) _ (hstage6_0 ((cfg6.slots t 0).cast nbuf6_0)) _ (hstage6_1 ((cfg6.slots t 1).cast nbuf6_1)) _ (hstage6_2 ((cfg6.slots t 2).cast nbuf6_2)) _ (hstage6_3 ((cfg6.slots t 3).cast nbuf6_3)) _ (hstage6_4 ((cfg6.slots t 4).cast nbuf6_4)) _ (hstage6_5 ((cfg6.slots t 5).cast nbuf6_5)) (blk cfg6 V 0 t) (blk cfg6 V 1 t) (blk cfg6 V 2 t) (blk cfg6 V 3 t) (blk cfg6 V 4 t)) rfl (BI.Entails.refl _) fun _ => BI.Entails.refl _

end Cert.Proof.Reg6

end
-- ==== Proof.Reg8.lean ====
/-
  The kernel of custom call 8: its body at a grid point, and the data of its pipeline.
-/
module

public import proofs.«01_k».proof.Proof.Blocks
public import proofs.«01_k».proof.Proof.Skel
public import proofs.«01_k».proof.Proof.Gen.KernelIdeal.Points
public import Idealize.ShloMosaic.Lib.Tactic

@[expose] public section

set_option maxRecDepth 16384

noncomputable section

namespace Cert.Proof.Reg8

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Bodies Cert.Proof.Skel Cert.Proof.Blocks

variable {F : FTy → Type} [FloatOps F]

local notation "𝕄" => MT nD τ sig (HIx 4) (Elt F) ℕ UU ℕ

abbrev r8_0 : Rect S1x2048x256 := Rect.unit (s := S1x2048x256) ![0, 0, 0] S1x2048x256.size inb_S1x2048x256_S1x2048x256_0_0_0
abbrev r8_1 : Rect S1x64x3 := Rect.unit (s := S1x64x3) ![0, 0, 0] S1x64x3.size inb_S1x64x3_S1x64x3_0_0_0
abbrev r8_2 : Rect S128x128 := Rect.unit (s := S128x128) ![0, 0] S128x128.size inb_S128x128_S128x128_0_0
abbrev r8_3 : Rect S3x128 := Rect.unit (s := S3x128) ![0, 0] S3x128.size inb_S3x128_S3x128_0_0
abbrev r8_4 : Rect S128x128 := Rect.unit (s := S128x128) ![0, 0] S128x128.size inb_S128x128_S128x128_0_0
abbrev r8_5 : Rect S1x64x128 := Rect.unit (s := S1x64x128) ![0, 0, 0] S1x64x128.size inb_S1x64x128_S1x64x128_0_0_0

/-- What the body leaves of its result's block, from the blocks of its arguments. -/
def out (x0 : Vec F S1x2048x256 .f32) (x1 : Vec F S1x64x3 .f32) (x2 : Vec F S128x128 .f32) (x3 : Vec F S3x128 .f32) (x4 : Vec F S128x128 .f32) : Vec F S1x64x128 .f32 :=
  View.canon [⟨r8_5, k8_pay1 (k8_pay2 (View.ld x0 r8_0) (View.ld x1 r8_1) (View.ld x2 r8_2) (View.ld x3 r8_3)) (View.ld x4 r8_4)⟩]

theorem cover (p0 : Vec F S1x64x128 .f32) (y : S1x64x128.Idx) :
    ∃ pc ∈ ([⟨r8_5, p0⟩] : List (View.Piece (Elt F) S1x64x128 .f32)), y ∈ pc.1.set :=
  View.cover_of_tiled [⟨r8_5, p0⟩] S1x64x128.size (by rfl) y

set_option maxHeartbeats 1000000 in
/-- The body reads its arguments' blocks whole and writes its result's. -/
theorem sound_kernel (c : Dev nD) (i : grid8.Coords) (arg1 : Memref sig .tc .vmem S1x2048x256 .f32) (harg1 : arg1.IsWhole) (arg2 : Memref sig .tc .vmem S1x64x3 .f32) (harg2 : arg2.IsWhole) (arg3 : Memref sig .tc .vmem S128x128 .f32) (harg3 : arg3.IsWhole) (arg4 : Memref sig .tc .vmem S3x128 .f32) (harg4 : arg4.IsWhole) (arg5 : Memref sig .tc .vmem S128x128 .f32) (harg5 : arg5.IsWhole) (arg6 : Memref sig .tc .vmem S1x64x128 .f32) (harg6 : arg6.IsWhole)
    (x0 : Vec F S1x2048x256 .f32) (x1 : Vec F S1x64x3 .f32) (x2 : Vec F S128x128 .f32) (x3 : Vec F S3x128 .f32) (x4 : Vec F S128x128 .f32) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ ∃ d, owns (c : Thread nD τ) arg6 fullShare d) : sProp 𝕄)
      ⊢ wp frame (wpE (defs₀ (F := F)) Variants.none c none) Set.univ (cc8__stage_kernel i arg1 harg1 arg2 harg2 arg3 harg3 arg4 harg4 arg5 harg5 arg6 harg6)
        fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)) := by
  simp only [cc8__stage_kernel_eq_skeleton]; unfold cc8__stage_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩⟩
  subst hf0 hf1 hf2 hf3 hf4
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

/-! ## The pipeline's data -/

variable (V : Valuation τ sig (Elt F)) (c : Dev nD) (n : ℕ)

/-- After the body at a point: the arguments' blocks as they were, and the result's computed. -/
def aft (w : Fin cfg8.W) (t : Fin cfg8.N) : (cfg8.win w).block.Idx → Elt F (cfg8.win w).elt :=
  match w with
  | ⟨0, _⟩ => blk cfg8 V 0 t
  | ⟨1, _⟩ => blk cfg8 V 1 t
  | ⟨2, _⟩ => blk cfg8 V 2 t
  | ⟨3, _⟩ => blk cfg8 V 3 t
  | ⟨4, _⟩ => blk cfg8 V 4 t
  | ⟨5, _⟩ => out (blk cfg8 V 0 t) (blk cfg8 V 1 t) (blk cfg8 V 2 t) (blk cfg8 V 3 t) (blk cfg8 V 4 t)

/-- The body does at every point what the pipeline's data say. -/
theorem body_obligation : BodyObligation (dat cfg8 V c n (aft V)) (defs₀ (F := F)) Variants.none none Set.univ :=
  obligation 5 (fun _ _ => rfl)
    (fun w hw => match w, hw with
      | ⟨0, _⟩, _ => before_in 0 rfl (fun _ => rfl) (fun _ _ _ => rfl) (fun _ => rfl) (fun _ _ => rfl)
      | ⟨1, _⟩, _ => before_in 1 rfl (fun _ => rfl) (fun _ _ _ => rfl) (fun _ => rfl) (fun _ _ => rfl)
      | ⟨2, _⟩, _ => before_in 2 rfl (fun _ => rfl) (fun _ _ _ => rfl) (fun _ => rfl) (fun _ _ => rfl)
      | ⟨3, _⟩, _ => before_in 3 rfl (fun _ => rfl) (fun _ _ _ => rfl) (fun _ => rfl) (fun _ _ => rfl)
      | ⟨4, _⟩, _ => before_in 4 rfl (fun _ => rfl) (fun _ _ _ => rfl) (fun _ => rfl) (fun _ _ => rfl)
      | ⟨5, _⟩, h => absurd rfl h)
    fun t => by
      rw [bigSep_W8, bigSep_W8]
      exact triple_restated (sound_kernel c (grid8.coords t) _ (hstage8_0 ((cfg8.slots t 0).cast nbuf8_0)) _ (hstage8_1 ((cfg8.slots t 1).cast nbuf8_1)) _ (hstage8_2 ((cfg8.slots t 2).cast nbuf8_2)) _ (hstage8_3 ((cfg8.slots t 3).cast nbuf8_3)) _ (hstage8_4 ((cfg8.slots t 4).cast nbuf8_4)) _ (hstage8_5 ((cfg8.slots t 5).cast nbuf8_5)) (blk cfg8 V 0 t) (blk cfg8 V 1 t) (blk cfg8 V 2 t) (blk cfg8 V 3 t) (blk cfg8 V 4 t)) rfl (BI.Entails.refl _) fun _ => BI.Entails.refl _

end Cert.Proof.Reg8

end
-- ==== Proof.Reg9.lean ====
/-
  The kernel of custom call 9: its body at a grid point, and the data of its pipeline.
-/
module

public import proofs.«01_k».proof.Proof.Blocks
public import proofs.«01_k».proof.Proof.Skel
public import proofs.«01_k».proof.Proof.Gen.KernelIdeal.Points
public import Idealize.ShloMosaic.Lib.Tactic

@[expose] public section

set_option maxRecDepth 16384

noncomputable section

namespace Cert.Proof.Reg9

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Bodies Cert.Proof.Skel Cert.Proof.Blocks

variable {F : FTy → Type} [FloatOps F]

local notation "𝕄" => MT nD τ sig (HIx 4) (Elt F) ℕ UU ℕ

abbrev r9_0 : Rect S64x64x128 := Rect.unit (s := S64x64x128) ![0, 0, 0] S64x64x128.size inb_S64x64x128_S64x64x128_0_0_0
abbrev r9_1 : Rect S128x512 := Rect.unit (s := S128x512) ![0, 0] S128x512.size inb_S128x512_S128x512_0_0
abbrev r9_2 : Rect S512x256 := Rect.unit (s := S512x256) ![0, 0] S512x256.size inb_S512x256_S512x256_0_0
abbrev r9_3 : Rect S256x40 := Rect.unit (s := S256x40) ![0, 0] S256x40.size inb_S256x40_S256x40_0_0
abbrev r9_4 : Rect S64x40 := Rect.unit (s := S64x40) ![0, 0] S64x40.size inb_S64x40_S64x40_0_0

/-- What the body leaves of its result's block, from the blocks of its arguments. -/
def out (x0 : Vec F S64x64x128 .f32) (x1 : Vec F S128x512 .f32) (x2 : Vec F S512x256 .f32) (x3 : Vec F S256x40 .f32) : Vec F S64x40 .f32 :=
  View.canon [⟨r9_4, k9_pay1 (View.ld x0 r9_0) (View.ld x1 r9_1) (View.ld x2 r9_2) (View.ld x3 r9_3)⟩]

theorem cover (p0 : Vec F S64x40 .f32) (y : S64x40.Idx) :
    ∃ pc ∈ ([⟨r9_4, p0⟩] : List (View.Piece (Elt F) S64x40 .f32)), y ∈ pc.1.set :=
  View.cover_of_tiled [⟨r9_4, p0⟩] S64x40.size (by rfl) y

set_option maxHeartbeats 1000000 in
/-- The body reads its arguments' blocks whole and writes its result's. -/
theorem sound_kernel (c : Dev nD) (arg0 : Memref sig .tc .vmem S64x64x128 .f32) (harg0 : arg0.IsWhole) (arg1 : Memref sig .tc .vmem S128x512 .f32) (harg1 : arg1.IsWhole) (arg2 : Memref sig .tc .vmem S512x256 .f32) (harg2 : arg2.IsWhole) (arg3 : Memref sig .tc .vmem S256x40 .f32) (harg3 : arg3.IsWhole) (arg4 : Memref sig .tc .vmem S64x40 .f32) (harg4 : arg4.IsWhole)
    (x0 : Vec F S64x64x128 .f32) (x1 : Vec F S128x512 .f32) (x2 : Vec F S512x256 .f32) (x3 : Vec F S256x40 .f32) :
    (iprop(owns (c : Thread nD τ) arg0 fullShare x0 ∗ owns (c : Thread nD τ) arg1 fullShare x1 ∗ owns (c : Thread nD τ) arg2 fullShare x2 ∗ owns (c : Thread nD τ) arg3 fullShare x3 ∗ ∃ d, owns (c : Thread nD τ) arg4 fullShare d) : sProp 𝕄)
      ⊢ wp frame (wpE (defs₀ (F := F)) Variants.none c none) Set.univ (cc9__head_kernel arg0 harg0 arg1 harg1 arg2 harg2 arg3 harg3 arg4 harg4)
        fun _ => iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out x0 x1 x2 x3)) := by
  simp only [cc9__head_kernel_eq_skeleton]; unfold cc9__head_kernel_skel
  unfold owns
  iintro ⟨⟨%f0, %hf0, H0⟩, ⟨%f1, %hf1, H1⟩, ⟨%f2, %hf2, H2⟩, ⟨%f3, %hf3, H3⟩, ⟨%dO, %fO, -, HO⟩⟩
  subst hf0 hf1 hf2 hf3
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover _)

/-! ## The pipeline's data -/

variable (V : Valuation τ sig (Elt F)) (c : Dev nD) (n : ℕ)

/-- After the body at a point: the arguments' blocks as they were, and the result's computed. -/
def aft (w : Fin cfg9.W) (t : Fin cfg9.N) : (cfg9.win w).block.Idx → Elt F (cfg9.win w).elt :=
  match w with
  | ⟨0, _⟩ => blk cfg9 V 0 t
  | ⟨1, _⟩ => blk cfg9 V 1 t
  | ⟨2, _⟩ => blk cfg9 V 2 t
  | ⟨3, _⟩ => blk cfg9 V 3 t
  | ⟨4, _⟩ => out (blk cfg9 V 0 t) (blk cfg9 V 1 t) (blk cfg9 V 2 t) (blk cfg9 V 3 t)

/-- The body does at every point what the pipeline's data say. -/
theorem body_obligation : BodyObligation (dat cfg9 V c n (aft V)) (defs₀ (F := F)) Variants.none none Set.univ :=
  obligation 4 (fun _ _ => rfl)
    (fun w hw => match w, hw with
      | ⟨0, _⟩, _ => before_in 0 rfl (fun _ => rfl) (fun _ _ _ => rfl) (fun _ => rfl) (fun _ _ => rfl)
      | ⟨1, _⟩, _ => before_in 1 rfl (fun _ => rfl) (fun _ _ _ => rfl) (fun _ => rfl) (fun _ _ => rfl)
      | ⟨2, _⟩, _ => before_in 2 rfl (fun _ => rfl) (fun _ _ _ => rfl) (fun _ => rfl) (fun _ _ => rfl)
      | ⟨3, _⟩, _ => before_in 3 rfl (fun _ => rfl) (fun _ _ _ => rfl) (fun _ => rfl) (fun _ _ => rfl)
      | ⟨4, _⟩, h => absurd rfl h)
    fun t => by
      rw [bigSep_W9, bigSep_W9]
      exact triple_restated (sound_kernel c _ (hstage9_0 0) _ (hstage9_1 0) _ (hstage9_2 0) _ (hstage9_3 0) _ (hstage9_4 0) (blk cfg9 V 0 t) (blk cfg9 V 1 t) (blk cfg9 V 2 t) (blk cfg9 V 3 t)) rfl (BI.Entails.refl _) fun _ => BI.Entails.refl _

end Cert.Proof.Reg9

end
-- ==== Proof.Regions.lean ====
/-
  The six calls of TensorCore kernels as one family: what each leaves of the arrays it is entered with.
-/
module

public import proofs.«01_k».proof.Proof.Reg0
public import proofs.«01_k».proof.Proof.Reg2
public import proofs.«01_k».proof.Proof.Reg4
public import proofs.«01_k».proof.Proof.Reg6
public import proofs.«01_k».proof.Proof.Reg8
public import proofs.«01_k».proof.Proof.Reg9

@[expose] public section

set_option maxRecDepth 16384

noncomputable section

namespace Cert.Proof.Regions

open Cert.KernelIdeal Cert.KernelIdeal.Gen
open Idealize.ShloMosaic Idealize.ShloMosaic.TcCoe
open Idealize.ShloMosaic.StableHlo (held)
open Idealize.ShloMosaic.SparseCore (S V T)
open Idealize.ShloMosaic.SparseCore.Cfg (HIx)
open Idealize.ShloMosaic.Pipeline (ucRefs Dat arrRefs arrRef PLaunchFacts BodyObligation cellsGhost toksInit pin scopedRest)
open Idealize.SL Idealize.SL.RA Idealize.SL.BI
open scoped Idealize.SL.BI
open Idealize.SL.BI.BIBase Idealize.SL.BI.Laws Idealize.SL.ProofMode Idealize.SL.Sem
open Cert.Proof.Bodies Cert.Proof.Launch Cert.Proof.Region Cert.Proof.Blocks

variable {F : FTy → Type} [FloatOps F]

local notation "𝕄" => MT nD τ sig (HIx 4) (Elt F) ℕ UU ℕ

/-- The SparseCore call each pipeline comes before. -/
def round : Fin 6 → ℕ := ![0, 1, 2, 3, 4, 4]

/-- What each pipeline's body leaves, of the arrays `V`. -/
def afts (V : Valuation τ sig (Elt F)) : (p : Fin 6) → (w : Fin (cfgs p).W) → Fin (cfgs p).N → ((cfgs p).win w).block.Idx → Elt F ((cfgs p).win w).elt
  | ⟨0, _⟩ => Reg0.aft V
  | ⟨1, _⟩ => Reg2.aft V
  | ⟨2, _⟩ => Reg4.aft V
  | ⟨3, _⟩ => Reg6.aft V
  | ⟨4, _⟩ => Reg8.aft V
  | ⟨5, _⟩ => Reg9.aft V

/-- The pipelines' data, entered with the arrays at `R p`. -/
def dats (R : Fin 6 → Dev nD → Valuation τ sig (Elt F)) (p : Fin 6) (c : Dev nD) :
    Dat τ (Elt F) (HIx 4) ℕ UU ℕ (pin (pcfgs (F := F)) adm p) c :=
  dat (cfgs p) (R p c) c (round p) (afts (R p c) p)

theorem obligations (R : Fin 6 → Dev nD → Valuation τ sig (Elt F)) (p : Fin 6) (c : Dev nD) :
    BodyObligation (dats R p c) (defs₀ (F := F)) 𝒱₀ none Set.univ :=
  match p with
  | ⟨0, _⟩ => Reg0.body_obligation _ c _
  | ⟨1, _⟩ => Reg2.body_obligation _ c _
  | ⟨2, _⟩ => Reg4.body_obligation _ c _
  | ⟨3, _⟩ => Reg6.body_obligation _ c _
  | ⟨4, _⟩ => Reg8.body_obligation _ c _
  | ⟨5, _⟩ => Reg9.body_obligation _ c _

theorem kits (p : Fin 6) : PLaunchFacts (nD := nD) (τ := τ) (pcfgs (F := F)) p :=
  match p with
  | ⟨0, _⟩ => launch0.toP
  | ⟨1, _⟩ => launch2.toP
  | ⟨2, _⟩ => launch4.toP
  | ⟨3, _⟩ => launch6.toP
  | ⟨4, _⟩ => launch8.toP
  | ⟨5, _⟩ => launch9.toP

/-- No pipeline reads a table of its own. -/
theorem tables (p : Fin 6) : (pcfgs (F := F) p).pre.K = 0 := rfl

/-- The window each pipeline writes. -/
def outW : (p : Fin 6) → Fin (cfgs p).W
  | ⟨0, _⟩ => (2 : Fin 3)
  | ⟨1, _⟩ => (5 : Fin 6)
  | ⟨2, _⟩ => (5 : Fin 6)
  | ⟨3, _⟩ => (5 : Fin 6)
  | ⟨4, _⟩ => (5 : Fin 6)
  | ⟨5, _⟩ => (4 : Fin 5)

/-- The array each pipeline writes. -/
abbrev outR (p : Fin 6) : DevRef τ sig := Proc.devRef .tc (arrRef (cfgs p).spec (outW p))

/-- Every other window is only read, and lies in another array. -/
theorem reads (p : Fin 6) (w : Fin (cfgs p).W) (h : w ≠ outW p) :
    ((cfgs p).win w).isOut = false ∧ Proc.devRef (τ := τ) .tc (arrRef (cfgs p).spec w) ≠ outR p := by
  revert p; decide

/-- What a pipeline leaves: its result's array as its writes left it, every other array as it was. -/
def next (R : Fin 6 → Dev nD → Valuation τ sig (Elt F)) (p : Fin 6) (c : Dev nD) : Valuation τ sig (Elt F) :=
  Function.update (R p c) (outR p) ((dats R p c).arrAt (outW p) (cfgs p).N)

theorem next_out (R : Fin 6 → Dev nD → Valuation τ sig (Elt F)) (p : Fin 6) (c : Dev nD) :
    next R p c (outR p) = (dats R p c).arrAt (outW p) (cfgs p).N := by
  unfold next; rw [Function.update_self]

theorem next_of_ne (R : Fin 6 → Dev nD → Valuation τ sig (Elt F)) (p : Fin 6) (c : Dev nD) (b : DevRef τ sig) (h : b ≠ outR p) :
    next R p c b = R p c b := by
  unfold next; rw [Function.update_of_ne h]

/-- What each window's array holds when its pipeline ends. -/
theorem arr_end (R : Fin 6 → Dev nD → Valuation τ sig (Elt F)) (p : Fin 6) (c : Dev nD) (w : Fin (cfgs p).W) :
    (dats R p c).arrAt w (cfgs p).N = next R p c (Proc.devRef .tc (arrRef (cfgs p).spec w)) := by
  by_cases h : w = outW p
  · subst h; exact (next_out R p c).symm
  · rw [next_of_ne R p c _ (reads p w h).2]
    exact (dats R p c).arrAt_in w (reads p w h).1 _

/-- A call of a TensorCore kernel: entered with the arrays at `R p`, it leaves them at `next R p`. -/
theorem wp_reg (R : Fin 6 → Dev nD → Valuation τ sig (Elt F)) (A : Data F) (κ : GSem nD τ sig → ℕ) (d : Dev nD) (p : Fin 6)
    {Φ : PUnit → sProp 𝕄} :
    iprop((K (F := F)).ctx EH (P A) κ ∗ (K (F := F)).tcSt EH d (round p) ∗ boundary (T d) ∗ held (T d) (ucRefs τ sig) (R p d)
        ∗ cellsGhost (pin (pcfgs (F := F)) adm) EP p d ∗ toksInit (pin (pcfgs (F := F)) adm) EP p d
        ∗ ((boundary (T d) ∗ (K (F := F)).tcSt EH d (round p) ∗ held (T d) (ucRefs τ sig) (next R p d)) -∗ Φ ⟨⟩))
      ⊢ wp frame (wpE ((K (F := F)).defs (D (F := F))) 𝒱 (T d) none) Set.univ (Prog.lift (.customCall (SparseCore.inner (Pipeline.entry p)) ())) Φ :=
  wp_region (dats R) A κ d p (round p) (kits p) (tables p) (fun c => (obligations R p c).loose) (fun _ _ => rfl) (fun _ _ => rfl)
    (fun c w => (dats R p c).share_full (fun _ => rfl) w) (fun _ _ => rfl) (R p) (next R p) (fun _ _ => rfl) (fun c w => arr_end R p c w)
    (fun c b hb => next_of_ne R p c b fun e => hb (e ▸ Finset.mem_map_of_mem _ (Finset.mem_image_of_mem _ (Finset.mem_univ (outW p)))))

end Cert.Proof.Regions

end
-- ==== Proof.Main.lean ====
/-
  The launch: the program runs, every semaphore ends at zero, and every array ends at what the host operations and the
  gather calls, read as operations, leave in it.
-/
module

public import proofs.«01_k».proof.Proof.Ops
public import proofs.«01_k».proof.Proof.Regions
public import Idealize.ShloMosaic.Lib.Pipeline.Frame

@[expose] public section

noncomputable section

namespace Cert.Proof.Main

open Cert.KernelIdeal Cert.KernelIdeal.Gen
open Idealize.ShloMosaic
open Idealize.ShloMosaic.StableHlo (seq after held)
open Idealize.ShloMosaic.SparseCore (S V T)
open Idealize.ShloMosaic.SparseCore.Cfg (HIx Pay tileRest ownBufs ownSems0 ownCells ownRefs mem_ownCells mem_ownRefs)
open Idealize.ShloMosaic.Pipeline (ucRefs cellsGhost toksInit pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tile Cert.Proof.Bodies Cert.Proof.Launch Cert.Proof.Ops Cert.Proof.Region Cert.Proof.Regions

variable {F : FTy → Type} [FloatOps F]

local notation "𝕄" => MT nD τ sig (HIx 4) (Elt F) ℕ UU ℕ

/-! ## The tiles' obligations -/

variable (A : Data F)

/-- A tile's coordinates in call 0's grid. -/
def coords0 (c : Fin (grid1.bound 0)) (s : Fin (grid1.bound 1)) : grid1.Coords :=
  fun | 0 => c | 1 => s | ⟨_ + 2, h⟩ => absurd h (Nat.not_lt.2 (Nat.le_add_left _ _))

theorem defs₀_0 (c : Fin τ.nSC) (s : Fin τ.nSub) :
    defs₀ (F := F) (.scVector c s) 1 ()
      = SparseCore.onTile hcore1 hsub1 (fun c s => cc1_gk (coords0 c s)
          (Memref.whole main_v4_scv) (Memref.isWhole_whole _) (Memref.whole main_v11_scv) (Memref.isWhole_whole _)
            (Memref.whole main_v12_scv) (Memref.isWhole_whole _) (Memref.whole cc1_scratch0) (Memref.isWhole_whole _) (Memref.whole cc1_scratch1) (Memref.isWhole_whole _)
            cc1_scratch2 cc1_scratch3 cc1_scratch4 cc1_scratch5 cc1_scratch6 cc1_scratch7) ⟨⟩ c s := rfl

attribute [local irreducible] cc1_gk in
set_option maxRecDepth 16384 in
theorem tileObl0 (hA : Good0 A) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact (tile0 A hA d (coords0 ⟨_, hci.1⟩ ⟨_, hci.2⟩) O W hO).trans (wp_mono frame _ _ fun _ => obl_post)

/-- A tile's coordinates in call 1's grid. -/
def coords1 (c : Fin (grid3.bound 0)) (s : Fin (grid3.bound 1)) : grid3.Coords :=
  fun | 0 => c | 1 => s | ⟨_ + 2, h⟩ => absurd h (Nat.not_lt.2 (Nat.le_add_left _ _))

theorem defs₀_1 (c : Fin τ.nSC) (s : Fin τ.nSub) :
    defs₀ (F := F) (.scVector c s) 3 ()
      = SparseCore.onTile hcore3 hsub3 (fun c s => cc3_gk (coords1 c s)
          (Memref.whole main_v19_scv) (Memref.isWhole_whole _) (Memref.whole main_v26_scv) (Memref.isWhole_whole _)
            (Memref.whole main_v27_scv) (Memref.isWhole_whole _) (Memref.whole cc3_scratch0) (Memref.isWhole_whole _) (Memref.whole cc3_scratch1) (Memref.isWhole_whole _)
            cc3_scratch2 cc3_scratch3 cc3_scratch4 cc3_scratch5 cc3_scratch6 cc3_scratch7) ⟨⟩ c s := rfl

attribute [local irreducible] cc3_gk in
set_option maxRecDepth 16384 in
theorem tileObl1 (hA : Good1 A) : (K (F := F)).TileObl (D (F := F)) 𝒱 (P A) v₀ 1 := by
  intro d c i O W hO _ _
  simp only [show (P A).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (tile1 A hA d (coords1 ⟨_, hci.1⟩ ⟨_, hci.2⟩) O W hO).trans (wp_mono frame _ _ fun _ => obl_post)

/-- A tile's coordinates in call 2's grid. -/
def coords2 (c : Fin (grid5.bound 0)) (s : Fin (grid5.bound 1)) : grid5.Coords :=
  fun | 0 => c | 1 => s | ⟨_ + 2, h⟩ => absurd h (Nat.not_lt.2 (Nat.le_add_left _ _))

theorem defs₀_2 (c : Fin τ.nSC) (s : Fin τ.nSub) :
    defs₀ (F := F) (.scVector c s) 5 ()
      = SparseCore.onTile hcore5 hsub5 (fun c s => cc5_gk (coords2 c s)
          (Memref.whole main_v34_scv) (Memref.isWhole_whole _) (Memref.whole main_v41_scv) (Memref.isWhole_whole _)
            (Memref.whole main_v42_scv) (Memref.isWhole_whole _) (Memref.whole cc5_scratch0) (Memref.isWhole_whole _) (Memref.whole cc5_scratch1) (Memref.isWhole_whole _)
            cc5_scratch2 cc5_scratch3 cc5_scratch4 cc5_scratch5 cc5_scratch6 cc5_scratch7) ⟨⟩ c s := rfl

attribute [local irreducible] cc5_gk in
set_option maxRecDepth 16384 in
theorem tileObl2 (hA : Good2 A) : (K (F := F)).TileObl (D (F := F)) 𝒱 (P A) v₀ 2 := by
  intro d c i O W hO _ _
  simp only [show (P A).ox = fun _ _ => 0 from rfl, add_zero]
  have hci : ((K (F := F)).core 2 c).val < grid5.bound 0 ∧ ((K (F := F)).sub 2 i).val < grid5.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [defs₀_2]; simp only [SparseCore.onTile, hci, and_self, ↓reduceDIte]
  exact (tile2 A hA d (coords2 ⟨_, hci.1⟩ ⟨_, hci.2⟩) O W hO).trans (wp_mono frame _ _ fun _ => obl_post)

/-- A tile's coordinates in call 3's grid. -/
def coords3 (c : Fin (grid7.bound 0)) (s : Fin (grid7.bound 1)) : grid7.Coords :=
  fun | 0 => c | 1 => s | ⟨_ + 2, h⟩ => absurd h (Nat.not_lt.2 (Nat.le_add_left _ _))

theorem defs₀_3 (c : Fin τ.nSC) (s : Fin τ.nSub) :
    defs₀ (F := F) (.scVector c s) 7 ()
      = SparseCore.onTile hcore7 hsub7 (fun c s => cc7_gk (coords3 c s)
          (Memref.whole main_v49_scv) (Memref.isWhole_whole _) (Memref.whole main_v56_scv) (Memref.isWhole_whole _)
            (Memref.whole main_v57_scv) (Memref.isWhole_whole _) (Memref.whole cc7_scratch0) (Memref.isWhole_whole _) (Memref.whole cc7_scratch1) (Memref.isWhole_whole _)
            cc7_scratch2 cc7_scratch3 cc7_scratch4 cc7_scratch5 cc7_scratch6 cc7_scratch7) ⟨⟩ c s := rfl

attribute [local irreducible] cc7_gk in
set_option maxRecDepth 16384 in
theorem tileObl3 (hA : Good3 A) : (K (F := F)).TileObl (D (F := F)) 𝒱 (P A) v₀ 3 := by
  intro d c i O W hO _ _
  simp only [show (P A).ox = fun _ _ => 0 from rfl, add_zero]
  have hci : ((K (F := F)).core 3 c).val < grid7.bound 0 ∧ ((K (F := F)).sub 3 i).val < grid7.bound 1 := ⟨c.isLt, i.isLt⟩
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  rw [defs₀_3]; simp only [SparseCore.onTile, hci, and_self, ↓reduceDIte]
  exact (tile3 A hA d (coords3 ⟨_, hci.1⟩ ⟨_, hci.2⟩) O W hO).trans (wp_mono frame _ _ fun _ => obl_post)

/-! ## The launch's own ghost state -/

/-- The pipelines' configurations. -/
abbrev cfgsP : (p : Fin 6) → Pipeline.Cfg sig Λ₀ := pin (pcfgs (F := F)) adm

def u₀ : UU := (initOf (K (F := F)).hsCells (K (F := F)).hsToks,
  (initOf (Pipeline.cells (cfgsP (F := F)) cellOf_inj) (Pipeline.launchToks (cfgsP (F := F)) cellOf_inj), 1))

theorem emp_all {I : Type} (s : Finset I) : (bigSep s fun _ => iprop(emp)) = (iprop(emp) : sProp 𝕄) := bigSep_emp_const s

/-- The pipelines' ghost state on device `d`. -/
def ghost (d : Dev nD) : sProp 𝕄 :=
  iprop((bigSep Finset.univ fun p : Fin 6 => cellsGhost (cfgsP (F := F)) EP p d) ∗ bigSep Finset.univ fun p : Fin 6 => toksInit (cfgsP (F := F)) EP p d)

theorem own_EP (a : UP) (b : Counters) : (BI.own ((embR : Emb (UP × Counters) 𝕄) (a, b)) : sProp 𝕄) ⊢ BI.own (EP (F := F) a) := by
  unfold EP
  exact (own_pair_emb (F := (embR : Emb (UP × Counters) 𝕄)) a b).trans sep_elim_left

theorem ghost_of : iprop((bigSep Finset.univ fun d : Dev nD => bigSep Finset.univ fun p : Fin 6 => cellsGhost (cfgsP (F := F)) EP p d)
    ∗ bigSep Finset.univ fun d : Dev nD => bigSep Finset.univ fun p : Fin 6 => toksInit (cfgsP (F := F)) EP p d)
      ⊢ (bigSep Finset.univ fun d : Dev nD => ghost (F := F) d : sProp 𝕄) :=
  Entails.of_eq (BI.bigSep_sep _ _ _).symm

theorem hu₀ : (ownU (u₀ (F := F)) : sProp 𝕄)
    ⊢ |={Set.univ}=> iprop(BI.own (EH (F := F) (initOf (K (F := F)).hsCells (K (F := F)).hsToks)) ∗ (bigSep Finset.univ fun d : Dev nD => ghost (F := F) d)
        ∗ bigSep Finset.univ fun thr : Thread nD τ => bigSep Finset.univ fun q : Fin 4 => (P A).x q thr) := by
  unfold u₀
  iintro Hu
  ihave H := (ownU_pair (initOf (K (F := F)).hsCells (K (F := F)).hsToks) _) $$ Hu
  icases H with ⟨HH, HR⟩
  ihave HP := (own_EP _ _) $$ HR
  imod (Pipeline.fund_ghost (cfgsP (F := F)) EP cellOf_inj) $$ HP with ⟨HG, HT⟩
  imodintro
  isplitl [HH]; · iexact HH
  isplitl [HG HT]
  · iapply ghost_of
    isplitl [HG]; · iexact HG
    iexact HT
  rw [show (bigSep Finset.univ fun thr : Thread nD τ => bigSep Finset.univ fun q : Fin 4 => (P A).x q thr) = bigSep Finset.univ fun _ => iprop(emp) from
    bigSep_congr fun _ _ => emp_all _, emp_all]
  iempintro

theorem ghost_eq (d : Dev nD) : (ghost (F := F) d : sProp 𝕄)
    = iprop((cellsGhost (cfgsP (F := F)) EP 0 d ∗ cellsGhost (cfgsP (F := F)) EP 1 d ∗ cellsGhost (cfgsP (F := F)) EP 2 d
          ∗ cellsGhost (cfgsP (F := F)) EP 3 d ∗ cellsGhost (cfgsP (F := F)) EP 4 d ∗ cellsGhost (cfgsP (F := F)) EP 5 d)
        ∗ toksInit (cfgsP (F := F)) EP 0 d ∗ toksInit (cfgsP (F := F)) EP 1 d ∗ toksInit (cfgsP (F := F)) EP 2 d
          ∗ toksInit (cfgsP (F := F)) EP 3 d ∗ toksInit (cfgsP (F := F)) EP 4 d ∗ toksInit (cfgsP (F := F)) EP 5 d) := by
  unfold ghost
  rw [bigSep_univ_eq_bigSepL [(0 : Fin 6), 1, 2, 3, 4, 5] (by decide) (by decide), bigSep_univ_eq_bigSepL [(0 : Fin 6), 1, 2, 3, 4, 5] (by decide) (by decide)]
  rfl

/-! ## A call, holding the arrays -/

/-- The three arrays of call `q`. -/
def three (q : Fin 4) : Finset (DevRef τ sig) := {Proc.devRef .tc (tabRef q), Proc.devRef .tc (lstRef q), Proc.devRef .tc (outRef q)}

theorem three_sub : ∀ q, three q ⊆ ucRefs τ sig := by decide

theorem three_held (d : Dev nD) (q : Fin 4) (W : Valuation τ sig (Elt F)) : (held (T d) (three q) W : sProp 𝕄)
    = iprop((tLoc q d ↦{fullShare} W (Proc.devRef .tc (tabRef q))) ∗ (lLoc q d ↦{fullShare} W (Proc.devRef .tc (lstRef q)))
        ∗ oLoc q d ↦{fullShare} W (Proc.devRef .tc (outRef q))) := by
  have h1 : Proc.devRef (τ := τ) .tc (tabRef q) ∉ ({Proc.devRef .tc (lstRef q), Proc.devRef .tc (outRef q)} : Finset (DevRef τ sig)) := by
    revert q; decide
  have h2 : Proc.devRef (τ := τ) .tc (lstRef q) ∉ ({Proc.devRef .tc (outRef q)} : Finset (DevRef τ sig)) := by revert q; decide
  unfold held three
  rw [SparseCore.bigSep_insert' h1, SparseCore.bigSep_insert' h2, bigSep_singleton]

theorem out_ne : (∀ q, Proc.devRef (τ := τ) .tc (tabRef q) ≠ Proc.devRef .tc (outRef q))
    ∧ ∀ q, Proc.devRef (τ := τ) .tc (lstRef q) ≠ Proc.devRef .tc (outRef q) := by decide

/-- A call runs from the arrays at `W` to the arrays at `W'`, where these agree but for its output, which is filled. -/
theorem wp_call (κ : GSem nD τ sig → ℕ) (d : Dev nD) (q : Fin 4) (W W' : Valuation τ sig (Elt F))
    (ht : A.ft q d = W (Proc.devRef .tc (tabRef q))) (hl : A.fl q d = W (Proc.devRef .tc (lstRef q)))
    (ho : A.fo q d = W (Proc.devRef .tc (outRef q))) (hr : A.fr q d = W' (Proc.devRef .tc (outRef q)))
    (hW : ∀ b : DevRef τ sig, b ≠ Proc.devRef .tc (outRef q) → W' b = W b) {Φ : PUnit → sProp 𝕄} :
    iprop((K (F := F)).ctx EH (P A) κ ∗ (K (F := F)).tcSt EH d q.val ∗ held (T d) (ucRefs τ sig) W
        ∗ (((K (F := F)).tcSt EH d (q.val + 1) ∗ held (T d) (ucRefs τ sig) W') -∗ Φ ⟨⟩))
      ⊢ wp frame (wpE ((K (F := F)).defs (D (F := F))) 𝒱 (T d) none) Set.univ ((K (F := F)).run d q) Φ := by
  have hne1 : Proc.devRef (τ := τ) .tc (tabRef q) ≠ Proc.devRef .tc (outRef q) := out_ne.1 q
  have hne2 : Proc.devRef (τ := τ) .tc (lstRef q) ≠ Proc.devRef .tc (outRef q) := out_ne.2 q
  have hrest : (held (T d) (ucRefs τ sig \ three q) W' : sProp 𝕄) = held (T d) (ucRefs τ sig \ three q) W :=
    StableHlo.held_congr _ fun b hb => hW b fun h => (Finset.mem_sdiff.mp hb).2 (h ▸ by simp [three])
  rw [StableHlo.held_sub_split (T d) (three_sub q) W, StableHlo.held_sub_split (T d) (three_sub q) W', hrest, three_held, three_held,
    hW _ hne1, hW _ hne2, ← ht, ← hl, ← ho, ← hr]
  iintro ⟨#Hctx, Hst, ⟨H3, Hrest⟩, Hk⟩
  iapply ((K (F := F)).wp_run (D (F := F)) 𝒱 (EH := EH) (P := P A) κ d q) $$ [Hst H3 Hrest Hk]
  isplitr; · iexact Hctx
  isplitl [Hst]; · iexact Hst
  isplitl [H3]
  · rw [st_eq]; iexact H3
  iintro ⟨Hst, Hdn⟩
  ihave Hdn' := (Entails.of_eq (dn_eq A q d)) $$ Hdn
  iapply Hk
  isplitl [Hst]; · iexact Hst
  isplitl [Hdn']; · iexact Hdn'
  iexact Hrest

/-! ## The host program -/

variable (m : (ℓ : Loc nD τ sig) → Buf (Elt F) ℓ) (ρ : Dev nD → PrngReg)

/-- What every array holds before and after each call: what the host operations and the calls make of the launch memory.
    `R p` before TensorCore call `p`, `V q` and `U q` before and after SparseCore call `q`. -/
structure Line where
  R : Fin 6 → Dev nD → Valuation τ sig (Elt F)
  V : Fin 4 → Dev nD → Valuation τ sig (Elt F)
  U : Fin 4 → Dev nD → Valuation τ sig (Elt F)
  hR0 : ∀ d, after (ops 0) (fun b => m (d, b)) = R 0 d
  hR1 : ∀ d, after (ops 2) (U 0 d) = R 1 d
  hR2 : ∀ d, after (ops 4) (U 1 d) = R 2 d
  hR3 : ∀ d, after (ops 6) (U 2 d) = R 3 d
  hR4 : ∀ d, after (ops 8) (U 3 d) = R 4 d
  hR5 : ∀ d, next R 4 d = R 5 d
  hV0 : ∀ d, after (ops 1) (next R 0 d) = V 0 d
  hV1 : ∀ d, after (ops 3) (next R 1 d) = V 1 d
  hV2 : ∀ d, after (ops 5) (next R 2 d) = V 2 d
  hV3 : ∀ d, after (ops 7) (next R 3 d) = V 3 d
  hU : ∀ q d, ∀ b : DevRef τ sig, b ≠ Proc.devRef .tc (outRef q) → U q d b = V q d b
  h0 : ∀ d, Gathered (F := F) (e := .f32) hw0 (Q := 1048576) rfl (V 0 d (Proc.devRef .tc main_v4)) (V 0 d (Proc.devRef .tc main_v11)) (U 0 d (Proc.devRef .tc main_v12))
  h1 : ∀ d, Gathered (F := F) (e := .f32) hw1 (Q := 524288) rfl (V 1 d (Proc.devRef .tc main_v19)) (V 1 d (Proc.devRef .tc main_v26)) (U 1 d (Proc.devRef .tc main_v27))
  h2 : ∀ d, Gathered (F := F) (e := .f32) hw2 (Q := 262144) rfl (V 2 d (Proc.devRef .tc main_v34)) (V 2 d (Proc.devRef .tc main_v41)) (U 2 d (Proc.devRef .tc main_v42))
  h3 : ∀ d, Gathered (F := F) (e := .f32) hw3 (Q := 131072) rfl (V 3 d (Proc.devRef .tc main_v49)) (V 3 d (Proc.devRef .tc main_v56)) (U 3 d (Proc.devRef .tc main_v57))

variable {m} (X : Line m)

/-- What every array holds at the end. -/
def Line.E (d : Dev nD) : Valuation τ sig (Elt F) := next X.R 5 d

/-- The contents of the calls' arrays. -/
def data : Data F where
  ft := fun q d => X.V q d (Proc.devRef .tc (tabRef q))
  fl := fun q d => X.V q d (Proc.devRef .tc (lstRef q))
  fo := fun q d => X.V q d (Proc.devRef .tc (outRef q))
  fr := fun q d => X.U q d (Proc.devRef .tc (outRef q))

theorem sub_uc (k : Fin 9) : ∀ op ∈ (ops k : List (HloOp τ sig (Elt F))), op.bufs ⊆ ucRefs τ sig :=
  fun op ho => Pipeline.sub_ucRefs op (List.forall_iff_forall_mem.mp (sub k) op ho)

theorem launch_held (d : Dev nD) : (unscopedBufs d (fun b => m ((SparseCore.T d).loc b)) : sProp 𝕄) = held (SparseCore.T d) (ucRefs τ sig) (fun b => m (d, b)) :=
  Pipeline.unscopedBufs_held d (fun b => m (d, b))

/-- Host operations, then the rest of the program. -/
theorem wp_ops (d : Dev nD) (k : Fin 9) (W W' : Valuation τ sig (Elt F)) (h : after (ops k) W = W') {p : PUnit → Prog _ PUnit} {Φ : PUnit → sProp 𝕄} :
    iprop(boundary (T d) ∗ held (T d) (ucRefs τ sig) W
        ∗ ((boundary (T d) ∗ held (T d) (ucRefs τ sig) W') -∗ wp frame (wpE ((K (F := F)).defs (D (F := F))) 𝒱 (T d) none) Set.univ (p ⟨⟩) Φ))
      ⊢ wp frame (wpE ((K (F := F)).defs (D (F := F))) 𝒱 (T d) none) Set.univ (seq (ops k) >>= p) Φ := by
  subst h
  iintro ⟨Hb, Hh, Hk⟩
  iapply (StableHlo.wp_seq (defs := (K (F := F)).defs (D (F := F))) 𝒱 none Set.univ d (ucRefs τ sig) _ (ops k) (sub_uc k) (fresh k) W) $$ [Hb Hh]
  · isplitl [Hb] <;> iassumption
  iexact Hk

set_option maxRecDepth 16384 in
set_option maxHeartbeats 2000000 in
/-- @main on device `d`'s TensorCore. -/
theorem hmain (κ : GSem nD τ sig → ℕ) (d : Dev nD) :
    iprop((K (F := F)).ctx EH (P (data X)) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 4 ∗ held (T d) (ucRefs τ sig) (X.E d) ∗ (K (F := F)).tcEnd d) := by
  unfold SparseCore.Cfg.tcRes SparseCore.Cfg.tcEnd
  rw [launch_held, main_eq, ghost_eq]
  iintro ⟨#Hctx, Hst, ⟨Hb, Hh, Hts, -⟩, ⟨HG0, HG1, HG2, HG3, HG4, HG5⟩, HT0, HT1, HT2, HT3, HT4, HT5⟩
  iapply (wp_ops d 0 (fun b => m (d, b)) _ (X.hR0 d))
  isplitl [Hb]; · iexact Hb
  isplitl [Hh]; · iexact Hh
  iintro ⟨Hb, Hh⟩
  rw [wp_bind]
  iapply (wp_reg X.R (data X) κ d 0)
  isplitr; · iexact Hctx
  isplitl [Hst]; · iexact Hst
  isplitl [Hb]; · iexact Hb
  isplitl [Hh]; · iexact Hh
  isplitl [HG0]; · iexact HG0
  isplitl [HT0]; · iexact HT0
  iintro ⟨Hb, Hst, Hh⟩
  iapply (wp_ops d 1 (next X.R 0 d) _ (X.hV0 d))
  isplitl [Hb]; · iexact Hb
  isplitl [Hh]; · iexact Hh
  iintro ⟨Hb, Hh⟩
  rw [wp_bind]
  iapply (wp_call (data X) κ d 0 (X.V 0 d) (X.U 0 d) rfl rfl rfl rfl (X.hU 0 d))
  isplitr; · iexact Hctx
  isplitl [Hst]; · iexact Hst
  isplitl [Hh]; · iexact Hh
  iintro ⟨Hst, Hh⟩
  iapply (wp_ops d 2 (X.U 0 d) _ (X.hR1 d))
  isplitl [Hb]; · iexact Hb
  isplitl [Hh]; · iexact Hh
  iintro ⟨Hb, Hh⟩
  rw [wp_bind]
  iapply (wp_reg X.R (data X) κ d 1)
  isplitr; · iexact Hctx
  isplitl [Hst]; · iexact Hst
  isplitl [Hb]; · iexact Hb
  isplitl [Hh]; · iexact Hh
  isplitl [HG1]; · iexact HG1
  isplitl [HT1]; · iexact HT1
  iintro ⟨Hb, Hst, Hh⟩
  iapply (wp_ops d 3 (next X.R 1 d) _ (X.hV1 d))
  isplitl [Hb]; · iexact Hb
  isplitl [Hh]; · iexact Hh
  iintro ⟨Hb, Hh⟩
  rw [wp_bind]
  iapply (wp_call (data X) κ d 1 (X.V 1 d) (X.U 1 d) rfl rfl rfl rfl (X.hU 1 d))
  isplitr; · iexact Hctx
  isplitl [Hst]; · iexact Hst
  isplitl [Hh]; · iexact Hh
  iintro ⟨Hst, Hh⟩
  iapply (wp_ops d 4 (X.U 1 d) _ (X.hR2 d))
  isplitl [Hb]; · iexact Hb
  isplitl [Hh]; · iexact Hh
  iintro ⟨Hb, Hh⟩
  rw [wp_bind]
  iapply (wp_reg X.R (data X) κ d 2)
  isplitr; · iexact Hctx
  isplitl [Hst]; · iexact Hst
  isplitl [Hb]; · iexact Hb
  isplitl [Hh]; · iexact Hh
  isplitl [HG2]; · iexact HG2
  isplitl [HT2]; · iexact HT2
  iintro ⟨Hb, Hst, Hh⟩
  iapply (wp_ops d 5 (next X.R 2 d) _ (X.hV2 d))
  isplitl [Hb]; · iexact Hb
  isplitl [Hh]; · iexact Hh
  iintro ⟨Hb, Hh⟩
  rw [wp_bind]
  iapply (wp_call (data X) κ d 2 (X.V 2 d) (X.U 2 d) rfl rfl rfl rfl (X.hU 2 d))
  isplitr; · iexact Hctx
  isplitl [Hst]; · iexact Hst
  isplitl [Hh]; · iexact Hh
  iintro ⟨Hst, Hh⟩
  iapply (wp_ops d 6 (X.U 2 d) _ (X.hR3 d))
  isplitl [Hb]; · iexact Hb
  isplitl [Hh]; · iexact Hh
  iintro ⟨Hb, Hh⟩
  rw [wp_bind]
  iapply (wp_reg X.R (data X) κ d 3)
  isplitr; · iexact Hctx
  isplitl [Hst]; · iexact Hst
  isplitl [Hb]; · iexact Hb
  isplitl [Hh]; · iexact Hh
  isplitl [HG3]; · iexact HG3
  isplitl [HT3]; · iexact HT3
  iintro ⟨Hb, Hst, Hh⟩
  iapply (wp_ops d 7 (next X.R 3 d) _ (X.hV3 d))
  isplitl [Hb]; · iexact Hb
  isplitl [Hh]; · iexact Hh
  iintro ⟨Hb, Hh⟩
  rw [wp_bind]
  iapply (wp_call (data X) κ d 3 (X.V 3 d) (X.U 3 d) rfl rfl rfl rfl (X.hU 3 d))
  isplitr; · iexact Hctx
  isplitl [Hst]; · iexact Hst
  isplitl [Hh]; · iexact Hh
  iintro ⟨Hst, Hh⟩
  iapply (wp_ops d 8 (X.U 3 d) _ (X.hR4 d))
  isplitl [Hb]; · iexact Hb
  isplitl [Hh]; · iexact Hh
  iintro ⟨Hb, Hh⟩
  rw [wp_bind]
  iapply (wp_reg X.R (data X) κ d 4)
  isplitr; · iexact Hctx
  isplitl [Hst]; · iexact Hst
  isplitl [Hb]; · iexact Hb
  isplitl [Hh]; · iexact Hh
  isplitl [HG4]; · iexact HG4
  isplitl [HT4]; · iexact HT4
  iintro ⟨Hb, Hst, Hh⟩
  rw [X.hR5 d, wp_bind]
  iapply (wp_reg X.R (data X) κ d 5)
  isplitr; · iexact Hctx
  isplitl [Hst]; · iexact Hst
  isplitl [Hb]; · iexact Hb
  isplitl [Hh]; · iexact Hh
  isplitl [HG5]; · iexact HG5
  isplitl [HT5]; · iexact HT5
  iintro ⟨Hb, Hst, Hh⟩
  rw [wp_pure]
  imodintro
  isplitl [Hst]; · iexact Hst
  isplitl [Hh]; · iexact Hh
  isplitl [Hb] <;> iassumption

/-- Every array of device `d` holds what the operations leave. -/
def fq (d : Dev nD) (s' : Phys nD τ sig (Elt F)) : Prop := ∀ b ∈ ucRefs τ sig, s'.mem.mem (d, b) = X.E d b

theorem held_agree (d : Dev nD) (s' : Phys nD τ sig (Elt F)) (W : Valuation τ sig (Elt F)) : ∀ R : Finset (DevRef τ sig),
    iprop(held (T d) R W ∗ SI s') ⊢ (⌜∀ b ∈ R, s'.mem.mem (d, b) = W b⌝ : sProp 𝕄) := by
  intro R
  induction R using Finset.induction_on with
  | empty => exact BI.pure_intro fun b hb => absurd hb (Finset.notMem_empty b)
  | insert b R hb ih =>
    unfold held at ih ⊢
    rw [SparseCore.bigSep_insert' hb]
    iintro ⟨⟨Hb, HR⟩, HSI⟩
    ihave H := (persistent_entails_right (SI_pointsTo_agree (st := s') (ℓ := (d, b)) (I := Finset.univ) (q := fullShare) (f := W b))) $$ [HSI Hb]
    · isplitl [HSI] <;> iassumption
    icases H with ⟨%h1, HSI, -⟩
    ihave H := ih $$ [HR HSI]
    · isplitl [HR] <;> iassumption
    icases H with %h2
    ipureintro
    intro a ha
    rcases Finset.mem_insert.mp ha with rfl | ha
    · exact funext fun i => h1 i (Finset.mem_univ i)
    · exact h2 a ha

theorem hfin (d : Dev nD) (s' : Phys nD τ sig (Elt F)) :
    iprop(held (T d) (ucRefs τ sig) (X.E d) ∗ SI s') ⊢ (⌜fq X d s'⌝ : sProp 𝕄) := held_agree d s' _ _

/-! ## The run -/

/-- At the end every array of every device holds what the operations leave, and every semaphore is at zero. -/
def QC : PUnit × MemSt nD τ sig (Elt F) → Prop :=
  fun r => (∀ d : Dev nD, ∀ b ∈ ucRefs τ sig, r.2.mem (d, b) = X.E d b) ∧ r.2.sem = fun _ => 0

set_option maxHeartbeats 1000000 in
theorem run_main :
    θ_run (Cert.KernelIdeal.defs (F := F)) (Cert.KernelIdeal.threads (F := F)) ⟨m, fun _ => 0, ρ⟩ (QC X) :=
  SparseCore.Cfg.θ_run_sc_quiescent (K := K (F := F)) (D := D (F := F)) (𝒱 := 𝒱) (EH := EH) (P := P (data X)) (A := ∅) facts v₀
    (fun q hq => match q with | 0 => nomatch hq | 1 => nomatch hq | 2 => nomatch hq | 3 => nomatch hq)
    (fun q _ => match q with
      | 0 => tileObl0 (data X) X.h0
      | 1 => tileObl1 (data X) X.h1
      | 2 => tileObl2 (data X) X.h2
      | 3 => tileObl3 (data X) X.h3)
    (fun q _ => SparseCore.Cfg.VecSplit.of_plain (vecSplit (data X) q))
    m ρ main (fun d => ghost d) (fun d => held (T d) (ucRefs τ sig) (X.E d)) (u₀ (F := F)) (sep_elim_left.trans (hu₀ (data X))) (hmain ρ X)
    (fq X) (hfin X) (QC X) (fun _ h hz => ⟨h, hz⟩)

end Cert.Proof.Main

end
-- ==== Proof.Lines.lean ====
/-
  What the host operations leave, read at the arrays that matter: each gather's table and list, each stage's rows and weights, and
  that the arguments stay.
-/
module

public import proofs.«01_k».proof.Proof.Main

@[expose] public section

noncomputable section

namespace Cert.Proof.Lines

open Cert.KernelIdeal Cert.KernelIdeal.Gen
open Idealize.ShloMosaic
open Idealize.ShloMosaic.StableHlo (seq after)
open Cert.Proof.Ops Cert.Proof.Main Cert.Proof.Launch Cert.Proof.Regions

variable {F : FTy → Type} [FloatOps F]

/-- An array of the program. -/
abbrev dr (r : Ref sig .tc) : DevRef τ sig := Proc.devRef .tc r

/-! ## What each piece leaves -/

/-- The features, points first. -/
theorem feat (W : Valuation τ sig (Elt F)) : after (ops 0) W (dr main_v0)
    = transpose S64x1024x3 [0, 2, 1] (W (dr main_arg1) : S64x3x1024.Idx → Elt F .f32) transposes_S64x3x1024_S64x1024x3_0_2_1 := by
  show after ops0 W _ = _
  unfold ops0; after_results_simp <;> rfl

/-- Gather 0's table: features, points and zeros side by side, made flat. -/
theorem tab0 (W : Valuation τ sig (Elt F)) : after (ops 1) W (dr main_v4)
    = shapeCast S65536x128 (concatenate S64x1024x128 2 [⟨S64x1024x16, (W (dr main_v1) : S64x1024x16.Idx → Elt F .f32)⟩,
        ⟨S64x1024x3, (W (dr main_arg0) : S64x1024x3.Idx → Elt F .f32)⟩,
        ⟨S64x1024x109, (broadcastInDim S64x1024x109 ![] bcast_S_S64x1024x109 (constant S_ .f32 0x00000000#32) : S64x1024x109.Idx → Elt F .f32)⟩]
        concatenates_S64x1024x16_S64x1024x3_S64x1024x109_S64x1024x128_d2) shapeCasts_S64x1024x128_S65536x128 := by
  show after ops1 W _ = _
  unfold ops1; after_results_simp <;> rfl

/-- Gather 0's list: the numbers plus their batch's first row, made flat. -/
theorem lst0 (W : Valuation τ sig (Elt F)) : after (ops 1) W (dr main_v11)
    = shapeCast S1048576 (addi (W (dr main_arg18) : IVec S64x512x32 32) (broadcastInDim S64x512x32 ![0, 1, 2] bcast_S64x1x1_S64x512x32_0_1_2
        (broadcastInDim S64x1x1 ![0] bcast_S64_S64x1x1_0 (muli (iotaInDim S64 32 0) (broadcastInDim S64 ![] bcast_S_S64 (constantI S_ 32 1024#32))))))
        shapeCasts_S64x512x32_S1048576 := by
  show after ops1 W _ = _
  unfold ops1; after_results_simp <;> rfl

/-- Stage 0's rows, of the gather's output. -/
theorem rows0 (W : Valuation τ sig (Elt F)) : after (ops 2) W (dr main_v13)
    = shapeCast S64x16384x128 (W (dr main_v12) : S1048576x128.Idx → Elt F .f32) shapeCasts_S1048576x128_S64x16384x128 := by
  show after ops2 W _ = _
  unfold ops2; after_results_simp <;> rfl

/-- Stage 0's weights of the features. -/
theorem wf0 (W : Valuation τ sig (Elt F)) : after (ops 2) W (dr main_v14)
    = extractStridedSlice S16x32 ![0, 0] (W (dr main_arg3) : S19x32.Idx → Elt F .f32) slices_S19x32_S16x32_0_0 := by
  show after ops2 W _ = _
  unfold ops2; after_results_simp <;> rfl

/-- Stage 0's weights of the coordinates. -/
theorem wr0 (W : Valuation τ sig (Elt F)) : after (ops 2) W (dr main_v15)
    = extractStridedSlice S3x32 ![16, 0] (W (dr main_arg3) : S19x32.Idx → Elt F .f32) slices_S19x32_S3x32_16_0 := by
  show after ops2 W _ = _
  unfold ops2; after_results_simp <;> rfl

/-- Gather 1's table: features, points and zeros side by side, made flat. -/
theorem tab1 (W : Valuation τ sig (Elt F)) : after (ops 3) W (dr main_v19)
    = shapeCast S32768x128 (concatenate S64x512x128 2 [⟨S64x512x32, (W (dr main_v16) : S64x512x32.Idx → Elt F .f32)⟩,
        ⟨S64x512x3, (W (dr main_arg14) : S64x512x3.Idx → Elt F .f32)⟩,
        ⟨S64x512x93, (broadcastInDim S64x512x93 ![] bcast_S_S64x512x93 (constant S_ .f32 0x00000000#32) : S64x512x93.Idx → Elt F .f32)⟩]
        concatenates_S64x512x32_S64x512x3_S64x512x93_S64x512x128_d2) shapeCasts_S64x512x128_S32768x128 := by
  show after ops3 W _ = _
  unfold ops3; after_results_simp <;> rfl

/-- Gather 1's list: the numbers plus their batch's first row, made flat. -/
theorem lst1 (W : Valuation τ sig (Elt F)) : after (ops 3) W (dr main_v26)
    = shapeCast S524288 (addi (W (dr main_arg19) : IVec S64x256x32 32) (broadcastInDim S64x256x32 ![0, 1, 2] bcast_S64x1x1_S64x256x32_0_1_2
        (broadcastInDim S64x1x1 ![0] bcast_S64_S64x1x1_0 (muli (iotaInDim S64 32 0) (broadcastInDim S64 ![] bcast_S_S64 (constantI S_ 32 512#32))))))
        shapeCasts_S64x256x32_S524288 := by
  show after ops3 W _ = _
  unfold ops3; after_results_simp <;> rfl

/-- Stage 1's rows, of the gather's output. -/
theorem rows1 (W : Valuation τ sig (Elt F)) : after (ops 4) W (dr main_v28)
    = shapeCast S64x8192x128 (W (dr main_v27) : S524288x128.Idx → Elt F .f32) shapeCasts_S524288x128_S64x8192x128 := by
  show after ops4 W _ = _
  unfold ops4; after_results_simp <;> rfl

/-- Stage 1's weights of the features. -/
theorem wf1 (W : Valuation τ sig (Elt F)) : after (ops 4) W (dr main_v29)
    = extractStridedSlice S32x64 ![0, 0] (W (dr main_arg4) : S35x64.Idx → Elt F .f32) slices_S35x64_S32x64_0_0 := by
  show after ops4 W _ = _
  unfold ops4; after_results_simp <;> rfl

/-- Stage 1's weights of the coordinates. -/
theorem wr1 (W : Valuation τ sig (Elt F)) : after (ops 4) W (dr main_v30)
    = extractStridedSlice S3x64 ![32, 0] (W (dr main_arg4) : S35x64.Idx → Elt F .f32) slices_S35x64_S3x64_32_0 := by
  show after ops4 W _ = _
  unfold ops4; after_results_simp <;> rfl

/-- Gather 2's table: features, points and zeros side by side, made flat. -/
theorem tab2 (W : Valuation τ sig (Elt F)) : after (ops 5) W (dr main_v34)
    = shapeCast S16384x128 (concatenate S64x256x128 2 [⟨S64x256x64, (W (dr main_v31) : S64x256x64.Idx → Elt F .f32)⟩,
        ⟨S64x256x3, (W (dr main_arg15) : S64x256x3.Idx → Elt F .f32)⟩,
        ⟨S64x256x61, (broadcastInDim S64x256x61 ![] bcast_S_S64x256x61 (constant S_ .f32 0x00000000#32) : S64x256x61.Idx → Elt F .f32)⟩]
        concatenates_S64x256x64_S64x256x3_S64x256x61_S64x256x128_d2) shapeCasts_S64x256x128_S16384x128 := by
  show after ops5 W _ = _
  unfold ops5; after_results_simp <;> rfl

/-- Gather 2's list: the numbers plus their batch's first row, made flat. -/
theorem lst2 (W : Valuation τ sig (Elt F)) : after (ops 5) W (dr main_v41)
    = shapeCast S262144 (addi (W (dr main_arg20) : IVec S64x128x32 32) (broadcastInDim S64x128x32 ![0, 1, 2] bcast_S64x1x1_S64x128x32_0_1_2
        (broadcastInDim S64x1x1 ![0] bcast_S64_S64x1x1_0 (muli (iotaInDim S64 32 0) (broadcastInDim S64 ![] bcast_S_S64 (constantI S_ 32 256#32))))))
        shapeCasts_S64x128x32_S262144 := by
  show after ops5 W _ = _
  unfold ops5; after_results_simp <;> rfl

/-- Stage 2's rows, of the gather's output. -/
theorem rows2 (W : Valuation τ sig (Elt F)) : after (ops 6) W (dr main_v43)
    = shapeCast S64x4096x128 (W (dr main_v42) : S262144x128.Idx → Elt F .f32) shapeCasts_S262144x128_S64x4096x128 := by
  show after ops6 W _ = _
  unfold ops6; after_results_simp <;> rfl

/-- Stage 2's weights of the features. -/
theorem wf2 (W : Valuation τ sig (Elt F)) : after (ops 6) W (dr main_v44)
    = extractStridedSlice S64x128 ![0, 0] (W (dr main_arg5) : S67x128.Idx → Elt F .f32) slices_S67x128_S64x128_0_0 := by
  show after ops6 W _ = _
  unfold ops6; after_results_simp <;> rfl

/-- Stage 2's weights of the coordinates. -/
theorem wr2 (W : Valuation τ sig (Elt F)) : after (ops 6) W (dr main_v45)
    = extractStridedSlice S3x128 ![64, 0] (W (dr main_arg5) : S67x128.Idx → Elt F .f32) slices_S67x128_S3x128_64_0 := by
  show after ops6 W _ = _
  unfold ops6; after_results_simp <;> rfl

/-- Gather 3's table: features, points and zeros side by side, made flat. -/
theorem tab3 (W : Valuation τ sig (Elt F)) : after (ops 7) W (dr main_v49)
    = shapeCast S8192x2x128 (concatenate S64x128x256 2 [⟨S64x128x128, (W (dr main_v46) : S64x128x128.Idx → Elt F .f32)⟩,
        ⟨S64x128x3, (W (dr main_arg16) : S64x128x3.Idx → Elt F .f32)⟩,
        ⟨S64x128x125, (broadcastInDim S64x128x125 ![] bcast_S_S64x128x125 (constant S_ .f32 0x00000000#32) : S64x128x125.Idx → Elt F .f32)⟩]
        concatenates_S64x128x128_S64x128x3_S64x128x125_S64x128x256_d2) shapeCasts_S64x128x256_S8192x2x128 := by
  show after ops7 W _ = _
  unfold ops7; after_results_simp <;> rfl

/-- Gather 3's list: the numbers plus their batch's first row, made flat. -/
theorem lst3 (W : Valuation τ sig (Elt F)) : after (ops 7) W (dr main_v56)
    = shapeCast S131072 (addi (W (dr main_arg21) : IVec S64x64x32 32) (broadcastInDim S64x64x32 ![0, 1, 2] bcast_S64x1x1_S64x64x32_0_1_2
        (broadcastInDim S64x1x1 ![0] bcast_S64_S64x1x1_0 (muli (iotaInDim S64 32 0) (broadcastInDim S64 ![] bcast_S_S64 (constantI S_ 32 128#32))))))
        shapeCasts_S64x64x32_S131072 := by
  show after ops7 W _ = _
  unfold ops7; after_results_simp <;> rfl

/-- Stage 3's rows, of the gather's output. -/
theorem rows3 (W : Valuation τ sig (Elt F)) : after (ops 8) W (dr main_v58)
    = shapeCast S64x2048x256 (W (dr main_v57) : S131072x2x128.Idx → Elt F .f32) shapeCasts_S131072x2x128_S64x2048x256 := by
  show after ops8 W _ = _
  unfold ops8; after_results_simp <;> rfl

/-- Stage 3's weights of the features. -/
theorem wf3 (W : Valuation τ sig (Elt F)) : after (ops 8) W (dr main_v59)
    = extractStridedSlice S128x128 ![0, 0] (W (dr main_arg6) : S131x128.Idx → Elt F .f32) slices_S131x128_S128x128_0_0 := by
  show after ops8 W _ = _
  unfold ops8; after_results_simp <;> rfl

/-- Stage 3's weights of the coordinates. -/
theorem wr3 (W : Valuation τ sig (Elt F)) : after (ops 8) W (dr main_v60)
    = extractStridedSlice S3x128 ![128, 0] (W (dr main_arg6) : S131x128.Idx → Elt F .f32) slices_S131x128_S3x128_128_0 := by
  show after ops8 W _ = _
  unfold ops8; after_results_simp <;> rfl

/-! ## What stays -/

/-- The arrays something writes. -/
def written : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_cst, main_c, main_cst_0, main_cst_2, main_cst_4, main_c_1, main_c_3, main_c_5]

set_option maxHeartbeats 2000000 in
/-- Every operation writes among them. -/
theorem writes_sub (k : Fin 9) : (ops k : List (HloOp τ sig (Elt F))).Forall fun op => op.writes ⊆ (written.map dr).toFinset := by
  have e : ∀ r : Ref sig .tc, r ∈ written → dr r ∈ written.map dr := fun r h => List.mem_map_of_mem h
  match k with
  | 0 | 1 | 2 | 3 | 4 | 5 | 6 | 7 | 8 =>
    simp only [ops, ops0, ops1, ops2, ops3, ops4, ops5, ops6, ops7, ops8, List.Forall, StableHlo.nullary_writes, StableHlo.unary_writes,
      StableHlo.binary_writes, StableHlo.reshape_writes, StableHlo.nary_writes, Finset.singleton_subset_iff, List.mem_toFinset]
    and_intros <;> exact e _ (by decide)

/-- The operations keep every other array. -/
theorem keep (k : Fin 9) (W : Valuation τ sig (Elt F)) {r : Ref sig .tc} (hr : r ∉ written) : after (ops k) W (dr r) = W (dr r) :=
  StableHlo.after_of_writes_sub (ops k) W (writes_sub k) hr

/-- So does a call of a TensorCore kernel. -/
theorem keep_next (R : Fin 6 → Dev nD → Valuation τ sig (Elt F)) (p : Fin 6) (d : Dev nD) {r : Ref sig .tc} (hr : r ∉ written) :
    next R p d (dr r) = R p d (dr r) :=
  next_of_ne R p d _ fun e => hr (by
    have h : ∀ p : Fin 6, Pipeline.arrRef (cfgs p).spec (outW p) ∈ written := by decide
    exact Proc.devRef_injective _ e ▸ h p)

/-- The output of a SparseCore call is among the written. -/
theorem ne_out (q : Fin 4) {r : Ref sig .tc} (hr : r ∉ written) : dr r ≠ Proc.devRef .tc (outRef q) := fun e => hr (by
  have h : ∀ q : Fin 4, outRef q ∈ written := by decide
  exact Proc.devRef_injective _ e ▸ h q)

/-! ## The contents, one after the other -/

variable (m : (ℓ : Loc nD τ sig) → Buf (Elt F) ℓ)

/-- Contents that follow one another as the program runs, whatever the SparseCore calls leave. -/
structure Chain (R : Fin 6 → Dev nD → Valuation τ sig (Elt F)) (V U : Fin 4 → Dev nD → Valuation τ sig (Elt F)) : Prop where
  hR0 : ∀ d, after (ops 0) (fun b => m (d, b)) = R 0 d
  hR1 : ∀ d, after (ops 2) (U 0 d) = R 1 d
  hR2 : ∀ d, after (ops 4) (U 1 d) = R 2 d
  hR3 : ∀ d, after (ops 6) (U 2 d) = R 3 d
  hR4 : ∀ d, after (ops 8) (U 3 d) = R 4 d
  hR5 : ∀ d, next R 4 d = R 5 d
  hV0 : ∀ d, after (ops 1) (next R 0 d) = V 0 d
  hV1 : ∀ d, after (ops 3) (next R 1 d) = V 1 d
  hV2 : ∀ d, after (ops 5) (next R 2 d) = V 2 d
  hV3 : ∀ d, after (ops 7) (next R 3 d) = V 3 d
  hU : ∀ q d, ∀ b : DevRef τ sig, b ≠ Proc.devRef .tc (outRef q) → U q d b = V q d b

theorem chain (X : Line m) : Chain m X.R X.V X.U :=
  ⟨X.hR0, X.hR1, X.hR2, X.hR3, X.hR4, X.hR5, X.hV0, X.hV1, X.hV2, X.hV3, X.hU⟩

variable {m} {R : Fin 6 → Dev nD → Valuation τ sig (Elt F)} {V U : Fin 4 → Dev nD → Valuation τ sig (Elt F)}

namespace Chain

variable (X : Chain m R V U) (d : Dev nD) {r : Ref sig .tc} (hr : r ∉ written)

include X hr

theorem r0 : R 0 d (dr r) = m (d, dr r) := by rw [← X.hR0 d]; exact keep 0 _ hr
theorem n0 : next R 0 d (dr r) = m (d, dr r) := (keep_next R 0 d hr).trans (X.r0 d hr)
theorem v0 : V 0 d (dr r) = m (d, dr r) := by rw [← X.hV0 d]; exact (keep 1 _ hr).trans (X.n0 d hr)
theorem u0 : U 0 d (dr r) = m (d, dr r) := (X.hU 0 d _ (ne_out 0 hr)).trans (X.v0 d hr)
theorem r1 : R 1 d (dr r) = m (d, dr r) := by rw [← X.hR1 d]; exact (keep 2 _ hr).trans (X.u0 d hr)
theorem n1 : next R 1 d (dr r) = m (d, dr r) := (keep_next R 1 d hr).trans (X.r1 d hr)
theorem v1 : V 1 d (dr r) = m (d, dr r) := by rw [← X.hV1 d]; exact (keep 3 _ hr).trans (X.n1 d hr)
theorem u1 : U 1 d (dr r) = m (d, dr r) := (X.hU 1 d _ (ne_out 1 hr)).trans (X.v1 d hr)
theorem r2 : R 2 d (dr r) = m (d, dr r) := by rw [← X.hR2 d]; exact (keep 4 _ hr).trans (X.u1 d hr)
theorem n2 : next R 2 d (dr r) = m (d, dr r) := (keep_next R 2 d hr).trans (X.r2 d hr)
theorem v2 : V 2 d (dr r) = m (d, dr r) := by rw [← X.hV2 d]; exact (keep 5 _ hr).trans (X.n2 d hr)
theorem u2 : U 2 d (dr r) = m (d, dr r) := (X.hU 2 d _ (ne_out 2 hr)).trans (X.v2 d hr)
theorem r3 : R 3 d (dr r) = m (d, dr r) := by rw [← X.hR3 d]; exact (keep 6 _ hr).trans (X.u2 d hr)
theorem n3 : next R 3 d (dr r) = m (d, dr r) := (keep_next R 3 d hr).trans (X.r3 d hr)
theorem v3 : V 3 d (dr r) = m (d, dr r) := by rw [← X.hV3 d]; exact (keep 7 _ hr).trans (X.n3 d hr)
theorem u3 : U 3 d (dr r) = m (d, dr r) := (X.hU 3 d _ (ne_out 3 hr)).trans (X.v3 d hr)
theorem r4 : R 4 d (dr r) = m (d, dr r) := by rw [← X.hR4 d]; exact (keep 8 _ hr).trans (X.u3 d hr)
theorem r5 : R 5 d (dr r) = m (d, dr r) := by rw [← X.hR5 d]; exact (keep_next R 4 d hr).trans (X.r4 d hr)
theorem kept : next R 5 d (dr r) = m (d, dr r) := (keep_next R 5 d hr).trans (X.r5 d hr)

end Chain

end Cert.Proof.Lines

end
-- ==== Proof.Read.lean ====
/-
  What the gathers read, entry by entry: the host's gather by batch on the one side, and on the other the gather of a
  flat table's rows by the flat numbers `i + b · n`, with the reshapes around it.
-/
module

public import Idealize.ShloMosaic.Lib.Pipeline.Value
public import Idealize.ShloMosaic.Lib.SparseCore.Stream
public import Idealize.ShloMosaic.Lib.Pointwise

@[expose] public section

noncomputable section

namespace Cert.Proof.Read

open Idealize.ShloMosaic

/-- Number `v` as one of `n`. -/
def pick (n : ℕ) [NeZero n] (v : BitVec 32) : Fin n := Fin.ofNat n v.toNat

theorem pick_val {n : ℕ} [NeZero n] {v : BitVec 32} (h : v.toNat < n) : (pick n v).val = v.toNat := by
  unfold pick; rw [Fin.val_ofNat]; exact Nat.mod_eq_of_lt h

theorem three : ∀ b : Fin 3, b = 0 ∨ b = 1 ∨ b = 2 := by decide
theorem four : ∀ b : Fin 4, b = 0 ∨ b = 1 ∨ b = 2 ∨ b = 3 := by decide

/-! ## The host's gather -/

section Host

variable {n m w : ℕ}

/-- The host's gather of rows by batch: at `(b, j, k, c)` it reads the operand at `(b, start (b, j, k), c)`. -/
abbrev rowsByBatch (n m w : ℕ)
    (wf : GatherDims.WF (⟨3, ![64, n, w]⟩ : Shape) ⟨4, ![64, m, 32, 1]⟩ ⟨4, ![64, m, 32, w]⟩ [3] [1] [0] [1] [0] 3 ![1, 1, w]) :
    GatherDims (⟨3, ![64, n, w]⟩ : Shape) ⟨4, ![64, m, 32, 1]⟩ ⟨4, ![64, m, 32, w]⟩ where
  offsetDims := [3]
  collapsedSliceDims := [1]
  operandBatchingDims := [0]
  startIndicesBatchingDims := [0]
  startIndexMap := [1]
  indexVectorDim := 3
  sliceSizes := ![1, 1, w]
  wf := wf

variable (wf : GatherDims.WF (⟨3, ![64, n, w]⟩ : Shape) ⟨4, ![64, m, 32, 1]⟩ ⟨4, ![64, m, 32, w]⟩ [3] [1] [0] [1] [0] 3 ![1, 1, w])
  (j : (⟨4, ![64, m, 32, w]⟩ : Shape).Idx) (z : IVec ⟨4, ![64, m, 32, 1]⟩ 32)

/-- The coordinates of the start index read for a result index. -/
theorem siIdx_eq (c : Fin (rowsByBatch n m w wf).startIndexMap.length) (y : (⟨4, ![64, m, 32, 1]⟩ : Shape).Idx)
    (h0 : (y 0).val = (j 0).val) (h1 : (y 1).val = (j 1).val) (h2 : (y 2).val = (j 2).val) :
    (rowsByBatch n m w wf).siIdx j c = y := by
  funext b
  apply Fin.ext
  have hb : b = 0 ∨ b = 1 ∨ b = 2 ∨ b = 3 := by
    exact four b
  rcases hb with rfl | rfl | rfl | rfl
  · exact Eq.trans rfl h0.symm
  · exact Eq.trans rfl h1.symm
  · exact Eq.trans rfl h2.symm
  · have hy : (y 3).val < 1 := (y 3).isLt
    have hc : c.val < 1 := c.isLt
    have : ((rowsByBatch n m w wf).siIdx j c 3).val = c.val := rfl
    omega

/-- The host's gather by batch reads `(b, i, c)`, the start `i` in range. -/
theorem rowsByBatch_apply {α : Type} (x : (⟨3, ![64, n, w]⟩ : Shape).Idx → α)
    (y : (⟨4, ![64, m, 32, 1]⟩ : Shape).Idx)
    (h0 : (y 0).val = (j 0).val) (h1 : (y 1).val = (j 1).val) (h2 : (y 2).val = (j 2).val)
    (k : (⟨3, ![64, n, w]⟩ : Shape).Idx) (k0 : (k 0).val = (j 0).val) (k1 : ((k 1).val : ℤ) = (z y).toInt)
    (k2 : (k 2).val = (j 3).val) :
    Host.gather (rowsByBatch n m w wf) x z j = x k := by
  unfold Host.gather
  refine congrArg x (funext fun a => Fin.ext ?_)
  have hb : a = 0 ∨ a = 1 ∨ a = 2 := by
    exact three a
  have hn : (k 1).val < n := (k 1).isLt
  rcases hb with rfl | rfl | rfl
  · have e : ((rowsByBatch n m w wf).operandIdx j z 0).val = 0 + (j 0).val + 0 := rfl
    omega
  · have e : ((rowsByBatch n m w wf).operandIdx j z 1).val
        = min (z ((rowsByBatch n m w wf).siIdx j ⟨0, Nat.one_pos⟩)).toInt.toNat (n - 1) + 0 + 0 := rfl
    rw [e, siIdx_eq wf j _ y h0 h1 h2]
    omega
  · have e : ((rowsByBatch n m w wf).operandIdx j z 2).val = 0 + 0 + (j 3).val := rfl
    omega

/-- A number that is not negative is not wrapped. -/
theorem toInt_wrap (v nn : BitVec 32) (h : v.toNat < 2 ^ 31) :
    (if IntOp.cmpi .slt v 0#32 = 1#1 then IntOp.addi v nn else v).toInt = (v.toNat : ℤ) := by
  have e : IntOp.cmpi .slt v 0#32 = 0#1 := by
    have hv : v.slt 0#32 = false := by
      rw [BitVec.slt_eq_decide, decide_eq_false_iff_not]
      simp only [BitVec.toInt_eq_toNat_cond, BitVec.toNat_ofNat, Nat.reducePow, Nat.reduceMod]
      omega
    simp only [IntOp.cmpi, hv]; rfl
  rw [if_neg (by rw [e]; decide), BitVec.toInt_eq_toNat_cond, if_pos (by omega)]

end Host

/-! ## The flat list -/

section Flat

variable {n m : ℕ}

/-- An entry of the flat list, the number in its own batch plus the batch's first row: no overflow. -/
theorem flat_toNat (v : BitVec 32) (b n : ℕ) (hb : b < 64) (hn : n ≤ 1024) (hv : v.toNat < n) :
    (v + BitVec.ofNat 32 b * BitVec.ofNat 32 n).toNat = b * n + v.toNat := by
  have h : b * n ≤ 63 * 1024 := Nat.mul_le_mul (by omega) hn
  rw [BitVec.toNat_add, BitVec.toNat_mul, BitVec.toNat_ofNat, BitVec.toNat_ofNat, Nat.mod_eq_of_lt (by omega : b < 2 ^ 32),
    Nat.mod_eq_of_lt (by omega : n < 2 ^ 32), Nat.mod_eq_of_lt (by omega : b * n < 2 ^ 32), Nat.mod_eq_of_lt (by omega)]
  omega

end Flat

theorem row_arith {a m K i j t c : ℕ} (hK : m * 32 = K) (ht : i * 32 + j = t) : ((a * m + i) * 32 + j) * 128 + c = (a * K + t) * 128 + c := by
  subst hK; subst ht; ring

theorem pair_arith {a m K i j t c : ℕ} (hK : m * 32 = K) (ht : i * 32 + j = t) :
    (((a * m + i) * 32 + j) * 2 + c / 128) * 128 + c % 128 = (a * K + t) * 256 + c := by
  have h : ((a * m + i) * 32 + j) = a * K + t := by subst hK; subst ht; ring
  rw [h]; omega

/-! ## The gather of a flat table's rows -/

section Rows

variable {F : FTy → Type} {n m R Q K : ℕ}

/-- A flat table's rows of 128 gathered by a flat list, read at `(b, j, k, c)`: the table's entry `(b', i, c)` where the
    list names row `b' · n + i`. -/
theorem gather_apply_row (hw : (⟨2, ![R, 128]⟩ : Shape).Gathers 0 ⟨2, ![Q, 128]⟩)
    (hl : (⟨1, ![Q]⟩ : Shape).numel = (⟨2, ![Q, 128]⟩ : Shape).size hw.axis')
    (cat : (⟨3, ![64, n, 128]⟩ : Shape).Idx → Elt F .f32) (I : (⟨3, ![64, m, 32]⟩ : Shape).Idx → Elt F .i32)
    (hc : (⟨3, ![64, n, 128]⟩ : Shape).ShapeCasts ⟨2, ![R, 128]⟩) (hi : (⟨3, ![64, m, 32]⟩ : Shape).ShapeCasts ⟨1, ![Q]⟩)
    (ho : (⟨2, ![Q, 128]⟩ : Shape).ShapeCasts ⟨3, ![64, K, 128]⟩)
    (hin : ∀ x, (shapeCast ⟨1, ![Q]⟩ I hi x).toNat < (⟨2, ![R, 128]⟩ : Shape).size hw.axis)
    (hK : m * 32 = K) (j : (⟨3, ![64, K, 128]⟩ : Shape).Idx) (y : (⟨3, ![64, m, 32]⟩ : Shape).Idx)
    (h0 : (y 0).val = (j 0).val) (h1 : (y 1).val * 32 + (y 2).val = (j 1).val)
    (k : (⟨3, ![64, n, 128]⟩ : Shape).Idx) (hk : (k 0).val * n + (k 1).val = (I y).toNat) (hk2 : (k 2).val = (j 2).val) :
    shapeCast ⟨3, ![64, K, 128]⟩ (SparseCore.gatherPayload (F := F) (e := .f32) hw (shapeCast ⟨2, ![R, 128]⟩ cat hc)
      (SparseCore.rows (shapeCast ⟨1, ![Q]⟩ I hi) hl hin)) ho j = cat k := by
  have q4 := Shape.rowMajor_val_three j
  have q3 := Shape.rowMajor_val_three y
  have qk := Shape.rowMajor_val_three k
  simp only [Matrix.cons_val] at q4 q3 qk
  have hQ : 64 * m * 32 = Q := by
    have := hi; simp [Shape.ShapeCasts, Shape.numel, Fin.prod_univ_succ] at this; omega
  have e3 : ((⟨3, ![64, m, 32]⟩ : Shape).rowMajor y).val < Q :=
    lt_of_lt_of_eq ((⟨3, ![64, m, 32]⟩ : Shape).rowMajor y).isLt (by simpa [Shape.numel, Fin.prod_univ_succ, Nat.mul_assoc] using hQ)
  let o : (⟨2, ![Q, 128]⟩ : Shape).Idx := ix2 ⟨((⟨3, ![64, m, 32]⟩ : Shape).rowMajor y).val, e3⟩ (j 2)
  have qo := Shape.rowMajor_val_two o
  simp only [Matrix.cons_val] at qo
  rw [shapeCast_apply _ ho j o (by rw [qo, q4]; show ((⟨3, ![64, m, 32]⟩ : Shape).rowMajor y).val * 128 + (j 2).val = _; rw [q3, h0]; exact row_arith hK h1)]
  unfold SparseCore.gatherPayload
  let r := SparseCore.rows (F := F) (shapeCast ⟨1, ![Q]⟩ I hi) hl hin
  have qt := Shape.rowMajor_val_two (hw.idx r o)
  simp only [Matrix.cons_val] at qt
  have er : (r (o hw.axis')).val = (I y).toNat := by
    show (shapeCast ⟨1, ![Q]⟩ I hi ((⟨1, ![Q]⟩ : Shape).rowMajor.symm ((o hw.axis').cast hl.symm))).toNat = _
    rw [shapeCast_apply I hi _ y (by rw [Equiv.apply_symm_apply]; rfl)]
  have t0 : (hw.idx r o 0).val = (I y).toNat := (congrArg Fin.val (hw.idx_axis r o)).trans er
  have t1 : (hw.idx r o 1).val = (j 2).val := hw.idx_of_ne r o 1 Nat.one_ne_zero
  exact shapeCast_apply cat hc _ k (by rw [qt, qk, t0, t1, ← hk]; rw [hk2])

/-- A flat table's rows of two times 128 gathered by a flat list, read at `(b, j, k, c)`: the table's entry `(b', i, c)` where the
    list names row `b' · n + i`. -/
theorem gather_apply_pair (hw : (⟨3, ![R, 2, 128]⟩ : Shape).Gathers 0 ⟨3, ![Q, 2, 128]⟩)
    (hl : (⟨1, ![Q]⟩ : Shape).numel = (⟨3, ![Q, 2, 128]⟩ : Shape).size hw.axis')
    (cat : (⟨3, ![64, n, 256]⟩ : Shape).Idx → Elt F .f32) (I : (⟨3, ![64, m, 32]⟩ : Shape).Idx → Elt F .i32)
    (hc : (⟨3, ![64, n, 256]⟩ : Shape).ShapeCasts ⟨3, ![R, 2, 128]⟩) (hi : (⟨3, ![64, m, 32]⟩ : Shape).ShapeCasts ⟨1, ![Q]⟩)
    (ho : (⟨3, ![Q, 2, 128]⟩ : Shape).ShapeCasts ⟨3, ![64, K, 256]⟩)
    (hin : ∀ x, (shapeCast ⟨1, ![Q]⟩ I hi x).toNat < (⟨3, ![R, 2, 128]⟩ : Shape).size hw.axis)
    (hK : m * 32 = K) (j : (⟨3, ![64, K, 256]⟩ : Shape).Idx) (y : (⟨3, ![64, m, 32]⟩ : Shape).Idx)
    (h0 : (y 0).val = (j 0).val) (h1 : (y 1).val * 32 + (y 2).val = (j 1).val)
    (k : (⟨3, ![64, n, 256]⟩ : Shape).Idx) (hk : (k 0).val * n + (k 1).val = (I y).toNat) (hk2 : (k 2).val = (j 2).val) :
    shapeCast ⟨3, ![64, K, 256]⟩ (SparseCore.gatherPayload (F := F) (e := .f32) hw (shapeCast ⟨3, ![R, 2, 128]⟩ cat hc)
      (SparseCore.rows (shapeCast ⟨1, ![Q]⟩ I hi) hl hin)) ho j = cat k := by
  have q4 := Shape.rowMajor_val_three j
  have q3 := Shape.rowMajor_val_three y
  have qk := Shape.rowMajor_val_three k
  simp only [Matrix.cons_val] at q4 q3 qk
  have hQ : 64 * m * 32 = Q := by
    have := hi; simp [Shape.ShapeCasts, Shape.numel, Fin.prod_univ_succ] at this; omega
  have e3 : ((⟨3, ![64, m, 32]⟩ : Shape).rowMajor y).val < Q :=
    lt_of_lt_of_eq ((⟨3, ![64, m, 32]⟩ : Shape).rowMajor y).isLt (by simpa [Shape.numel, Fin.prod_univ_succ, Nat.mul_assoc] using hQ)
  let o : (⟨3, ![Q, 2, 128]⟩ : Shape).Idx := ix3 ⟨((⟨3, ![64, m, 32]⟩ : Shape).rowMajor y).val, e3⟩ ⟨(j 2).val / 128, by have := (j 2).isLt; simp only [Matrix.cons_val] at this; omega⟩ ⟨(j 2).val % 128, Nat.mod_lt _ (by omega)⟩
  have qo := Shape.rowMajor_val_three o
  simp only [Matrix.cons_val] at qo
  rw [shapeCast_apply _ ho j o (by rw [qo, q4]; show (((⟨3, ![64, m, 32]⟩ : Shape).rowMajor y).val * 2 + (j 2).val / 128) * 128 + (j 2).val % 128 = _; rw [q3, h0]; exact pair_arith hK h1)]
  unfold SparseCore.gatherPayload
  let r := SparseCore.rows (F := F) (shapeCast ⟨1, ![Q]⟩ I hi) hl hin
  have qt := Shape.rowMajor_val_three (hw.idx r o)
  simp only [Matrix.cons_val] at qt
  have er : (r (o hw.axis')).val = (I y).toNat := by
    show (shapeCast ⟨1, ![Q]⟩ I hi ((⟨1, ![Q]⟩ : Shape).rowMajor.symm ((o hw.axis').cast hl.symm))).toNat = _
    rw [shapeCast_apply I hi _ y (by rw [Equiv.apply_symm_apply]; rfl)]
  have t0 : (hw.idx r o 0).val = (I y).toNat := (congrArg Fin.val (hw.idx_axis r o)).trans er
  have t1 : (hw.idx r o 1).val = (j 2).val / 128 := hw.idx_of_ne r o 1 Nat.one_ne_zero
  have t2 : (hw.idx r o 2).val = (j 2).val % 128 := hw.idx_of_ne r o 2 (Nat.succ_ne_zero 1)
  exact shapeCast_apply cat hc _ k (by rw [qt, qk, t0, t1, t2, ← hk]; rw [hk2]; omega)

end Rows

/-! ## A stage's results -/

section Stage

variable {α : Type} {n m W w v u K : ℕ}

/-- The table before it is made flat, at a feature: the feature. -/
theorem cat_left (f : (⟨3, ![64, n, w]⟩ : Shape).Idx → α) (x : (⟨3, ![64, n, v]⟩ : Shape).Idx → α) (p : (⟨3, ![64, n, u]⟩ : Shape).Idx → α)
    (h : Shape.Concatenates [(⟨3, ![64, n, w]⟩ : Shape), ⟨3, ![64, n, v]⟩, ⟨3, ![64, n, u]⟩] ⟨3, ![64, n, W]⟩ 2)
    (k : (⟨3, ![64, n, W]⟩ : Shape).Idx) (i : (⟨3, ![64, n, w]⟩ : Shape).Idx)
    (h0 : (i 0).val = (k 0).val) (h1 : (i 1).val = (k 1).val) (h2 : (i 2).val = (k 2).val) :
    concatenate ⟨3, ![64, n, W]⟩ 2 [⟨_, f⟩, ⟨_, x⟩, ⟨_, p⟩] h k = f i := by
  refine concatenate_apply_piece 2 [⟨_, f⟩, ⟨_, x⟩, ⟨_, p⟩] h k 0 (by simp) _ f rfl rfl 0 rfl i (fun b hb => ?_) (by rw [Nat.zero_add]; exact h2)
  rcases three b with rfl | rfl | rfl
  · exact h0
  · exact h1
  · exact absurd rfl hb

/-- At a coordinate of the point: the coordinate. -/
theorem cat_mid (f : (⟨3, ![64, n, w]⟩ : Shape).Idx → α) (x : (⟨3, ![64, n, v]⟩ : Shape).Idx → α) (p : (⟨3, ![64, n, u]⟩ : Shape).Idx → α)
    (h : Shape.Concatenates [(⟨3, ![64, n, w]⟩ : Shape), ⟨3, ![64, n, v]⟩, ⟨3, ![64, n, u]⟩] ⟨3, ![64, n, W]⟩ 2)
    (k : (⟨3, ![64, n, W]⟩ : Shape).Idx) (i : (⟨3, ![64, n, v]⟩ : Shape).Idx)
    (h0 : (i 0).val = (k 0).val) (h1 : (i 1).val = (k 1).val) (h2 : w + (i 2).val = (k 2).val) :
    concatenate ⟨3, ![64, n, W]⟩ 2 [⟨_, f⟩, ⟨_, x⟩, ⟨_, p⟩] h k = x i := by
  refine concatenate_apply_piece 2 [⟨_, f⟩, ⟨_, x⟩, ⟨_, p⟩] h k 1 (by simp) _ x rfl rfl w (by simp) i (fun b hb => ?_) h2
  rcases three b with rfl | rfl | rfl
  · exact h0
  · exact h1
  · exact absurd rfl hb

/-- `r` holds, per batch, the rows of `cat` that `I` names, 32 to an anchor. -/
def Reads [NeZero n] (hK : m * 32 = K) (cat : (⟨3, ![64, n, W]⟩ : Shape).Idx → α) (I : IVec ⟨3, ![64, m, 32]⟩ 32)
    (r : (⟨3, ![64, K, W]⟩ : Shape).Idx → α) : Prop :=
  ∀ (b : Fin 64) (i : Fin m) (j : Fin 32) (a : Fin W), r (ix3 b ⟨i.val * 32 + j.val, by omega⟩ a) = cat (ix3 b (pick n (I (ix3 b i j))) a)

/-- The reference's start indices: a negative number counts from the end. -/
abbrev starts (I : IVec ⟨3, ![64, m, 32]⟩ 32) (nn : BitVec 32) (hb : (⟨0, ![]⟩ : Shape).BroadcastsInDim ⟨3, ![64, m, 32]⟩ ![])
    (h1 : (⟨3, ![64, m, 32]⟩ : Shape).BroadcastsInDim ⟨4, ![64, m, 32, 1]⟩ ![0, 1, 2]) : IVec ⟨4, ![64, m, 32, 1]⟩ 32 :=
  broadcastInDim ⟨4, ![64, m, 32, 1]⟩ ![0, 1, 2] h1
    (select (cmpi .slt I (broadcastInDim ⟨3, ![64, m, 32]⟩ ![] hb (constantI ⟨0, ![]⟩ 32 0#32)))
      (addi I (broadcastInDim ⟨3, ![64, m, 32]⟩ ![] hb (constantI ⟨0, ![]⟩ 32 nn))) I)

theorem starts_apply (I : IVec ⟨3, ![64, m, 32]⟩ 32) (nn : BitVec 32) (hb : (⟨0, ![]⟩ : Shape).BroadcastsInDim ⟨3, ![64, m, 32]⟩ ![])
    (h1 : (⟨3, ![64, m, 32]⟩ : Shape).BroadcastsInDim ⟨4, ![64, m, 32, 1]⟩ ![0, 1, 2])
    (z : (⟨4, ![64, m, 32, 1]⟩ : Shape).Idx) (y : (⟨3, ![64, m, 32]⟩ : Shape).Idx)
    (e0 : (y 0).val = (z 0).val) (e1 : (y 1).val = (z 1).val) (e2 : (y 2).val = (z 2).val) (hy : (I y).toNat < 2 ^ 31) :
    (starts I nn hb h1 z).toInt = ((I y).toNat : ℤ) := by
  unfold starts
  rw [broadcastInDim_apply _ _ _ z y ?_]
  · exact toInt_wrap _ _ hy
  · intro a
    rcases three a with rfl | rfl | rfl
    · exact e0.trans (if_neg (by simp)).symm
    · have hy1 : (y 1).val < m := (y 1).isLt
      show (y 1).val = if m = 1 then 0 else (z 1).val
      split <;> omega
    · exact e2.trans (if_neg (by simp)).symm

/-- The flat list before it is made flat: the numbers plus their batch's first row. -/
abbrev flat (n : ℕ) (I : IVec ⟨3, ![64, m, 32]⟩ 32) (h0 : (⟨0, ![]⟩ : Shape).BroadcastsInDim ⟨1, ![64]⟩ ![])
    (h1 : (⟨1, ![64]⟩ : Shape).BroadcastsInDim ⟨3, ![64, 1, 1]⟩ ![0])
    (h2 : (⟨3, ![64, 1, 1]⟩ : Shape).BroadcastsInDim ⟨3, ![64, m, 32]⟩ ![0, 1, 2]) : IVec ⟨3, ![64, m, 32]⟩ 32 :=
  addi I (broadcastInDim ⟨3, ![64, m, 32]⟩ ![0, 1, 2] h2 (broadcastInDim ⟨3, ![64, 1, 1]⟩ ![0] h1
    (muli (iotaInDim ⟨1, ![64]⟩ 32 0) (broadcastInDim ⟨1, ![64]⟩ ![] h0 (constantI ⟨0, ![]⟩ 32 (BitVec.ofNat 32 n))))))

/-- An entry of it, as a number. -/
theorem flat_apply (I : IVec ⟨3, ![64, m, 32]⟩ 32) (h0 : (⟨0, ![]⟩ : Shape).BroadcastsInDim ⟨1, ![64]⟩ ![])
    (h1 : (⟨1, ![64]⟩ : Shape).BroadcastsInDim ⟨3, ![64, 1, 1]⟩ ![0])
    (h2 : (⟨3, ![64, 1, 1]⟩ : Shape).BroadcastsInDim ⟨3, ![64, m, 32]⟩ ![0, 1, 2]) (hn : n ≤ 1024)
    (y : (⟨3, ![64, m, 32]⟩ : Shape).Idx) (hy : (I y).toNat < n) :
    (flat n I h0 h1 h2 y).toNat = (y 0).val * n + (I y).toNat := by
  refine Eq.trans ?_ (flat_toNat (I y) (y 0).val n (y 0).isLt hn hy)
  have e : broadcastInDim ⟨3, ![64, m, 32]⟩ ![0, 1, 2] h2 (broadcastInDim ⟨3, ![64, 1, 1]⟩ ![0] h1
      (muli (iotaInDim ⟨1, ![64]⟩ 32 0) (broadcastInDim ⟨1, ![64]⟩ ![] h0 (constantI ⟨0, ![]⟩ 32 (BitVec.ofNat 32 n))))) y
      = BitVec.ofNat 32 (y 0).val * BitVec.ofNat 32 n := by
    refine (broadcastInDim_apply (s := ⟨3, ![64, 1, 1]⟩) ![0, 1, 2] h2 _ y (ix3 ⟨(y 0).val, (y 0).isLt⟩ 0 0) ?_).trans
      ((broadcastInDim_apply (s := ⟨1, ![64]⟩) ![0] h1 _ _ (fun a => ⟨(y 0).val, by rw [Subsingleton.elim a 0]; exact (y 0).isLt⟩) ?_).trans rfl)
    rotate_left
    · intro a; rw [Subsingleton.elim a 0]; exact (if_neg (by simp)).symm
    · intro a
      rcases three a with rfl | rfl | rfl
      · exact (if_neg (by simp)).symm
      · exact (if_pos (by simp)).symm
      · exact (if_pos (by simp)).symm
  exact congrArg (fun v => (I y + v).toNat) e

/-- The host's gather by batch takes, at `(b, i, j)`, the row its number names. -/
theorem gather_eq [NeZero n] (x : (⟨3, ![64, n, w]⟩ : Shape).Idx → α)
    (I : IVec ⟨3, ![64, m, 32]⟩ 32) (hI : ∀ y, (I y).toNat < n) (hn : n ≤ 1024)
    (wf : GatherDims.WF (⟨3, ![64, n, w]⟩ : Shape) ⟨4, ![64, m, 32, 1]⟩ ⟨4, ![64, m, 32, w]⟩ [3] [1] [0] [1] [0] 3 ![1, 1, w])
    (nn : BitVec 32) (hb : (⟨0, ![]⟩ : Shape).BroadcastsInDim ⟨3, ![64, m, 32]⟩ ![])
    (h1 : (⟨3, ![64, m, 32]⟩ : Shape).BroadcastsInDim ⟨4, ![64, m, 32, 1]⟩ ![0, 1, 2]) :
    Host.gather (rowsByBatch n m w wf) x (starts I nn hb h1)
      = fun j => x (ix3 (j 0 : Fin 64) (pick n (I (ix3 (j 0) (j 1) (j 2)))) (j 3)) := by
  funext j
  have hy := hI (ix3 (j 0) (j 1) (j 2))
  refine rowsByBatch_apply wf j (starts I nn hb h1) x (ix4 (j 0) (j 1) (j 2) 0) rfl rfl rfl _ rfl ?_ rfl
  refine Eq.trans ?_ (starts_apply I nn hb h1 _ (ix3 (j 0) (j 1) (j 2)) rfl rfl rfl (by omega)).symm
  exact congrArg Int.ofNat (pick_val (n := n) hy)

variable [NeZero n] {hK : m * 32 = K} (f : (⟨3, ![64, n, w]⟩ : Shape).Idx → α) (x : (⟨3, ![64, n, v]⟩ : Shape).Idx → α)
    (p : (⟨3, ![64, n, u]⟩ : Shape).Idx → α)
    (h : Shape.Concatenates [(⟨3, ![64, n, w]⟩ : Shape), ⟨3, ![64, n, v]⟩, ⟨3, ![64, n, u]⟩] ⟨3, ![64, n, W]⟩ 2)
    (I : IVec ⟨3, ![64, m, 32]⟩ 32) (r : (⟨3, ![64, K, W]⟩ : Shape).Idx → α)
    (hr : Reads hK (concatenate ⟨3, ![64, n, W]⟩ 2 [⟨_, f⟩, ⟨_, x⟩, ⟨_, p⟩] h) I r)

include hr in
/-- A gathered row begins with the features of the point it was read for. -/
theorem left_eq (hwW : w ≤ W) (b : Fin 64) (i : Fin m) (j : Fin 32) (a : Fin w) :
    r (ix3 b ⟨i.val * 32 + j.val, by omega⟩ ⟨a.val, by omega⟩) = f (ix3 b (pick n (I (ix3 b i j))) a) :=
  (hr b i j ⟨a.val, by omega⟩).trans (cat_left f x p h _ _ rfl rfl rfl)

include hr in
/-- Its coordinates follow. -/
theorem mid_eq (hwW : w + v ≤ W) (b : Fin 64) (i : Fin m) (j : Fin 32) (a : Fin v) :
    r (ix3 b ⟨i.val * 32 + j.val, by omega⟩ ⟨w + a.val, by omega⟩) = x (ix3 b (pick n (I (ix3 b i j))) a) :=
  (hr b i j ⟨w + a.val, by omega⟩).trans (cat_mid f x p h _ _ rfl rfl rfl)

end Stage

/-! ## A call's output reads the table before it was flat -/

section Calls

variable {F : FTy → Type} {n m R Q K : ℕ}

variable (I : IVec ⟨3, ![64, m, 32]⟩ 32) (hI : ∀ y, (I y).toNat < n) (hn : n ≤ 1024)
    (h0 : (⟨0, ![]⟩ : Shape).BroadcastsInDim ⟨1, ![64]⟩ ![])
    (h1 : (⟨1, ![64]⟩ : Shape).BroadcastsInDim ⟨3, ![64, 1, 1]⟩ ![0])
    (h2 : (⟨3, ![64, 1, 1]⟩ : Shape).BroadcastsInDim ⟨3, ![64, m, 32]⟩ ![0, 1, 2])
    (hi : (⟨3, ![64, m, 32]⟩ : Shape).ShapeCasts ⟨1, ![Q]⟩)

include hI hn in
/-- Every entry of the flat list names a row of the flat table. -/
theorem flat_lt (hR : R = 64 * n) (x : (⟨1, ![Q]⟩ : Shape).Idx) : (shapeCast ⟨1, ![Q]⟩ (flat n I h0 h1 h2) hi x).toNat < R := by
  unfold shapeCast
  have hy := hI (Shape.reshapeEquiv hi x)
  have hb : (Shape.reshapeEquiv hi x 0).val < 64 := (Shape.reshapeEquiv hi x 0).isLt
  rw [flat_apply I h0 h1 h2 hn _ hy, hR]
  have := Nat.mul_le_mul (Nat.le_sub_one_of_lt hb) (le_refl n)
  omega

variable [NeZero n]

include hI hn in
/-- A call on a table with rows of 128. -/
theorem reads_row (hw : (⟨2, ![R, 128]⟩ : Shape).Gathers 0 ⟨2, ![Q, 128]⟩)
    (hl : (⟨1, ![Q]⟩ : Shape).numel = (⟨2, ![Q, 128]⟩ : Shape).size hw.axis')
    (cat : (⟨3, ![64, n, 128]⟩ : Shape).Idx → Elt F .f32)
    (hc : (⟨3, ![64, n, 128]⟩ : Shape).ShapeCasts ⟨2, ![R, 128]⟩)
    (ho : (⟨2, ![Q, 128]⟩ : Shape).ShapeCasts ⟨3, ![64, K, 128]⟩)
    (hK : m * 32 = K)
    (hin : ∀ x, (shapeCast ⟨1, ![Q]⟩ (flat n I h0 h1 h2) hi x).toNat < (⟨2, ![R, 128]⟩ : Shape).size hw.axis) :
    Reads hK cat I (shapeCast ⟨3, ![64, K, 128]⟩ (SparseCore.gatherPayload (F := F) (e := .f32) hw (shapeCast ⟨2, ![R, 128]⟩ cat hc)
      (SparseCore.rows (F := F) (shapeCast ⟨1, ![Q]⟩ (flat n I h0 h1 h2) hi) hl hin)) ho) := fun b i j a =>
  gather_apply_row (F := F) hw hl cat (flat n I h0 h1 h2) hc hi ho hin hK _ (ix3 b i j) rfl rfl _
    (by rw [flat_apply I h0 h1 h2 hn (ix3 b i j) (hI _)]; exact congrArg (b.val * n + ·) (pick_val (n := n) (hI _))) rfl

include hI hn in
/-- A call on a table with rows of two times 128. -/
theorem reads_pair (hw : (⟨3, ![R, 2, 128]⟩ : Shape).Gathers 0 ⟨3, ![Q, 2, 128]⟩)
    (hl : (⟨1, ![Q]⟩ : Shape).numel = (⟨3, ![Q, 2, 128]⟩ : Shape).size hw.axis')
    (cat : (⟨3, ![64, n, 256]⟩ : Shape).Idx → Elt F .f32)
    (hc : (⟨3, ![64, n, 256]⟩ : Shape).ShapeCasts ⟨3, ![R, 2, 128]⟩)
    (ho : (⟨3, ![Q, 2, 128]⟩ : Shape).ShapeCasts ⟨3, ![64, K, 256]⟩)
    (hK : m * 32 = K)
    (hin : ∀ x, (shapeCast ⟨1, ![Q]⟩ (flat n I h0 h1 h2) hi x).toNat < (⟨3, ![R, 2, 128]⟩ : Shape).size hw.axis) :
    Reads hK cat I (shapeCast ⟨3, ![64, K, 256]⟩ (SparseCore.gatherPayload (F := F) (e := .f32) hw (shapeCast ⟨3, ![R, 2, 128]⟩ cat hc)
      (SparseCore.rows (F := F) (shapeCast ⟨1, ![Q]⟩ (flat n I h0 h1 h2) hi) hl hin)) ho) := fun b i j a =>
  gather_apply_pair (F := F) hw hl cat (flat n I h0 h1 h2) hc hi ho hin hK _ (ix3 b i j) rfl rfl _
    (by rw [flat_apply I h0 h1 h2 hn (ix3 b i j) (hI _)]; exact congrArg (b.val * n + ·) (pick_val (n := n) (hI _))) rfl

end Calls

/-! ## The precondition -/

/-- A mask of `0 ≤ v < n`, all ones, puts the number below `n`. -/
theorem lt_of_mask (v : BitVec 32) (n : ℕ) (hn : n ≤ 1024)
    (e : IntOp.andi (IntOp.cmpi .sge v 0#32) (IntOp.cmpi .slt v (BitVec.ofNat 32 n)) = 1#1) : v.toNat < n := by
  have h1 (p q : Bool) : IntOp.andi (BitVec.ofBool p) (BitVec.ofBool q) = BitVec.ofBool (p && q) := by
    cases p <;> cases q <;> decide
  have h2 (p : Bool) : (BitVec.ofBool p = 1#1) ↔ p = true := by cases p <;> decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e
  rw [Nat.mod_eq_of_lt (by omega : n < 4294967296)] at e
  split_ifs at e <;> omega

end Cert.Proof.Read

end
-- ==== Proof.Contents.lean ====
/-
  The run with concrete contents, the numbers in range, and what each gather reads.
-/
module

public import proofs.«01_k».proof.Proof.Lines
public import proofs.«01_k».proof.Proof.Read
public import proofs.«01_k».proof.Proof.Gen.Pre_in_cloud

@[expose] public section

noncomputable section

namespace Cert.Proof.Contents

open Cert.KernelIdeal Cert.KernelIdeal.Gen
open Idealize.ShloMosaic
open Idealize.ShloMosaic.StableHlo (seq after)
open Cert.Proof.Tile Cert.Proof.Bodies Cert.Proof.Ops Cert.Proof.Main Cert.Proof.Launch Cert.Proof.Lines Cert.Proof.Regions
open Cert.Proof.Read (pick)

variable {F : FTy → Type} [FloatOps F]

variable {m : (ℓ : Loc nD τ sig) → Buf (Elt F) ℓ}

/-! ## The numbers are in range -/

/-- Every number of a list of neighbours is a row of its own cloud. -/
structure InCloud (i0 : IVec S64x512x32 32) (i1 : IVec S64x256x32 32) (i2 : IVec S64x128x32 32) (i3 : IVec S64x64x32 32) : Prop where
  r0 : ∀ y, (i0 y).toNat < 1024
  r1 : ∀ y, (i1 y).toNat < 512
  r2 : ∀ y, (i2 y).toNat < 256
  r3 : ∀ y, (i3 y).toNat < 128

variable (m) in
/-- The launch memory's numbers are in range. -/
def OK : Prop := ∀ d : Dev nD, InCloud (m (d, dr main_arg18)) (m (d, dr main_arg19)) (m (d, dr main_arg20)) (m (d, dr main_arg21))

/-- A flat list's entry is one of a list's entries, so a mask all ones over the flat list is all ones over the list. -/
theorem of_flat {s : Shape} {Q : ℕ} (hc : s.ShapeCasts ⟨1, ![Q]⟩) (v : s.Idx → BitVec 1)
    (h : ∀ x, shapeCast ⟨1, ![Q]⟩ v hc x = 1#1) (y : s.Idx) : v y = 1#1 := by
  have e := h ((⟨1, ![Q]⟩ : Shape).rowMajor.symm ((s.rowMajor y).cast hc.symm))
  rwa [shapeCast_apply v hc _ y (by rw [Equiv.apply_symm_apply]; rfl)] at e

/-- The four masks end to end, all ones, are all ones each. -/
theorem of_joined {A B C D N : ℕ} (hN : A + B + C + D = N) (a : (⟨1, ![A]⟩ : Shape).Idx → BitVec 1) (b : (⟨1, ![B]⟩ : Shape).Idx → BitVec 1)
    (c : (⟨1, ![C]⟩ : Shape).Idx → BitVec 1) (e : (⟨1, ![D]⟩ : Shape).Idx → BitVec 1)
    (hc : Shape.Concatenates [(⟨1, ![A]⟩ : Shape), ⟨1, ![B]⟩, ⟨1, ![C]⟩, ⟨1, ![D]⟩] ⟨1, ![N]⟩ 0)
    (h : concatenate ⟨1, ![N]⟩ 0 [⟨_, a⟩, ⟨_, b⟩, ⟨_, c⟩, ⟨_, e⟩] hc = fun _ => 1#1) :
    (∀ x, a x = 1#1) ∧ (∀ x, b x = 1#1) ∧ (∀ x, c x = 1#1) ∧ (∀ x, e x = 1#1) := by
  have piece : ∀ (k : ℕ) (hk : k < 4) (L : ℕ) (f : (⟨1, ![L]⟩ : Shape).Idx → BitVec 1)
      (_ : ([⟨_, a⟩, ⟨_, b⟩, ⟨_, c⟩, ⟨_, e⟩] : List ((s : Shape) × (s.Idx → BitVec 1)))[k]'hk = ⟨⟨1, ![L]⟩, f⟩) (pre : ℕ)
      (_ : (((([⟨_, a⟩, ⟨_, b⟩, ⟨_, c⟩, ⟨_, e⟩] : List ((s : Shape) × (s.Idx → BitVec 1))).take k).map (·.1)).map
        fun s => if h : s.rank = (⟨1, ![N]⟩ : Shape).rank then s.size ((0 : Fin 1).cast h.symm) else 0).sum = pre)
      (_ : pre + L ≤ N), ∀ x, f x = 1#1 := by
    intro k hk L f hf pre hpre hle x
    have hx : (x 0).val < L := (x 0).isLt
    let j : (⟨1, ![N]⟩ : Shape).Idx := fun z => ⟨pre + (x 0).val, by rw [Subsingleton.elim z 0]; show _ < N; omega⟩
    exact (concatenate_apply_piece (t := ⟨1, ![N]⟩) 0 [⟨_, a⟩, ⟨_, b⟩, ⟨_, c⟩, ⟨_, e⟩] hc j k hk ⟨1, ![L]⟩ f hf rfl pre hpre x
      (fun z hz => absurd (Subsingleton.elim (α := Fin 1) _ _) hz) rfl).symm.trans (congrFun h j)
  exact ⟨piece 0 (by decide) A a rfl 0 rfl (by omega), piece 1 (by decide) B b rfl A (by simp) (by omega),
    piece 2 (by decide) C c rfl (A + B) (by simp) (by omega), piece 3 (by decide) D e rfl (A + B + C) (by simp; omega) (by omega)⟩

/-- The precondition, read. -/
theorem inCloud_of_pre (a0 : FVec F S64x1024x3 .f32) (a1 : FVec F S64x3x1024 .f32) (a2 : FVec F S3x16 .f32) (a3 : FVec F S19x32 .f32)
     (a4 : FVec F S35x64 .f32) (a5 : FVec F S67x128 .f32) (a6 : FVec F S131x128 .f32) (a7 : FVec F S32x32 .f32)
     (a8 : FVec F S64x64 .f32) (a9 : FVec F S128x128 .f32) (a10 : FVec F S128x128 .f32) (a11 : FVec F S128x512 .f32)
     (a12 : FVec F S512x256 .f32) (a13 : FVec F S256x40 .f32) (a14 : FVec F S64x512x3 .f32) (a15 : FVec F S64x256x3 .f32)
     (a16 : FVec F S64x128x3 .f32) (a17 : FVec F S64x64x3 .f32)
    (i0 : IVec S64x512x32 32) (i1 : IVec S64x256x32 32) (i2 : IVec S64x128x32 32) (i3 : IVec S64x64x32 32)
    (h : Cert.Pre_in_cloud.fn (F := F) a0 a1 a2 a3 a4 a5 a6 a7 a8 a9 a10 a11 a12 a13 a14 a15 a16 a17 i0 i1 i2 i3 = fun _ => 1#1) : InCloud i0 i1 i2 i3 := by
  obtain ⟨h0, h1, h2, h3⟩ := of_joined (N := 1966080) rfl _ _ _ _ Cert.Pre_in_cloud.Gen.concatenates_S1048576_S524288_S262144_S131072_S1966080_d0 h
  exact ⟨fun y => Read.lt_of_mask _ 1024 (by decide) (of_flat _ _ h0 y), fun y => Read.lt_of_mask _ 512 (by decide) (of_flat _ _ h1 y),
    fun y => Read.lt_of_mask _ 256 (by decide) (of_flat _ _ h2 y), fun y => Read.lt_of_mask _ 128 (by decide) (of_flat _ _ h3 y)⟩

/-! ## The calls' tables and lists -/

section Calls

variable {R : Fin 6 → Dev nD → Valuation τ sig (Elt F)} {V U : Fin 4 → Dev nD → Valuation τ sig (Elt F)} (X : Chain m R V U) (d : Dev nD)

/-- Gather 0's table before it is flat: the features the stage before left, the points and zeros side by side. -/
abbrev cat0 (R : Fin 6 → Dev nD → Valuation τ sig (Elt F)) (d : Dev nD) : S64x1024x128.Idx → Elt F .f32 :=
  concatenate S64x1024x128 2 [⟨S64x1024x16, (next R 0 d (dr main_v1) : S64x1024x16.Idx → Elt F .f32)⟩,
        ⟨S64x1024x3, (m (d, dr main_arg0) : S64x1024x3.Idx → Elt F .f32)⟩,
        ⟨S64x1024x109, (broadcastInDim S64x1024x109 ![] bcast_S_S64x1024x109 (constant S_ .f32 0x00000000#32) : S64x1024x109.Idx → Elt F .f32)⟩]
        concatenates_S64x1024x16_S64x1024x3_S64x1024x109_S64x1024x128_d2

include X in
theorem tabV0 : V 0 d (dr main_v4) = shapeCast S65536x128 (cat0 (m := m) R d) shapeCasts_S64x1024x128_S65536x128 := by
  rw [← X.hV0 d, tab0, X.n0 d (r := main_arg0) (by decide)]

include X in
theorem lstV0 : V 0 d (dr main_v11) = shapeCast S1048576 (Read.flat 1024 (m (d, dr main_arg18) : IVec S64x512x32 32) bcast_S_S64
    bcast_S64_S64x1x1_0 bcast_S64x1x1_S64x512x32_0_1_2) shapeCasts_S64x512x32_S1048576 := by
  rw [← X.hV0 d, lst0, X.n0 d (r := main_arg18) (by decide)]

include X in
/-- Every entry of gather 0's list names a row of its table. -/
theorem inr0 (hm : OK m) : ∀ x, ((V 0 d (dr main_v11) : IVec S1048576 32) x).toNat < 65536 := by
  rw [lstV0 X d]
  exact Read.flat_lt _ (hm d).r0 (by decide) _ _ _ _ rfl

/-- Gather 1's table before it is flat: the features the stage before left, the points and zeros side by side. -/
abbrev cat1 (R : Fin 6 → Dev nD → Valuation τ sig (Elt F)) (d : Dev nD) : S64x512x128.Idx → Elt F .f32 :=
  concatenate S64x512x128 2 [⟨S64x512x32, (next R 1 d (dr main_v16) : S64x512x32.Idx → Elt F .f32)⟩,
        ⟨S64x512x3, (m (d, dr main_arg14) : S64x512x3.Idx → Elt F .f32)⟩,
        ⟨S64x512x93, (broadcastInDim S64x512x93 ![] bcast_S_S64x512x93 (constant S_ .f32 0x00000000#32) : S64x512x93.Idx → Elt F .f32)⟩]
        concatenates_S64x512x32_S64x512x3_S64x512x93_S64x512x128_d2

include X in
theorem tabV1 : V 1 d (dr main_v19) = shapeCast S32768x128 (cat1 (m := m) R d) shapeCasts_S64x512x128_S32768x128 := by
  rw [← X.hV1 d, tab1, X.n1 d (r := main_arg14) (by decide)]

include X in
theorem lstV1 : V 1 d (dr main_v26) = shapeCast S524288 (Read.flat 512 (m (d, dr main_arg19) : IVec S64x256x32 32) bcast_S_S64
    bcast_S64_S64x1x1_0 bcast_S64x1x1_S64x256x32_0_1_2) shapeCasts_S64x256x32_S524288 := by
  rw [← X.hV1 d, lst1, X.n1 d (r := main_arg19) (by decide)]

include X in
/-- Every entry of gather 1's list names a row of its table. -/
theorem inr1 (hm : OK m) : ∀ x, ((V 1 d (dr main_v26) : IVec S524288 32) x).toNat < 32768 := by
  rw [lstV1 X d]
  exact Read.flat_lt _ (hm d).r1 (by decide) _ _ _ _ rfl

/-- Gather 2's table before it is flat: the features the stage before left, the points and zeros side by side. -/
abbrev cat2 (R : Fin 6 → Dev nD → Valuation τ sig (Elt F)) (d : Dev nD) : S64x256x128.Idx → Elt F .f32 :=
  concatenate S64x256x128 2 [⟨S64x256x64, (next R 2 d (dr main_v31) : S64x256x64.Idx → Elt F .f32)⟩,
        ⟨S64x256x3, (m (d, dr main_arg15) : S64x256x3.Idx → Elt F .f32)⟩,
        ⟨S64x256x61, (broadcastInDim S64x256x61 ![] bcast_S_S64x256x61 (constant S_ .f32 0x00000000#32) : S64x256x61.Idx → Elt F .f32)⟩]
        concatenates_S64x256x64_S64x256x3_S64x256x61_S64x256x128_d2

include X in
theorem tabV2 : V 2 d (dr main_v34) = shapeCast S16384x128 (cat2 (m := m) R d) shapeCasts_S64x256x128_S16384x128 := by
  rw [← X.hV2 d, tab2, X.n2 d (r := main_arg15) (by decide)]

include X in
theorem lstV2 : V 2 d (dr main_v41) = shapeCast S262144 (Read.flat 256 (m (d, dr main_arg20) : IVec S64x128x32 32) bcast_S_S64
    bcast_S64_S64x1x1_0 bcast_S64x1x1_S64x128x32_0_1_2) shapeCasts_S64x128x32_S262144 := by
  rw [← X.hV2 d, lst2, X.n2 d (r := main_arg20) (by decide)]

include X in
/-- Every entry of gather 2's list names a row of its table. -/
theorem inr2 (hm : OK m) : ∀ x, ((V 2 d (dr main_v41) : IVec S262144 32) x).toNat < 16384 := by
  rw [lstV2 X d]
  exact Read.flat_lt _ (hm d).r2 (by decide) _ _ _ _ rfl

/-- Gather 3's table before it is flat: the features the stage before left, the points and zeros side by side. -/
abbrev cat3 (R : Fin 6 → Dev nD → Valuation τ sig (Elt F)) (d : Dev nD) : S64x128x256.Idx → Elt F .f32 :=
  concatenate S64x128x256 2 [⟨S64x128x128, (next R 3 d (dr main_v46) : S64x128x128.Idx → Elt F .f32)⟩,
        ⟨S64x128x3, (m (d, dr main_arg16) : S64x128x3.Idx → Elt F .f32)⟩,
        ⟨S64x128x125, (broadcastInDim S64x128x125 ![] bcast_S_S64x128x125 (constant S_ .f32 0x00000000#32) : S64x128x125.Idx → Elt F .f32)⟩]
        concatenates_S64x128x128_S64x128x3_S64x128x125_S64x128x256_d2

include X in
theorem tabV3 : V 3 d (dr main_v49) = shapeCast S8192x2x128 (cat3 (m := m) R d) shapeCasts_S64x128x256_S8192x2x128 := by
  rw [← X.hV3 d, tab3, X.n3 d (r := main_arg16) (by decide)]

include X in
theorem lstV3 : V 3 d (dr main_v56) = shapeCast S131072 (Read.flat 128 (m (d, dr main_arg21) : IVec S64x64x32 32) bcast_S_S64
    bcast_S64_S64x1x1_0 bcast_S64x1x1_S64x64x32_0_1_2) shapeCasts_S64x64x32_S131072 := by
  rw [← X.hV3 d, lst3, X.n3 d (r := main_arg21) (by decide)]

include X in
/-- Every entry of gather 3's list names a row of its table. -/
theorem inr3 (hm : OK m) : ∀ x, ((V 3 d (dr main_v56) : IVec S131072 32) x).toNat < 8192 := by
  rw [lstV3 X d]
  exact Read.flat_lt _ (hm d).r3 (by decide) _ _ _ _ rfl

end Calls

/-! ## The rows each stage's kernel is given -/

section Rows

variable (X : Line m) (d : Dev nD)

/-- Stage 0's rows are those its numbers name. -/
theorem reads0 (hm : OK m) : Read.Reads (n := 1024) (m := 512) (K := 16384) (W := 128) rfl (cat0 (m := m) X.R d) (m (d, dr main_arg18) : IVec S64x512x32 32)
    (X.R 1 d (dr main_v13) : S64x16384x128.Idx → Elt F .f32) := by
  obtain ⟨hin, hr⟩ : Gathered (F := F) (e := .f32) hw0 (Q := 1048576) rfl (shapeCast S65536x128 (cat0 (m := m) X.R d) shapeCasts_S64x1024x128_S65536x128)
      (shapeCast S1048576 (Read.flat 1024 (m (d, dr main_arg18) : IVec S64x512x32 32) bcast_S_S64
        bcast_S64_S64x1x1_0 bcast_S64x1x1_S64x512x32_0_1_2) shapeCasts_S64x512x32_S1048576) (X.U 0 d (dr main_v12)) := by
    have h := X.h0 d
    rw [tabV0 (chain m X) d, lstV0 (chain m X) d] at h
    exact h
  rw [← X.hR1 d, rows0, hr]
  exact Read.reads_row (F := F) _ (hm d).r0 (by decide) _ _ _ _ hw0 rfl _ _ _ rfl hin

/-- A row begins with the features of the point it was read for. -/
theorem left0 (hm : OK m) (b : Fin 64) (i : Fin 512) (j : Fin 32) (a : Fin 16) :
    (X.R 1 d (dr main_v13) : S64x16384x128.Idx → Elt F .f32) (ix3 b ⟨i.val * 32 + j.val, by omega⟩ ⟨a.val, by omega⟩)
      = (next X.R 0 d (dr main_v1) : S64x1024x16.Idx → Elt F .f32) (ix3 b (pick 1024 ((m (d, dr main_arg18) : IVec S64x512x32 32) (ix3 b i j))) a) :=
  Read.left_eq _ _ _ _ _ _ (reads0 X d hm) (by decide) b i j a

/-- Its coordinates follow. -/
theorem mid0 (hm : OK m) (b : Fin 64) (i : Fin 512) (j : Fin 32) (c : Fin 3) :
    (X.R 1 d (dr main_v13) : S64x16384x128.Idx → Elt F .f32) (ix3 b ⟨i.val * 32 + j.val, by omega⟩ ⟨16 + c.val, by omega⟩)
      = (m (d, dr main_arg0) : S64x1024x3.Idx → Elt F .f32) (ix3 b (pick 1024 ((m (d, dr main_arg18) : IVec S64x512x32 32) (ix3 b i j))) c) :=
  Read.mid_eq _ _ _ _ _ _ (reads0 X d hm) (by decide) b i j c

/-- Stage 1's rows are those its numbers name. -/
theorem reads1 (hm : OK m) : Read.Reads (n := 512) (m := 256) (K := 8192) (W := 128) rfl (cat1 (m := m) X.R d) (m (d, dr main_arg19) : IVec S64x256x32 32)
    (X.R 2 d (dr main_v28) : S64x8192x128.Idx → Elt F .f32) := by
  obtain ⟨hin, hr⟩ : Gathered (F := F) (e := .f32) hw1 (Q := 524288) rfl (shapeCast S32768x128 (cat1 (m := m) X.R d) shapeCasts_S64x512x128_S32768x128)
      (shapeCast S524288 (Read.flat 512 (m (d, dr main_arg19) : IVec S64x256x32 32) bcast_S_S64
        bcast_S64_S64x1x1_0 bcast_S64x1x1_S64x256x32_0_1_2) shapeCasts_S64x256x32_S524288) (X.U 1 d (dr main_v27)) := by
    have h := X.h1 d
    rw [tabV1 (chain m X) d, lstV1 (chain m X) d] at h
    exact h
  rw [← X.hR2 d, rows1, hr]
  exact Read.reads_row (F := F) _ (hm d).r1 (by decide) _ _ _ _ hw1 rfl _ _ _ rfl hin

/-- A row begins with the features of the point it was read for. -/
theorem left1 (hm : OK m) (b : Fin 64) (i : Fin 256) (j : Fin 32) (a : Fin 32) :
    (X.R 2 d (dr main_v28) : S64x8192x128.Idx → Elt F .f32) (ix3 b ⟨i.val * 32 + j.val, by omega⟩ ⟨a.val, by omega⟩)
      = (next X.R 1 d (dr main_v16) : S64x512x32.Idx → Elt F .f32) (ix3 b (pick 512 ((m (d, dr main_arg19) : IVec S64x256x32 32) (ix3 b i j))) a) :=
  Read.left_eq _ _ _ _ _ _ (reads1 X d hm) (by decide) b i j a

/-- Its coordinates follow. -/
theorem mid1 (hm : OK m) (b : Fin 64) (i : Fin 256) (j : Fin 32) (c : Fin 3) :
    (X.R 2 d (dr main_v28) : S64x8192x128.Idx → Elt F .f32) (ix3 b ⟨i.val * 32 + j.val, by omega⟩ ⟨32 + c.val, by omega⟩)
      = (m (d, dr main_arg14) : S64x512x3.Idx → Elt F .f32) (ix3 b (pick 512 ((m (d, dr main_arg19) : IVec S64x256x32 32) (ix3 b i j))) c) :=
  Read.mid_eq _ _ _ _ _ _ (reads1 X d hm) (by decide) b i j c

/-- Stage 2's rows are those its numbers name. -/
theorem reads2 (hm : OK m) : Read.Reads (n := 256) (m := 128) (K := 4096) (W := 128) rfl (cat2 (m := m) X.R d) (m (d, dr main_arg20) : IVec S64x128x32 32)
    (X.R 3 d (dr main_v43) : S64x4096x128.Idx → Elt F .f32) := by
  obtain ⟨hin, hr⟩ : Gathered (F := F) (e := .f32) hw2 (Q := 262144) rfl (shapeCast S16384x128 (cat2 (m := m) X.R d) shapeCasts_S64x256x128_S16384x128)
      (shapeCast S262144 (Read.flat 256 (m (d, dr main_arg20) : IVec S64x128x32 32) bcast_S_S64
        bcast_S64_S64x1x1_0 bcast_S64x1x1_S64x128x32_0_1_2) shapeCasts_S64x128x32_S262144) (X.U 2 d (dr main_v42)) := by
    have h := X.h2 d
    rw [tabV2 (chain m X) d, lstV2 (chain m X) d] at h
    exact h
  rw [← X.hR3 d, rows2, hr]
  exact Read.reads_row (F := F) _ (hm d).r2 (by decide) _ _ _ _ hw2 rfl _ _ _ rfl hin

/-- A row begins with the features of the point it was read for. -/
theorem left2 (hm : OK m) (b : Fin 64) (i : Fin 128) (j : Fin 32) (a : Fin 64) :
    (X.R 3 d (dr main_v43) : S64x4096x128.Idx → Elt F .f32) (ix3 b ⟨i.val * 32 + j.val, by omega⟩ ⟨a.val, by omega⟩)
      = (next X.R 2 d (dr main_v31) : S64x256x64.Idx → Elt F .f32) (ix3 b (pick 256 ((m (d, dr main_arg20) : IVec S64x128x32 32) (ix3 b i j))) a) :=
  Read.left_eq _ _ _ _ _ _ (reads2 X d hm) (by decide) b i j a

/-- Its coordinates follow. -/
theorem mid2 (hm : OK m) (b : Fin 64) (i : Fin 128) (j : Fin 32) (c : Fin 3) :
    (X.R 3 d (dr main_v43) : S64x4096x128.Idx → Elt F .f32) (ix3 b ⟨i.val * 32 + j.val, by omega⟩ ⟨64 + c.val, by omega⟩)
      = (m (d, dr main_arg15) : S64x256x3.Idx → Elt F .f32) (ix3 b (pick 256 ((m (d, dr main_arg20) : IVec S64x128x32 32) (ix3 b i j))) c) :=
  Read.mid_eq _ _ _ _ _ _ (reads2 X d hm) (by decide) b i j c

/-- Stage 3's rows are those its numbers name. -/
theorem reads3 (hm : OK m) : Read.Reads (n := 128) (m := 64) (K := 2048) (W := 256) rfl (cat3 (m := m) X.R d) (m (d, dr main_arg21) : IVec S64x64x32 32)
    (X.R 4 d (dr main_v58) : S64x2048x256.Idx → Elt F .f32) := by
  obtain ⟨hin, hr⟩ : Gathered (F := F) (e := .f32) hw3 (Q := 131072) rfl (shapeCast S8192x2x128 (cat3 (m := m) X.R d) shapeCasts_S64x128x256_S8192x2x128)
      (shapeCast S131072 (Read.flat 128 (m (d, dr main_arg21) : IVec S64x64x32 32) bcast_S_S64
        bcast_S64_S64x1x1_0 bcast_S64x1x1_S64x64x32_0_1_2) shapeCasts_S64x64x32_S131072) (X.U 3 d (dr main_v57)) := by
    have h := X.h3 d
    rw [tabV3 (chain m X) d, lstV3 (chain m X) d] at h
    exact h
  rw [← X.hR4 d, rows3, hr]
  exact Read.reads_pair (F := F) _ (hm d).r3 (by decide) _ _ _ _ hw3 rfl _ _ _ rfl hin

/-- A row begins with the features of the point it was read for. -/
theorem left3 (hm : OK m) (b : Fin 64) (i : Fin 64) (j : Fin 32) (a : Fin 128) :
    (X.R 4 d (dr main_v58) : S64x2048x256.Idx → Elt F .f32) (ix3 b ⟨i.val * 32 + j.val, by omega⟩ ⟨a.val, by omega⟩)
      = (next X.R 3 d (dr main_v46) : S64x128x128.Idx → Elt F .f32) (ix3 b (pick 128 ((m (d, dr main_arg21) : IVec S64x64x32 32) (ix3 b i j))) a) :=
  Read.left_eq _ _ _ _ _ _ (reads3 X d hm) (by decide) b i j a

/-- Its coordinates follow. -/
theorem mid3 (hm : OK m) (b : Fin 64) (i : Fin 64) (j : Fin 32) (c : Fin 3) :
    (X.R 4 d (dr main_v58) : S64x2048x256.Idx → Elt F .f32) (ix3 b ⟨i.val * 32 + j.val, by omega⟩ ⟨128 + c.val, by omega⟩)
      = (m (d, dr main_arg16) : S64x128x3.Idx → Elt F .f32) (ix3 b (pick 128 ((m (d, dr main_arg21) : IVec S64x64x32 32) (ix3 b i j))) c) :=
  Read.mid_eq _ _ _ _ _ _ (reads3 X d hm) (by decide) b i j c

end Rows

/-! ## The concrete contents -/

section Concrete

/-- What a TensorCore kernel leaves depends on the contents it is entered with alone. -/
theorem next_congr {R R' : Fin 6 → Dev nD → Valuation τ sig (Elt F)} {p : Fin 6} {d : Dev nD} (h : R p d = R' p d) : next R p d = next R' p d := by
  unfold next dats
  rw [h]

variable (m)

/-- The contents before each call. -/
def R0 (d : Dev nD) : Valuation τ sig (Elt F) := after (ops 0) (fun b => m (d, b))
def V0 (d : Dev nD) : Valuation τ sig (Elt F) := after (ops 1) (next (fun _ => R0 m) 0 d)
def U0 (d : Dev nD) : Valuation τ sig (Elt F) := call0.result (V0 m d)
def R1 (d : Dev nD) : Valuation τ sig (Elt F) := after (ops 2) (U0 m d)
def V1 (d : Dev nD) : Valuation τ sig (Elt F) := after (ops 3) (next (fun _ => R1 m) 1 d)
def U1 (d : Dev nD) : Valuation τ sig (Elt F) := call1.result (V1 m d)
def R2 (d : Dev nD) : Valuation τ sig (Elt F) := after (ops 4) (U1 m d)
def V2 (d : Dev nD) : Valuation τ sig (Elt F) := after (ops 5) (next (fun _ => R2 m) 2 d)
def U2 (d : Dev nD) : Valuation τ sig (Elt F) := call2.result (V2 m d)
def R3 (d : Dev nD) : Valuation τ sig (Elt F) := after (ops 6) (U2 m d)
def V3 (d : Dev nD) : Valuation τ sig (Elt F) := after (ops 7) (next (fun _ => R3 m) 3 d)
def U3 (d : Dev nD) : Valuation τ sig (Elt F) := call3.result (V3 m d)
def R4 (d : Dev nD) : Valuation τ sig (Elt F) := after (ops 8) (U3 m d)
def R5 (d : Dev nD) : Valuation τ sig (Elt F) := next (fun _ => R4 m) 4 d

/-- The contents before each TensorCore call, and before and after each SparseCore call. -/
def RR : Fin 6 → Dev nD → Valuation τ sig (Elt F)
  | 0 => R0 m | 1 => R1 m | 2 => R2 m | 3 => R3 m | 4 => R4 m | 5 => R5 m
def VV : Fin 4 → Dev nD → Valuation τ sig (Elt F)
  | 0 => V0 m | 1 => V1 m | 2 => V2 m | 3 => V3 m
def UU : Fin 4 → Dev nD → Valuation τ sig (Elt F)
  | 0 => U0 m | 1 => U1 m | 2 => U2 m | 3 => U3 m

/-- A call as an operation leaves every array but its output. -/
theorem call_keeps {a b y : Ref sig .tc} (f : a.ty.Contents (Elt F) → b.ty.Contents (Elt F) → y.ty.Contents (Elt F)) (ha hb hy)
    (W : Valuation τ sig (Elt F)) {z : DevRef τ sig} (h : z ≠ Proc.devRef .tc y) :
    (StableHlo.binary (τ := τ) a b y f ha hb hy).result W z = W z :=
  HloOp.result_of_not_mem _ _ fun hz => h (Finset.mem_singleton.mp hz)

/-- They follow one another. -/
theorem follows : Chain m (RR m) (VV m) (UU m) where
  hR0 := fun _ => rfl
  hR1 := fun _ => rfl
  hR2 := fun _ => rfl
  hR3 := fun _ => rfl
  hR4 := fun _ => rfl
  hR5 := fun d => next_congr rfl
  hV0 := fun d => congrArg (after (ops 1)) (next_congr rfl)
  hV1 := fun d => congrArg (after (ops 3)) (next_congr rfl)
  hV2 := fun d => congrArg (after (ops 5)) (next_congr rfl)
  hV3 := fun d => congrArg (after (ops 7)) (next_congr rfl)
  hU := fun q d b h => match q with
    | 0 => call_keeps _ _ _ _ _ h
    | 1 => call_keeps _ _ _ _ _ h
    | 2 => call_keeps _ _ _ _ _ h
    | 3 => call_keeps _ _ _ _ _ h

theorem got0 (hm : OK m) (d : Dev nD) : Gathered (F := F) (e := .f32) hw0 (Q := 1048576) rfl (V0 m d (Proc.devRef .tc main_v4))
    (V0 m d (Proc.devRef .tc main_v11)) (U0 m d (Proc.devRef .tc main_v12)) := by
  unfold U0 call0
  rw [StableHlo.binary_result']
  exact gathered_gath hw0 rfl _ _ (inr0 (follows m) d hm)

theorem got1 (hm : OK m) (d : Dev nD) : Gathered (F := F) (e := .f32) hw1 (Q := 524288) rfl (V1 m d (Proc.devRef .tc main_v19))
    (V1 m d (Proc.devRef .tc main_v26)) (U1 m d (Proc.devRef .tc main_v27)) := by
  unfold U1 call1
  rw [StableHlo.binary_result']
  exact gathered_gath hw1 rfl _ _ (inr1 (follows m) d hm)

theorem got2 (hm : OK m) (d : Dev nD) : Gathered (F := F) (e := .f32) hw2 (Q := 262144) rfl (V2 m d (Proc.devRef .tc main_v34))
    (V2 m d (Proc.devRef .tc main_v41)) (U2 m d (Proc.devRef .tc main_v42)) := by
  unfold U2 call2
  rw [StableHlo.binary_result']
  exact gathered_gath hw2 rfl _ _ (inr2 (follows m) d hm)

theorem got3 (hm : OK m) (d : Dev nD) : Gathered (F := F) (e := .f32) hw3 (Q := 131072) rfl (V3 m d (Proc.devRef .tc main_v49))
    (V3 m d (Proc.devRef .tc main_v56)) (U3 m d (Proc.devRef .tc main_v57)) := by
  unfold U3 call3
  rw [StableHlo.binary_result']
  exact gathered_gath hw3 rfl _ _ (inr3 (follows m) d hm)

/-- The contents, in range numbers given. -/
def line (hm : OK m) : Line m where
  R := RR m
  V := VV m
  U := UU m
  hR0 := (follows m).hR0
  hR1 := (follows m).hR1
  hR2 := (follows m).hR2
  hR3 := (follows m).hR3
  hR4 := (follows m).hR4
  hR5 := (follows m).hR5
  hV0 := (follows m).hV0
  hV1 := (follows m).hV1
  hV2 := (follows m).hV2
  hV3 := (follows m).hV3
  hU := (follows m).hU
  h0 := got0 m hm
  h1 := got1 m hm
  h2 := got2 m hm
  h3 := got3 m hm

end Concrete

end Cert.Proof.Contents

end
-- ==== Proof.Spec.lean ====
/-
  The network at the extended reals, in plain words of mathematics: one stage at one anchor, and the classifier's head.
-/
module

public import Idealize.ShloMosaic.Lib.Pointwise

@[expose] public section

noncomputable section

namespace Cert.Proof.Spec

open Idealize.ShloMosaic

/-- The number of coordinates of an anchor's neighbourhood, as the constant both programs divide by. -/
abbrev count : EReal := Ideal.ofBits .f32 0x42C00000#32
/-- The constant added to the standard deviation. -/
abbrev eps : EReal := Ideal.ofBits .f32 0x3727C5AC#32
/-- What a maximum starts from. -/
abbrev least : EReal := Ideal.ofBits .f32 0xFF800000#32

/-- The mean of the coordinates of 32 points. -/
def mean (r : Fin 32 → Fin 3 → EReal) : EReal := Ideal.div (∑ j, ∑ c, r j c) count

/-- Their standard deviation, and a little. -/
def spread (r : Fin 32 → Fin 3 → EReal) : EReal :=
  Ideal.sqrt (Ideal.div (∑ j, ∑ c, (r j c - mean r) * (r j c - mean r)) count) + eps

variable {d e : ℕ}

/-- The maximum over the 32 neighbours of the first layer at output `o`: of a neighbour's features and of its place, relative to the
    anchor and scaled. -/
def pool (f : Fin 32 → Fin d → EReal) (p : Fin 32 → Fin 3 → EReal) (q : Fin 3 → EReal) (wf : Fin d → Fin e → EReal)
    (wr : Fin 3 → Fin e → EReal) (o : Fin e) : EReal :=
  Finset.univ.fold max least fun j : Fin 32 => max (∑ x, f j x * wf x o
    + ∑ c, Ideal.div (p j c - q c) (spread fun j c => p j c - q c) * wr c o) 0

/-- The second layer with its shortcut, at output `o`. -/
def mix (h : Fin e → EReal) (wb : Fin e → Fin e → EReal) (o : Fin e) : EReal := max (h o + max (∑ x, h x * wb x o) 0) 0

/-- A point's first features, of its coordinates `p`. -/
def first {e : ℕ} (p : Fin 3 → EReal) (w : Fin 3 → Fin e → EReal) (o : Fin e) : EReal := max (∑ x, p x * w x o) 0

/-- The scores, of the last stage's features `h`: the largest of each over the points, then three products with `max · 0`
between them. -/
def top {n d e g k : ℕ} (h : Fin n → Fin d → EReal) (u : Fin d → Fin e → EReal) (v : Fin e → Fin g → EReal) (w : Fin g → Fin k → EReal)
    (o : Fin k) : EReal :=
  ∑ z, max (∑ y, max (∑ x, Finset.fold max least (fun i => h i x) Finset.univ * u x y) 0 * v y z) 0 * w z o

/-- A stage's features of one cloud: from the features `g` and the places `x` of the points before it, its anchors `q` and each
anchor's neighbours `I`. -/
def stage {n m d e : ℕ} (g : Fin n → Fin d → EReal) (x : Fin n → Fin 3 → EReal) (q : Fin m → Fin 3 → EReal) (I : Fin m → Fin 32 → Fin n)
    (wf : Fin d → Fin e → EReal) (wr : Fin 3 → Fin e → EReal) (wb : Fin e → Fin e → EReal) (i : Fin m) (o : Fin e) : EReal :=
  mix (pool (fun j a => g (I i j) a) (fun j c => x (I i j) c) (q i) wf wr) wb o

/-- The two layers of equal arguments are equal. -/
theorem mix_pool_congr {f f' : Fin 32 → Fin d → EReal} {p p' : Fin 32 → Fin 3 → EReal} {q q' : Fin 3 → EReal} {wf wf' : Fin d → Fin e → EReal}
    {wr wr' : Fin 3 → Fin e → EReal} {wb wb' : Fin e → Fin e → EReal} (hf : ∀ j a, f j a = f' j a) (hp : ∀ j c, p j c = p' j c)
    (hq : ∀ c, q c = q' c) (hwf : ∀ a o, wf a o = wf' a o) (hwr : ∀ c o, wr c o = wr' c o) (hwb : ∀ a o, wb a o = wb' a o) (o : Fin e) :
    mix (pool f p q wf wr) wb o = mix (pool f' p' q' wf' wr') wb' o := by
  obtain rfl : f = f' := funext fun j => funext (hf j)
  obtain rfl : p = p' := funext fun j => funext (hp j)
  obtain rfl : q = q' := funext hq
  obtain rfl : wf = wf' := funext fun j => funext (hwf j)
  obtain rfl : wr = wr' := funext fun j => funext (hwr j)
  obtain rfl : wb = wb' := funext fun j => funext (hwb j)
  rfl

end Cert.Proof.Spec
-- ==== Proof.Net.lean ====
/-
  The classifier as a function of its arguments: each stage's features, entry by entry, and the scores.
-/
module

public import proofs.«01_k».proof.Proof.Spec
public import proofs.«01_k».proof.Proof.Read

@[expose] public section

noncomputable section

namespace Cert.Proof.Net

open Idealize.ShloMosaic
open Cert.Proof.Read (pick)

/-- The arguments: the places `x` and the features `p` of the points, the weights, each stage's anchors `q` and its neighbours'
numbers `i`. -/
@[ext] structure Args where
  x : (⟨3, ![64, 1024, 3]⟩ : Shape).Idx → EReal
  p : (⟨3, ![64, 3, 1024]⟩ : Shape).Idx → EReal
  we : (⟨2, ![3, 16]⟩ : Shape).Idx → EReal
  w0 : (⟨2, ![19, 32]⟩ : Shape).Idx → EReal
  w1 : (⟨2, ![35, 64]⟩ : Shape).Idx → EReal
  w2 : (⟨2, ![67, 128]⟩ : Shape).Idx → EReal
  w3 : (⟨2, ![131, 128]⟩ : Shape).Idx → EReal
  b0 : (⟨2, ![32, 32]⟩ : Shape).Idx → EReal
  b1 : (⟨2, ![64, 64]⟩ : Shape).Idx → EReal
  b2 : (⟨2, ![128, 128]⟩ : Shape).Idx → EReal
  b3 : (⟨2, ![128, 128]⟩ : Shape).Idx → EReal
  c1 : (⟨2, ![128, 512]⟩ : Shape).Idx → EReal
  c2 : (⟨2, ![512, 256]⟩ : Shape).Idx → EReal
  c3 : (⟨2, ![256, 40]⟩ : Shape).Idx → EReal
  q0 : (⟨3, ![64, 512, 3]⟩ : Shape).Idx → EReal
  q1 : (⟨3, ![64, 256, 3]⟩ : Shape).Idx → EReal
  q2 : (⟨3, ![64, 128, 3]⟩ : Shape).Idx → EReal
  q3 : (⟨3, ![64, 64, 3]⟩ : Shape).Idx → EReal
  i0 : (⟨3, ![64, 512, 32]⟩ : Shape).Idx → BitVec 32
  i1 : (⟨3, ![64, 256, 32]⟩ : Shape).Idx → BitVec 32
  i2 : (⟨3, ![64, 128, 32]⟩ : Shape).Idx → BitVec 32
  i3 : (⟨3, ![64, 64, 32]⟩ : Shape).Idx → BitVec 32

variable (A : Args) (b : Fin 64)

/-- The embedding of cloud `b`. -/
def g0 : Fin 1024 → Fin 16 → EReal := fun i o => Spec.first (fun c => A.p (ix3 b c i)) (fun c o => A.we (ix2 c o)) o

/-- The features after stage 0. -/
def g1 : Fin 512 → Fin 32 → EReal :=
  Spec.stage (g0 A b) (fun i c => A.x (ix3 b i c)) (fun i c => A.q0 (ix3 b i c)) (fun i j => pick 1024 (A.i0 (ix3 b i j)))
    (fun a o => A.w0 (ix2 ⟨a.val, by omega⟩ o)) (fun c o => A.w0 (ix2 ⟨16 + c.val, by omega⟩ o)) (fun a o => A.b0 (ix2 a o))

/-- The features after stage 1. -/
def g2 : Fin 256 → Fin 64 → EReal :=
  Spec.stage (g1 A b) (fun i c => A.q0 (ix3 b i c)) (fun i c => A.q1 (ix3 b i c)) (fun i j => pick 512 (A.i1 (ix3 b i j)))
    (fun a o => A.w1 (ix2 ⟨a.val, by omega⟩ o)) (fun c o => A.w1 (ix2 ⟨32 + c.val, by omega⟩ o)) (fun a o => A.b1 (ix2 a o))

/-- The features after stage 2. -/
def g3 : Fin 128 → Fin 128 → EReal :=
  Spec.stage (g2 A b) (fun i c => A.q1 (ix3 b i c)) (fun i c => A.q2 (ix3 b i c)) (fun i j => pick 256 (A.i2 (ix3 b i j)))
    (fun a o => A.w2 (ix2 ⟨a.val, by omega⟩ o)) (fun c o => A.w2 (ix2 ⟨64 + c.val, by omega⟩ o)) (fun a o => A.b2 (ix2 a o))

/-- The features after stage 3. -/
def g4 : Fin 64 → Fin 128 → EReal :=
  Spec.stage (g3 A b) (fun i c => A.q2 (ix3 b i c)) (fun i c => A.q3 (ix3 b i c)) (fun i j => pick 128 (A.i3 (ix3 b i j)))
    (fun a o => A.w3 (ix2 ⟨a.val, by omega⟩ o)) (fun c o => A.w3 (ix2 ⟨128 + c.val, by omega⟩ o)) (fun a o => A.b3 (ix2 a o))

/-- The scores. -/
def scores : Fin 40 → EReal :=
  Spec.top (g4 A b) (fun a o => A.c1 (ix2 a o)) (fun a o => A.c2 (ix2 a o)) (fun a o => A.c3 (ix2 a o))

/-- Each neighbour's number names a point of its own cloud. -/
structure InCloud : Prop where
  r0 : ∀ y, (A.i0 y).toNat < 1024
  r1 : ∀ y, (A.i1 y).toNat < 512
  r2 : ∀ y, (A.i2 y).toNat < 256
  r3 : ∀ y, (A.i3 y).toNat < 128

end Cert.Proof.Net
-- ==== Proof.Outs.lean ====
/-
  Where a block of a window lies in its array, and what a kernel's result array holds at the end.
-/
module

public import proofs.«01_k».proof.Proof.Regions
public import proofs.«01_k».proof.Proof.Spec
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- A window that takes a whole batch entry at each grid point: entry `y` of its block is entry `k` of its array, whose
first coordinate is the grid point. -/
theorem emb_batch {G : Pipeline.Grid} (w : Window sig G) (hk : w.kind = .blocked) (t : Fin G.N) (y : (w.xblock (G.coords t)).Idx)
    (k : w.shape.Idx) (hi : ∀ a, w.index t a * w.size a = if a.val = 0 then t.val else 0)
    (h : ∀ a, (k a).val = (if a.val = 0 then t.val else 0) + (y a).val) : (w.rect t).emb y = k :=
  funext fun a => Fin.ext ((w.rect_emb_val t y a hk).trans ((congrArg (· + _) (hi a)).trans (h a).symm))

/-- A window whose block is its whole array. -/
theorem emb_whole {G : Pipeline.Grid} (w : Window sig G) (t : Fin G.N) (y : (w.xblock (G.coords t)).Idx) (k : w.shape.Idx)
    (h : ∀ a, w.index t a = 0) (hk : ∀ a, (k a).val = (y a).val) : (w.rect t).emb y = k :=
  funext fun a => Fin.ext ((w.rect_emb_val_of_index_zero t a (h a) y).trans (hk a).symm)

/-- The coordinates of entry `(0, r, a)` of a block and of entry `(b, r, a)` of the array. -/
theorem batch_val {B m n t : ℕ} (b : Fin B) (hb : b.val = t) (r : Fin m) (a : Fin n) (x : Fin 3) :
    (ix3 b r a x).val = (if x.val = 0 then t else 0) + (ix3 (0 : Fin 1) r a x).val := by
  match x with
  | 0 => exact hb
  | 1 => exact (Nat.zero_add _).symm
  | 2 => exact (Nat.zero_add _).symm

/-- An entry of a result's array at the end of its kernel is that of the block that holds it. -/
theorem arr_at {cfg : Cfg sig Λ₀} {V : Valuation τ sig (Elt Ideal)} {c : Dev nD} {n : ℕ}
    {aft : (w : Fin cfg.W) → Fin cfg.N → (cfg.win w).block.Idx → Elt Ideal (cfg.win w).elt} (w : Fin cfg.W)
    (hk : (cfg.win w).kind = .blocked) (hinj : ∀ t t' : Fin cfg.N, (cfg.win w).index t = (cfg.win w).index t' → t = t')
    (t : Fin cfg.N) (hf : (cfg.win w).flush t = true)
    (y : ((cfg.win w).xblock (cfg.grid.coords t)).Idx) (z : (cfg.win w).block.Idx) (hz : (cfg.win w).xinj (cfg.grid.coords t) y = z) :
    (dat cfg V c n aft).arrAt w cfg.N (((cfg.win w).blk t).view.emb y)
      = cast (congrArg (Elt Ideal) ((cfg.win w).blk t).view.elt_eq.symm) (aft w t z) := by
  subst hz
  exact (dat cfg V c n aft).arrAt_emb_eq_flushed w (fun t t' _ _ hne => (cfg.win w).disjoint_blk (fun h => hne (hinj t t' h)) hk) t hf y
-- ==== Proof.Out0.lean ====
/-
  The kernel of the embedding: its result, read from its arguments' arrays.
-/
module

public import proofs.«01_k».proof.Proof.Outs

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- An entry of the block the body writes. -/
theorem out0 (x0 : FVec Ideal S1x1024x3 .f32) (x1 : FVec Ideal S3x16 .f32) (i : Fin 1024) (o : Fin 16) :
    Reg0.out (F := Ideal) x0 x1 (ix3 0 i o) = Spec.first (fun x => x0 (ix3 0 i x)) (fun x o => x1 (ix2 x o)) o := by
  unfold Reg0.out
  rw [View.canon_unit_zero (by funext a; fin_cases a <;> rfl)]
  pointwise [k0_pay1]
  rfl

theorem at0_0 : ∀ (t : Fin grid0.N) (a), win0_0.index t a * win0_0.size a = if a.val = 0 then t.val else 0 := by
  decide +kernel

theorem blk0_0 (V : Valuation τ sig (Elt Ideal)) (t : Fin cfg0.N) (b : Fin 64) (hb : b.val = t.val) (r : Fin 1024) (a : Fin 3) :
    (blk cfg0 V 0 t : S1x1024x3.Idx → EReal) (ix3 0 r a) = (V (Proc.devRef .tc main_v0) : S64x1024x3.Idx → EReal) (ix3 b r a) :=
  congrArg (V (Proc.devRef .tc main_v0) : S64x1024x3.Idx → EReal)
    (emb_batch win0_0 rfl t (ix3 0 r a : S1x1024x3.Idx) (ix3 b r a) (at0_0 t) (batch_val b hb r a))

theorem at0_1 : ∀ (t : Fin grid0.N) (a), win0_1.index t a = 0 := by decide +kernel

theorem blk0_1 (V : Valuation τ sig (Elt Ideal)) (t : Fin cfg0.N) :
    (blk cfg0 V 1 t : S3x16.Idx → EReal) = (V (Proc.devRef .tc main_arg2) : S3x16.Idx → EReal) :=
  funext fun y => congrArg (V (Proc.devRef .tc main_arg2) : S3x16.Idx → EReal) (emb_whole win0_1 t y y (at0_1 t) fun _ => rfl)

theorem at0_2 : ∀ (t : Fin grid0.N) (a), win0_2.index t a * win0_2.size a = if a.val = 0 then t.val else 0 := by
  decide +kernel

theorem inj0_2 : ∀ t t' : Fin grid0.N, win0_2.index t = win0_2.index t' → t = t' := by decide +kernel

/-- An entry of the result's array. -/
theorem embed (R : Fin 6 → Dev nD → Valuation τ sig (Elt Ideal)) (d : Dev nD) (b : Fin 64) (i : Fin 1024) (o : Fin 16) :
    (Regions.next R 0 d (Proc.devRef .tc main_v1) : S64x1024x16.Idx → EReal) (ix3 b i o)
      = Spec.first (fun x => (R 0 d (Proc.devRef .tc main_v0) : S64x1024x3.Idx → EReal) (ix3 b i x))
          (fun x o => (R 0 d (Proc.devRef .tc main_arg2) : S3x16.Idx → EReal) (ix2 x o)) o := by
  obtain ⟨t, ht⟩ : ∃ t : Fin cfg0.N, b.val = t.val := ⟨⟨b.val, b.isLt⟩, rfl⟩
  have e : (win0_2.rect t).emb (ix3 0 i o : S1x1024x16.Idx) = (ix3 b i o : S64x1024x16.Idx) :=
    emb_batch win0_2 rfl t (ix3 0 i o : S1x1024x16.Idx) (ix3 b i o) (at0_2 t) (batch_val b ht i o)
  have f := arr_at (V := R 0 d) (c := d) (n := Regions.round 0) (aft := Reg0.aft (R 0 d)) (2 : Fin 3) rfl inj0_2 t (flush0_2 t)
    (ix3 0 i o : S1x1024x16.Idx) (ix3 0 i o : S1x1024x16.Idx) (funext fun a => Fin.ext rfl)
  have hn : (Regions.next R 0 d (Proc.devRef .tc main_v1) : S64x1024x16.Idx → EReal)
      = (dat cfg0 (R 0 d) d (Regions.round 0) (Reg0.aft (R 0 d))).arrAt (2 : Fin 3) cfg0.N := Regions.next_out R 0 d
  have hg : Reg0.aft (R 0 d) 2 t = Reg0.out (blk cfg0 (R 0 d) 0 t) (blk cfg0 (R 0 d) 1 t) := rfl
  rw [← e, hn]
  refine f.trans ((cast_eq _ _).trans ?_)
  rw [hg]
  refine (out0 (blk cfg0 (R 0 d) 0 t) (blk cfg0 (R 0 d) 1 t) i o).trans ?_
  simp only [blk0_0 (R 0 d) t b ht, blk0_1]
-- ==== Proof.Out2.lean ====
/-
  The kernel of a stage (512 points): its result, read from its arguments' arrays.
-/
module

public import proofs.«01_k».proof.Proof.Outs

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- An entry of the block the body writes. -/
theorem out2 (x0 : FVec Ideal S1x16384x128 .f32) (x1 : FVec Ideal S1x512x3 .f32) (x2 : FVec Ideal S16x32 .f32) (x3 : FVec Ideal S3x32 .f32)
    (x4 : FVec Ideal S32x32 .f32) (i : Fin 512) (o : Fin 32) :
    Reg2.out (F := Ideal) x0 x1 x2 x3 x4 (ix3 0 i o)
      = Spec.mix (Spec.pool (fun j a => x0 (ix3 0 ⟨i.val * 32 + j.val, by omega⟩ ⟨a.val, by omega⟩))
          (fun j c => x0 (ix3 0 ⟨i.val * 32 + j.val, by omega⟩ ⟨16 + c.val, by omega⟩))
          (fun c => x1 (ix3 0 i c)) (fun a o => x2 (ix2 a o)) (fun c o => x3 (ix2 c o))) (fun a o => x4 (ix2 a o)) o := by
  unfold Reg2.out
  rw [View.canon_unit_zero (by funext a; fin_cases a <;> rfl)]
  pointwise [k2_pay1, k2_pay2]
  rfl

theorem at2_0 : ∀ (t : Fin grid2.N) (a), win2_0.index t a * win2_0.size a = if a.val = 0 then t.val else 0 := by
  decide +kernel

theorem blk2_0 (V : Valuation τ sig (Elt Ideal)) (t : Fin cfg2.N) (b : Fin 64) (hb : b.val = t.val) (r : Fin 16384) (a : Fin 128) :
    (blk cfg2 V 0 t : S1x16384x128.Idx → EReal) (ix3 0 r a) = (V (Proc.devRef .tc main_v13) : S64x16384x128.Idx → EReal) (ix3 b r a) :=
  congrArg (V (Proc.devRef .tc main_v13) : S64x16384x128.Idx → EReal)
    (emb_batch win2_0 rfl t (ix3 0 r a : S1x16384x128.Idx) (ix3 b r a) (at2_0 t) (batch_val b hb r a))

theorem at2_1 : ∀ (t : Fin grid2.N) (a), win2_1.index t a * win2_1.size a = if a.val = 0 then t.val else 0 := by
  decide +kernel

theorem blk2_1 (V : Valuation τ sig (Elt Ideal)) (t : Fin cfg2.N) (b : Fin 64) (hb : b.val = t.val) (r : Fin 512) (a : Fin 3) :
    (blk cfg2 V 1 t : S1x512x3.Idx → EReal) (ix3 0 r a) = (V (Proc.devRef .tc main_arg14) : S64x512x3.Idx → EReal) (ix3 b r a) :=
  congrArg (V (Proc.devRef .tc main_arg14) : S64x512x3.Idx → EReal)
    (emb_batch win2_1 rfl t (ix3 0 r a : S1x512x3.Idx) (ix3 b r a) (at2_1 t) (batch_val b hb r a))

theorem at2_2 : ∀ (t : Fin grid2.N) (a), win2_2.index t a = 0 := by decide +kernel

theorem blk2_2 (V : Valuation τ sig (Elt Ideal)) (t : Fin cfg2.N) :
    (blk cfg2 V 2 t : S16x32.Idx → EReal) = (V (Proc.devRef .tc main_v14) : S16x32.Idx → EReal) :=
  funext fun y => congrArg (V (Proc.devRef .tc main_v14) : S16x32.Idx → EReal) (emb_whole win2_2 t y y (at2_2 t) fun _ => rfl)

theorem at2_3 : ∀ (t : Fin grid2.N) (a), win2_3.index t a = 0 := by decide +kernel

theorem blk2_3 (V : Valuation τ sig (Elt Ideal)) (t : Fin cfg2.N) :
    (blk cfg2 V 3 t : S3x32.Idx → EReal) = (V (Proc.devRef .tc main_v15) : S3x32.Idx → EReal) :=
  funext fun y => congrArg (V (Proc.devRef .tc main_v15) : S3x32.Idx → EReal) (emb_whole win2_3 t y y (at2_3 t) fun _ => rfl)

theorem at2_4 : ∀ (t : Fin grid2.N) (a), win2_4.index t a = 0 := by decide +kernel

theorem blk2_4 (V : Valuation τ sig (Elt Ideal)) (t : Fin cfg2.N) :
    (blk cfg2 V 4 t : S32x32.Idx → EReal) = (V (Proc.devRef .tc main_arg7) : S32x32.Idx → EReal) :=
  funext fun y => congrArg (V (Proc.devRef .tc main_arg7) : S32x32.Idx → EReal) (emb_whole win2_4 t y y (at2_4 t) fun _ => rfl)

theorem at2_5 : ∀ (t : Fin grid2.N) (a), win2_5.index t a * win2_5.size a = if a.val = 0 then t.val else 0 := by
  decide +kernel

theorem inj2_5 : ∀ t t' : Fin grid2.N, win2_5.index t = win2_5.index t' → t = t' := by decide +kernel

/-- An entry of the result's array. -/
theorem stage2 (R : Fin 6 → Dev nD → Valuation τ sig (Elt Ideal)) (d : Dev nD) (b : Fin 64) (i : Fin 512) (o : Fin 32) :
    (Regions.next R 1 d (Proc.devRef .tc main_v16) : S64x512x32.Idx → EReal) (ix3 b i o)
      = Spec.mix (Spec.pool
          (fun j a => (R 1 d (Proc.devRef .tc main_v13) : S64x16384x128.Idx → EReal) (ix3 b ⟨i.val * 32 + j.val, by omega⟩ ⟨a.val, by omega⟩))
          (fun j c => (R 1 d (Proc.devRef .tc main_v13) : S64x16384x128.Idx → EReal) (ix3 b ⟨i.val * 32 + j.val, by omega⟩ ⟨16 + c.val, by omega⟩))
          (fun c => (R 1 d (Proc.devRef .tc main_arg14) : S64x512x3.Idx → EReal) (ix3 b i c))
          (fun a o => (R 1 d (Proc.devRef .tc main_v14) : S16x32.Idx → EReal) (ix2 a o))
          (fun a o => (R 1 d (Proc.devRef .tc main_v15) : S3x32.Idx → EReal) (ix2 a o)))
        (fun a o => (R 1 d (Proc.devRef .tc main_arg7) : S32x32.Idx → EReal) (ix2 a o)) o := by
  obtain ⟨t, ht⟩ : ∃ t : Fin cfg2.N, b.val = t.val := ⟨⟨b.val, b.isLt⟩, rfl⟩
  have e : (win2_5.rect t).emb (ix3 0 i o : S1x512x32.Idx) = (ix3 b i o : S64x512x32.Idx) :=
    emb_batch win2_5 rfl t (ix3 0 i o : S1x512x32.Idx) (ix3 b i o) (at2_5 t) (batch_val b ht i o)
  have f := arr_at (V := R 1 d) (c := d) (n := Regions.round 1) (aft := Reg2.aft (R 1 d)) (5 : Fin 6) rfl inj2_5 t (flush2_5 t)
    (ix3 0 i o : S1x512x32.Idx) (ix3 0 i o : S1x512x32.Idx) (funext fun a => Fin.ext rfl)
  have hn : (Regions.next R 1 d (Proc.devRef .tc main_v16) : S64x512x32.Idx → EReal)
      = (dat cfg2 (R 1 d) d (Regions.round 1) (Reg2.aft (R 1 d))).arrAt (5 : Fin 6) cfg2.N := Regions.next_out R 1 d
  have hg : Reg2.aft (R 1 d) 5 t = Reg2.out (blk cfg2 (R 1 d) 0 t) (blk cfg2 (R 1 d) 1 t) (blk cfg2 (R 1 d) 2 t) (blk cfg2 (R 1 d) 3 t) (blk cfg2 (R 1 d) 4 t) := rfl
  rw [← e, hn]
  refine f.trans ((cast_eq _ _).trans ?_)
  rw [hg]
  refine (out2 (blk cfg2 (R 1 d) 0 t) (blk cfg2 (R 1 d) 1 t) (blk cfg2 (R 1 d) 2 t) (blk cfg2 (R 1 d) 3 t) (blk cfg2 (R 1 d) 4 t) i o).trans ?_
  simp only [blk2_0 (R 1 d) t b ht, blk2_1 (R 1 d) t b ht, blk2_2, blk2_3, blk2_4]
-- ==== Proof.Out4.lean ====
/-
  The kernel of a stage (256 points): its result, read from its arguments' arrays.
-/
module

public import proofs.«01_k».proof.Proof.Outs

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- An entry of the block the body writes. -/
theorem out4 (x0 : FVec Ideal S1x8192x128 .f32) (x1 : FVec Ideal S1x256x3 .f32) (x2 : FVec Ideal S32x64 .f32) (x3 : FVec Ideal S3x64 .f32)
    (x4 : FVec Ideal S64x64 .f32) (i : Fin 256) (o : Fin 64) :
    Reg4.out (F := Ideal) x0 x1 x2 x3 x4 (ix3 0 i o)
      = Spec.mix (Spec.pool (fun j a => x0 (ix3 0 ⟨i.val * 32 + j.val, by omega⟩ ⟨a.val, by omega⟩))
          (fun j c => x0 (ix3 0 ⟨i.val * 32 + j.val, by omega⟩ ⟨32 + c.val, by omega⟩))
          (fun c => x1 (ix3 0 i c)) (fun a o => x2 (ix2 a o)) (fun c o => x3 (ix2 c o))) (fun a o => x4 (ix2 a o)) o := by
  unfold Reg4.out
  rw [View.canon_unit_zero (by funext a; fin_cases a <;> rfl)]
  pointwise [k4_pay1, k4_pay2]
  rfl

theorem at4_0 : ∀ (t : Fin grid4.N) (a), win4_0.index t a * win4_0.size a = if a.val = 0 then t.val else 0 := by
  decide +kernel

theorem blk4_0 (V : Valuation τ sig (Elt Ideal)) (t : Fin cfg4.N) (b : Fin 64) (hb : b.val = t.val) (r : Fin 8192) (a : Fin 128) :
    (blk cfg4 V 0 t : S1x8192x128.Idx → EReal) (ix3 0 r a) = (V (Proc.devRef .tc main_v28) : S64x8192x128.Idx → EReal) (ix3 b r a) :=
  congrArg (V (Proc.devRef .tc main_v28) : S64x8192x128.Idx → EReal)
    (emb_batch win4_0 rfl t (ix3 0 r a : S1x8192x128.Idx) (ix3 b r a) (at4_0 t) (batch_val b hb r a))

theorem at4_1 : ∀ (t : Fin grid4.N) (a), win4_1.index t a * win4_1.size a = if a.val = 0 then t.val else 0 := by
  decide +kernel

theorem blk4_1 (V : Valuation τ sig (Elt Ideal)) (t : Fin cfg4.N) (b : Fin 64) (hb : b.val = t.val) (r : Fin 256) (a : Fin 3) :
    (blk cfg4 V 1 t : S1x256x3.Idx → EReal) (ix3 0 r a) = (V (Proc.devRef .tc main_arg15) : S64x256x3.Idx → EReal) (ix3 b r a) :=
  congrArg (V (Proc.devRef .tc main_arg15) : S64x256x3.Idx → EReal)
    (emb_batch win4_1 rfl t (ix3 0 r a : S1x256x3.Idx) (ix3 b r a) (at4_1 t) (batch_val b hb r a))

theorem at4_2 : ∀ (t : Fin grid4.N) (a), win4_2.index t a = 0 := by decide +kernel

theorem blk4_2 (V : Valuation τ sig (Elt Ideal)) (t : Fin cfg4.N) :
    (blk cfg4 V 2 t : S32x64.Idx → EReal) = (V (Proc.devRef .tc main_v29) : S32x64.Idx → EReal) :=
  funext fun y => congrArg (V (Proc.devRef .tc main_v29) : S32x64.Idx → EReal) (emb_whole win4_2 t y y (at4_2 t) fun _ => rfl)

theorem at4_3 : ∀ (t : Fin grid4.N) (a), win4_3.index t a = 0 := by decide +kernel

theorem blk4_3 (V : Valuation τ sig (Elt Ideal)) (t : Fin cfg4.N) :
    (blk cfg4 V 3 t : S3x64.Idx → EReal) = (V (Proc.devRef .tc main_v30) : S3x64.Idx → EReal) :=
  funext fun y => congrArg (V (Proc.devRef .tc main_v30) : S3x64.Idx → EReal) (emb_whole win4_3 t y y (at4_3 t) fun _ => rfl)

theorem at4_4 : ∀ (t : Fin grid4.N) (a), win4_4.index t a = 0 := by decide +kernel

theorem blk4_4 (V : Valuation τ sig (Elt Ideal)) (t : Fin cfg4.N) :
    (blk cfg4 V 4 t : S64x64.Idx → EReal) = (V (Proc.devRef .tc main_arg8) : S64x64.Idx → EReal) :=
  funext fun y => congrArg (V (Proc.devRef .tc main_arg8) : S64x64.Idx → EReal) (emb_whole win4_4 t y y (at4_4 t) fun _ => rfl)

theorem at4_5 : ∀ (t : Fin grid4.N) (a), win4_5.index t a * win4_5.size a = if a.val = 0 then t.val else 0 := by
  decide +kernel

theorem inj4_5 : ∀ t t' : Fin grid4.N, win4_5.index t = win4_5.index t' → t = t' := by decide +kernel

/-- An entry of the result's array. -/
theorem stage4 (R : Fin 6 → Dev nD → Valuation τ sig (Elt Ideal)) (d : Dev nD) (b : Fin 64) (i : Fin 256) (o : Fin 64) :
    (Regions.next R 2 d (Proc.devRef .tc main_v31) : S64x256x64.Idx → EReal) (ix3 b i o)
      = Spec.mix (Spec.pool
          (fun j a => (R 2 d (Proc.devRef .tc main_v28) : S64x8192x128.Idx → EReal) (ix3 b ⟨i.val * 32 + j.val, by omega⟩ ⟨a.val, by omega⟩))
          (fun j c => (R 2 d (Proc.devRef .tc main_v28) : S64x8192x128.Idx → EReal) (ix3 b ⟨i.val * 32 + j.val, by omega⟩ ⟨32 + c.val, by omega⟩))
          (fun c => (R 2 d (Proc.devRef .tc main_arg15) : S64x256x3.Idx → EReal) (ix3 b i c))
          (fun a o => (R 2 d (Proc.devRef .tc main_v29) : S32x64.Idx → EReal) (ix2 a o))
          (fun a o => (R 2 d (Proc.devRef .tc main_v30) : S3x64.Idx → EReal) (ix2 a o)))
        (fun a o => (R 2 d (Proc.devRef .tc main_arg8) : S64x64.Idx → EReal) (ix2 a o)) o := by
  obtain ⟨t, ht⟩ : ∃ t : Fin cfg4.N, b.val = t.val := ⟨⟨b.val, b.isLt⟩, rfl⟩
  have e : (win4_5.rect t).emb (ix3 0 i o : S1x256x64.Idx) = (ix3 b i o : S64x256x64.Idx) :=
    emb_batch win4_5 rfl t (ix3 0 i o : S1x256x64.Idx) (ix3 b i o) (at4_5 t) (batch_val b ht i o)
  have f := arr_at (V := R 2 d) (c := d) (n := Regions.round 2) (aft := Reg4.aft (R 2 d)) (5 : Fin 6) rfl inj4_5 t (flush4_5 t)
    (ix3 0 i o : S1x256x64.Idx) (ix3 0 i o : S1x256x64.Idx) (funext fun a => Fin.ext rfl)
  have hn : (Regions.next R 2 d (Proc.devRef .tc main_v31) : S64x256x64.Idx → EReal)
      = (dat cfg4 (R 2 d) d (Regions.round 2) (Reg4.aft (R 2 d))).arrAt (5 : Fin 6) cfg4.N := Regions.next_out R 2 d
  have hg : Reg4.aft (R 2 d) 5 t = Reg4.out (blk cfg4 (R 2 d) 0 t) (blk cfg4 (R 2 d) 1 t) (blk cfg4 (R 2 d) 2 t) (blk cfg4 (R 2 d) 3 t) (blk cfg4 (R 2 d) 4 t) := rfl
  rw [← e, hn]
  refine f.trans ((cast_eq _ _).trans ?_)
  rw [hg]
  refine (out4 (blk cfg4 (R 2 d) 0 t) (blk cfg4 (R 2 d) 1 t) (blk cfg4 (R 2 d) 2 t) (blk cfg4 (R 2 d) 3 t) (blk cfg4 (R 2 d) 4 t) i o).trans ?_
  simp only [blk4_0 (R 2 d) t b ht, blk4_1 (R 2 d) t b ht, blk4_2, blk4_3, blk4_4]
-- ==== Proof.Out6.lean ====
/-
  The kernel of a stage (128 points): its result, read from its arguments' arrays.
-/
module

public import proofs.«01_k».proof.Proof.Outs

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- An entry of the block the body writes. -/
theorem out6 (x0 : FVec Ideal S1x4096x128 .f32) (x1 : FVec Ideal S1x128x3 .f32) (x2 : FVec Ideal S64x128 .f32) (x3 : FVec Ideal S3x128 .f32)
    (x4 : FVec Ideal S128x128 .f32) (i : Fin 128) (o : Fin 128) :
    Reg6.out (F := Ideal) x0 x1 x2 x3 x4 (ix3 0 i o)
      = Spec.mix (Spec.pool (fun j a => x0 (ix3 0 ⟨i.val * 32 + j.val, by omega⟩ ⟨a.val, by omega⟩))
          (fun j c => x0 (ix3 0 ⟨i.val * 32 + j.val, by omega⟩ ⟨64 + c.val, by omega⟩))
          (fun c => x1 (ix3 0 i c)) (fun a o => x2 (ix2 a o)) (fun c o => x3 (ix2 c o))) (fun a o => x4 (ix2 a o)) o := by
  unfold Reg6.out
  rw [View.canon_unit_zero (by funext a; fin_cases a <;> rfl)]
  pointwise [k6_pay1, k6_pay2]
  rfl

theorem at6_0 : ∀ (t : Fin grid6.N) (a), win6_0.index t a * win6_0.size a = if a.val = 0 then t.val else 0 := by
  decide +kernel

theorem blk6_0 (V : Valuation τ sig (Elt Ideal)) (t : Fin cfg6.N) (b : Fin 64) (hb : b.val = t.val) (r : Fin 4096) (a : Fin 128) :
    (blk cfg6 V 0 t : S1x4096x128.Idx → EReal) (ix3 0 r a) = (V (Proc.devRef .tc main_v43) : S64x4096x128.Idx → EReal) (ix3 b r a) :=
  congrArg (V (Proc.devRef .tc main_v43) : S64x4096x128.Idx → EReal)
    (emb_batch win6_0 rfl t (ix3 0 r a : S1x4096x128.Idx) (ix3 b r a) (at6_0 t) (batch_val b hb r a))

theorem at6_1 : ∀ (t : Fin grid6.N) (a), win6_1.index t a * win6_1.size a = if a.val = 0 then t.val else 0 := by
  decide +kernel

theorem blk6_1 (V : Valuation τ sig (Elt Ideal)) (t : Fin cfg6.N) (b : Fin 64) (hb : b.val = t.val) (r : Fin 128) (a : Fin 3) :
    (blk cfg6 V 1 t : S1x128x3.Idx → EReal) (ix3 0 r a) = (V (Proc.devRef .tc main_arg16) : S64x128x3.Idx → EReal) (ix3 b r a) :=
  congrArg (V (Proc.devRef .tc main_arg16) : S64x128x3.Idx → EReal)
    (emb_batch win6_1 rfl t (ix3 0 r a : S1x128x3.Idx) (ix3 b r a) (at6_1 t) (batch_val b hb r a))

theorem at6_2 : ∀ (t : Fin grid6.N) (a), win6_2.index t a = 0 := by decide +kernel

theorem blk6_2 (V : Valuation τ sig (Elt Ideal)) (t : Fin cfg6.N) :
    (blk cfg6 V 2 t : S64x128.Idx → EReal) = (V (Proc.devRef .tc main_v44) : S64x128.Idx → EReal) :=
  funext fun y => congrArg (V (Proc.devRef .tc main_v44) : S64x128.Idx → EReal) (emb_whole win6_2 t y y (at6_2 t) fun _ => rfl)

theorem at6_3 : ∀ (t : Fin grid6.N) (a), win6_3.index t a = 0 := by decide +kernel

theorem blk6_3 (V : Valuation τ sig (Elt Ideal)) (t : Fin cfg6.N) :
    (blk cfg6 V 3 t : S3x128.Idx → EReal) = (V (Proc.devRef .tc main_v45) : S3x128.Idx → EReal) :=
  funext fun y => congrArg (V (Proc.devRef .tc main_v45) : S3x128.Idx → EReal) (emb_whole win6_3 t y y (at6_3 t) fun _ => rfl)

theorem at6_4 : ∀ (t : Fin grid6.N) (a), win6_4.index t a = 0 := by decide +kernel

theorem blk6_4 (V : Valuation τ sig (Elt Ideal)) (t : Fin cfg6.N) :
    (blk cfg6 V 4 t : S128x128.Idx → EReal) = (V (Proc.devRef .tc main_arg9) : S128x128.Idx → EReal) :=
  funext fun y => congrArg (V (Proc.devRef .tc main_arg9) : S128x128.Idx → EReal) (emb_whole win6_4 t y y (at6_4 t) fun _ => rfl)

theorem at6_5 : ∀ (t : Fin grid6.N) (a), win6_5.index t a * win6_5.size a = if a.val = 0 then t.val else 0 := by
  decide +kernel

theorem inj6_5 : ∀ t t' : Fin grid6.N, win6_5.index t = win6_5.index t' → t = t' := by decide +kernel

/-- An entry of the result's array. -/
theorem stage6 (R : Fin 6 → Dev nD → Valuation τ sig (Elt Ideal)) (d : Dev nD) (b : Fin 64) (i : Fin 128) (o : Fin 128) :
    (Regions.next R 3 d (Proc.devRef .tc main_v46) : S64x128x128.Idx → EReal) (ix3 b i o)
      = Spec.mix (Spec.pool
          (fun j a => (R 3 d (Proc.devRef .tc main_v43) : S64x4096x128.Idx → EReal) (ix3 b ⟨i.val * 32 + j.val, by omega⟩ ⟨a.val, by omega⟩))
          (fun j c => (R 3 d (Proc.devRef .tc main_v43) : S64x4096x128.Idx → EReal) (ix3 b ⟨i.val * 32 + j.val, by omega⟩ ⟨64 + c.val, by omega⟩))
          (fun c => (R 3 d (Proc.devRef .tc main_arg16) : S64x128x3.Idx → EReal) (ix3 b i c))
          (fun a o => (R 3 d (Proc.devRef .tc main_v44) : S64x128.Idx → EReal) (ix2 a o))
          (fun a o => (R 3 d (Proc.devRef .tc main_v45) : S3x128.Idx → EReal) (ix2 a o)))
        (fun a o => (R 3 d (Proc.devRef .tc main_arg9) : S128x128.Idx → EReal) (ix2 a o)) o := by
  obtain ⟨t, ht⟩ : ∃ t : Fin cfg6.N, b.val = t.val := ⟨⟨b.val, b.isLt⟩, rfl⟩
  have e : (win6_5.rect t).emb (ix3 0 i o : S1x128x128.Idx) = (ix3 b i o : S64x128x128.Idx) :=
    emb_batch win6_5 rfl t (ix3 0 i o : S1x128x128.Idx) (ix3 b i o) (at6_5 t) (batch_val b ht i o)
  have f := arr_at (V := R 3 d) (c := d) (n := Regions.round 3) (aft := Reg6.aft (R 3 d)) (5 : Fin 6) rfl inj6_5 t (flush6_5 t)
    (ix3 0 i o : S1x128x128.Idx) (ix3 0 i o : S1x128x128.Idx) (funext fun a => Fin.ext rfl)
  have hn : (Regions.next R 3 d (Proc.devRef .tc main_v46) : S64x128x128.Idx → EReal)
      = (dat cfg6 (R 3 d) d (Regions.round 3) (Reg6.aft (R 3 d))).arrAt (5 : Fin 6) cfg6.N := Regions.next_out R 3 d
  have hg : Reg6.aft (R 3 d) 5 t = Reg6.out (blk cfg6 (R 3 d) 0 t) (blk cfg6 (R 3 d) 1 t) (blk cfg6 (R 3 d) 2 t) (blk cfg6 (R 3 d) 3 t) (blk cfg6 (R 3 d) 4 t) := rfl
  rw [← e, hn]
  refine f.trans ((cast_eq _ _).trans ?_)
  rw [hg]
  refine (out6 (blk cfg6 (R 3 d) 0 t) (blk cfg6 (R 3 d) 1 t) (blk cfg6 (R 3 d) 2 t) (blk cfg6 (R 3 d) 3 t) (blk cfg6 (R 3 d) 4 t) i o).trans ?_
  simp only [blk6_0 (R 3 d) t b ht, blk6_1 (R 3 d) t b ht, blk6_2, blk6_3, blk6_4]
-- ==== Proof.Out8.lean ====
/-
  The kernel of a stage (64 points): its result, read from its arguments' arrays.
-/
module

public import proofs.«01_k».proof.Proof.Outs

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- An entry of the block the body writes. -/
theorem out8 (x0 : FVec Ideal S1x2048x256 .f32) (x1 : FVec Ideal S1x64x3 .f32) (x2 : FVec Ideal S128x128 .f32) (x3 : FVec Ideal S3x128 .f32)
    (x4 : FVec Ideal S128x128 .f32) (i : Fin 64) (o : Fin 128) :
    Reg8.out (F := Ideal) x0 x1 x2 x3 x4 (ix3 0 i o)
      = Spec.mix (Spec.pool (fun j a => x0 (ix3 0 ⟨i.val * 32 + j.val, by omega⟩ ⟨a.val, by omega⟩))
          (fun j c => x0 (ix3 0 ⟨i.val * 32 + j.val, by omega⟩ ⟨128 + c.val, by omega⟩))
          (fun c => x1 (ix3 0 i c)) (fun a o => x2 (ix2 a o)) (fun c o => x3 (ix2 c o))) (fun a o => x4 (ix2 a o)) o := by
  unfold Reg8.out
  rw [View.canon_unit_zero (by funext a; fin_cases a <;> rfl)]
  pointwise [k8_pay1, k8_pay2]
  rfl

theorem at8_0 : ∀ (t : Fin grid8.N) (a), win8_0.index t a * win8_0.size a = if a.val = 0 then t.val else 0 := by
  decide +kernel

theorem blk8_0 (V : Valuation τ sig (Elt Ideal)) (t : Fin cfg8.N) (b : Fin 64) (hb : b.val = t.val) (r : Fin 2048) (a : Fin 256) :
    (blk cfg8 V 0 t : S1x2048x256.Idx → EReal) (ix3 0 r a) = (V (Proc.devRef .tc main_v58) : S64x2048x256.Idx → EReal) (ix3 b r a) :=
  congrArg (V (Proc.devRef .tc main_v58) : S64x2048x256.Idx → EReal)
    (emb_batch win8_0 rfl t (ix3 0 r a : S1x2048x256.Idx) (ix3 b r a) (at8_0 t) (batch_val b hb r a))

theorem at8_1 : ∀ (t : Fin grid8.N) (a), win8_1.index t a * win8_1.size a = if a.val = 0 then t.val else 0 := by
  decide +kernel

theorem blk8_1 (V : Valuation τ sig (Elt Ideal)) (t : Fin cfg8.N) (b : Fin 64) (hb : b.val = t.val) (r : Fin 64) (a : Fin 3) :
    (blk cfg8 V 1 t : S1x64x3.Idx → EReal) (ix3 0 r a) = (V (Proc.devRef .tc main_arg17) : S64x64x3.Idx → EReal) (ix3 b r a) :=
  congrArg (V (Proc.devRef .tc main_arg17) : S64x64x3.Idx → EReal)
    (emb_batch win8_1 rfl t (ix3 0 r a : S1x64x3.Idx) (ix3 b r a) (at8_1 t) (batch_val b hb r a))

theorem at8_2 : ∀ (t : Fin grid8.N) (a), win8_2.index t a = 0 := by decide +kernel

theorem blk8_2 (V : Valuation τ sig (Elt Ideal)) (t : Fin cfg8.N) :
    (blk cfg8 V 2 t : S128x128.Idx → EReal) = (V (Proc.devRef .tc main_v59) : S128x128.Idx → EReal) :=
  funext fun y => congrArg (V (Proc.devRef .tc main_v59) : S128x128.Idx → EReal) (emb_whole win8_2 t y y (at8_2 t) fun _ => rfl)

theorem at8_3 : ∀ (t : Fin grid8.N) (a), win8_3.index t a = 0 := by decide +kernel

theorem blk8_3 (V : Valuation τ sig (Elt Ideal)) (t : Fin cfg8.N) :
    (blk cfg8 V 3 t : S3x128.Idx → EReal) = (V (Proc.devRef .tc main_v60) : S3x128.Idx → EReal) :=
  funext fun y => congrArg (V (Proc.devRef .tc main_v60) : S3x128.Idx → EReal) (emb_whole win8_3 t y y (at8_3 t) fun _ => rfl)

theorem at8_4 : ∀ (t : Fin grid8.N) (a), win8_4.index t a = 0 := by decide +kernel

theorem blk8_4 (V : Valuation τ sig (Elt Ideal)) (t : Fin cfg8.N) :
    (blk cfg8 V 4 t : S128x128.Idx → EReal) = (V (Proc.devRef .tc main_arg10) : S128x128.Idx → EReal) :=
  funext fun y => congrArg (V (Proc.devRef .tc main_arg10) : S128x128.Idx → EReal) (emb_whole win8_4 t y y (at8_4 t) fun _ => rfl)

theorem at8_5 : ∀ (t : Fin grid8.N) (a), win8_5.index t a * win8_5.size a = if a.val = 0 then t.val else 0 := by
  decide +kernel

theorem inj8_5 : ∀ t t' : Fin grid8.N, win8_5.index t = win8_5.index t' → t = t' := by decide +kernel

/-- An entry of the result's array. -/
theorem stage8 (R : Fin 6 → Dev nD → Valuation τ sig (Elt Ideal)) (d : Dev nD) (b : Fin 64) (i : Fin 64) (o : Fin 128) :
    (Regions.next R 4 d (Proc.devRef .tc main_v61) : S64x64x128.Idx → EReal) (ix3 b i o)
      = Spec.mix (Spec.pool
          (fun j a => (R 4 d (Proc.devRef .tc main_v58) : S64x2048x256.Idx → EReal) (ix3 b ⟨i.val * 32 + j.val, by omega⟩ ⟨a.val, by omega⟩))
          (fun j c => (R 4 d (Proc.devRef .tc main_v58) : S64x2048x256.Idx → EReal) (ix3 b ⟨i.val * 32 + j.val, by omega⟩ ⟨128 + c.val, by omega⟩))
          (fun c => (R 4 d (Proc.devRef .tc main_arg17) : S64x64x3.Idx → EReal) (ix3 b i c))
          (fun a o => (R 4 d (Proc.devRef .tc main_v59) : S128x128.Idx → EReal) (ix2 a o))
          (fun a o => (R 4 d (Proc.devRef .tc main_v60) : S3x128.Idx → EReal) (ix2 a o)))
        (fun a o => (R 4 d (Proc.devRef .tc main_arg10) : S128x128.Idx → EReal) (ix2 a o)) o := by
  obtain ⟨t, ht⟩ : ∃ t : Fin cfg8.N, b.val = t.val := ⟨⟨b.val, b.isLt⟩, rfl⟩
  have e : (win8_5.rect t).emb (ix3 0 i o : S1x64x128.Idx) = (ix3 b i o : S64x64x128.Idx) :=
    emb_batch win8_5 rfl t (ix3 0 i o : S1x64x128.Idx) (ix3 b i o) (at8_5 t) (batch_val b ht i o)
  have f := arr_at (V := R 4 d) (c := d) (n := Regions.round 4) (aft := Reg8.aft (R 4 d)) (5 : Fin 6) rfl inj8_5 t (flush8_5 t)
    (ix3 0 i o : S1x64x128.Idx) (ix3 0 i o : S1x64x128.Idx) (funext fun a => Fin.ext rfl)
  have hn : (Regions.next R 4 d (Proc.devRef .tc main_v61) : S64x64x128.Idx → EReal)
      = (dat cfg8 (R 4 d) d (Regions.round 4) (Reg8.aft (R 4 d))).arrAt (5 : Fin 6) cfg8.N := Regions.next_out R 4 d
  have hg : Reg8.aft (R 4 d) 5 t = Reg8.out (blk cfg8 (R 4 d) 0 t) (blk cfg8 (R 4 d) 1 t) (blk cfg8 (R 4 d) 2 t) (blk cfg8 (R 4 d) 3 t) (blk cfg8 (R 4 d) 4 t) := rfl
  rw [← e, hn]
  refine f.trans ((cast_eq _ _).trans ?_)
  rw [hg]
  refine (out8 (blk cfg8 (R 4 d) 0 t) (blk cfg8 (R 4 d) 1 t) (blk cfg8 (R 4 d) 2 t) (blk cfg8 (R 4 d) 3 t) (blk cfg8 (R 4 d) 4 t) i o).trans ?_
  simp only [blk8_0 (R 4 d) t b ht, blk8_1 (R 4 d) t b ht, blk8_2, blk8_3, blk8_4]
-- ==== Proof.Out9.lean ====
/-
  The kernel of the head: its result, read from its arguments' arrays.
-/
module

public import proofs.«01_k».proof.Proof.Outs

@[expose] public section

set_option maxRecDepth 16384

noncomputable section

namespace Cert.Proof.Outs

open Cert.KernelIdeal Cert.KernelIdeal.Gen
open Idealize.ShloMosaic Idealize.ShloMosaic.TcCoe
open Idealize.ShloMosaic.Pipeline (Window Cfg)
open Cert.Proof.Skel Cert.Proof.Blocks

/-- An entry of the block the body writes. -/
theorem out9 (x0 : FVec Ideal S64x64x128 .f32) (x1 : FVec Ideal S128x512 .f32) (x2 : FVec Ideal S512x256 .f32) (x3 : FVec Ideal S256x40 .f32)
    (b : Fin 64) (o : Fin 40) :
    Reg9.out (F := Ideal) x0 x1 x2 x3 (ix2 b o)
      = Spec.top (fun i a => x0 (ix3 b i a)) (fun a o => x1 (ix2 a o)) (fun a o => x2 (ix2 a o)) (fun a o => x3 (ix2 a o)) o := by
  unfold Reg9.out
  rw [View.canon_unit_zero (by funext a; fin_cases a <;> rfl)]
  pointwise [k9_pay1]
  rfl

theorem at9_0 : ∀ (t : Fin grid9.N) (a), win9_0.index t a = 0 := by decide +kernel

theorem blk9_0 (V : Valuation τ sig (Elt Ideal)) (t : Fin cfg9.N) :
    (blk cfg9 V 0 t : S64x64x128.Idx → EReal) = (V (Proc.devRef .tc main_v61) : S64x64x128.Idx → EReal) :=
  funext fun y => congrArg (V (Proc.devRef .tc main_v61) : S64x64x128.Idx → EReal) (emb_whole win9_0 t y y (at9_0 t) fun _ => rfl)

theorem at9_1 : ∀ (t : Fin grid9.N) (a), win9_1.index t a = 0 := by decide +kernel

theorem blk9_1 (V : Valuation τ sig (Elt Ideal)) (t : Fin cfg9.N) :
    (blk cfg9 V 1 t : S128x512.Idx → EReal) = (V (Proc.devRef .tc main_arg11) : S128x512.Idx → EReal) :=
  funext fun y => congrArg (V (Proc.devRef .tc main_arg11) : S128x512.Idx → EReal) (emb_whole win9_1 t y y (at9_1 t) fun _ => rfl)

theorem at9_2 : ∀ (t : Fin grid9.N) (a), win9_2.index t a = 0 := by decide +kernel

theorem blk9_2 (V : Valuation τ sig (Elt Ideal)) (t : Fin cfg9.N) :
    (blk cfg9 V 2 t : S512x256.Idx → EReal) = (V (Proc.devRef .tc main_arg12) : S512x256.Idx → EReal) :=
  funext fun y => congrArg (V (Proc.devRef .tc main_arg12) : S512x256.Idx → EReal) (emb_whole win9_2 t y y (at9_2 t) fun _ => rfl)

theorem at9_3 : ∀ (t : Fin grid9.N) (a), win9_3.index t a = 0 := by decide +kernel

theorem blk9_3 (V : Valuation τ sig (Elt Ideal)) (t : Fin cfg9.N) :
    (blk cfg9 V 3 t : S256x40.Idx → EReal) = (V (Proc.devRef .tc main_arg13) : S256x40.Idx → EReal) :=
  funext fun y => congrArg (V (Proc.devRef .tc main_arg13) : S256x40.Idx → EReal) (emb_whole win9_3 t y y (at9_3 t) fun _ => rfl)

theorem at9_4 : ∀ (t : Fin grid9.N) (a), win9_4.index t a = 0 := by decide +kernel

theorem inj9_4 : ∀ t t' : Fin grid9.N, win9_4.index t = win9_4.index t' → t = t' := by decide +kernel

/-- An entry of the result's array. -/
theorem head (R : Fin 6 → Dev nD → Valuation τ sig (Elt Ideal)) (d : Dev nD) (b : Fin 64) (o : Fin 40) :
    (Regions.next R 5 d (Proc.devRef .tc main_v62) : S64x40.Idx → EReal) (ix2 b o)
      = Spec.top (fun i a => (R 5 d (Proc.devRef .tc main_v61) : S64x64x128.Idx → EReal) (ix3 b i a))
          (fun a o => (R 5 d (Proc.devRef .tc main_arg11) : S128x512.Idx → EReal) (ix2 a o))
          (fun a o => (R 5 d (Proc.devRef .tc main_arg12) : S512x256.Idx → EReal) (ix2 a o))
          (fun a o => (R 5 d (Proc.devRef .tc main_arg13) : S256x40.Idx → EReal) (ix2 a o)) o := by
  obtain ⟨t⟩ : Nonempty (Fin cfg9.N) := ⟨⟨0, by decide⟩⟩
  have e : (win9_4.rect t).emb (ix2 b o : S64x40.Idx) = (ix2 b o : S64x40.Idx) :=
    emb_whole win9_4 t (ix2 b o : S64x40.Idx) (ix2 b o) (at9_4 t) fun _ => rfl
  have f := arr_at (V := R 5 d) (c := d) (n := Regions.round 5) (aft := Reg9.aft (R 5 d)) (4 : Fin 5) rfl inj9_4 t (flush9_4 t)
    (ix2 b o : S64x40.Idx) (ix2 b o : S64x40.Idx) (funext fun a => Fin.ext rfl)
  have hn : (Regions.next R 5 d (Proc.devRef .tc main_v62) : S64x40.Idx → EReal)
      = (dat cfg9 (R 5 d) d (Regions.round 5) (Reg9.aft (R 5 d))).arrAt (4 : Fin 5) cfg9.N := Regions.next_out R 5 d
  have hg : Reg9.aft (R 5 d) 4 t = Reg9.out (blk cfg9 (R 5 d) 0 t) (blk cfg9 (R 5 d) 1 t) (blk cfg9 (R 5 d) 2 t) (blk cfg9 (R 5 d) 3 t) := rfl
  rw [← e, hn]
  refine f.trans ((cast_eq _ _).trans ?_)
  rw [hg]
  refine (out9 (blk cfg9 (R 5 d) 0 t) (blk cfg9 (R 5 d) 1 t) (blk cfg9 (R 5 d) 2 t) (blk cfg9 (R 5 d) 3 t) b o).trans ?_
  simp only [blk9_0, blk9_1, blk9_2, blk9_3]
-- ==== Proof.Values.lean ====
/-
  What the program's result holds at the end, as the classifier's scores of its arguments.
-/
module

public import proofs.«01_k».proof.Proof.Contents
public import proofs.«01_k».proof.Proof.Net
public import proofs.«01_k».proof.Proof.Out0
public import proofs.«01_k».proof.Proof.Out2
public import proofs.«01_k».proof.Proof.Out4
public import proofs.«01_k».proof.Proof.Out6
public import proofs.«01_k».proof.Proof.Out8
public import proofs.«01_k».proof.Proof.Out9

@[expose] public section

noncomputable section

namespace Cert.Proof.Values

open Cert.KernelIdeal Cert.KernelIdeal.Gen
open Idealize.ShloMosaic
open Cert.Proof.Main Cert.Proof.Lines Cert.Proof.Regions Cert.Proof.Contents

variable {m : (ℓ : Loc nD τ sig) → Buf (Elt Ideal) ℓ}

/-- The arguments in device `d`'s launch memory. -/
def args (m : (ℓ : Loc nD τ sig) → Buf (Elt Ideal) ℓ) (d : Dev nD) : Net.Args where
  x := m (d, dr main_arg0)
  p := m (d, dr main_arg1)
  we := m (d, dr main_arg2)
  w0 := m (d, dr main_arg3)
  w1 := m (d, dr main_arg4)
  w2 := m (d, dr main_arg5)
  w3 := m (d, dr main_arg6)
  b0 := m (d, dr main_arg7)
  b1 := m (d, dr main_arg8)
  b2 := m (d, dr main_arg9)
  b3 := m (d, dr main_arg10)
  c1 := m (d, dr main_arg11)
  c2 := m (d, dr main_arg12)
  c3 := m (d, dr main_arg13)
  q0 := m (d, dr main_arg14)
  q1 := m (d, dr main_arg15)
  q2 := m (d, dr main_arg16)
  q3 := m (d, dr main_arg17)
  i0 := m (d, dr main_arg18)
  i1 := m (d, dr main_arg19)
  i2 := m (d, dr main_arg20)
  i3 := m (d, dr main_arg21)

/-- The first rows of a matrix. -/
theorem slice_top {α : Type} {r n e : ℕ} (w : (⟨2, ![r, e]⟩ : Shape).Idx → α) (h) (hn : n ≤ r) (a : Fin n) (o : Fin e) :
    extractStridedSlice ⟨2, ![n, e]⟩ ![0, 0] w h (ix2 a o) = w (ix2 ⟨a.val, by omega⟩ o) := by
  refine congrArg w (funext fun x => Fin.ext ?_)
  match x with
  | 0 => exact Nat.zero_add _
  | 1 => exact Nat.zero_add _

/-- The rows of a matrix from row `k` on. -/
theorem slice_from {α : Type} {r n e k : ℕ} (w : (⟨2, ![r, e]⟩ : Shape).Idx → α) (h) (hn : k + n ≤ r) (a : Fin n) (o : Fin e) :
    extractStridedSlice ⟨2, ![n, e]⟩ ![k, 0] w h (ix2 a o) = w (ix2 ⟨k + a.val, by omega⟩ o) := by
  refine congrArg w (funext fun x => Fin.ext ?_)
  match x with
  | 0 => rfl
  | 1 => exact Nat.zero_add _

variable (X : Line m) (d : Dev nD) (hm : OK m)

/-- An argument's entry is what it was at launch. -/
theorem entry {ι α : Type} {f g : ι → α} (h : f = g) (y : ι) : f y = g y := congrFun h y

/-- The embedding. -/
theorem feat0 (b : Fin 64) (i : Fin 1024) (o : Fin 16) :
    (next X.R 0 d (dr main_v1) : S64x1024x16.Idx → EReal) (ix3 b i o) = Net.g0 (args m d) b i o := by
  refine (Outs.embed X.R d b i o).trans ?_
  have h1 : X.R 0 d (dr main_v0) = transpose S64x1024x3 [0, 2, 1] (m (d, dr main_arg1) : S64x3x1024.Idx → EReal) transposes_S64x3x1024_S64x1024x3_0_2_1 := by
    rw [← X.hR0 d, feat]
  have h2 := (chain m X).r0 d (r := main_arg2) (by decide)
  rw [h1, h2]
  exact congrArg (Spec.first · _ o) (funext fun c => congrArg (m (d, dr main_arg1) : S64x3x1024.Idx → EReal) (funext fun x => Fin.ext (by
    match x with
    | 0 => rfl
    | 1 => rfl
    | 2 => rfl)))

include hm

/-- The features after stage 0. -/
theorem feat1 (b : Fin 64) (hg : ∀ i o, (next X.R 0 d (dr main_v1) : S64x1024x16.Idx → EReal) (ix3 b i o) = Net.g0 (args m d) b i o)
    (i : Fin 512) (o : Fin 32) :
    (next X.R 1 d (dr main_v16) : S64x512x32.Idx → EReal) (ix3 b i o) = Net.g1 (args m d) b i o := by
  have hwf : X.R 1 d (dr main_v14) = extractStridedSlice S16x32 ![0, 0] (m (d, dr main_arg3) : S19x32.Idx → EReal) slices_S19x32_S16x32_0_0 := by
    rw [← X.hR1 d, wf0, (chain m X).u0 d (r := main_arg3) (by decide)]
  have hwr : X.R 1 d (dr main_v15) = extractStridedSlice S3x32 ![16, 0] (m (d, dr main_arg3) : S19x32.Idx → EReal) slices_S19x32_S3x32_16_0 := by
    rw [← X.hR1 d, wr0, (chain m X).u0 d (r := main_arg3) (by decide)]
  refine (Outs.stage2 X.R d b i o).trans ?_
  refine (Spec.mix_pool_congr (fun j a => (left0 X d hm b i j a).trans (hg _ a)) (fun j c => mid0 X d hm b i j c)
    (fun c => entry ((chain m X).r1 d (r := main_arg14) (by decide)) _)
    (fun a o => (entry hwf _).trans (slice_top _ _ (by decide) a o)) (fun c o => (entry hwr _).trans (slice_from _ _ (by decide) c o))
    (fun a o => entry ((chain m X).r1 d (r := main_arg7) (by decide)) _) o).trans ?_
  rfl

/-- The features after stage 1. -/
theorem feat2 (b : Fin 64) (hg : ∀ i o, (next X.R 1 d (dr main_v16) : S64x512x32.Idx → EReal) (ix3 b i o) = Net.g1 (args m d) b i o)
    (i : Fin 256) (o : Fin 64) :
    (next X.R 2 d (dr main_v31) : S64x256x64.Idx → EReal) (ix3 b i o) = Net.g2 (args m d) b i o := by
  have hwf : X.R 2 d (dr main_v29) = extractStridedSlice S32x64 ![0, 0] (m (d, dr main_arg4) : S35x64.Idx → EReal) slices_S35x64_S32x64_0_0 := by
    rw [← X.hR2 d, wf1, (chain m X).u1 d (r := main_arg4) (by decide)]
  have hwr : X.R 2 d (dr main_v30) = extractStridedSlice S3x64 ![32, 0] (m (d, dr main_arg4) : S35x64.Idx → EReal) slices_S35x64_S3x64_32_0 := by
    rw [← X.hR2 d, wr1, (chain m X).u1 d (r := main_arg4) (by decide)]
  refine (Outs.stage4 X.R d b i o).trans ?_
  refine (Spec.mix_pool_congr (fun j a => (left1 X d hm b i j a).trans (hg _ a)) (fun j c => mid1 X d hm b i j c)
    (fun c => entry ((chain m X).r2 d (r := main_arg15) (by decide)) _)
    (fun a o => (entry hwf _).trans (slice_top _ _ (by decide) a o)) (fun c o => (entry hwr _).trans (slice_from _ _ (by decide) c o))
    (fun a o => entry ((chain m X).r2 d (r := main_arg8) (by decide)) _) o).trans ?_
  rfl

/-- The features after stage 2. -/
theorem feat3 (b : Fin 64) (hg : ∀ i o, (next X.R 2 d (dr main_v31) : S64x256x64.Idx → EReal) (ix3 b i o) = Net.g2 (args m d) b i o)
    (i : Fin 128) (o : Fin 128) :
    (next X.R 3 d (dr main_v46) : S64x128x128.Idx → EReal) (ix3 b i o) = Net.g3 (args m d) b i o := by
  have hwf : X.R 3 d (dr main_v44) = extractStridedSlice S64x128 ![0, 0] (m (d, dr main_arg5) : S67x128.Idx → EReal) slices_S67x128_S64x128_0_0 := by
    rw [← X.hR3 d, wf2, (chain m X).u2 d (r := main_arg5) (by decide)]
  have hwr : X.R 3 d (dr main_v45) = extractStridedSlice S3x128 ![64, 0] (m (d, dr main_arg5) : S67x128.Idx → EReal) slices_S67x128_S3x128_64_0 := by
    rw [← X.hR3 d, wr2, (chain m X).u2 d (r := main_arg5) (by decide)]
  refine (Outs.stage6 X.R d b i o).trans ?_
  refine (Spec.mix_pool_congr (fun j a => (left2 X d hm b i j a).trans (hg _ a)) (fun j c => mid2 X d hm b i j c)
    (fun c => entry ((chain m X).r3 d (r := main_arg16) (by decide)) _)
    (fun a o => (entry hwf _).trans (slice_top _ _ (by decide) a o)) (fun c o => (entry hwr _).trans (slice_from _ _ (by decide) c o))
    (fun a o => entry ((chain m X).r3 d (r := main_arg9) (by decide)) _) o).trans ?_
  rfl

/-- The features after stage 3. -/
theorem feat4 (b : Fin 64) (hg : ∀ i o, (next X.R 3 d (dr main_v46) : S64x128x128.Idx → EReal) (ix3 b i o) = Net.g3 (args m d) b i o)
    (i : Fin 64) (o : Fin 128) :
    (next X.R 4 d (dr main_v61) : S64x64x128.Idx → EReal) (ix3 b i o) = Net.g4 (args m d) b i o := by
  have hwf : X.R 4 d (dr main_v59) = extractStridedSlice S128x128 ![0, 0] (m (d, dr main_arg6) : S131x128.Idx → EReal) slices_S131x128_S128x128_0_0 := by
    rw [← X.hR4 d, wf3, (chain m X).u3 d (r := main_arg6) (by decide)]
  have hwr : X.R 4 d (dr main_v60) = extractStridedSlice S3x128 ![128, 0] (m (d, dr main_arg6) : S131x128.Idx → EReal) slices_S131x128_S3x128_128_0 := by
    rw [← X.hR4 d, wr3, (chain m X).u3 d (r := main_arg6) (by decide)]
  refine (Outs.stage8 X.R d b i o).trans ?_
  refine (Spec.mix_pool_congr (fun j a => (left3 X d hm b i j a).trans (hg _ a)) (fun j c => mid3 X d hm b i j c)
    (fun c => entry ((chain m X).r4 d (r := main_arg17) (by decide)) _)
    (fun a o => (entry hwf _).trans (slice_top _ _ (by decide) a o)) (fun c o => (entry hwr _).trans (slice_from _ _ (by decide) c o))
    (fun a o => entry ((chain m X).r4 d (r := main_arg10) (by decide)) _) o).trans ?_
  rfl

/-- The scores. -/
theorem scores (b : Fin 64) (o : Fin 40) : (X.E d (dr main_v62) : S64x40.Idx → EReal) (ix2 b o) = Net.scores (args m d) b o := by
  refine (Outs.head X.R d b o).trans ?_
  have h61 : X.R 5 d (dr main_v61) = next X.R 4 d (dr main_v61) := by rw [X.hR5 d]
  have h : (fun (i : Fin 64) (a : Fin 128) => (X.R 5 d (dr main_v61) : S64x64x128.Idx → EReal) (ix3 b i a)) = Net.g4 (args m d) b :=
    funext fun i => funext fun a => (entry h61 _).trans
      (feat4 X d hm b (feat3 X d hm b (feat2 X d hm b (feat1 X d hm b (feat0 X d b)))) i a)
  have h1 := (chain m X).r5 d (r := main_arg11) (by decide)
  have h2 := (chain m X).r5 d (r := main_arg12) (by decide)
  have h3 := (chain m X).r5 d (r := main_arg13) (by decide)
  rw [h1, h2, h3]
  exact congrArg (Spec.top · _ _ _ o) h

end Cert.Proof.Values

end
-- ==== Proof.Refs.lean ====
/-
  The reference's result, entry by entry.
-/
module

public import proofs.«01_k».proof.Proof.Net
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.Refs

open Cert.ReferenceIdeal Cert.ReferenceIdeal.Gen Cert.ReferenceIdeal.Value
open Idealize.ShloMosaic Idealize.ShloMosaic.TcCoe
open Cert.Proof.Read (pick)

/-- The divisor of a variance: the count, with nothing taken from it. -/
theorem divisor : Spec.count - (FloatOps.sitofp (F := Ideal) .f32 (0#32) : EReal) = Spec.count := by
  have h : (FloatOps.sitofp (F := Ideal) .f32 (0#32) : EReal) = 0 := by
    show ((((0#32 : BitVec 32).toInt : ℤ) : ℝ) : EReal) = 0; simp
  rw [h, sub_zero]

theorem count_pos : (0 : EReal) < Spec.count := by
  have h : Spec.count = ((96 : ℝ) : EReal) := by simp [Spec.count, Ideal.ofBits, Ideal.ieee, -EReal.coe_mul]; norm_num
  rw [h]; exact_mod_cast (by norm_num : (0 : ℝ) < 96)

/-- The arguments of a valuation. -/
def args (V0 : Valuation τ sig (Elt Ideal)) : Net.Args where
  x := V0 (Proc.devRef .tc main_arg0)
  p := V0 (Proc.devRef .tc main_arg1)
  we := V0 (Proc.devRef .tc main_arg2)
  w0 := V0 (Proc.devRef .tc main_arg3)
  w1 := V0 (Proc.devRef .tc main_arg4)
  w2 := V0 (Proc.devRef .tc main_arg5)
  w3 := V0 (Proc.devRef .tc main_arg6)
  b0 := V0 (Proc.devRef .tc main_arg7)
  b1 := V0 (Proc.devRef .tc main_arg8)
  b2 := V0 (Proc.devRef .tc main_arg9)
  b3 := V0 (Proc.devRef .tc main_arg10)
  c1 := V0 (Proc.devRef .tc main_arg11)
  c2 := V0 (Proc.devRef .tc main_arg12)
  c3 := V0 (Proc.devRef .tc main_arg13)
  q0 := V0 (Proc.devRef .tc main_arg14)
  q1 := V0 (Proc.devRef .tc main_arg15)
  q2 := V0 (Proc.devRef .tc main_arg16)
  q3 := V0 (Proc.devRef .tc main_arg17)
  i0 := V0 (Proc.devRef .tc main_arg18)
  i1 := V0 (Proc.devRef .tc main_arg19)
  i2 := V0 (Proc.devRef .tc main_arg20)
  i3 := V0 (Proc.devRef .tc main_arg21)

/-- The host's gather of stage 0's features. -/
theorem gf0 (x : FVec Ideal S64x1024x16 .f32) (I : IVec S64x512x32 32) (hI : ∀ i, (I i).toNat < 1024) :
    Host.gather gather_S64x1024x16_S64x512x32x1_S64x512x32x16_3_1_0_0_1_3_1116 x
      (broadcastInDim S64x512x32x1 ![0, 1, 2] bcast_S64x512x32_S64x512x32x1_0_1_2 (select (cmpi .slt I (broadcastInDim S64x512x32 ![] bcast_S_S64x512x32 (constantI S_ 32 0#32)))
        (addi I (broadcastInDim S64x512x32 ![] bcast_S_S64x512x32 (constantI S_ 32 1024#32))) I))
      = fun j => x (ix3 (j 0) (pick 1024 (I (ix3 (j 0) (j 1) (j 2)))) (j 3)) :=
  Read.gather_eq x I hI (by norm_num) _ _ _ _

/-- The host's gather of stage 0's places. -/
theorem gx0 (x : FVec Ideal S64x1024x3 .f32) (I : IVec S64x512x32 32) (hI : ∀ i, (I i).toNat < 1024) :
    Host.gather gather_S64x1024x3_S64x512x32x1_S64x512x32x3_3_1_0_0_1_3_113 x
      (broadcastInDim S64x512x32x1 ![0, 1, 2] bcast_S64x512x32_S64x512x32x1_0_1_2 (select (cmpi .slt I (broadcastInDim S64x512x32 ![] bcast_S_S64x512x32 (constantI S_ 32 0#32)))
        (addi I (broadcastInDim S64x512x32 ![] bcast_S_S64x512x32 (constantI S_ 32 1024#32))) I))
      = fun j => x (ix3 (j 0) (pick 1024 (I (ix3 (j 0) (j 1) (j 2)))) (j 3)) :=
  Read.gather_eq x I hI (by norm_num) _ _ _ _

/-- The first layer of stage 0. -/
theorem pool0 (V0 : Valuation τ sig (Elt Ideal)) (b : Fin 64) (i : Fin 512) (o : Fin 32) (p : FVec Ideal S64x3x1024 .f32) (we : FVec Ideal S3x16 .f32)
    (hp : V0 (Proc.devRef .tc main_arg1) = p) (he : V0 (Proc.devRef .tc main_arg2) = we)
    (x : FVec Ideal S64x1024x3 .f32) (I : IVec S64x512x32 32) (q : FVec Ideal S64x512x3 .f32) (W : FVec Ideal S19x32 .f32)
    (hx : V0 (Proc.devRef .tc main_arg0) = x) (hi : V0 (Proc.devRef .tc main_arg18) = I)
    (hq : V0 (Proc.devRef .tc main_arg14) = q) (hW : V0 (Proc.devRef .tc main_arg3) = W) (hI : ∀ i, (I i).toNat < 1024) :
    (res_main_v28 V0 : S64x512x32.Idx → EReal) (ix3 b i o)
      = Spec.pool (fun j a => Spec.first (fun c => p (ix3 b c (pick 1024 (I (ix3 b i j))))) (fun c o => we (ix2 c o)) a)
          (fun j c => x (ix3 b (pick 1024 (I (ix3 b i j))) c)) (fun c => q (ix3 b i c))
          (fun a o => W (ix2 ⟨a.val, by omega⟩ o)) (fun c o => W (ix2 ⟨16 + c.val, by omega⟩ o)) o := by
  unfold res_main_v28 res_main_call1_call0_v5 res_main_call1_call0_v8 res_main_v19
  rw [hp, he, hx, hi, hq, hW, gf0 _ I hI, gx0 x I hI]
  clean_types
  pointwise []
  simp only [divisor, count_pos, if_true]
  rfl

/-- The features after stage 0. -/
theorem stage0 (V0 : Valuation τ sig (Elt Ideal)) (hin : Net.InCloud (args V0)) (b : Fin 64)
    (i : Fin 512) (o : Fin 32) :
    Spec.mix (fun o => (res_main_v28 V0 : S64x512x32.Idx → EReal) (ix3 b i o)) (fun a o => (args V0).b0 (ix2 a o)) o
      = Net.g1 (args V0) b i o := by
  refine (congrArg (Spec.mix · _ o) (funext fun o => pool0 V0 b i o _ _ rfl rfl _ _ _ _ rfl rfl rfl rfl hin.r0)).trans ?_
  rfl

/-- The host's gather of stage 1's features. -/
theorem gf1 (x : FVec Ideal S64x512x32 .f32) (I : IVec S64x256x32 32) (hI : ∀ i, (I i).toNat < 512) :
    Host.gather gather_S64x512x32_S64x256x32x1_S64x256x32x32_3_1_0_0_1_3_1132 x
      (broadcastInDim S64x256x32x1 ![0, 1, 2] bcast_S64x256x32_S64x256x32x1_0_1_2 (select (cmpi .slt I (broadcastInDim S64x256x32 ![] bcast_S_S64x256x32 (constantI S_ 32 0#32)))
        (addi I (broadcastInDim S64x256x32 ![] bcast_S_S64x256x32 (constantI S_ 32 512#32))) I))
      = fun j => x (ix3 (j 0) (pick 512 (I (ix3 (j 0) (j 1) (j 2)))) (j 3)) :=
  Read.gather_eq x I hI (by norm_num) _ _ _ _

/-- The host's gather of stage 1's places. -/
theorem gx1 (x : FVec Ideal S64x512x3 .f32) (I : IVec S64x256x32 32) (hI : ∀ i, (I i).toNat < 512) :
    Host.gather gather_S64x512x3_S64x256x32x1_S64x256x32x3_3_1_0_0_1_3_113 x
      (broadcastInDim S64x256x32x1 ![0, 1, 2] bcast_S64x256x32_S64x256x32x1_0_1_2 (select (cmpi .slt I (broadcastInDim S64x256x32 ![] bcast_S_S64x256x32 (constantI S_ 32 0#32)))
        (addi I (broadcastInDim S64x256x32 ![] bcast_S_S64x256x32 (constantI S_ 32 512#32))) I))
      = fun j => x (ix3 (j 0) (pick 512 (I (ix3 (j 0) (j 1) (j 2)))) (j 3)) :=
  Read.gather_eq x I hI (by norm_num) _ _ _ _

/-- The first layer of stage 1. -/
theorem pool1 (V0 : Valuation τ sig (Elt Ideal)) (b : Fin 64) (i : Fin 256) (o : Fin 64) (f : FVec Ideal S64x512x32 .f32) (wb : FVec Ideal S32x32 .f32)
    (hf : res_main_v28 V0 = f) (hb : V0 (Proc.devRef .tc main_arg7) = wb)
    (x : FVec Ideal S64x512x3 .f32) (I : IVec S64x256x32 32) (q : FVec Ideal S64x256x3 .f32) (W : FVec Ideal S35x64 .f32)
    (hx : V0 (Proc.devRef .tc main_arg14) = x) (hi : V0 (Proc.devRef .tc main_arg19) = I)
    (hq : V0 (Proc.devRef .tc main_arg15) = q) (hW : V0 (Proc.devRef .tc main_arg4) = W) (hI : ∀ i, (I i).toNat < 512) :
    (res_main_v58 V0 : S64x256x64.Idx → EReal) (ix3 b i o)
      = Spec.pool (fun j a => Spec.mix (fun o => f (ix3 b (pick 512 (I (ix3 b i j))) o)) (fun a o => wb (ix2 a o)) a)
          (fun j c => x (ix3 b (pick 512 (I (ix3 b i j))) c)) (fun c => q (ix3 b i c))
          (fun a o => W (ix2 ⟨a.val, by omega⟩ o)) (fun c o => W (ix2 ⟨32 + c.val, by omega⟩ o)) o := by
  unfold res_main_v58 res_main_call5_call0_v5 res_main_call5_call0_v8 res_main_v49
  rw [hf, hb, hx, hi, hq, hW, gf1 _ I hI, gx1 x I hI]
  clean_types
  pointwise []
  simp only [divisor, count_pos, if_true]
  rfl

/-- The features after stage 1. -/
theorem stage1 (V0 : Valuation τ sig (Elt Ideal)) (hin : Net.InCloud (args V0)) (b : Fin 64)
    (hg : ∀ i a, Spec.mix (fun o => (res_main_v28 V0 : S64x512x32.Idx → EReal) (ix3 b i o)) (fun a o => (args V0).b0 (ix2 a o)) a
      = Net.g1 (args V0) b i a)
    (i : Fin 256) (o : Fin 64) :
    Spec.mix (fun o => (res_main_v58 V0 : S64x256x64.Idx → EReal) (ix3 b i o)) (fun a o => (args V0).b1 (ix2 a o)) o
      = Net.g2 (args V0) b i o := by
  refine (congrArg (Spec.mix · _ o) (funext fun o => pool1 V0 b i o _ _ rfl rfl _ _ _ _ rfl rfl rfl rfl hin.r1)).trans ?_
  refine (congrArg (fun F => Spec.mix (Spec.pool F _ _ _ _) _ o) (funext fun j => funext fun a => hg _ a)).trans ?_
  rfl

/-- The host's gather of stage 2's features. -/
theorem gf2 (x : FVec Ideal S64x256x64 .f32) (I : IVec S64x128x32 32) (hI : ∀ i, (I i).toNat < 256) :
    Host.gather gather_S64x256x64_S64x128x32x1_S64x128x32x64_3_1_0_0_1_3_1164 x
      (broadcastInDim S64x128x32x1 ![0, 1, 2] bcast_S64x128x32_S64x128x32x1_0_1_2 (select (cmpi .slt I (broadcastInDim S64x128x32 ![] bcast_S_S64x128x32 (constantI S_ 32 0#32)))
        (addi I (broadcastInDim S64x128x32 ![] bcast_S_S64x128x32 (constantI S_ 32 256#32))) I))
      = fun j => x (ix3 (j 0) (pick 256 (I (ix3 (j 0) (j 1) (j 2)))) (j 3)) :=
  Read.gather_eq x I hI (by norm_num) _ _ _ _

/-- The host's gather of stage 2's places. -/
theorem gx2 (x : FVec Ideal S64x256x3 .f32) (I : IVec S64x128x32 32) (hI : ∀ i, (I i).toNat < 256) :
    Host.gather gather_S64x256x3_S64x128x32x1_S64x128x32x3_3_1_0_0_1_3_113 x
      (broadcastInDim S64x128x32x1 ![0, 1, 2] bcast_S64x128x32_S64x128x32x1_0_1_2 (select (cmpi .slt I (broadcastInDim S64x128x32 ![] bcast_S_S64x128x32 (constantI S_ 32 0#32)))
        (addi I (broadcastInDim S64x128x32 ![] bcast_S_S64x128x32 (constantI S_ 32 256#32))) I))
      = fun j => x (ix3 (j 0) (pick 256 (I (ix3 (j 0) (j 1) (j 2)))) (j 3)) :=
  Read.gather_eq x I hI (by norm_num) _ _ _ _

/-- The first layer of stage 2. -/
theorem pool2 (V0 : Valuation τ sig (Elt Ideal)) (b : Fin 64) (i : Fin 128) (o : Fin 128) (f : FVec Ideal S64x256x64 .f32) (wb : FVec Ideal S64x64 .f32)
    (hf : res_main_v58 V0 = f) (hb : V0 (Proc.devRef .tc main_arg8) = wb)
    (x : FVec Ideal S64x256x3 .f32) (I : IVec S64x128x32 32) (q : FVec Ideal S64x128x3 .f32) (W : FVec Ideal S67x128 .f32)
    (hx : V0 (Proc.devRef .tc main_arg15) = x) (hi : V0 (Proc.devRef .tc main_arg20) = I)
    (hq : V0 (Proc.devRef .tc main_arg16) = q) (hW : V0 (Proc.devRef .tc main_arg5) = W) (hI : ∀ i, (I i).toNat < 256) :
    (res_main_v88 V0 : S64x128x128.Idx → EReal) (ix3 b i o)
      = Spec.pool (fun j a => Spec.mix (fun o => f (ix3 b (pick 256 (I (ix3 b i j))) o)) (fun a o => wb (ix2 a o)) a)
          (fun j c => x (ix3 b (pick 256 (I (ix3 b i j))) c)) (fun c => q (ix3 b i c))
          (fun a o => W (ix2 ⟨a.val, by omega⟩ o)) (fun c o => W (ix2 ⟨64 + c.val, by omega⟩ o)) o := by
  unfold res_main_v88 res_main_call9_call0_v5 res_main_call9_call0_v8 res_main_v79
  rw [hf, hb, hx, hi, hq, hW, gf2 _ I hI, gx2 x I hI]
  clean_types
  pointwise []
  simp only [divisor, count_pos, if_true]
  rfl

/-- The features after stage 2. -/
theorem stage2 (V0 : Valuation τ sig (Elt Ideal)) (hin : Net.InCloud (args V0)) (b : Fin 64)
    (hg : ∀ i a, Spec.mix (fun o => (res_main_v58 V0 : S64x256x64.Idx → EReal) (ix3 b i o)) (fun a o => (args V0).b1 (ix2 a o)) a
      = Net.g2 (args V0) b i a)
    (i : Fin 128) (o : Fin 128) :
    Spec.mix (fun o => (res_main_v88 V0 : S64x128x128.Idx → EReal) (ix3 b i o)) (fun a o => (args V0).b2 (ix2 a o)) o
      = Net.g3 (args V0) b i o := by
  refine (congrArg (Spec.mix · _ o) (funext fun o => pool2 V0 b i o _ _ rfl rfl _ _ _ _ rfl rfl rfl rfl hin.r2)).trans ?_
  refine (congrArg (fun F => Spec.mix (Spec.pool F _ _ _ _) _ o) (funext fun j => funext fun a => hg _ a)).trans ?_
  rfl

/-- The host's gather of stage 3's features. -/
theorem gf3 (x : FVec Ideal S64x128x128 .f32) (I : IVec S64x64x32 32) (hI : ∀ i, (I i).toNat < 128) :
    Host.gather gather_S64x128x128_S64x64x32x1_S64x64x32x128_3_1_0_0_1_3_11128 x
      (broadcastInDim S64x64x32x1 ![0, 1, 2] bcast_S64x64x32_S64x64x32x1_0_1_2 (select (cmpi .slt I (broadcastInDim S64x64x32 ![] bcast_S_S64x64x32 (constantI S_ 32 0#32)))
        (addi I (broadcastInDim S64x64x32 ![] bcast_S_S64x64x32 (constantI S_ 32 128#32))) I))
      = fun j => x (ix3 (j 0) (pick 128 (I (ix3 (j 0) (j 1) (j 2)))) (j 3)) :=
  Read.gather_eq x I hI (by norm_num) _ _ _ _

/-- The host's gather of stage 3's places. -/
theorem gx3 (x : FVec Ideal S64x128x3 .f32) (I : IVec S64x64x32 32) (hI : ∀ i, (I i).toNat < 128) :
    Host.gather gather_S64x128x3_S64x64x32x1_S64x64x32x3_3_1_0_0_1_3_113 x
      (broadcastInDim S64x64x32x1 ![0, 1, 2] bcast_S64x64x32_S64x64x32x1_0_1_2 (select (cmpi .slt I (broadcastInDim S64x64x32 ![] bcast_S_S64x64x32 (constantI S_ 32 0#32)))
        (addi I (broadcastInDim S64x64x32 ![] bcast_S_S64x64x32 (constantI S_ 32 128#32))) I))
      = fun j => x (ix3 (j 0) (pick 128 (I (ix3 (j 0) (j 1) (j 2)))) (j 3)) :=
  Read.gather_eq x I hI (by norm_num) _ _ _ _

/-- The first layer of stage 3. -/
theorem pool3 (V0 : Valuation τ sig (Elt Ideal)) (b : Fin 64) (i : Fin 64) (o : Fin 128) (f : FVec Ideal S64x128x128 .f32) (wb : FVec Ideal S128x128 .f32)
    (hf : res_main_v88 V0 = f) (hb : V0 (Proc.devRef .tc main_arg9) = wb)
    (x : FVec Ideal S64x128x3 .f32) (I : IVec S64x64x32 32) (q : FVec Ideal S64x64x3 .f32) (W : FVec Ideal S131x128 .f32)
    (hx : V0 (Proc.devRef .tc main_arg16) = x) (hi : V0 (Proc.devRef .tc main_arg21) = I)
    (hq : V0 (Proc.devRef .tc main_arg17) = q) (hW : V0 (Proc.devRef .tc main_arg6) = W) (hI : ∀ i, (I i).toNat < 128) :
    (res_main_v118 V0 : S64x64x128.Idx → EReal) (ix3 b i o)
      = Spec.pool (fun j a => Spec.mix (fun o => f (ix3 b (pick 128 (I (ix3 b i j))) o)) (fun a o => wb (ix2 a o)) a)
          (fun j c => x (ix3 b (pick 128 (I (ix3 b i j))) c)) (fun c => q (ix3 b i c))
          (fun a o => W (ix2 ⟨a.val, by omega⟩ o)) (fun c o => W (ix2 ⟨128 + c.val, by omega⟩ o)) o := by
  unfold res_main_v118 res_main_call13_call0_v5 res_main_call13_call0_v8 res_main_v109
  rw [hf, hb, hx, hi, hq, hW, gf3 _ I hI, gx3 x I hI]
  clean_types
  pointwise []
  simp only [divisor, count_pos, if_true]
  rfl

/-- The features after stage 3. -/
theorem stage3 (V0 : Valuation τ sig (Elt Ideal)) (hin : Net.InCloud (args V0)) (b : Fin 64)
    (hg : ∀ i a, Spec.mix (fun o => (res_main_v88 V0 : S64x128x128.Idx → EReal) (ix3 b i o)) (fun a o => (args V0).b2 (ix2 a o)) a
      = Net.g3 (args V0) b i a)
    (i : Fin 64) (o : Fin 128) :
    Spec.mix (fun o => (res_main_v118 V0 : S64x64x128.Idx → EReal) (ix3 b i o)) (fun a o => (args V0).b3 (ix2 a o)) o
      = Net.g4 (args V0) b i o := by
  refine (congrArg (Spec.mix · _ o) (funext fun o => pool3 V0 b i o _ _ rfl rfl _ _ _ _ rfl rfl rfl rfl hin.r3)).trans ?_
  refine (congrArg (fun F => Spec.mix (Spec.pool F _ _ _ _) _ o) (funext fun j => funext fun a => hg _ a)).trans ?_
  rfl

/-- The scores from the last stage's first layer. -/
theorem top (b : Fin 64) (o : Fin 40) (h : FVec Ideal S64x64x128 .f32) (w : FVec Ideal S128x128 .f32) (u : FVec Ideal S128x512 .f32)
    (v : FVec Ideal S512x256 .f32) (z : FVec Ideal S256x40 .f32) :
    Host.dotGeneral (F := Ideal) dot_S64x256_S256x40_S64x40_1_0_0_1_n_n none (maximumf (Host.dotGeneral dot_S64x512_S512x256_S64x256_1_0_0_1_n_n none
        (maximumf (Host.dotGeneral dot_S64x128_S128x512_S64x512_1_0_0_1_n_n none (Host.reduce FloatOps.maximumf (maximumf (addf h
          (maximumf (Host.dotGeneral dot_S64x64x128_S128x128_S64x64x128_2_0_01_1_n_n none h w)
            (broadcastInDim S64x64x128 ![] bcast_S_S64x64x128 (constant S_ .f32 0x00000000#32))))
          (broadcastInDim S64x64x128 ![] bcast_S_S64x64x128 (constant S_ .f32 0x00000000#32)))
          (constant S_ .f32 0xFF800000#32) reducesTo_S64x64x128_S64x128_d1 h_S_) u)
        (broadcastInDim S64x512 ![] bcast_S_S64x512 (constant S_ .f32 0x00000000#32))) v)
        (broadcastInDim S64x256 ![] bcast_S_S64x256 (constant S_ .f32 0x00000000#32))) z (ix2 b o)
      = Spec.top (fun i a => Spec.mix (fun o => h (ix3 b i o)) (fun a o => w (ix2 a o)) a) (fun a o => u (ix2 a o)) (fun a o => v (ix2 a o))
          (fun a o => z (ix2 a o)) o := by
  pointwise []
  rfl

/-- The scores. -/
theorem scores (V0 : Valuation τ sig (Elt Ideal)) (hin : Net.InCloud (args V0)) (b : Fin 64) (o : Fin 40) :
    Spec.top (fun i a => Spec.mix (fun o => (res_main_v118 V0 : S64x64x128.Idx → EReal) (ix3 b i o)) (fun a o => (args V0).b3 (ix2 a o)) a)
      (fun a o => (args V0).c1 (ix2 a o)) (fun a o => (args V0).c2 (ix2 a o)) (fun a o => (args V0).c3 (ix2 a o)) o
      = Net.scores (args V0) b o := by
  refine (congrArg (fun H => Spec.top H _ _ _ o) (funext fun i => funext fun a =>
    stage3 V0 hin b (stage2 V0 hin b (stage1 V0 hin b (stage0 V0 hin b))) i a)).trans ?_
  rfl

end Cert.Proof.Refs
-- ==== Proof.Same.lean ====
/-
  The kernel and its idealization have the same text, since no rule rewrites it: at the bits their bodies and their threads are the
  same. So the run of the idealization at the bits is the kernel's.
-/
module

public import proofs.«01_k».proof.Defs
public import proofs.«01_k».proof.Proof.Gen.Kernel
public import proofs.«01_k».proof.Proof.Gen.KernelIdeal

@[expose] public section

set_option maxHeartbeats 0

noncomputable section

namespace Cert.Proof.Same

open Idealize.ShloMosaic

/-- Label by label, the TensorCore's bodies are the same. -/
theorem bodies_tc (ℓ : Fin 10) (a) :
    Cert.Kernel.defs₀ (F := Bits) .tc ℓ a = Cert.KernelIdeal.defs₀ (F := Bits) .tc ℓ a := by
  rcases ℓ with ⟨_ | _ | _ | _ | _ | _ | _ | _ | _ | _ | n, h⟩ <;>
    first
    | exact absurd h (by omega)
    | exact rfl

/-- So are a scalar subcore's, which has none of its own. -/
theorem bodies_scalar (c) (ℓ : Fin 10) (a) :
    Cert.Kernel.defs₀ (F := Bits) (.scScalar c) ℓ a = Cert.KernelIdeal.defs₀ (F := Bits) (.scScalar c) ℓ a := by
  rcases ℓ with ⟨_ | _ | _ | _ | _ | _ | _ | _ | _ | _ | n, h⟩ <;>
    first
    | exact absurd h (by omega)
    | exact rfl

/-- So are a vector subcore's. -/
theorem bodies_vector (c s) (ℓ : Fin 10) (a) :
    Cert.Kernel.defs₀ (F := Bits) (.scVector c s) ℓ a = Cert.KernelIdeal.defs₀ (F := Bits) (.scVector c s) ℓ a := by
  rcases ℓ with ⟨_ | _ | _ | _ | _ | _ | _ | _ | _ | _ | n, h⟩ <;>
    first
    | exact absurd h (by omega)
    | exact rfl

/-- So the tables of bodies are the same. -/
theorem bodies : Cert.Kernel.defs₀ (F := Bits) = Cert.KernelIdeal.defs₀ (F := Bits) :=
  funext fun pr => funext fun ℓ => funext fun a =>
    match pr with
    | .tc => bodies_tc ℓ a
    | .scScalar c => bodies_scalar c ℓ a
    | .scVector c s => bodies_vector c s ℓ a

/-- So are the tables the mesh runs. -/
theorem defs : Cert.Kernel.defs (F := Bits) = Cert.KernelIdeal.defs (F := Bits) :=
  (congrArg (fun D => Cert.Kernel.sc.defs (Pipeline.defs Cert.Kernel.pcfgs D)) bodies).trans rfl

/-- So are the threads. -/
theorem threads : Cert.Kernel.threads (F := Bits) = Cert.KernelIdeal.threads (F := Bits) := rfl

end Cert.Proof.Same

end
-- ==== Proof.lean ====
/-
  The claims. The program embeds the points, and in each of four stages gathers the rows its numbers name on the two SparseCores and
  runs the stage's layers on the TensorCore; the head follows. The reference is the same classifier in host operations. The runs are
  `Cert.Proof.Main.run_main` and the reference's generated run; both leave `Cert.Proof.Net.scores` of the arguments.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_cloud
public import proofs.«01_k».proof.Proof.Values
public import proofs.«01_k».proof.Proof.Refs
public import proofs.«01_k».proof.Proof.Same
public import Idealize.ShloMosaic.Lib.Pipeline.FrameTail
public import Idealize.ShloMosaic.Adequacy
public import Idealize.ShloMosaic.Init

@[expose] public section

noncomputable section

namespace Cert.Proof

open Idealize.ShloMosaic Idealize.SL.Sem
open Cert.Proof.Main Cert.Proof.Lines Cert.Proof.Contents

section Run

open Cert.KernelIdeal Cert.KernelIdeal.Gen

variable {F : FTy → Type} [FloatOps F]

/-- An array of the TensorCore's that is not scoped is among those the run states. -/
theorem ends {m : (ℓ : Loc nD τ sig) → Buf (Elt F) ℓ} {X : Line m} {r} (h : QC X r) (c : Dev nD) (b : Ref sig .tc)
    (hb : dr b ∈ Pipeline.ucRefs τ sig) : r.2.mem ((c.tc : Thread nD τ).loc b) = X.E c (dr b) := h.1 c _ hb

/-- An array that nothing writes ends as it began. -/
theorem arg_kept {m : (ℓ : Loc nD τ sig) → Buf (Elt F) ℓ} {X : Line m} {r} (h : QC X r) (c : Dev nD) {b : Ref sig .tc} (hw : b ∉ written)
    (hb : b.isScoped = false) : r.2.mem ((c.tc : Thread nD τ).loc b) = m ((c.tc : Thread nD τ).loc b) :=
  (ends h c b (Pipeline.devRef_mem_ucRefs hb)).trans ((chain m X).kept c hw)

/-- The arguments end as they began. -/
theorem args_kept {m : (ℓ : Loc nD τ sig) → Buf (Elt F) ℓ} {X : Line m} {r} (h : QC X r) (c : Dev nD) :
    r.2.mem (((c.tc : Thread nD τ)).loc main_arg0) = m (((c.tc : Thread nD τ)).loc main_arg0) ∧ r.2.mem (((c.tc : Thread nD τ)).loc main_arg1) = m (((c.tc : Thread nD τ)).loc main_arg1)
      ∧ r.2.mem (((c.tc : Thread nD τ)).loc main_arg2) = m (((c.tc : Thread nD τ)).loc main_arg2) ∧ r.2.mem (((c.tc : Thread nD τ)).loc main_arg3) = m (((c.tc : Thread nD τ)).loc main_arg3)
      ∧ r.2.mem (((c.tc : Thread nD τ)).loc main_arg4) = m (((c.tc : Thread nD τ)).loc main_arg4) ∧ r.2.mem (((c.tc : Thread nD τ)).loc main_arg5) = m (((c.tc : Thread nD τ)).loc main_arg5)
      ∧ r.2.mem (((c.tc : Thread nD τ)).loc main_arg6) = m (((c.tc : Thread nD τ)).loc main_arg6) ∧ r.2.mem (((c.tc : Thread nD τ)).loc main_arg7) = m (((c.tc : Thread nD τ)).loc main_arg7)
      ∧ r.2.mem (((c.tc : Thread nD τ)).loc main_arg8) = m (((c.tc : Thread nD τ)).loc main_arg8) ∧ r.2.mem (((c.tc : Thread nD τ)).loc main_arg9) = m (((c.tc : Thread nD τ)).loc main_arg9)
      ∧ r.2.mem (((c.tc : Thread nD τ)).loc main_arg10) = m (((c.tc : Thread nD τ)).loc main_arg10) ∧ r.2.mem (((c.tc : Thread nD τ)).loc main_arg11) = m (((c.tc : Thread nD τ)).loc main_arg11)
      ∧ r.2.mem (((c.tc : Thread nD τ)).loc main_arg12) = m (((c.tc : Thread nD τ)).loc main_arg12) ∧ r.2.mem (((c.tc : Thread nD τ)).loc main_arg13) = m (((c.tc : Thread nD τ)).loc main_arg13)
      ∧ r.2.mem (((c.tc : Thread nD τ)).loc main_arg14) = m (((c.tc : Thread nD τ)).loc main_arg14) ∧ r.2.mem (((c.tc : Thread nD τ)).loc main_arg15) = m (((c.tc : Thread nD τ)).loc main_arg15)
      ∧ r.2.mem (((c.tc : Thread nD τ)).loc main_arg16) = m (((c.tc : Thread nD τ)).loc main_arg16) ∧ r.2.mem (((c.tc : Thread nD τ)).loc main_arg17) = m (((c.tc : Thread nD τ)).loc main_arg17)
      ∧ r.2.mem (((c.tc : Thread nD τ)).loc main_arg18) = m (((c.tc : Thread nD τ)).loc main_arg18) ∧ r.2.mem (((c.tc : Thread nD τ)).loc main_arg19) = m (((c.tc : Thread nD τ)).loc main_arg19)
      ∧ r.2.mem (((c.tc : Thread nD τ)).loc main_arg20) = m (((c.tc : Thread nD τ)).loc main_arg20) ∧ r.2.mem (((c.tc : Thread nD τ)).loc main_arg21) = m (((c.tc : Thread nD τ)).loc main_arg21) :=
  ⟨arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide),
    arg_kept h c (by decide) (by decide)⟩

end Run

/-- The kernel's numbers are in range, at the bits. -/
theorem ok_bits (m : (ℓ : Loc Cert.Kernel.nD Cert.Kernel.τ Cert.Kernel.sig) → Buf (Elt Bits) ℓ) (h : Cert.Pre_Kernel m) :
    OK (F := Bits) (m : (ℓ : Loc Cert.KernelIdeal.nD Cert.KernelIdeal.τ Cert.KernelIdeal.sig) → Buf (Elt Bits) ℓ) :=
  fun d => inCloud_of_pre _ _ _ _ _ _ _ _ _ _ _ _ _ _ _ _ _ _ _ _ _ _ (h d)

/-- And at the ideal floats. -/
theorem ok_ideal (m : (ℓ : Loc Cert.KernelIdeal.nD Cert.KernelIdeal.τ Cert.KernelIdeal.sig) → Buf (Elt Ideal) ℓ) (h : Cert.Pre_KernelIdeal m) :
    OK (F := Ideal) m :=
  fun d => inCloud_of_pre _ _ _ _ _ _ _ _ _ _ _ _ _ _ _ _ _ _ _ _ _ _ (h d)

set_option maxHeartbeats 0 in
/-- The run of the idealization at the bits is the kernel's. -/
theorem run_k (m : (ℓ : Loc Cert.Kernel.nD Cert.Kernel.τ Cert.Kernel.sig) → Buf (Elt Bits) ℓ) (ρ) (hp : Cert.Pre_Kernel m) :
    θ_run (Cert.Kernel.defs (F := Bits)) (Cert.Kernel.threads (F := Bits)) ⟨m, fun _ => 0, ρ⟩ (QC (line m (ok_bits m hp))) :=
  Eq.mpr (congrArg (fun D => θ_run D (Cert.Kernel.threads (F := Bits)) ⟨m, fun _ => 0, ρ⟩ (QC (line m (ok_bits m hp)))) Same.defs)
    (run_main (F := Bits) ρ (line m (ok_bits m hp)))

set_option maxHeartbeats 0 in
/-- The kernel runs, keeps its arguments and leaves every semaphore at zero. -/
theorem frame_k : Cert.quiescent_Kernel := fun m ρ hp =>
  (θ_run Cert.Kernel.defs _ _).mono (fun _ h => ⟨fun c => args_kept (F := Bits) h c, h.2⟩) (run_k m ρ hp)

/-- So does its idealization. -/
theorem frame_ki : Cert.quiescent_KernelIdeal := fun m ρ hp =>
  (θ_run Cert.KernelIdeal.defs _ _).mono (fun _ h => ⟨fun c => args_kept (F := Ideal) h c, h.2⟩)
    (run_main (F := Ideal) ρ (line m (ok_ideal m hp)))

/-- So does the reference, which has no semaphore. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Both leave the scores of the arguments. -/
theorem values : Cert.algebraic_KernelIdeal_ReferenceIdeal := by
  intro m ρ m' ρ' hp hagree
  have hm := ok_ideal m hp
  let X := line m hm
  refine ⟨fun c => X.E c (dr Cert.KernelIdeal.main_v62), ?_, ?_⟩
  · exact (θ_run Cert.KernelIdeal.defs _ _).mono (fun _ h c => ⟨ends h c Cert.KernelIdeal.main_v62 (Pipeline.devRef_mem_ucRefs (by decide)),
      args_kept (F := Ideal) h c⟩) (run_main (F := Ideal) ρ X)
  · refine (θ_run Cert.ReferenceIdeal.defs _ _).mono (fun r h c => ?_) (Cert.ReferenceIdeal.Value.run (F := Ideal) m' ρ')
    obtain ⟨e0, e⟩ := h c
    refine ⟨e0.trans (funext fun y => ?_), e⟩
    obtain ⟨a0, a1, a2, a3, a4, a5, a6, a7, a8, a9, a10, a11, a12, a13, a14, a15, a16, a17, a18, a19, a20, a21⟩ := hagree c
    have ha : Refs.args (StableHlo.launchContents m' c) = Values.args m c :=
      Net.Args.ext a0 a1 a2 a3 a4 a5 a6 a7 a8 a9 a10 a11 a12 a13 a14 a15 a16 a17 a18 a19 a20 a21
    have hin : Net.InCloud (Refs.args (StableHlo.launchContents m' c)) := by
      rw [ha]; exact ⟨(hm c).r0, (hm c).r1, (hm c).r2, (hm c).r3⟩
    obtain ⟨b, o, rfl⟩ : ∃ (b : Fin 64) (o : Fin 40), y = ix2 b o := ⟨y 0, y 1, eq_ix2 y⟩
    refine (Refs.top b o _ _ _ _ _).trans ((Refs.scores (StableHlo.launchContents m' c) hin b o).trans ?_)
    rw [ha]
    exact (Values.scores X c hm b o).symm

/-- Everything claimed. -/
theorem claim : Cert.Claim := ⟨Cert.Kernel.Gen.facts, Cert.KernelIdeal.Gen.facts, Cert.ReferenceIdeal.Gen.facts, Cert.Pre_in_cloud.Gen.facts,
  frame_k, frame_ki, frame_ri, trivial, values⟩

end Cert.Proof

end
